-- ==== Defs.lean ====
def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_qk [hPre_finite_qk : Cert.Pre_finite_qk.Facts] (m : (ℓ : Loc Cert.CtxIdeal.nD Cert.CtxIdeal.τ Cert.CtxIdeal.sig) → Buf (Elt Ideal) ℓ) : Prop :=
  ∀ c : Dev Cert.CtxIdeal.nD,
    (Cert.Pre_finite_qk.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2))) = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_finite_qk [hPre_finite_qk : Cert.Pre_finite_qk.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_finite_qk.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_finite_qkc [hPre_finite_qkc : Cert.Pre_finite_qkc.Facts] (m : (ℓ : Loc Cert.LatIdeal.nD Cert.LatIdeal.τ Cert.LatIdeal.sig) → Buf (Elt Ideal) ℓ) : Prop :=
  ∀ c : Dev Cert.LatIdeal.nD,
    (Cert.Pre_finite_qkc.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))) = (fun _ => 1#1)

def Pre_LatReferenceIdeal (m : (ℓ : Loc Cert.LatReferenceIdeal.nD Cert.LatReferenceIdeal.τ Cert.LatReferenceIdeal.sig) → Buf (Elt Ideal) ℓ) : Prop :=
  True

def Pre_LatReferenceIdeal_finite_qkc [hPre_finite_qkc : Cert.Pre_finite_qkc.Facts] (m : (ℓ : Loc Cert.LatReferenceIdeal.nD Cert.LatReferenceIdeal.τ Cert.LatReferenceIdeal.sig) → Buf (Elt Ideal) ℓ) : Prop :=
  ∀ c : Dev Cert.LatReferenceIdeal.nD,
    (Cert.Pre_finite_qkc.fn (F := Ideal) (m ((c.tc : Thread Cert.LatReferenceIdeal.nD Cert.LatReferenceIdeal.τ).loc Cert.LatReferenceIdeal.main_arg0)) (m ((c.tc : Thread Cert.LatReferenceIdeal.nD Cert.LatReferenceIdeal.τ).loc Cert.LatReferenceIdeal.main_arg1)) (m ((c.tc : Thread Cert.LatReferenceIdeal.nD Cert.LatReferenceIdeal.τ).loc Cert.LatReferenceIdeal.main_arg2)) (m ((c.tc : Thread Cert.LatReferenceIdeal.nD Cert.LatReferenceIdeal.τ).loc Cert.LatReferenceIdeal.main_arg3)) (m ((c.tc : Thread Cert.LatReferenceIdeal.nD Cert.LatReferenceIdeal.τ).loc Cert.LatReferenceIdeal.main_arg4))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxIdeal_pre_finite_qk [hCtxIdeal : Cert.CtxIdeal.Facts] [hPre_finite_qk : Cert.Pre_finite_qk.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_qk m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def quiescent_CtxReferenceIdeal_pre_finite_qk [hCtxReferenceIdeal : Cert.CtxReferenceIdeal.Facts] [hPre_finite_qk : Cert.Pre_finite_qk.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_finite_qk m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3)
      ∧ r.2.mem ((c.tc : Thread Cert.FfnDownReferenceIdeal.nD Cert.FfnDownReferenceIdeal.τ).loc Cert.FfnDownReferenceIdeal.main_arg4) = m ((c.tc : Thread Cert.FfnDownReferenceIdeal.nD Cert.FfnDownReferenceIdeal.τ).loc Cert.FfnDownReferenceIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatIdeal_pre_finite_qkc [hLatIdeal : Cert.LatIdeal.Facts] [hPre_finite_qkc : Cert.Pre_finite_qkc.Facts] : Prop :=
  ∀ (m : (ℓ : Loc Cert.LatIdeal.nD Cert.LatIdeal.τ Cert.LatIdeal.sig) → Buf (Elt Ideal) ℓ) (g : Dev Cert.LatIdeal.nD → PrngReg), Pre_LatIdeal_finite_qkc m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatReferenceIdeal [hLatReferenceIdeal : Cert.LatReferenceIdeal.Facts] : Prop :=
  ∀ (m : (ℓ : Loc Cert.LatReferenceIdeal.nD Cert.LatReferenceIdeal.τ Cert.LatReferenceIdeal.sig) → Buf (Elt Ideal) ℓ) (g : Dev Cert.LatReferenceIdeal.nD → PrngReg), Pre_LatReferenceIdeal m →
    θ_run (Cert.LatReferenceIdeal.defs (F := Ideal)) (onTc (τ := Cert.LatReferenceIdeal.τ) (Cert.LatReferenceIdeal.main (F := Ideal))) ⟨m, fun _ => 0, g⟩ (fun r => (∀ c : Dev Cert.LatReferenceIdeal.nD,
      r.2.mem ((c.tc : Thread Cert.LatReferenceIdeal.nD Cert.LatReferenceIdeal.τ).loc Cert.LatReferenceIdeal.main_arg0) = m ((c.tc : Thread Cert.LatReferenceIdeal.nD Cert.LatReferenceIdeal.τ).loc Cert.LatReferenceIdeal.main_arg0)
      ∧ r.2.mem ((c.tc : Thread Cert.LatReferenceIdeal.nD Cert.LatReferenceIdeal.τ).loc Cert.LatReferenceIdeal.main_arg1) = m ((c.tc : Thread Cert.LatReferenceIdeal.nD Cert.LatReferenceIdeal.τ).loc Cert.LatReferenceIdeal.main_arg1)
      ∧ r.2.mem ((c.tc : Thread Cert.LatReferenceIdeal.nD Cert.LatReferenceIdeal.τ).loc Cert.LatReferenceIdeal.main_arg2) = m ((c.tc : Thread Cert.LatReferenceIdeal.nD Cert.LatReferenceIdeal.τ).loc Cert.LatReferenceIdeal.main_arg2)
      ∧ r.2.mem ((c.tc : Thread Cert.LatReferenceIdeal.nD Cert.LatReferenceIdeal.τ).loc Cert.LatReferenceIdeal.main_arg3) = m ((c.tc : Thread Cert.LatReferenceIdeal.nD Cert.LatReferenceIdeal.τ).loc Cert.LatReferenceIdeal.main_arg3)
      ∧ r.2.mem ((c.tc : Thread Cert.LatReferenceIdeal.nD Cert.LatReferenceIdeal.τ).loc Cert.LatReferenceIdeal.main_arg4) = m ((c.tc : Thread Cert.LatReferenceIdeal.nD Cert.LatReferenceIdeal.τ).loc Cert.LatReferenceIdeal.main_arg4))
      ∧ r.2.sem = fun _ => 0)

def quiescent_LatReferenceIdeal_pre_finite_qkc [hLatReferenceIdeal : Cert.LatReferenceIdeal.Facts] [hPre_finite_qkc : Cert.Pre_finite_qkc.Facts] : Prop :=
  ∀ (m : (ℓ : Loc Cert.LatReferenceIdeal.nD Cert.LatReferenceIdeal.τ Cert.LatReferenceIdeal.sig) → Buf (Elt Ideal) ℓ) (g : Dev Cert.LatReferenceIdeal.nD → PrngReg), Pre_LatReferenceIdeal_finite_qkc m →
    θ_run (Cert.LatReferenceIdeal.defs (F := Ideal)) (onTc (τ := Cert.LatReferenceIdeal.τ) (Cert.LatReferenceIdeal.main (F := Ideal))) ⟨m, fun _ => 0, g⟩ (fun r => (∀ c : Dev Cert.LatReferenceIdeal.nD,
      r.2.mem ((c.tc : Thread Cert.LatReferenceIdeal.nD Cert.LatReferenceIdeal.τ).loc Cert.LatReferenceIdeal.main_arg0) = m ((c.tc : Thread Cert.LatReferenceIdeal.nD Cert.LatReferenceIdeal.τ).loc Cert.LatReferenceIdeal.main_arg0)
      ∧ r.2.mem ((c.tc : Thread Cert.LatReferenceIdeal.nD Cert.LatReferenceIdeal.τ).loc Cert.LatReferenceIdeal.main_arg1) = m ((c.tc : Thread Cert.LatReferenceIdeal.nD Cert.LatReferenceIdeal.τ).loc Cert.LatReferenceIdeal.main_arg1)
      ∧ r.2.mem ((c.tc : Thread Cert.LatReferenceIdeal.nD Cert.LatReferenceIdeal.τ).loc Cert.LatReferenceIdeal.main_arg2) = m ((c.tc : Thread Cert.LatReferenceIdeal.nD Cert.LatReferenceIdeal.τ).loc Cert.LatReferenceIdeal.main_arg2)
      ∧ r.2.mem ((c.tc : Thread Cert.LatReferenceIdeal.nD Cert.LatReferenceIdeal.τ).loc Cert.LatReferenceIdeal.main_arg3) = m ((c.tc : Thread Cert.LatReferenceIdeal.nD Cert.LatReferenceIdeal.τ).loc Cert.LatReferenceIdeal.main_arg3)
      ∧ r.2.mem ((c.tc : Thread Cert.LatReferenceIdeal.nD Cert.LatReferenceIdeal.τ).loc Cert.LatReferenceIdeal.main_arg4) = m ((c.tc : Thread Cert.LatReferenceIdeal.nD Cert.LatReferenceIdeal.τ).loc Cert.LatReferenceIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3)
      ∧ r.2.mem ((c.tc : Thread Cert.Rope.nD Cert.Rope.τ).loc Cert.Rope.main_arg4) = m ((c.tc : Thread Cert.Rope.nD Cert.Rope.τ).loc Cert.Rope.main_arg4)
      ∧ r.2.mem ((c.tc : Thread Cert.Rope.nD Cert.Rope.τ).loc Cert.Rope.main_arg5) = m ((c.tc : Thread Cert.Rope.nD Cert.Rope.τ).loc Cert.Rope.main_arg5)
      ∧ r.2.mem ((c.tc : Thread Cert.Rope.nD Cert.Rope.τ).loc Cert.Rope.main_arg6) = m ((c.tc : Thread Cert.Rope.nD Cert.Rope.τ).loc Cert.Rope.main_arg6))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
      ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5)
      ∧ r.2.mem ((c.tc : Thread Cert.RopeIdeal.nD Cert.RopeIdeal.τ).loc Cert.RopeIdeal.main_arg6) = m ((c.tc : Thread Cert.RopeIdeal.nD Cert.RopeIdeal.τ).loc Cert.RopeIdeal.main_arg6))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4)
      ∧ r.2.mem ((c.tc : Thread Cert.RopeReferenceIdeal.nD Cert.RopeReferenceIdeal.τ).loc Cert.RopeReferenceIdeal.main_arg5) = m ((c.tc : Thread Cert.RopeReferenceIdeal.nD Cert.RopeReferenceIdeal.τ).loc Cert.RopeReferenceIdeal.main_arg5)
      ∧ r.2.mem ((c.tc : Thread Cert.RopeReferenceIdeal.nD Cert.RopeReferenceIdeal.τ).loc Cert.RopeReferenceIdeal.main_arg6) = m ((c.tc : Thread Cert.RopeReferenceIdeal.nD Cert.RopeReferenceIdeal.τ).loc Cert.RopeReferenceIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4))
      ∧ r.2.sem = fun _ => 0)

def preserves_Ctx_CtxIdeal : Prop :=
  True

def algebraic_CtxIdeal_CtxReferenceIdeal_pre_finite_qk [hCtxIdeal : Cert.CtxIdeal.Facts] [hCtxReferenceIdeal : Cert.CtxReferenceIdeal.Facts] [hPre_finite_qk : Cert.Pre_finite_qk.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxIdeal_finite_qk m →
    (∀ c : Dev Cert.CtxIdeal.nD,
      m' ((c.tc : Thread Cert.CtxReferenceIdeal.nD Cert.CtxReferenceIdeal.τ).loc Cert.CtxReferenceIdeal.main_arg0) = m ((c.tc : Thread Cert.CtxIdeal.nD Cert.CtxIdeal.τ).loc Cert.CtxIdeal.main_arg0)
      ∧ m' ((c.tc : Thread Cert.CtxReferenceIdeal.nD Cert.CtxReferenceIdeal.τ).loc Cert.CtxReferenceIdeal.main_arg1) = m ((c.tc : Thread Cert.CtxIdeal.nD Cert.CtxIdeal.τ).loc Cert.CtxIdeal.main_arg1)
      ∧ m' ((c.tc : Thread Cert.CtxReferenceIdeal.nD Cert.CtxReferenceIdeal.τ).loc Cert.CtxReferenceIdeal.main_arg2) = m ((c.tc : Thread Cert.CtxIdeal.nD Cert.CtxIdeal.τ).loc Cert.CtxIdeal.main_arg2)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v24) = v0 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v45) = v0 c
          ∧ r.2.mem ((c.tc : Thread Cert.MergeReferenceIdeal.nD Cert.MergeReferenceIdeal.τ).loc Cert.MergeReferenceIdeal.main_v47) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)
      ∧ m' ((c.tc : Thread Cert.FfnUpReferenceIdeal.nD Cert.FfnUpReferenceIdeal.τ).loc Cert.FfnUpReferenceIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v8)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v8) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v30) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2)
          ∧ r.2.mem ((c.tc : Thread Cert.FfnUpReferenceIdeal.nD Cert.FfnUpReferenceIdeal.τ).loc Cert.FfnUpReferenceIdeal.main_arg3) = m' ((c.tc : Thread Cert.FfnUpReferenceIdeal.nD Cert.FfnUpReferenceIdeal.τ).loc Cert.FfnUpReferenceIdeal.main_arg3))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)
      ∧ m' ((c.tc : Thread Cert.FfnDownReferenceIdeal.nD Cert.FfnDownReferenceIdeal.τ).loc Cert.FfnDownReferenceIdeal.main_arg3) = m ((c.tc : Thread Cert.FfnDownIdeal.nD Cert.FfnDownIdeal.τ).loc Cert.FfnDownIdeal.main_arg3)
      ∧ m' ((c.tc : Thread Cert.FfnDownReferenceIdeal.nD Cert.FfnDownReferenceIdeal.τ).loc Cert.FfnDownReferenceIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v23) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3)
          ∧ r.2.mem ((c.tc : Thread Cert.FfnDownReferenceIdeal.nD Cert.FfnDownReferenceIdeal.τ).loc Cert.FfnDownReferenceIdeal.main_arg4) = m' ((c.tc : Thread Cert.FfnDownReferenceIdeal.nD Cert.FfnDownReferenceIdeal.τ).loc Cert.FfnDownReferenceIdeal.main_arg4))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v21_0)) (v1 : (c : Dev Cert.InprojIdeal.nD) → Buf (Elt Ideal) ((c.tc : Thread Cert.InprojIdeal.nD Cert.InprojIdeal.τ).loc Cert.InprojIdeal.main_v21_1)) (v2 : (c : Dev Cert.InprojIdeal.nD) → Buf (Elt Ideal) ((c.tc : Thread Cert.InprojIdeal.nD Cert.InprojIdeal.τ).loc Cert.InprojIdeal.main_v21_2)) (v3 : (c : Dev Cert.InprojIdeal.nD) → Buf (Elt Ideal) ((c.tc : Thread Cert.InprojIdeal.nD Cert.InprojIdeal.τ).loc Cert.InprojIdeal.main_v21_3)) (v4 : (c : Dev Cert.InprojIdeal.nD) → Buf (Elt Ideal) ((c.tc : Thread Cert.InprojIdeal.nD Cert.InprojIdeal.τ).loc Cert.InprojIdeal.main_v21_4)) (v5 : (c : Dev Cert.InprojIdeal.nD) → Buf (Elt Ideal) ((c.tc : Thread Cert.InprojIdeal.nD Cert.InprojIdeal.τ).loc Cert.InprojIdeal.main_v21_5)) (v6 : (c : Dev Cert.InprojIdeal.nD) → Buf (Elt Ideal) ((c.tc : Thread Cert.InprojIdeal.nD Cert.InprojIdeal.τ).loc Cert.InprojIdeal.main_v21_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v21_0) = v0 c
          ∧ r.2.mem ((c.tc : Thread Cert.InprojIdeal.nD Cert.InprojIdeal.τ).loc Cert.InprojIdeal.main_v21_1) = v1 c
          ∧ r.2.mem ((c.tc : Thread Cert.InprojIdeal.nD Cert.InprojIdeal.τ).loc Cert.InprojIdeal.main_v21_2) = v2 c
          ∧ r.2.mem ((c.tc : Thread Cert.InprojIdeal.nD Cert.InprojIdeal.τ).loc Cert.InprojIdeal.main_v21_3) = v3 c
          ∧ r.2.mem ((c.tc : Thread Cert.InprojIdeal.nD Cert.InprojIdeal.τ).loc Cert.InprojIdeal.main_v21_4) = v4 c
          ∧ r.2.mem ((c.tc : Thread Cert.InprojIdeal.nD Cert.InprojIdeal.τ).loc Cert.InprojIdeal.main_v21_5) = v5 c
          ∧ r.2.mem ((c.tc : Thread Cert.InprojIdeal.nD Cert.InprojIdeal.τ).loc Cert.InprojIdeal.main_v21_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v63) = v0 c
          ∧ r.2.mem ((c.tc : Thread Cert.InprojReferenceIdeal.nD Cert.InprojReferenceIdeal.τ).loc Cert.InprojReferenceIdeal.main_v77) = v1 c
          ∧ r.2.mem ((c.tc : Thread Cert.InprojReferenceIdeal.nD Cert.InprojReferenceIdeal.τ).loc Cert.InprojReferenceIdeal.main_v78) = v2 c
          ∧ r.2.mem ((c.tc : Thread Cert.InprojReferenceIdeal.nD Cert.InprojReferenceIdeal.τ).loc Cert.InprojReferenceIdeal.main_v62) = v3 c
          ∧ r.2.mem ((c.tc : Thread Cert.InprojReferenceIdeal.nD Cert.InprojReferenceIdeal.τ).loc Cert.InprojReferenceIdeal.main_v30) = v4 c
          ∧ r.2.mem ((c.tc : Thread Cert.InprojReferenceIdeal.nD Cert.InprojReferenceIdeal.τ).loc Cert.InprojReferenceIdeal.main_v79) = v5 c
          ∧ r.2.mem ((c.tc : Thread Cert.InprojReferenceIdeal.nD Cert.InprojReferenceIdeal.τ).loc Cert.InprojReferenceIdeal.main_v89) = v6 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v8)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v8) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v138) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v20) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_Lat_LatIdeal : Prop :=
  True

def algebraic_LatIdeal_LatReferenceIdeal_pre_finite_qkc [hLatIdeal : Cert.LatIdeal.Facts] [hLatReferenceIdeal : Cert.LatReferenceIdeal.Facts] [hPre_finite_qkc : Cert.Pre_finite_qkc.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatReferenceIdeal.nD Cert.LatReferenceIdeal.τ Cert.LatReferenceIdeal.sig) → Buf (Elt Ideal) ℓ) (g' : Dev Cert.LatReferenceIdeal.nD → PrngReg), Pre_LatIdeal_finite_qkc m →
    (∀ c : Dev Cert.LatIdeal.nD,
      m' ((c.tc : Thread Cert.LatReferenceIdeal.nD Cert.LatReferenceIdeal.τ).loc Cert.LatReferenceIdeal.main_arg0) = m ((c.tc : Thread Cert.LatIdeal.nD Cert.LatIdeal.τ).loc Cert.LatIdeal.main_arg0)
      ∧ m' ((c.tc : Thread Cert.LatReferenceIdeal.nD Cert.LatReferenceIdeal.τ).loc Cert.LatReferenceIdeal.main_arg1) = m ((c.tc : Thread Cert.LatIdeal.nD Cert.LatIdeal.τ).loc Cert.LatIdeal.main_arg1)
      ∧ m' ((c.tc : Thread Cert.LatReferenceIdeal.nD Cert.LatReferenceIdeal.τ).loc Cert.LatReferenceIdeal.main_arg2) = m ((c.tc : Thread Cert.LatIdeal.nD Cert.LatIdeal.τ).loc Cert.LatIdeal.main_arg2)
      ∧ m' ((c.tc : Thread Cert.LatReferenceIdeal.nD Cert.LatReferenceIdeal.τ).loc Cert.LatReferenceIdeal.main_arg3) = m ((c.tc : Thread Cert.LatIdeal.nD Cert.LatIdeal.τ).loc Cert.LatIdeal.main_arg3)
      ∧ m' ((c.tc : Thread Cert.LatReferenceIdeal.nD Cert.LatReferenceIdeal.τ).loc Cert.LatReferenceIdeal.main_arg4) = m ((c.tc : Thread Cert.LatIdeal.nD Cert.LatIdeal.τ).loc Cert.LatIdeal.main_arg4)) →
    ∃ (v0 : (c : Dev Cert.LatIdeal.nD) → Buf (Elt Ideal) ((c.tc : Thread Cert.LatIdeal.nD Cert.LatIdeal.τ).loc Cert.LatIdeal.main_v2)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v2) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ θ_run (Cert.LatReferenceIdeal.defs (F := Ideal)) (onTc (τ := Cert.LatReferenceIdeal.τ) (Cert.LatReferenceIdeal.main (F := Ideal))) ⟨m', fun _ => 0, g'⟩ (fun r => ∀ c : Dev Cert.LatReferenceIdeal.nD,
          r.2.mem ((c.tc : Thread Cert.LatReferenceIdeal.nD Cert.LatReferenceIdeal.τ).loc Cert.LatReferenceIdeal.main_v30) = v0 c
          ∧ r.2.mem ((c.tc : Thread Cert.LatReferenceIdeal.nD Cert.LatReferenceIdeal.τ).loc Cert.LatReferenceIdeal.main_arg0) = m' ((c.tc : Thread Cert.LatReferenceIdeal.nD Cert.LatReferenceIdeal.τ).loc Cert.LatReferenceIdeal.main_arg0)
          ∧ r.2.mem ((c.tc : Thread Cert.LatReferenceIdeal.nD Cert.LatReferenceIdeal.τ).loc Cert.LatReferenceIdeal.main_arg1) = m' ((c.tc : Thread Cert.LatReferenceIdeal.nD Cert.LatReferenceIdeal.τ).loc Cert.LatReferenceIdeal.main_arg1)
          ∧ r.2.mem ((c.tc : Thread Cert.LatReferenceIdeal.nD Cert.LatReferenceIdeal.τ).loc Cert.LatReferenceIdeal.main_arg2) = m' ((c.tc : Thread Cert.LatReferenceIdeal.nD Cert.LatReferenceIdeal.τ).loc Cert.LatReferenceIdeal.main_arg2)
          ∧ r.2.mem ((c.tc : Thread Cert.LatReferenceIdeal.nD Cert.LatReferenceIdeal.τ).loc Cert.LatReferenceIdeal.main_arg3) = m' ((c.tc : Thread Cert.LatReferenceIdeal.nD Cert.LatReferenceIdeal.τ).loc Cert.LatReferenceIdeal.main_arg3)
          ∧ r.2.mem ((c.tc : Thread Cert.LatReferenceIdeal.nD Cert.LatReferenceIdeal.τ).loc Cert.LatReferenceIdeal.main_arg4) = m' ((c.tc : Thread Cert.LatReferenceIdeal.nD Cert.LatReferenceIdeal.τ).loc Cert.LatReferenceIdeal.main_arg4))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)
      ∧ m' ((c.tc : Thread Cert.RopeReferenceIdeal.nD Cert.RopeReferenceIdeal.τ).loc Cert.RopeReferenceIdeal.main_arg2) = m ((c.tc : Thread Cert.RopeIdeal.nD Cert.RopeIdeal.τ).loc Cert.RopeIdeal.main_arg2)
      ∧ m' ((c.tc : Thread Cert.RopeReferenceIdeal.nD Cert.RopeReferenceIdeal.τ).loc Cert.RopeReferenceIdeal.main_arg3) = m ((c.tc : Thread Cert.RopeIdeal.nD Cert.RopeIdeal.τ).loc Cert.RopeIdeal.main_arg3)
      ∧ m' ((c.tc : Thread Cert.RopeReferenceIdeal.nD Cert.RopeReferenceIdeal.τ).loc Cert.RopeReferenceIdeal.main_arg4) = m ((c.tc : Thread Cert.RopeIdeal.nD Cert.RopeIdeal.τ).loc Cert.RopeIdeal.main_arg4)
      ∧ m' ((c.tc : Thread Cert.RopeReferenceIdeal.nD Cert.RopeReferenceIdeal.τ).loc Cert.RopeReferenceIdeal.main_arg5) = m ((c.tc : Thread Cert.RopeIdeal.nD Cert.RopeIdeal.τ).loc Cert.RopeIdeal.main_arg5)
      ∧ m' ((c.tc : Thread Cert.RopeReferenceIdeal.nD Cert.RopeReferenceIdeal.τ).loc Cert.RopeReferenceIdeal.main_arg6) = m ((c.tc : Thread Cert.RopeIdeal.nD Cert.RopeIdeal.τ).loc Cert.RopeIdeal.main_arg6)) →
    ∃ (v0 : (c : Dev Cert.RopeIdeal.nD) → Buf (Elt Ideal) ((c.tc : Thread Cert.RopeIdeal.nD Cert.RopeIdeal.τ).loc Cert.RopeIdeal.main_v66)) (v1 : (c : Dev Cert.RopeIdeal.nD) → Buf (Elt Ideal) ((c.tc : Thread Cert.RopeIdeal.nD Cert.RopeIdeal.τ).loc Cert.RopeIdeal.main_v69)) (v2 : (c : Dev Cert.RopeIdeal.nD) → Buf (Elt Ideal) ((c.tc : Thread Cert.RopeIdeal.nD Cert.RopeIdeal.τ).loc Cert.RopeIdeal.main_v72)) (v3 : (c : Dev Cert.RopeIdeal.nD) → Buf (Elt Ideal) ((c.tc : Thread Cert.RopeIdeal.nD Cert.RopeIdeal.τ).loc Cert.RopeIdeal.main_v75)) (v4 : (c : Dev Cert.RopeIdeal.nD) → Buf (Elt Ideal) ((c.tc : Thread Cert.RopeIdeal.nD Cert.RopeIdeal.τ).loc Cert.RopeIdeal.main_v78)) (v5 : (c : Dev Cert.RopeIdeal.nD) → Buf (Elt Ideal) ((c.tc : Thread Cert.RopeIdeal.nD Cert.RopeIdeal.τ).loc Cert.RopeIdeal.main_v81)) (v6 : (c : Dev Cert.RopeIdeal.nD) → Buf (Elt Ideal) ((c.tc : Thread Cert.RopeIdeal.nD Cert.RopeIdeal.τ).loc Cert.RopeIdeal.main_v84)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v66) = v0 c
          ∧ r.2.mem ((c.tc : Thread Cert.RopeIdeal.nD Cert.RopeIdeal.τ).loc Cert.RopeIdeal.main_v69) = v1 c
          ∧ r.2.mem ((c.tc : Thread Cert.RopeIdeal.nD Cert.RopeIdeal.τ).loc Cert.RopeIdeal.main_v72) = v2 c
          ∧ r.2.mem ((c.tc : Thread Cert.RopeIdeal.nD Cert.RopeIdeal.τ).loc Cert.RopeIdeal.main_v75) = v3 c
          ∧ r.2.mem ((c.tc : Thread Cert.RopeIdeal.nD Cert.RopeIdeal.τ).loc Cert.RopeIdeal.main_v78) = v4 c
          ∧ r.2.mem ((c.tc : Thread Cert.RopeIdeal.nD Cert.RopeIdeal.τ).loc Cert.RopeIdeal.main_v81) = v5 c
          ∧ r.2.mem ((c.tc : Thread Cert.RopeIdeal.nD Cert.RopeIdeal.τ).loc Cert.RopeIdeal.main_v84) = v6 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
          ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
          ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5)
          ∧ r.2.mem ((c.tc : Thread Cert.RopeIdeal.nD Cert.RopeIdeal.τ).loc Cert.RopeIdeal.main_arg6) = m ((c.tc : Thread Cert.RopeIdeal.nD Cert.RopeIdeal.τ).loc Cert.RopeIdeal.main_arg6))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v175) = v0 c
          ∧ r.2.mem ((c.tc : Thread Cert.RopeReferenceIdeal.nD Cert.RopeReferenceIdeal.τ).loc Cert.RopeReferenceIdeal.main_v189) = v1 c
          ∧ r.2.mem ((c.tc : Thread Cert.RopeReferenceIdeal.nD Cert.RopeReferenceIdeal.τ).loc Cert.RopeReferenceIdeal.main_v190) = v2 c
          ∧ r.2.mem ((c.tc : Thread Cert.RopeReferenceIdeal.nD Cert.RopeReferenceIdeal.τ).loc Cert.RopeReferenceIdeal.main_v174) = v3 c
          ∧ r.2.mem ((c.tc : Thread Cert.RopeReferenceIdeal.nD Cert.RopeReferenceIdeal.τ).loc Cert.RopeReferenceIdeal.main_v32) = v4 c
          ∧ r.2.mem ((c.tc : Thread Cert.RopeReferenceIdeal.nD Cert.RopeReferenceIdeal.τ).loc Cert.RopeReferenceIdeal.main_v191) = v5 c
          ∧ r.2.mem ((c.tc : Thread Cert.RopeReferenceIdeal.nD Cert.RopeReferenceIdeal.τ).loc Cert.RopeReferenceIdeal.main_v201) = v6 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3)
          ∧ r.2.mem ((c.tc : Thread Cert.RopeReferenceIdeal.nD Cert.RopeReferenceIdeal.τ).loc Cert.RopeReferenceIdeal.main_arg4) = m' ((c.tc : Thread Cert.RopeReferenceIdeal.nD Cert.RopeReferenceIdeal.τ).loc Cert.RopeReferenceIdeal.main_arg4)
          ∧ r.2.mem ((c.tc : Thread Cert.RopeReferenceIdeal.nD Cert.RopeReferenceIdeal.τ).loc Cert.RopeReferenceIdeal.main_arg5) = m' ((c.tc : Thread Cert.RopeReferenceIdeal.nD Cert.RopeReferenceIdeal.τ).loc Cert.RopeReferenceIdeal.main_arg5)
          ∧ r.2.mem ((c.tc : Thread Cert.RopeReferenceIdeal.nD Cert.RopeReferenceIdeal.τ).loc Cert.RopeReferenceIdeal.main_arg6) = m' ((c.tc : Thread Cert.RopeReferenceIdeal.nD Cert.RopeReferenceIdeal.τ).loc Cert.RopeReferenceIdeal.main_arg6))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)) →
    ∃ (v0 : (c : Dev Cert.MidIdeal.nD) → Buf (Elt Ideal) ((c.tc : Thread Cert.MidIdeal.nD Cert.MidIdeal.τ).loc Cert.MidIdeal.main_v3)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v3) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v7) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4))

def Claim : Prop :=
  ∃ (hCtx : Cert.Ctx.Facts) (hCtxIdeal : Cert.CtxIdeal.Facts) (hCtxReferenceIdeal : Cert.CtxReferenceIdeal.Facts) (hMerge : Cert.Merge.Facts) (hMergeIdeal : Cert.MergeIdeal.Facts) (hMergeReferenceIdeal : Cert.MergeReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hInproj : Cert.Inproj.Facts) (hInprojIdeal : Cert.InprojIdeal.Facts) (hInprojReferenceIdeal : Cert.InprojReferenceIdeal.Facts) (hPool : Cert.Pool.Facts) (hPoolIdeal : Cert.PoolIdeal.Facts) (hPoolReferenceIdeal : Cert.PoolReferenceIdeal.Facts) (hModulation : Cert.Modulation.Facts) (hModulationIdeal : Cert.ModulationIdeal.Facts) (hModulationReferenceIdeal : Cert.ModulationReferenceIdeal.Facts) (hLat : Cert.Lat.Facts) (hLatIdeal : Cert.LatIdeal.Facts) (hLatReferenceIdeal : Cert.LatReferenceIdeal.Facts) (hRope : Cert.Rope.Facts) (hRopeIdeal : Cert.RopeIdeal.Facts) (hRopeReferenceIdeal : Cert.RopeReferenceIdeal.Facts) (hMid : Cert.Mid.Facts) (hMidIdeal : Cert.MidIdeal.Facts) (hMidReferenceIdeal : Cert.MidReferenceIdeal.Facts) (hPre_finite_qk : Cert.Pre_finite_qk.Facts) (hPre_finite_qkc : Cert.Pre_finite_qkc.Facts),
    quiescent_Ctx (hCtx := hCtx)
    ∧ quiescent_CtxIdeal (hCtxIdeal := hCtxIdeal)
    ∧ quiescent_CtxIdeal_pre_finite_qk (hCtxIdeal := hCtxIdeal) (hPre_finite_qk := hPre_finite_qk)
    ∧ quiescent_CtxReferenceIdeal (hCtxReferenceIdeal := hCtxReferenceIdeal)
    ∧ quiescent_CtxReferenceIdeal_pre_finite_qk (hCtxReferenceIdeal := hCtxReferenceIdeal) (hPre_finite_qk := hPre_finite_qk)
    ∧ quiescent_Merge (hMerge := hMerge)
    ∧ quiescent_MergeIdeal (hMergeIdeal := hMergeIdeal)
    ∧ quiescent_MergeReferenceIdeal (hMergeReferenceIdeal := hMergeReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Pool (hPool := hPool)
    ∧ quiescent_PoolIdeal (hPoolIdeal := hPoolIdeal)
    ∧ quiescent_PoolReferenceIdeal (hPoolReferenceIdeal := hPoolReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_Lat (hLat := hLat)
    ∧ quiescent_LatIdeal (hLatIdeal := hLatIdeal)
    ∧ quiescent_LatIdeal_pre_finite_qkc (hLatIdeal := hLatIdeal) (hPre_finite_qkc := hPre_finite_qkc)
    ∧ quiescent_LatReferenceIdeal (hLatReferenceIdeal := hLatReferenceIdeal)
    ∧ quiescent_LatReferenceIdeal_pre_finite_qkc (hLatReferenceIdeal := hLatReferenceIdeal) (hPre_finite_qkc := hPre_finite_qkc)
    ∧ quiescent_Rope (hRope := hRope)
    ∧ quiescent_RopeIdeal (hRopeIdeal := hRopeIdeal)
    ∧ quiescent_RopeReferenceIdeal (hRopeReferenceIdeal := hRopeReferenceIdeal)
    ∧ quiescent_Mid (hMid := hMid)
    ∧ quiescent_MidIdeal (hMidIdeal := hMidIdeal)
    ∧ quiescent_MidReferenceIdeal (hMidReferenceIdeal := hMidReferenceIdeal)
    ∧ preserves_Ctx_CtxIdeal
    ∧ algebraic_CtxIdeal_CtxReferenceIdeal_pre_finite_qk (hCtxIdeal := hCtxIdeal) (hCtxReferenceIdeal := hCtxReferenceIdeal) (hPre_finite_qk := hPre_finite_qk)
    ∧ preserves_Merge_MergeIdeal
    ∧ algebraic_MergeIdeal_MergeReferenceIdeal (hMergeIdeal := hMergeIdeal) (hMergeReferenceIdeal := hMergeReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_Inproj_InprojIdeal
    ∧ algebraic_InprojIdeal_InprojReferenceIdeal (hInprojIdeal := hInprojIdeal) (hInprojReferenceIdeal := hInprojReferenceIdeal)
    ∧ preserves_Pool_PoolIdeal
    ∧ algebraic_PoolIdeal_PoolReferenceIdeal (hPoolIdeal := hPoolIdeal) (hPoolReferenceIdeal := hPoolReferenceIdeal)
    ∧ preserves_Modulation_ModulationIdeal
    ∧ algebraic_ModulationIdeal_ModulationReferenceIdeal (hModulationIdeal := hModulationIdeal) (hModulationReferenceIdeal := hModulationReferenceIdeal)
    ∧ preserves_Lat_LatIdeal
    ∧ algebraic_LatIdeal_LatReferenceIdeal_pre_finite_qkc (hLatIdeal := hLatIdeal) (hLatReferenceIdeal := hLatReferenceIdeal) (hPre_finite_qkc := hPre_finite_qkc)
    ∧ preserves_Rope_RopeIdeal
    ∧ algebraic_RopeIdeal_RopeReferenceIdeal (hRopeIdeal := hRopeIdeal) (hRopeReferenceIdeal := hRopeReferenceIdeal)
    ∧ preserves_Mid_MidIdeal
    ∧ algebraic_MidIdeal_MidReferenceIdeal (hMidIdeal := hMidIdeal) (hMidReferenceIdeal := hMidReferenceIdeal)
-- ==== Pre_finite_qk.lean ====
abbrev S4096x1024 : Shape := ⟨2, ![4096, 1024]⟩
abbrev S4096x256 : Shape := ⟨2, ![4096, 256]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x1024 .bf16) (main_arg1 : FVec F S4096x256 .f32) (main_arg2 : FVec F S4096x256 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x256 .f32 := Host.absf main_arg1
  let main_cst_0 : FVec F S_ .f32 := constant S_ .f32 0x7F800000#32
  let main_v6 : FVec F S4096x256 .f32 := broadcastInDim S4096x256 ![] bcast_S_S4096x256 main_cst_0
  let main_v7 : IVec S4096x256 1 := cmpf .olt main_v5 main_v6
  let main_c_1 : IVec S_ 1 := constantI S_ 1 1#1
  let main_v8 : IVec S_ 1 := (fun x v => Host.reduce IntOp.andi x v reducesTo_S4096x256_S_d0_1 h_S_) main_v7 main_c_1
  let main_v9 : IVec S_ 1 := andi main_v4 main_v8
  main_v9
-- ==== Pre_finite_qkc.lean ====
abbrev S8192x1024 : Shape := ⟨2, ![8192, 1024]⟩
abbrev S8192x256 : Shape := ⟨2, ![8192, 256]⟩
abbrev S8x2x256x4x64 : Shape := ⟨5, ![8, 2, 256, 4, 64]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8x2x256x4x64 : S_.BroadcastsInDim S8x2x256x4x64 (![] : Fin 0 → Fin S8x2x256x4x64.rank)
  reducesTo_S8x2x256x4x64_S_d0_1_2_3_4 : S8x2x256x4x64.ReducesTo [0, 1, 2, 3, 4] S_

variable [Facts]

def fn {F : FTy → Type} [FloatOps F] (main_arg0 : FVec F S8192x1024 .bf16) (main_arg1 : FVec F S8192x256 .f32) (main_arg2 : FVec F S8192x256 .f32) (main_arg3 : FVec F S8x2x256x4x64 .f32) (main_arg4 : FVec F S8x2x256x4x64 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x256 .f32 := Host.absf main_arg1
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_c_1 : IVec S_ 1 := constantI S_ 1 1#1
  let main_v8 : IVec S_ 1 := (fun x v => Host.reduce IntOp.andi x v reducesTo_S8192x256_S_d0_1 h_S_) main_v7 main_c_1
  let main_v9 : IVec S_ 1 := andi main_v4 main_v8
  let main_v10 : FVec F S8x2x256x4x64 .f32 := Host.absf main_arg3
  let main_cst_2 : FVec F S_ .f32 := constant S_ .f32 0x7F800000#32
  let main_v11 : FVec F S8x2x256x4x64 .f32 := broadcastInDim S8x2x256x4x64 ![] bcast_S_S8x2x256x4x64 main_cst_2
  let main_v12 : IVec S8x2x256x4x64 1 := cmpf .olt main_v10 main_v11
  let main_c_3 : IVec S_ 1 := constantI S_ 1 1#1
  let main_v13 : IVec S_ 1 := (fun x v => Host.reduce IntOp.andi x v reducesTo_S8x2x256x4x64_S_d0_1_2_3_4 h_S_) main_v12 main_c_3
  let main_v14 : IVec S_ 1 := andi main_v9 main_v13
  main_v14
-- ==== Ctx.lean ====
abbrev S4096x1024 : Shape := ⟨2, ![4096, 1024]⟩
abbrev S4096x256 : Shape := ⟨2, ![4096, 256]⟩
abbrev S256x1024 : Shape := ⟨2, ![256, 1024]⟩
abbrev S256x256 : Shape := ⟨2, ![256, 256]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S4096x256, .f32⟩
  | .hbm, ⟨3, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x1024, .bf16⟩
  | .local _ .vmem, ⟨7, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c256_i32 : BitVec 32 := 256#32
  let v19 : BitVec 32 := Scalar.muli c0_i32 c256_i32
  v19
def k0_off1 : Fin 2 → Nat :=
  let c0_i32 : BitVec 32 := 0#32
  let c256_i32 : BitVec 32 := 256#32
  let v19 : BitVec 32 := Scalar.muli c0_i32 c256_i32
  let v20 : BitVec 32 := v19
  let v21 : Index := Scalar.indexCast v20
  let c0_6 : Index := 0#32
  ![v21.toNat, 0]
def k0_mult2 : BitVec 32 :=
  let c0_i32_19 : BitVec 32 := 0#32
  let c256_i32_20 : BitVec 32 := 256#32
  let v57 : BitVec 32 := Scalar.muli c0_i32_19 c256_i32_20
  v57
def k0_off2 : Fin 2 → Nat :=
  let c0_i32_19 : BitVec 32 := 0#32
  let c256_i32_20 : BitVec 32 := 256#32
  let v57 : BitVec 32 := Scalar.muli c0_i32_19 c256_i32_20
  let v58 : BitVec 32 := v57
  let v59 : Index := Scalar.indexCast v58
  let c128 : Index := 128#32
  ![v59.toNat, 128]
def k0_mult3 : BitVec 32 :=
  let c0_i32_39 : BitVec 32 := 0#32
  let c256_i32_40 : BitVec 32 := 256#32
  let v109 : BitVec 32 := Scalar.muli c0_i32_39 c256_i32_40
  v109
def k0_off3 : Fin 2 → Nat :=
  let c0_i32_39 : BitVec 32 := 0#32
  let c256_i32_40 : BitVec 32 := 256#32
  let v109 : BitVec 32 := Scalar.muli c0_i32_39 c256_i32_40
  let v110 : BitVec 32 := v109
  let v111 : Index := Scalar.indexCast v110
  let c256 : Index := 256#32
  ![v111.toNat, 256]
def k0_mult4 : BitVec 32 :=
  let c0_i32_54 : BitVec 32 := 0#32
  let c256_i32_55 : BitVec 32 := 256#32
  let v147 : BitVec 32 := Scalar.muli c0_i32_54 c256_i32_55
  v147
def k0_off4 : Fin 2 → Nat :=
  let c0_i32_54 : BitVec 32 := 0#32
  let c256_i32_55 : BitVec 32 := 256#32
  let v147 : BitVec 32 := Scalar.muli c0_i32_54 c256_i32_55
  let v148 : BitVec 32 := v147
  let v149 : Index := Scalar.indexCast v148
  let c384 : Index := 384#32
  ![v149.toNat, 384]
def k0_mult5 : BitVec 32 :=
  let c0_i32_74 : BitVec 32 := 0#32
  let c256_i32_75 : BitVec 32 := 256#32
  let v199 : BitVec 32 := Scalar.muli c0_i32_74 c256_i32_75
  v199
def k0_off5 : Fin 2 → Nat :=
  let c0_i32_74 : BitVec 32 := 0#32
  let c256_i32_75 : BitVec 32 := 256#32
  let v199 : BitVec 32 := Scalar.muli c0_i32_74 c256_i32_75
  let v200 : BitVec 32 := v199
  let v201 : Index := Scalar.indexCast v200
  let c512 : Index := 512#32
  ![v201.toNat, 512]
def k0_mult6 : BitVec 32 :=
  let c0_i32_89 : BitVec 32 := 0#32
  let c256_i32_90 : BitVec 32 := 256#32
  let v237 : BitVec 32 := Scalar.muli c0_i32_89 c256_i32_90
  v237
def k0_off6 : Fin 2 → Nat :=
  let c0_i32_89 : BitVec 32 := 0#32
  let c256_i32_90 : BitVec 32 := 256#32
  let v237 : BitVec 32 := Scalar.muli c0_i32_89 c256_i32_90
  let v238 : BitVec 32 := v237
  let v239 : Index := Scalar.indexCast v238
  let c640 : Index := 640#32
  ![v239.toNat, 640]
def k0_mult7 : BitVec 32 :=
  let c0_i32_109 : BitVec 32 := 0#32
  let c256_i32_110 : BitVec 32 := 256#32
  let v289 : BitVec 32 := Scalar.muli c0_i32_109 c256_i32_110
  v289
def k0_off7 : Fin 2 → Nat :=
  let c0_i32_109 : BitVec 32 := 0#32
  let c256_i32_110 : BitVec 32 := 256#32
  let v289 : BitVec 32 := Scalar.muli c0_i32_109 c256_i32_110
  let v290 : BitVec 32 := v289
  let v291 : Index := Scalar.indexCast v290
  let c768 : Index := 768#32
  ![v291.toNat, 768]
def k0_mult8 : BitVec 32 :=
  let c0_i32_124 : BitVec 32 := 0#32
  let c256_i32_125 : BitVec 32 := 256#32
  let v327 : BitVec 32 := Scalar.muli c0_i32_124 c256_i32_125
  v327
def k0_off8 : Fin 2 → Nat :=
  let c0_i32_124 : BitVec 32 := 0#32
  let c256_i32_125 : BitVec 32 := 256#32
  let v327 : BitVec 32 := Scalar.muli c0_i32_124 c256_i32_125
  let v328 : BitVec 32 := v327
  let v329 : Index := Scalar.indexCast v328
  let c896 : Index := 896#32
  ![v329.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CtxReferenceIdeal.lean ====
abbrev S4096x1024 : Shape := ⟨2, ![4096, 1024]⟩
abbrev S4096x256 : Shape := ⟨2, ![4096, 256]⟩
abbrev S16x256x16x64 : Shape := ⟨4, ![16, 256, 16, 64]⟩
abbrev S16x256x4x64 : Shape := ⟨4, ![16, 256, 4, 64]⟩
abbrev S16x256x4x4x64 : Shape := ⟨5, ![16, 256, 4, 4, 64]⟩
abbrev S16x4x256x256x4 : Shape := ⟨5, ![16, 4, 256, 256, 4]⟩
abbrev S16x4x4x256x256 : Shape := ⟨5, ![16, 4, 4, 256, 256]⟩
abbrev S_ : Shape := ⟨0, ![]⟩
abbrev S16x4x4x256 : Shape := ⟨4, ![16, 4, 4, 256]⟩
abbrev S16x4x4x256x1 : Shape := ⟨5, ![16, 4, 4, 256, 1]⟩
abbrev S16x4x64x4x256 : Shape := ⟨5, ![16, 4, 64, 4, 256]⟩
abbrev S16x256x1024 : Shape := ⟨3, ![16, 256, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S4096x256, .f32⟩
  | .hbm, ⟨3, _⟩ => ⟨S16x256x16x64, .bf16⟩
  | .hbm, ⟨4, _⟩ => ⟨S16x256x4x64, .f32⟩
  | .hbm, ⟨5, _⟩ => ⟨S16x256x4x64, .f32⟩
  | .hbm, ⟨6, _⟩ => ⟨S16x256x4x4x64, .bf16⟩
  | .hbm, ⟨7, _⟩ => ⟨S16x256x4x4x64, .f32⟩
  | .hbm, ⟨8, _⟩ => ⟨S16x4x256x256x4, .f32⟩
  | .hbm, ⟨9, _⟩ => ⟨S16x4x4x256x256, .f32⟩
  | .hbm, ⟨10, _⟩ => ⟨S_, .f32⟩
  | .hbm, ⟨11, _⟩ => ⟨S16x4x4x256x256, .f32⟩
  | .hbm, ⟨12, _⟩ => ⟨S16x4x4x256x256, .f32⟩
  | .hbm, ⟨13, _⟩ => ⟨S_, .f32⟩
  | .hbm, ⟨14, _⟩ => ⟨S16x4x4x256, .f32⟩
  | .hbm, ⟨15, _⟩ => ⟨S_, .f32⟩
  | .hbm, ⟨16, _⟩ => ⟨S16x4x4x256, .f32⟩
  | .hbm, ⟨17, _⟩ => ⟨S16x4x4x256, .f32⟩
  | .hbm, ⟨18, _⟩ => ⟨S16x4x4x256x1, .f32⟩
  | .hbm, ⟨19, _⟩ => ⟨S16x4x4x256x256, .f32⟩
  | .hbm, ⟨20, _⟩ => ⟨S16x4x4x256x256, .f32⟩
  | .hbm, ⟨21, _⟩ => ⟨S16x4x4x256x256, .f32⟩
  | .hbm, ⟨22, _⟩ => ⟨S_, .f32⟩
  | .hbm, ⟨23, _⟩ => ⟨S16x4x4x256, .f32⟩
  | .hbm, ⟨24, _⟩ => ⟨S16x4x4x256x1, .f32⟩
  | .hbm, ⟨25, _⟩ => ⟨S16x4x4x256x256, .f32⟩
  | .hbm, ⟨26, _⟩ => ⟨S16x4x4x256x256, .f32⟩
  | .hbm, ⟨27, _⟩ => ⟨S16x4x64x4x256, .f32⟩
  | .hbm, ⟨28, _⟩ => ⟨S16x256x4x4x64, .f32⟩
  | .hbm, ⟨29, _⟩ => ⟨S16x256x1024, .f32⟩
  | .hbm, ⟨30, _⟩ => ⟨S4096x1024, .f32⟩
  | .hbm, ⟨31, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Merge.lean ====
abbrev S8192x1024 : Shape := ⟨2, ![8192, 1024]⟩
abbrev S8192x3072 : Shape := ⟨2, ![8192, 3072]⟩
abbrev S16x6144 : Shape := ⟨2, ![16, 6144]⟩
abbrev S1024 : Shape := ⟨1, ![1024]⟩
abbrev S1024x1024 : Shape := ⟨2, ![1024, 1024]⟩
abbrev S16x1x6144 : Shape := ⟨3, ![16, 1, 6144]⟩
abbrev S1x1024 : Shape := ⟨2, ![1, 1024]⟩
abbrev S512x1024 : Shape := ⟨2, ![512, 1024]⟩
abbrev S512x3072 : Shape := ⟨2, ![512, 3072]⟩
abbrev S1x1x6144 : Shape := ⟨3, ![1, 1, 6144]⟩
abbrev S1x6144 : Shape := ⟨2, ![1, 6144]⟩
abbrev S512 : Shape := ⟨1, ![512]⟩
abbrev S512x1 : Shape := ⟨2, ![512, 1]⟩

abbrev nBuf : Space → Nat
  | .hbm => 19
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x3072, .bf16⟩
  | .hbm, ⟨4, _⟩ => ⟨S8192x1024, .f32⟩
  | .hbm, ⟨5, _⟩ => ⟨S16x6144, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S16x1x6144, .f32⟩
  | .hbm, ⟨16, _⟩ => ⟨S1x1024, .f32⟩
  | .hbm, ⟨17, _⟩ => ⟨S8192x1024, .f32⟩
  | .hbm, ⟨18, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S1x1x6144, .f32⟩
  | .local _ .vmem, ⟨11, _⟩ => ⟨S1x1x6144, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S8192x1024 : Shape := ⟨2, ![8192, 1024]⟩
abbrev S8192x3072 : Shape := ⟨2, ![8192, 3072]⟩
abbrev S16x6144 : Shape := ⟨2, ![16, 6144]⟩
abbrev S1024 : Shape := ⟨1, ![1024]⟩
abbrev S1024x1024 : Shape := ⟨2, ![1024, 1024]⟩
abbrev S8x6144 : Shape := ⟨2, ![8, 6144]⟩
abbrev S8x1x6144 : Shape := ⟨3, ![8, 1, 6144]⟩
abbrev S8x1x1024 : Shape := ⟨3, ![8, 1, 1024]⟩
abbrev S8x1024x1024 : Shape := ⟨3, ![8, 1024, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x3072, .bf16⟩
  | .hbm, ⟨4, _⟩ => ⟨S8192x1024, .f32⟩
  | .hbm, ⟨5, _⟩ => ⟨S16x6144, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x3072, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8x6144, .f32⟩
  | .hbm, ⟨28, _⟩ => ⟨S8x1x6144, .f32⟩
  | .hbm, ⟨29, _⟩ => ⟨S8x1x1024, .f32⟩
  | .hbm, ⟨30, _⟩ => ⟨S8x1x1024, .f32⟩
  | .hbm, ⟨31, _⟩ => ⟨S8x1x1024, .f32⟩
  | .hbm, ⟨32, _⟩ => ⟨S8x1024x1024, .f32⟩
  | .hbm, ⟨33, _⟩ => ⟨S8x1024x1024, .f32⟩
  | .hbm, ⟨34, _⟩ => ⟨S8x1024x1024, .f32⟩
  | .hbm, ⟨35, _⟩ => ⟨S8x1024x1024, .f32⟩
  | .hbm, ⟨36, _⟩ => ⟨S8x1024x1024, .f32⟩
  | .hbm, ⟨37, _⟩ => ⟨S8x1024x1024, .f32⟩
  | .hbm, ⟨38, _⟩ => ⟨S_, .f32⟩
  | .hbm, ⟨39, _⟩ => ⟨S8x1024, .f32⟩
  | .hbm, ⟨40, _⟩ => ⟨S8x1024x1, .f32⟩
  | .hbm, ⟨41, _⟩ => ⟨S_, .f32⟩
  | .hbm, ⟨42, _⟩ => ⟨S8x1024x1, .f32⟩
  | .hbm, ⟨43, _⟩ => ⟨S8x1024x1, .f32⟩
  | .hbm, ⟨44, _⟩ => ⟨S_, .f32⟩
  | .hbm, ⟨45, _⟩ => ⟨S8x1024x1, .f32⟩
  | .hbm, ⟨46, _⟩ => ⟨S8x1024x1, .f32⟩
  | .hbm, ⟨47, _⟩ => ⟨S8x1024x1, .f32⟩
  | .hbm, ⟨48, _⟩ => ⟨S8x1024x1024, .f32⟩
  | .hbm, ⟨49, _⟩ => ⟨S8x1024x1024, .f32⟩
  | .hbm, ⟨50, _⟩ => ⟨S1x1x1024, .f32⟩
  | .hbm, ⟨51, _⟩ => ⟨S8x1024x1024, .f32⟩
  | .hbm, ⟨52, _⟩ => ⟨S8x1024x1024, .f32⟩
  | .hbm, ⟨53, _⟩ => ⟨S_, .f32⟩
  | .hbm, ⟨54, _⟩ => ⟨S8x1x1024, .f32⟩
  | .hbm, ⟨55, _⟩ => ⟨S8x1x1024, .f32⟩
  | .hbm, ⟨56, _⟩ => ⟨S8x1024x1024, .f32⟩
  | .hbm, ⟨57, _⟩ => ⟨S8x1024x1024, .f32⟩
  | .hbm, ⟨58, _⟩ => ⟨S8x1024x1024, .f32⟩
  | .hbm, ⟨59, _⟩ => ⟨S8x1024x1024, .f32⟩
  | .hbm, ⟨60, _⟩ => ⟨S8192x1024, .f32⟩
  | .hbm, ⟨61, _⟩ => ⟨S8192x1024, .f32⟩
  | .hbm, ⟨62, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== FfnUp.lean ====
abbrev S8x1024x1024 : Shape := ⟨3, ![8, 1024, 1024]⟩
abbrev S1024x6144 : Shape := ⟨2, ![1024, 6144]⟩
abbrev S3x6144 : Shape := ⟨2, ![3, 6144]⟩
abbrev S6144 : Shape := ⟨1, ![6144]⟩
abbrev S8x8x128x1024 : Shape := ⟨4, ![8, 8, 128, 1024]⟩
abbrev S8x128x8x1024 : Shape := ⟨4, ![8, 128, 8, 1024]⟩
abbrev S8192x1024 : Shape := ⟨2, ![8192, 1024]⟩
abbrev S1x6144 : Shape := ⟨2, ![1, 6144]⟩
abbrev S8192x3072 : Shape := ⟨2, ![8192, 3072]⟩
abbrev S1024x1024 : Shape := ⟨2, ![1024, 1024]⟩
abbrev S1024x512 : Shape := ⟨2, ![1024, 512]⟩
abbrev S3x512 : Shape := ⟨2, ![3, 512]⟩
abbrev S1x512 : Shape := ⟨2, ![1, 512]⟩
abbrev S8x512 : Shape := ⟨2, ![8, 512]⟩
abbrev S1016x512 : Shape := ⟨2, ![1016, 512]⟩
abbrev S8x128x8x3072 : Shape := ⟨4, ![8, 128, 8, 3072]⟩
abbrev S8x8x128x3072 : Shape := ⟨4, ![8, 8, 128, 3072]⟩
abbrev S8x1024x3072 : Shape := ⟨3, ![8, 1024, 3072]⟩

abbrev nBuf : Space → Nat
  | .hbm => 13
  | .vmem => 16
  | .smem => 0
  | _ => 0

abbrev bufTy : (tb : Table) → Fin (tcTables nBuf tb) → BufTy
  | .hbm, ⟨0, _⟩ => ⟨S8x1024x1024, .bf16⟩
  | .hbm, ⟨1, _⟩ => ⟨S1024x6144, .f32⟩
  | .hbm, ⟨2, _⟩ => ⟨S3x6144, .f32⟩
  | .hbm, ⟨3, _⟩ => ⟨S6144, .f32⟩
  | .hbm, ⟨4, _⟩ => ⟨S8x8x128x1024, .bf16⟩
  | .hbm, ⟨5, _⟩ => ⟨S8x128x8x1024, .bf16⟩
  | .hbm, ⟨6, _⟩ => ⟨S8192x1024, .bf16⟩
  | .hbm, ⟨7, _⟩ => ⟨S1024x6144, .bf16⟩
  | .hbm, ⟨8, _⟩ => ⟨S1x6144, .f32⟩
  | .hbm, ⟨9, _⟩ => ⟨S8192x3072, .bf16⟩
  | .hbm, ⟨10, _⟩ => ⟨S8x128x8x3072, .bf16⟩
  | .hbm, ⟨11, _⟩ => ⟨S8x8x128x3072, .bf16⟩
  | .hbm, ⟨12, _⟩ => ⟨S8x1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnUpReferenceIdeal.lean ====
abbrev S8x1024x1024 : Shape := ⟨3, ![8, 1024, 1024]⟩
abbrev S1024x6144 : Shape := ⟨2, ![1024, 6144]⟩
abbrev S3x6144 : Shape := ⟨2, ![3, 6144]⟩
abbrev S6144 : Shape := ⟨1, ![6144]⟩
abbrev S8x1024x6144 : Shape := ⟨3, ![8, 1024, 6144]⟩
abbrev S_ : Shape := ⟨0, ![]⟩
abbrev S8x1026x6144 : Shape := ⟨3, ![8, 1026, 6144]⟩
abbrev S1x6144 : Shape := ⟨2, ![1, 6144]⟩
abbrev S1x1x6144 : Shape := ⟨3, ![1, 1, 6144]⟩
abbrev S8x1024x3072 : Shape := ⟨3, ![8, 1024, 3072]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S1024x6144, .f32⟩
  | .hbm, ⟨2, _⟩ => ⟨S3x6144, .f32⟩
  | .hbm, ⟨3, _⟩ => ⟨S6144, .f32⟩
  | .hbm, ⟨4, _⟩ => ⟨S8x1024x1024, .f32⟩
  | .hbm, ⟨5, _⟩ => ⟨S8x1024x6144, .f32⟩
  | .hbm, ⟨6, _⟩ => ⟨S_, .i32⟩
  | .hbm, ⟨7, _⟩ => ⟨S_, .f32⟩
  | .hbm, ⟨8, _⟩ => ⟨S8x1026x6144, .f32⟩
  | .hbm, ⟨9, _⟩ => ⟨S8x1024x6144, .f32⟩
  | .hbm, ⟨10, _⟩ => ⟨S1x6144, .f32⟩
  | .hbm, ⟨11, _⟩ => ⟨S6144, .f32⟩
  | .hbm, ⟨12, _⟩ => ⟨S1x1x6144, .f32⟩
  | .hbm, ⟨13, _⟩ => ⟨S8x1024x6144, .f32⟩
  | .hbm, ⟨14, _⟩ => ⟨S8x1024x6144, .f32⟩
  | .hbm, ⟨15, _⟩ => ⟨S1x1x6144, .f32⟩
  | .hbm, ⟨16, _⟩ => ⟨S8x1024x6144, .f32⟩
  | .hbm, ⟨17, _⟩ => ⟨S8x1024x6144, .f32⟩
  | .hbm, ⟨18, _⟩ => ⟨S8x1024x6144, .f32⟩
  | .hbm, ⟨19, _⟩ => ⟨S1x6144, .f32⟩
  | .hbm, ⟨20, _⟩ => ⟨S6144, .f32⟩
  | .hbm, ⟨21, _⟩ => ⟨S1x1x6144, .f32⟩
  | .hbm, ⟨22, _⟩ => ⟨S8x1024x6144, .f32⟩
  | .hbm, ⟨23, _⟩ => ⟨S8x1024x6144, .f32⟩
  | .hbm, ⟨24, _⟩ => ⟨S8x1024x6144, .f32⟩
  | .hbm, ⟨25, _⟩ => ⟨S8x1024x6144, .f32⟩
  | .hbm, ⟨26, _⟩ => ⟨S1x6144, .f32⟩
  | .hbm, ⟨27, _⟩ => ⟨S6144, .f32⟩
  | .hbm, ⟨28, _⟩ => ⟨S1x1x6144, .f32⟩
  | .hbm, ⟨29, _⟩ => ⟨S8x1024x6144, .f32⟩
  | .hbm, ⟨30, _⟩ => ⟨S8x1024x6144, .f32⟩
  | .hbm, ⟨31, _⟩ => ⟨S8x1024x6144, .f32⟩
  | .hbm, ⟨32, _⟩ => ⟨S8x1024x3072, .f32⟩
  | .hbm, ⟨33, _⟩ => ⟨S8x1024x3072, .f32⟩
  | .hbm, ⟨34, _⟩ => ⟨S8x1024x3072, .f32⟩
  | .hbm, ⟨35, _⟩ => ⟨S8x1024x3072, .f32⟩
  | .hbm, ⟨36, _⟩ => ⟨S_, .f32⟩
  | .hbm, ⟨37, _⟩ => ⟨S8x1024x3072, .f32⟩
  | .hbm, ⟨38, _⟩ => ⟨S8x1024x3072, .f32⟩
  | .hbm, ⟨39, _⟩ => ⟨S_, .f32⟩
  | .hbm, ⟨40, _⟩ => ⟨S8x1024x3072, .f32⟩
  | .hbm, ⟨41, _⟩ => ⟨S8x1024x3072, .f32⟩
  | .hbm, ⟨42, _⟩ => ⟨S8x1024x3072, .f32⟩
  | .hbm, ⟨43, _⟩ => ⟨S8x1024x3072, .f32⟩
  | .hbm, ⟨44, _⟩ => ⟨S8x1024x3072, .bf16⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== FfnDown.lean ====
abbrev S8192x3072 : Shape := ⟨2, ![8192, 3072]⟩
abbrev S3072x1024 : Shape := ⟨2, ![3072, 1024]⟩
abbrev S8192x1024 : Shape := ⟨2, ![8192, 1024]⟩
abbrev S16x6144 : Shape := ⟨2, ![16, 6144]⟩
abbrev S1024 : Shape := ⟨1, ![1024]⟩
abbrev S16x1x6144 : Shape := ⟨3, ![16, 1, 6144]⟩
abbrev S1x1024 : Shape := ⟨2, ![1, 1024]⟩
abbrev S512x3072 : Shape := ⟨2, ![512, 3072]⟩
abbrev S512x1024 : Shape := ⟨2, ![512, 1024]⟩
abbrev S1x1x6144 : Shape := ⟨3, ![1, 1, 6144]⟩
abbrev S1x1x1024 : Shape := ⟨3, ![1, 1, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .f32⟩
  | .hbm, ⟨2, _⟩ => ⟨S8192x1024, .f32⟩
  | .hbm, ⟨3, _⟩ => ⟨S16x6144, .f32⟩
  | .hbm, ⟨4, _⟩ => ⟨S1024, .f32⟩
  | .hbm, ⟨5, _⟩ => ⟨S3072x1024, .bf16⟩
  | .hbm, ⟨6, _⟩ => ⟨S16x1x6144, .f32⟩
  | .hbm, ⟨7, _⟩ => ⟨S1x1024, .f32⟩
  | .hbm, ⟨8, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1x6144, .f32⟩
  | .local _ .vmem, ⟨6, _⟩ => ⟨S1x1x6144, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownReferenceIdeal.lean ====
abbrev S8192x3072 : Shape := ⟨2, ![8192, 3072]⟩
abbrev S3072x1024 : Shape := ⟨2, ![3072, 1024]⟩
abbrev S8192x1024 : Shape := ⟨2, ![8192, 1024]⟩
abbrev S16x6144 : Shape := ⟨2, ![16, 6144]⟩
abbrev S1024 : Shape := ⟨1, ![1024]⟩
abbrev S8x6144 : Shape := ⟨2, ![8, 6144]⟩
abbrev S8x1024 : Shape := ⟨2, ![8, 1024]⟩
abbrev S8x1x1024 : Shape := ⟨3, ![8, 1, 1024]⟩
abbrev S8x1024x1024 : Shape := ⟨3, ![8, 1024, 1024]⟩
abbrev S_ : Shape := ⟨0, ![]⟩
abbrev S8x1024x1 : Shape := ⟨3, ![8, 1024, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .f32⟩
  | .hbm, ⟨2, _⟩ => ⟨S8192x1024, .f32⟩
  | .hbm, ⟨3, _⟩ => ⟨S16x6144, .f32⟩
  | .hbm, ⟨4, _⟩ => ⟨S1024, .f32⟩
  | .hbm, ⟨5, _⟩ => ⟨S8x6144, .f32⟩
  | .hbm, ⟨6, _⟩ => ⟨S8x1024, .f32⟩
  | .hbm, ⟨7, _⟩ => ⟨S8x1x1024, .f32⟩
  | .hbm, ⟨8, _⟩ => ⟨S8192x3072, .f32⟩
  | .hbm, ⟨9, _⟩ => ⟨S8192x1024, .f32⟩
  | .hbm, ⟨10, _⟩ => ⟨S8x1024x1024, .f32⟩
  | .hbm, ⟨11, _⟩ => ⟨S8x1024x1024, .f32⟩
  | .hbm, ⟨12, _⟩ => ⟨S8x1024x1024, .f32⟩
  | .hbm, ⟨13, _⟩ => ⟨S8x1024x1024, .f32⟩
  | .hbm, ⟨14, _⟩ => ⟨S8x1024x1024, .f32⟩
  | .hbm, ⟨15, _⟩ => ⟨S8x1024x1024, .f32⟩
  | .hbm, ⟨16, _⟩ => ⟨S_, .f32⟩
  | .hbm, ⟨17, _⟩ => ⟨S8x1024, .f32⟩
  | .hbm, ⟨18, _⟩ => ⟨S8x1024x1, .f32⟩
  | .hbm, ⟨19, _⟩ => ⟨S_, .f32⟩
  | .hbm, ⟨20, _⟩ => ⟨S8x1024x1, .f32⟩
  | .hbm, ⟨21, _⟩ => ⟨S8x1024x1, .f32⟩
  | .hbm, ⟨22, _⟩ => ⟨S_, .f32⟩
  | .hbm, ⟨23, _⟩ => ⟨S8x1024x1, .f32⟩
  | .hbm, ⟨24, _⟩ => ⟨S8x1024x1, .f32⟩
  | .hbm, ⟨25, _⟩ => ⟨S8x1024x1, .f32⟩
  | .hbm, ⟨26, _⟩ => ⟨S8x1024x1024, .f32⟩
  | .hbm, ⟨27, _⟩ => ⟨S8x1024x1024, .f32⟩
  | .hbm, ⟨28, _⟩ => ⟨S1x1x1024, .f32⟩
  | .hbm, ⟨29, _⟩ => ⟨S8x1024x1024, .f32⟩
  | .hbm, ⟨30, _⟩ => ⟨S8x1024x1024, .f32⟩
  | .hbm, ⟨31, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Inproj.lean ====
abbrev S4096x1024 : Shape := ⟨2, ![4096, 1024]⟩
abbrev S16x6144 : Shape := ⟨2, ![16, 6144]⟩
abbrev S1024 : Shape := ⟨1, ![1024]⟩
abbrev S1024x7680 : Shape := ⟨2, ![1024, 7680]⟩
abbrev S3072 : Shape := ⟨1, ![3072]⟩
abbrev S64 : Shape := ⟨1, ![64]⟩
abbrev S2x2 : Shape := ⟨2, ![2, 2]⟩
abbrev S_ : Shape := ⟨0, ![]⟩
abbrev S64x64 : Shape := ⟨2, ![64, 64]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16x1x6144 : Shape := ⟨3, ![16, 1, 6144]⟩
abbrev S1x1024 : Shape := ⟨2, ![1, 1024]⟩
abbrev S1x3072 : Shape := ⟨2, ![1, 3072]⟩
abbrev S4096x256 : Shape := ⟨2, ![4096, 256]⟩
abbrev S4096x3072 : Shape := ⟨2, ![4096, 3072]⟩
abbrev S512x1024 : Shape := ⟨2, ![512, 1024]⟩
abbrev S1x1x6144 : Shape := ⟨3, ![1, 1, 6144]⟩
abbrev S512x256 : Shape := ⟨2, ![512, 256]⟩
abbrev S512x3072 : Shape := ⟨2, ![512, 3072]⟩
abbrev S1x6144 : Shape := ⟨2, ![1, 6144]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩
abbrev S1024x256 : Shape := ⟨2, ![1024, 256]⟩

abbrev nBuf : Space → Nat
  | .hbm => 43
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S16x6144, .f32⟩
  | .hbm, ⟨2, _⟩ => ⟨S1024, .f32⟩
  | .hbm, ⟨3, _⟩ => ⟨S1024x7680, .f32⟩
  | .hbm, ⟨4, _⟩ => ⟨S3072, .f32⟩
  | .hbm, ⟨5, _⟩ => ⟨S64, .f32⟩
  | .hbm, ⟨6, _⟩ => ⟨S64, .f32⟩
  | .hbm, ⟨7, _⟩ => ⟨S2x2, .i32⟩
  | .hbm, ⟨8, _⟩ => ⟨S2x2, .i32⟩
  | .hbm, ⟨9, _⟩ => ⟨S_, .i32⟩
  | .hbm, ⟨10, _⟩ => ⟨S2x2, .i32⟩
  | .hbm, ⟨11, _⟩ => ⟨S2x2, .i32⟩
  | .hbm, ⟨12, _⟩ => ⟨S2x2, .i1⟩
  | .hbm, ⟨13, _⟩ => ⟨S2x2, .f32⟩
  | .hbm, ⟨14, _⟩ => ⟨S_, .f32⟩
  | .hbm, ⟨15, _⟩ => ⟨S64x64, .f32⟩
  | .hbm, ⟨16, _⟩ => ⟨S64x64, .f32⟩
  | .hbm, ⟨17, _⟩ => ⟨S2x1x2x1, .f32⟩
  | .hbm, ⟨18, _⟩ => ⟨S1x64x1x64, .f32⟩
  | .hbm, ⟨19, _⟩ => ⟨S2x64x2x64, .f32⟩
  | .hbm, ⟨20, _⟩ => ⟨S2x64x2x64, .f32⟩
  | .hbm, ⟨21, _⟩ => ⟨S2x64x2x64, .f32⟩
  | .hbm, ⟨22, _⟩ => ⟨S128x128, .f32⟩
  | .hbm, ⟨23, _⟩ => ⟨S128x128, .bf16⟩
  | .hbm, ⟨24, _⟩ => ⟨S1x64, .f32⟩
  | .hbm, ⟨25, _⟩ => ⟨S2x64, .f32⟩
  | .hbm, ⟨26, _⟩ => ⟨S128, .f32⟩
  | .hbm, ⟨27, _⟩ => ⟨S1x128, .f32⟩
  | .hbm, ⟨28, _⟩ => ⟨S1x64, .f32⟩
  | .hbm, ⟨29, _⟩ => ⟨S2x64, .f32⟩
  | .hbm, ⟨30, _⟩ => ⟨S128, .f32⟩
  | .hbm, ⟨31, _⟩ => ⟨S1x128, .f32⟩
  | .hbm, ⟨32, _⟩ => ⟨S16x1x6144, .f32⟩
  | .hbm, ⟨33, _⟩ => ⟨S1x1024, .f32⟩
  | .hbm, ⟨34, _⟩ => ⟨S1024x7680, .bf16⟩
  | .hbm, ⟨35, _⟩ => ⟨S1x3072, .f32⟩
  | .hbm, ⟨36, _⟩ => ⟨S4096x1024, .bf16⟩
  | .hbm, ⟨37, _⟩ => ⟨S4096x1024, .bf16⟩
  | .hbm, ⟨38, _⟩ => ⟨S4096x1024, .bf16⟩
  | .hbm, ⟨39, _⟩ => ⟨S4096x256, .f32⟩
  | .hbm, ⟨40, _⟩ => ⟨S4096x256, .f32⟩
  | .hbm, ⟨41, _⟩ => ⟨S4096x1024, .bf16⟩
  | .hbm, ⟨42, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1024, .f32⟩
  | .local _ .vmem, ⟨4, _⟩ => ⟨S1024x7680, .bf16⟩
  | .local _ .vmem, ⟨5, _⟩ => ⟨S1x3072, .f32⟩
  | .local _ .vmem, ⟨6, _⟩ => ⟨S1x128, .f32⟩
  | .local _ .vmem, ⟨7, _⟩ => ⟨S1x128, .f32⟩
  | .local _ .vmem, ⟨8, _⟩ => ⟨S128x128, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x1024, .bf16⟩
  | .local _ .vmem, ⟨20, _⟩ => ⟨S512x1024, .bf16⟩
  | .local _ .vmem, ⟨21, _⟩ => ⟨S512x3072, .bf16⟩
  | .local _ .vmem, ⟨22, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_v21_3 : Ref sig .tc := ⟨.hbm, 39, rfl⟩
abbrev main_v21_4 : Ref sig .tc := ⟨.hbm, 40, rfl⟩
abbrev main_v21_5 : Ref sig .tc := ⟨.hbm, 41, rfl⟩
abbrev main_v21_6 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x7680 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InprojReferenceIdeal.lean ====
abbrev S4096x1024 : Shape := ⟨2, ![4096, 1024]⟩
abbrev S16x6144 : Shape := ⟨2, ![16, 6144]⟩
abbrev S1024 : Shape := ⟨1, ![1024]⟩
abbrev S1024x7680 : Shape := ⟨2, ![1024, 7680]⟩
abbrev S3072 : Shape := ⟨1, ![3072]⟩
abbrev S64 : Shape := ⟨1, ![64]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x7680 : Shape := ⟨2, ![4096, 7680]⟩
abbrev S4096x256 : Shape := ⟨2, ![4096, 256]⟩
abbrev S4096x3072 : Shape := ⟨2, ![4096, 3072]⟩
abbrev S4096x16x64 : Shape := ⟨3, ![4096, 16, 64]⟩
abbrev S4096x16 : Shape := ⟨2, ![4096, 16]⟩
abbrev S4096x16x1 : Shape := ⟨3, ![4096, 16, 1]⟩
abbrev S1x1x64 : Shape := ⟨3, ![1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S1x3072 : Shape := ⟨2, ![1, 3072]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x6144, .f32⟩
  | .hbm, ⟨2, _⟩ => ⟨S1024, .f32⟩
  | .hbm, ⟨3, _⟩ => ⟨S1024x7680, .f32⟩
  | .hbm, ⟨4, _⟩ => ⟨S3072, .f32⟩
  | .hbm, ⟨5, _⟩ => ⟨S64, .f32⟩
  | .hbm, ⟨6, _⟩ => ⟨S64, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x7680, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x256, .f32⟩
  | .hbm, ⟨41, _⟩ => ⟨S4096x256, .f32⟩
  | .hbm, ⟨42, _⟩ => ⟨S4096x1024, .f32⟩
  | .hbm, ⟨43, _⟩ => ⟨S4096x3072, .f32⟩
  | .hbm, ⟨44, _⟩ => ⟨S4096x16x64, .f32⟩
  | .hbm, ⟨45, _⟩ => ⟨S4096x16x64, .f32⟩
  | .hbm, ⟨46, _⟩ => ⟨S_, .f32⟩
  | .hbm, ⟨47, _⟩ => ⟨S4096x16, .f32⟩
  | .hbm, ⟨48, _⟩ => ⟨S4096x16x1, .f32⟩
  | .hbm, ⟨49, _⟩ => ⟨S_, .f32⟩
  | .hbm, ⟨50, _⟩ => ⟨S4096x16x1, .f32⟩
  | .hbm, ⟨51, _⟩ => ⟨S4096x16x1, .f32⟩
  | .hbm, ⟨52, _⟩ => ⟨S_, .f32⟩
  | .hbm, ⟨53, _⟩ => ⟨S4096x16x1, .f32⟩
  | .hbm, ⟨54, _⟩ => ⟨S4096x16x1, .f32⟩
  | .hbm, ⟨55, _⟩ => ⟨S4096x16x1, .f32⟩
  | .hbm, ⟨56, _⟩ => ⟨S4096x16x64, .f32⟩
  | .hbm, ⟨57, _⟩ => ⟨S4096x16x64, .f32⟩
  | .hbm, ⟨58, _⟩ => ⟨S1x1x64, .f32⟩
  | .hbm, ⟨59, _⟩ => ⟨S4096x16x64, .f32⟩
  | .hbm, ⟨60, _⟩ => ⟨S4096x16x64, .f32⟩
  | .hbm, ⟨61, _⟩ => ⟨S4096x1024, .f32⟩
  | .hbm, ⟨62, _⟩ => ⟨S4096x4x64, .f32⟩
  | .hbm, ⟨63, _⟩ => ⟨S4096x4x64, .f32⟩
  | .hbm, ⟨64, _⟩ => ⟨S_, .f32⟩
  | .hbm, ⟨65, _⟩ => ⟨S4096x4, .f32⟩
  | .hbm, ⟨66, _⟩ => ⟨S4096x4x1, .f32⟩
  | .hbm, ⟨67, _⟩ => ⟨S_, .f32⟩
  | .hbm, ⟨68, _⟩ => ⟨S4096x4x1, .f32⟩
  | .hbm, ⟨69, _⟩ => ⟨S4096x4x1, .f32⟩
  | .hbm, ⟨70, _⟩ => ⟨S_, .f32⟩
  | .hbm, ⟨71, _⟩ => ⟨S4096x4x1, .f32⟩
  | .hbm, ⟨72, _⟩ => ⟨S4096x4x1, .f32⟩
  | .hbm, ⟨73, _⟩ => ⟨S4096x4x1, .f32⟩
  | .hbm, ⟨74, _⟩ => ⟨S4096x4x64, .f32⟩
  | .hbm, ⟨75, _⟩ => ⟨S4096x4x64, .f32⟩
  | .hbm, ⟨76, _⟩ => ⟨S1x1x64, .f32⟩
  | .hbm, ⟨77, _⟩ => ⟨S4096x4x64, .f32⟩
  | .hbm, ⟨78, _⟩ => ⟨S4096x4x64, .f32⟩
  | .hbm, ⟨79, _⟩ => ⟨S4096x256, .f32⟩
  | .hbm, ⟨80, _⟩ => ⟨S4096x1024, .bf16⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .bf16⟩
  | .hbm, ⟨99, _⟩ => ⟨S4096x1024, .bf16⟩
  | .hbm, ⟨100, _⟩ => ⟨S4096x1024, .bf16⟩
  | .hbm, ⟨101, _⟩ => ⟨S1x3072, .f32⟩
  | .hbm, ⟨102, _⟩ => ⟨S4096x3072, .f32⟩
  | .hbm, ⟨103, _⟩ => ⟨S4096x3072, .f32⟩
  | .hbm, ⟨104, _⟩ => ⟨S4096x3072, .f32⟩
  | .hbm, ⟨105, _⟩ => ⟨S4096x3072, .f32⟩
  | .hbm, ⟨106, _⟩ => ⟨S_, .f32⟩
  | .hbm, ⟨107, _⟩ => ⟨S4096x3072, .f32⟩
  | .hbm, ⟨108, _⟩ => ⟨S4096x3072, .f32⟩
  | .hbm, ⟨109, _⟩ => ⟨S_, .f32⟩
  | .hbm, ⟨110, _⟩ => ⟨S4096x3072, .f32⟩
  | .hbm, ⟨111, _⟩ => ⟨S4096x3072, .f32⟩
  | .hbm, ⟨112, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_13 : Ref sig .tc := ⟨.hbm, 106, rfl⟩
abbrev main_v85 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩

abbrev nD : Nat := 1
abbrev τ : Topo := Topo.v7x

variable {F : FTy → Type} [FloatOps F]
-- ==== Pool.lean ====
abbrev S8x1024x1024 : Shape := ⟨3, ![8, 1024, 1024]⟩
abbrev S4x256x256 : Shape := ⟨3, ![4, 256, 256]⟩
abbrev S1024 : Shape := ⟨1, ![1024]⟩
abbrev S8x8x128x1024 : Shape := ⟨4, ![8, 8, 128, 1024]⟩
abbrev S8x128x8x1024 : Shape := ⟨4, ![8, 128, 8, 1024]⟩
abbrev S8192x1024 : Shape := ⟨2, ![8192, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S8x256 : Shape := ⟨2, ![8, 256]⟩
abbrev S1016x256 : Shape := ⟨2, ![1016, 256]⟩
abbrev S1x256x256 : Shape := ⟨3, ![1, 256, 256]⟩
abbrev S256x256 : Shape := ⟨2, ![256, 256]⟩
abbrev S1x256 : Shape := ⟨2, ![1, 256]⟩
abbrev S1008x256 : Shape := ⟨2, ![1008, 256]⟩
abbrev S992x256 : Shape := ⟨2, ![992, 256]⟩

abbrev nBuf : Space → Nat
  | .hbm => 12
  | .vmem => 6
  | .smem => 0
  | _ => 0

abbrev bufTy : (tb : Table) → Fin (tcTables nBuf tb) → BufTy
  | .hbm, ⟨0, _⟩ => ⟨S8x1024x1024, .bf16⟩
  | .hbm, ⟨1, _⟩ => ⟨S4x256x256, .f32⟩
  | .hbm, ⟨2, _⟩ => ⟨S1024, .f32⟩
  | .hbm, ⟨3, _⟩ => ⟨S8x8x128x1024, .bf16⟩
  | .hbm, ⟨4, _⟩ => ⟨S8x128x8x1024, .bf16⟩
  | .hbm, ⟨5, _⟩ => ⟨S8192x1024, .bf16⟩
  | .hbm, ⟨6, _⟩ => ⟨S4x256x256, .bf16⟩
  | .hbm, ⟨7, _⟩ => ⟨S1x1024, .f32⟩
  | .hbm, ⟨8, _⟩ => ⟨S8192x1024, .bf16⟩
  | .hbm, ⟨9, _⟩ => ⟨S8x128x8x1024, .bf16⟩
  | .hbm, ⟨10, _⟩ => ⟨S8x8x128x1024, .bf16⟩
  | .hbm, ⟨11, _⟩ => ⟨S8x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x256x256, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolReferenceIdeal.lean ====
abbrev S8x1024x1024 : Shape := ⟨3, ![8, 1024, 1024]⟩
abbrev S4x256x256 : Shape := ⟨3, ![4, 256, 256]⟩
abbrev S1024 : Shape := ⟨1, ![1024]⟩
abbrev S8x1024x256 : Shape := ⟨3, ![8, 1024, 256]⟩
abbrev S_ : Shape := ⟨0, ![]⟩
abbrev S8x1025x256 : Shape := ⟨3, ![8, 1025, 256]⟩
abbrev S1x1024x1 : Shape := ⟨3, ![1, 1024, 1]⟩
abbrev S1x256x256 : Shape := ⟨3, ![1, 256, 256]⟩
abbrev S256x256 : Shape := ⟨2, ![256, 256]⟩
abbrev S8x1027x256 : Shape := ⟨3, ![8, 1027, 256]⟩
abbrev S8x1031x256 : Shape := ⟨3, ![8, 1031, 256]⟩
abbrev S8x1039x256 : Shape := ⟨3, ![8, 1039, 256]⟩
abbrev S1x1x1024 : Shape := ⟨3, ![1, 1, 1024]⟩

abbrev nBuf : Space → Nat
  | .hbm => 218
  | .vmem => 0
  | .smem => 0
  | _ => 0

abbrev hbmTy0_0 (i : Nat) : BufTy := match i % 128 with
  | 0 => ⟨S8x1024x1024, .bf16⟩
  | 1 => ⟨S4x256x256, .f32⟩
  | 2 => ⟨S1024, .f32⟩
  | 3 => ⟨S8x1024x1024, .f32⟩
  | 4 => ⟨S1024, .i32⟩
  | 5 => ⟨S8x1024x256, .f32⟩
  | 6 => ⟨S_, .i32⟩
  | 7 => ⟨S_, .f32⟩
  | 8 => ⟨S8x1025x256, .f32⟩
  | 9 => ⟨S8x1024x256, .f32⟩
  | 10 => ⟨S8x1024x256, .f32⟩
  | 11 => ⟨S8x1024x256, .f32⟩
  | 12 => ⟨S_, .i32⟩
  | 13 => ⟨S1024, .i32⟩
  | 14 => ⟨S1024, .i32⟩
  | 15 => ⟨S_, .i32⟩
  | 16 => ⟨S_, .i32⟩
  | 17 => ⟨S_, .i32⟩
  | 18 => ⟨S1024, .i32⟩
  | 19 => ⟨S1024, .i32⟩
  | 20 => ⟨S_, .i32⟩
  | 21 => ⟨S1024, .i32⟩
  | 22 => ⟨S1024, .i32⟩
  | 23 => ⟨S_, .i32⟩
  | 24 => ⟨S1024, .i32⟩
  | 25 => ⟨S1024, .i32⟩
  | 26 => ⟨S_, .i32⟩
  | 27 => ⟨S1024, .i32⟩
  | 28 => ⟨S1024, .i32⟩
  | 29 => ⟨S_, .i32⟩
  | 30 => ⟨S_, .i32⟩
  | 31 => ⟨S_, .i32⟩
  | 32 => ⟨S1024, .i32⟩
  | 33 => ⟨S1024, .i32⟩
  | 34 => ⟨S_, .i32⟩
  | 35 => ⟨S1024, .i32⟩
  | 36 => ⟨S1024, .i32⟩
  | 37 => ⟨S1024, .i32⟩
  | 38 => ⟨S1024, .f32⟩
  | 39 => ⟨S1x1024x1, .f32⟩
  | 40 => ⟨S8x1024x256, .f32⟩
  | 41 => ⟨S8x1024x256, .f32⟩
  | 42 => ⟨S8x1024x256, .f32⟩
  | 43 => ⟨S1x256x256, .f32⟩
  | 44 => ⟨S256x256, .f32⟩
  | 45 => ⟨S8x1024x256, .f32⟩
  | 46 => ⟨S8x1024x256, .f32⟩
  | 47 => ⟨S_, .i32⟩
  | 48 => ⟨S_, .f32⟩
  | 49 => ⟨S8x1027x256, .f32⟩
  | 50 => ⟨S8x1024x256, .f32⟩
  | 51 => ⟨S8x1024x256, .f32⟩
  | 52 => ⟨S8x1024x256, .f32⟩
  | 53 => ⟨S8x1024x256, .f32⟩
  | 54 => ⟨S8x1024x256, .f32⟩
  | 55 => ⟨S8x1024x256, .f32⟩
  | 56 => ⟨S8x1024x256, .f32⟩
  | 57 => ⟨S_, .i32⟩
  | 58 => ⟨S1024, .i32⟩
  | 59 => ⟨S1024, .i32⟩
  | 60 => ⟨S_, .i32⟩
  | 61 => ⟨S_, .i32⟩
  | 62 => ⟨S_, .i32⟩
  | 63 => ⟨S1024, .i32⟩
  | 64 => ⟨S1024, .i32⟩
  | 65 => ⟨S_, .i32⟩
  | 66 => ⟨S1024, .i32⟩
  | 67 => ⟨S1024, .i32⟩
  | 68 => ⟨S_, .i32⟩
  | 69 => ⟨S1024, .i32⟩
  | 70 => ⟨S1024, .i32⟩
  | 71 => ⟨S_, .i32⟩
  | 72 => ⟨S1024, .i32⟩
  | 73 => ⟨S1024, .i32⟩
  | 74 => ⟨S_, .i32⟩
  | 75 => ⟨S_, .i32⟩
  | 76 => ⟨S_, .i32⟩
  | 77 => ⟨S1024, .i32⟩
  | 78 => ⟨S1024, .i32⟩
  | 79 => ⟨S_, .i32⟩
  | 80 => ⟨S1024, .i32⟩
  | 81 => ⟨S1024, .i32⟩
  | 82 => ⟨S1024, .i32⟩
  | 83 => ⟨S1024, .f32⟩
  | 84 => ⟨S1x1024x1, .f32⟩
  | 85 => ⟨S8x1024x256, .f32⟩
  | 86 => ⟨S8x1024x256, .f32⟩
  | 87 => ⟨S8x1024x256, .f32⟩
  | 88 => ⟨S1x256x256, .f32⟩
  | 89 => ⟨S256x256, .f32⟩
  | 90 => ⟨S8x1024x256, .f32⟩
  | 91 => ⟨S8x1024x256, .f32⟩
  | 92 => ⟨S_, .i32⟩
  | 93 => ⟨S_, .f32⟩
  | 94 => ⟨S8x1031x256, .f32⟩
  | 95 => ⟨S8x1024x256, .f32⟩
  | 96 => ⟨S8x1024x256, .f32⟩
  | 97 => ⟨S8x1024x256, .f32⟩
  | 98 => ⟨S8x1024x256, .f32⟩
  | 99 => ⟨S8x1024x256, .f32⟩
  | 100 => ⟨S8x1024x256, .f32⟩
  | 101 => ⟨S8x1024x256, .f32⟩
  | 102 => ⟨S8x1024x256, .f32⟩
  | 103 => ⟨S8x1024x256, .f32⟩
  | 104 => ⟨S8x1024x256, .f32⟩
  | 105 => ⟨S8x1024x256, .f32⟩
  | 106 => ⟨S8x1024x256, .f32⟩
  | 107 => ⟨S8x1024x256, .f32⟩
  | 108 => ⟨S8x1024x256, .f32⟩
  | 109 => ⟨S8x1024x256, .f32⟩
  | 110 => ⟨S_, .i32⟩
  | 111 => ⟨S1024, .i32⟩
  | 112 => ⟨S1024, .i32⟩
  | 113 => ⟨S_, .i32⟩
  | 114 => ⟨S_, .i32⟩
  | 115 => ⟨S_, .i32⟩
  | 116 => ⟨S1024, .i32⟩
  | 117 => ⟨S1024, .i32⟩
  | 118 => ⟨S_, .i32⟩
  | 119 => ⟨S1024, .i32⟩
  | 120 => ⟨S1024, .i32⟩
  | 121 => ⟨S_, .i32⟩
  | 122 => ⟨S1024, .i32⟩
  | 123 => ⟨S1024, .i32⟩
  | 124 => ⟨S_, .i32⟩
  | 125 => ⟨S1024, .i32⟩
  | 126 => ⟨S1024, .i32⟩
  | 127 => ⟨S_, .i32⟩
  | _ => ⟨S8x1024x1024, .bf16⟩

abbrev hbmTy0_1 (i : Nat) : BufTy := match i % 128 with
  | 0 => ⟨S_, .i32⟩
  | 1 => ⟨S_, .i32⟩
  | 2 => ⟨S1024, .i32⟩
  | 3 => ⟨S1024, .i32⟩
  | 4 => ⟨S_, .i32⟩
  | 5 => ⟨S1024, .i32⟩
  | 6 => ⟨S1024, .i32⟩
  | 7 => ⟨S1024, .i32⟩
  | 8 => ⟨S1024, .f32⟩
  | 9 => ⟨S1x1024x1, .f32⟩
  | 10 => ⟨S8x1024x256, .f32⟩
  | 11 => ⟨S8x1024x256, .f32⟩
  | 12 => ⟨S8x1024x256, .f32⟩
  | 13 => ⟨S1x256x256, .f32⟩
  | 14 => ⟨S256x256, .f32⟩
  | 15 => ⟨S8x1024x256, .f32⟩
  | 16 => ⟨S8x1024x256, .f32⟩
  | 17 => ⟨S_, .i32⟩
  | 18 => ⟨S_, .f32⟩
  | 19 => ⟨S8x1039x256, .f32⟩
  | 20 => ⟨S8x1024x256, .f32⟩
  | 21 => ⟨S8x1024x256, .f32⟩
  | 22 => ⟨S8x1024x256, .f32⟩
  | 23 => ⟨S8x1024x256, .f32⟩
  | 24 => ⟨S8x1024x256, .f32⟩
  | 25 => ⟨S8x1024x256, .f32⟩
  | 26 => ⟨S8x1024x256, .f32⟩
  | 27 => ⟨S8x1024x256, .f32⟩
  | 28 => ⟨S8x1024x256, .f32⟩
  | 29 => ⟨S8x1024x256, .f32⟩
  | 30 => ⟨S8x1024x256, .f32⟩
  | 31 => ⟨S8x1024x256, .f32⟩
  | 32 => ⟨S8x1024x256, .f32⟩
  | 33 => ⟨S8x1024x256, .f32⟩
  | 34 => ⟨S8x1024x256, .f32⟩
  | 35 => ⟨S8x1024x256, .f32⟩
  | 36 => ⟨S8x1024x256, .f32⟩
  | 37 => ⟨S8x1024x256, .f32⟩
  | 38 => ⟨S8x1024x256, .f32⟩
  | 39 => ⟨S8x1024x256, .f32⟩
  | 40 => ⟨S8x1024x256, .f32⟩
  | 41 => ⟨S8x1024x256, .f32⟩
  | 42 => ⟨S8x1024x256, .f32⟩
  | 43 => ⟨S8x1024x256, .f32⟩
  | 44 => ⟨S8x1024x256, .f32⟩
  | 45 => ⟨S8x1024x256, .f32⟩
  | 46 => ⟨S8x1024x256, .f32⟩
  | 47 => ⟨S8x1024x256, .f32⟩
  | 48 => ⟨S8x1024x256, .f32⟩
  | 49 => ⟨S8x1024x256, .f32⟩
  | 50 => ⟨S8x1024x256, .f32⟩
  | 51 => ⟨S_, .i32⟩
  | 52 => ⟨S1024, .i32⟩
  | 53 => ⟨S1024, .i32⟩
  | 54 => ⟨S_, .i32⟩
  | 55 => ⟨S_, .i32⟩
  | 56 => ⟨S_, .i32⟩
  | 57 => ⟨S1024, .i32⟩
  | 58 => ⟨S1024, .i32⟩
  | 59 => ⟨S_, .i32⟩
  | 60 => ⟨S1024, .i32⟩
  | 61 => ⟨S1024, .i32⟩
  | 62 => ⟨S_, .i32⟩
  | 63 => ⟨S1024, .i32⟩
  | 64 => ⟨S1024, .i32⟩
  | 65 => ⟨S_, .i32⟩
  | 66 => ⟨S1024, .i32⟩
  | 67 => ⟨S1024, .i32⟩
  | 68 => ⟨S_, .i32⟩
  | 69 => ⟨S_, .i32⟩
  | 70 => ⟨S_, .i32⟩
  | 71 => ⟨S1024, .i32⟩
  | 72 => ⟨S1024, .i32⟩
  | 73 => ⟨S_, .i32⟩
  | 74 => ⟨S1024, .i32⟩
  | 75 => ⟨S1024, .i32⟩
  | 76 => ⟨S1024, .i32⟩
  | 77 => ⟨S1024, .f32⟩
  | 78 => ⟨S1x1024x1, .f32⟩
  | 79 => ⟨S8x1024x256, .f32⟩
  | 80 => ⟨S8x1024x256, .f32⟩
  | 81 => ⟨S8x1024x256, .f32⟩
  | 82 => ⟨S1x256x256, .f32⟩
  | 83 => ⟨S256x256, .f32⟩
  | 84 => ⟨S8x1024x256, .f32⟩
  | 85 => ⟨S8x1024x1024, .f32⟩
  | 86 => ⟨S1x1x1024, .f32⟩
  | 87 => ⟨S8x1024x1024, .f32⟩
  | 88 => ⟨S8x1024x1024, .f32⟩
  | 89 => ⟨S8x1024x1024, .bf16⟩
  | _ => ⟨S8x1024x1024, .bf16⟩

abbrev hbmTy (i : Nat) : BufTy := match i / 128 with
  | 0 => hbmTy0_0 i
  | 1 => hbmTy0_1 i
  | _ => ⟨S8x1024x1024, .bf16⟩

abbrev bufTy : (tb : Table) → Fin (tcTables nBuf tb) → BufTy
  | .hbm, ⟨i, _⟩ => hbmTy i
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_c_6 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_call3_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_c_10 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_v35 : Ref sig .tc := ⟨.hbm, 67, rfl⟩
abbrev main_c_11 : Ref sig .tc := ⟨.hbm, 68, rfl⟩
abbrev main_v36 : Ref sig .tc := ⟨.hbm, 69, rfl⟩
abbrev main_v37 : Ref sig .tc := ⟨.hbm, 70, rfl⟩
abbrev main_c_12 : Ref sig .tc := ⟨.hbm, 71, rfl⟩
abbrev main_v38 : Ref sig .tc := ⟨.hbm, 72, rfl⟩
abbrev main_v39 : Ref sig .tc := ⟨.hbm, 73, rfl⟩
abbrev main_c_13 : Ref sig .tc := ⟨.hbm, 74, rfl⟩
abbrev main_c_14 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_c_15 : Ref sig .tc := ⟨.hbm, 92, rfl⟩
abbrev main_call6_v0 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_16 : Ref sig .tc := ⟨.hbm, 110, rfl⟩
abbrev main_v67 : Ref sig .tc := ⟨.hbm, 111, rfl⟩
abbrev main_v68 : Ref sig .tc := ⟨.hbm, 112, rfl⟩
abbrev main_c_17 : Ref sig .tc := ⟨.hbm, 113, rfl⟩
abbrev main_c_18 : Ref sig .tc := ⟨.hbm, 114, rfl⟩
abbrev main_call7_v0 : Ref sig .tc := ⟨.hbm, 115, rfl⟩
abbrev main_call7_v1 : Ref sig .tc := ⟨.hbm, 116, rfl⟩
abbrev main_call7_v2 : Ref sig .tc := ⟨.hbm, 117, rfl⟩
abbrev main_call7_v3 : Ref sig .tc := ⟨.hbm, 118, rfl⟩
abbrev main_call7_v4 : Ref sig .tc := ⟨.hbm, 119, rfl⟩
abbrev main_v69 : Ref sig .tc := ⟨.hbm, 120, rfl⟩
abbrev main_c_19 : Ref sig .tc := ⟨.hbm, 121, rfl⟩
abbrev main_v70 : Ref sig .tc := ⟨.hbm, 122, rfl⟩
abbrev main_v71 : Ref sig .tc := ⟨.hbm, 123, rfl⟩
abbrev main_c_20 : Ref sig .tc := ⟨.hbm, 124, rfl⟩
abbrev main_v72 : Ref sig .tc := ⟨.hbm, 125, rfl⟩
abbrev main_v73 : Ref sig .tc := ⟨.hbm, 126, rfl⟩
abbrev main_c_21 : Ref sig .tc := ⟨.hbm, 127, rfl⟩
abbrev main_c_22 : Ref sig .tc := ⟨.hbm, 128, rfl⟩
abbrev main_call8_v0 : Ref sig .tc := ⟨.hbm, 129, rfl⟩
abbrev main_call8_v1 : Ref sig .tc := ⟨.hbm, 130, rfl⟩
abbrev main_call8_v2 : Ref sig .tc := ⟨.hbm, 131, rfl⟩
abbrev main_call8_v3 : Ref sig .tc := ⟨.hbm, 132, rfl⟩
abbrev main_call8_v4 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_c_23 : Ref sig .tc := ⟨.hbm, 145, rfl⟩
abbrev main_call9_v0 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_c_24 : Ref sig .tc := ⟨.hbm, 179, rfl⟩
abbrev main_v117 : Ref sig .tc := ⟨.hbm, 180, rfl⟩
abbrev main_v118 : Ref sig .tc := ⟨.hbm, 181, rfl⟩
abbrev main_c_25 : Ref sig .tc := ⟨.hbm, 182, rfl⟩
abbrev main_c_26 : Ref sig .tc := ⟨.hbm, 183, rfl⟩
abbrev main_call10_v0 : Ref sig .tc := ⟨.hbm, 184, rfl⟩
abbrev main_call10_v1 : Ref sig .tc := ⟨.hbm, 185, rfl⟩
abbrev main_call10_v2 : Ref sig .tc := ⟨.hbm, 186, rfl⟩
abbrev main_call10_v3 : Ref sig .tc := ⟨.hbm, 187, rfl⟩
abbrev main_call10_v4 : Ref sig .tc := ⟨.hbm, 188, rfl⟩
abbrev main_v119 : Ref sig .tc := ⟨.hbm, 189, rfl⟩
abbrev main_c_27 : Ref sig .tc := ⟨.hbm, 190, rfl⟩
abbrev main_v120 : Ref sig .tc := ⟨.hbm, 191, rfl⟩
abbrev main_v121 : Ref sig .tc := ⟨.hbm, 192, rfl⟩
abbrev main_c_28 : Ref sig .tc := ⟨.hbm, 193, rfl⟩
abbrev main_v122 : Ref sig .tc := ⟨.hbm, 194, rfl⟩
abbrev main_v123 : Ref sig .tc := ⟨.hbm, 195, rfl⟩
abbrev main_c_29 : Ref sig .tc := ⟨.hbm, 196, rfl⟩
abbrev main_c_30 : Ref sig .tc := ⟨.hbm, 197, rfl⟩
abbrev main_call11_v0 : Ref sig .tc := ⟨.hbm, 198, rfl⟩
abbrev main_call11_v1 : Ref sig .tc := ⟨.hbm, 199, rfl⟩
abbrev main_call11_v2 : Ref sig .tc := ⟨.hbm, 200, rfl⟩
abbrev main_call11_v3 : Ref sig .tc := ⟨.hbm, 201, rfl⟩
abbrev main_call11_v4 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩

abbrev nD : Nat := 1
abbrev τ : Topo := Topo.v7x

variable {F : FTy → Type} [FloatOps F]
-- ==== Modulation.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S1x16x6144, .f32⟩
  | .hbm, ⟨38, _⟩ => ⟨S1x16x6144, .f32⟩
  | .hbm, ⟨39, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Lat.lean ====
abbrev S8192x1024 : Shape := ⟨2, ![8192, 1024]⟩
abbrev S8192x256 : Shape := ⟨2, ![8192, 256]⟩
abbrev S8x2x256x4x64 : Shape := ⟨5, ![8, 2, 256, 4, 64]⟩
abbrev S8x2x256x256 : Shape := ⟨4, ![8, 2, 256, 256]⟩
abbrev S1024x1024 : Shape := ⟨2, ![1024, 1024]⟩
abbrev S1024x256 : Shape := ⟨2, ![1024, 256]⟩
abbrev S1x1x256x256 : Shape := ⟨4, ![1, 1, 256, 256]⟩
abbrev S256x256 : Shape := ⟨2, ![256, 256]⟩
abbrev S1280x256 : Shape := ⟨2, ![1280, 256]⟩
abbrev S1x128 : Shape := ⟨2, ![1, 128]⟩
abbrev S1280x128 : Shape := ⟨2, ![1280, 128]⟩
abbrev S256x128 : Shape := ⟨2, ![256, 128]⟩
abbrev S256x1280 : Shape := ⟨2, ![256, 1280]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S8192x256, .f32⟩
  | .hbm, ⟨3, _⟩ => ⟨S8x2x256x4x64, .f32⟩
  | .hbm, ⟨4, _⟩ => ⟨S8x2x256x4x64, .f32⟩
  | .hbm, ⟨5, _⟩ => ⟨S8x2x256x256, .f32⟩
  | .hbm, ⟨6, _⟩ => ⟨S8x2x256x256, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1x1x256x256, .f32⟩
  | .local _ .vmem, ⟨7, _⟩ => ⟨S1x1x256x256, .f32⟩
  | .local _ .vmem, ⟨8, _⟩ => ⟨S1x1x256x256, .f32⟩
  | .local _ .vmem, ⟨9, _⟩ => ⟨S1x1x256x256, .f32⟩
  | .local _ .vmem, ⟨10, _⟩ => ⟨S1024x1024, .bf16⟩
  | .local _ .vmem, ⟨11, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v25 : BitVec 32 := Scalar.addi c0_i32 c4_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v75 : BitVec 32 := Scalar.muli arg7 c256_i32
  v75
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v75 : BitVec 32 := Scalar.muli arg7 c256_i32
  let v76 : BitVec 32 := v75
  let v77 : Index := Scalar.indexCast v76
  let c0_58 : Index := 0#32
  ![v77.toNat, 0]
@[reducible] def k0_t2_loop : Scf.Loop 32 :=
  let c0_i32_15 : BitVec 32 := 0#32
  let c4_i32_16 : BitVec 32 := 4#32
  let v26 : BitVec 32 := Scalar.addi c0_i32_15 c4_i32_16
  let c1_i32_17 : BitVec 32 := 1#32
  ⟨c0_i32_15, v26, c1_i32_17⟩
def k0_mult2 (k0_t2 : Fin k0_t2_loop.trips) : BitVec 32 :=
  let c0_i32_15 : BitVec 32 := 0#32
  let c1_i32_17 : BitVec 32 := 1#32
  let arg7 : BitVec 32 := Scf.iv c0_i32_15 c1_i32_17 k0_t2
  let c256_i32 : BitVec 32 := 256#32
  let v75 : BitVec 32 := Scalar.muli arg7 c256_i32
  v75
def k0_off2 (k0_t2 : Fin k0_t2_loop.trips) : Fin 2 → Nat :=
  let c0_i32_15 : BitVec 32 := 0#32
  let c1_i32_17 : BitVec 32 := 1#32
  let arg7 : BitVec 32 := Scf.iv c0_i32_15 c1_i32_17 k0_t2
  let c256_i32 : BitVec 32 := 256#32
  let v75 : BitVec 32 := Scalar.muli arg7 c256_i32
  let v76 : BitVec 32 := v75
  let v77 : Index := Scalar.indexCast v76
  let c128 : Index := 128#32
  ![v77.toNat, 128]
@[reducible] def k0_t3_loop : Scf.Loop 32 :=
  let c0_i32_24 : BitVec 32 := 0#32
  let c4_i32_25 : BitVec 32 := 4#32
  let v41 : BitVec 32 := Scalar.addi c0_i32_24 c4_i32_25
  let c1_i32_26 : BitVec 32 := 1#32
  ⟨c0_i32_24, v41, c1_i32_26⟩
def k0_mult3 (k0_t3 : Fin k0_t3_loop.trips) : BitVec 32 :=
  let c0_i32_24 : BitVec 32 := 0#32
  let c1_i32_26 : BitVec 32 := 1#32
  let arg7 : BitVec 32 := Scf.iv c0_i32_24 c1_i32_26 k0_t3
  let c256_i32 : BitVec 32 := 256#32
  let v75 : BitVec 32 := Scalar.muli arg7 c256_i32
  v75
def k0_off3 (k0_t3 : Fin k0_t3_loop.trips) : Fin 2 → Nat :=
  let c0_i32_24 : BitVec 32 := 0#32
  let c1_i32_26 : BitVec 32 := 1#32
  let arg7 : BitVec 32 := Scf.iv c0_i32_24 c1_i32_26 k0_t3
  let c256_i32 : BitVec 32 := 256#32
  let v75 : BitVec 32 := Scalar.muli arg7 c256_i32
  let v76 : BitVec 32 := v75
  let v77 : Index := Scalar.indexCast v76
  let c256 : Index := 256#32
  ![v77.toNat, 256]
@[reducible] def k0_t4_loop : Scf.Loop 32 :=
  let c0_i32_28 : BitVec 32 := 0#32
  let c4_i32_29 : BitVec 32 := 4#32
  let v42 : BitVec 32 := Scalar.addi c0_i32_28 c4_i32_29
  let c1_i32_30 : BitVec 32 := 1#32
  ⟨c0_i32_28, v42, c1_i32_30⟩
def k0_mult4 (k0_t4 : Fin k0_t4_loop.trips) : BitVec 32 :=
  let c0_i32_28 : BitVec 32 := 0#32
  let c1_i32_30 : BitVec 32 := 1#32
  let arg7 : BitVec 32 := Scf.iv c0_i32_28 c1_i32_30 k0_t4
  let c256_i32 : BitVec 32 := 256#32
  let v75 : BitVec 32 := Scalar.muli arg7 c256_i32
  v75
def k0_off4 (k0_t4 : Fin k0_t4_loop.trips) : Fin 2 → Nat :=
  let c0_i32_28 : BitVec 32 := 0#32
  let c1_i32_30 : BitVec 32 := 1#32
  let arg7 : BitVec 32 := Scf.iv c0_i32_28 c1_i32_30 k0_t4
  let c256_i32 : BitVec 32 := 256#32
  let v75 : BitVec 32 := Scalar.muli arg7 c256_i32
  let v76 : BitVec 32 := v75
  let v77 : Index := Scalar.indexCast v76
  let c384 : Index := 384#32
  ![v77.toNat, 384]
@[reducible] def k0_t5_loop : Scf.Loop 32 :=
  let c0_i32_37 : BitVec 32 := 0#32
  let c4_i32_38 : BitVec 32 := 4#32
  let v57 : BitVec 32 := Scalar.addi c0_i32_37 c4_i32_38
  let c1_i32_39 : BitVec 32 := 1#32
  ⟨c0_i32_37, v57, c1_i32_39⟩
def k0_mult5 (k0_t5 : Fin k0_t5_loop.trips) : BitVec 32 :=
  let c0_i32_37 : BitVec 32 := 0#32
  let c1_i32_39 : BitVec 32 := 1#32
  let arg7 : BitVec 32 := Scf.iv c0_i32_37 c1_i32_39 k0_t5
  let c256_i32 : BitVec 32 := 256#32
  let v75 : BitVec 32 := Scalar.muli arg7 c256_i32
  v75
def k0_off5 (k0_t5 : Fin k0_t5_loop.trips) : Fin 2 → Nat :=
  let c0_i32_37 : BitVec 32 := 0#32
  let c1_i32_39 : BitVec 32 := 1#32
  let arg7 : BitVec 32 := Scf.iv c0_i32_37 c1_i32_39 k0_t5
  let c256_i32 : BitVec 32 := 256#32
  let v75 : BitVec 32 := Scalar.muli arg7 c256_i32
  let v76 : BitVec 32 := v75
  let v77 : Index := Scalar.indexCast v76
  let c512 : Index := 512#32
  ![v77.toNat, 512]
@[reducible] def k0_t6_loop : Scf.Loop 32 :=
  let c0_i32_41 : BitVec 32 := 0#32
  let c4_i32_42 : BitVec 32 := 4#32
  let v58 : BitVec 32 := Scalar.addi c0_i32_41 c4_i32_42
  let c1_i32_43 : BitVec 32 := 1#32
  ⟨c0_i32_41, v58, c1_i32_43⟩
def k0_mult6 (k0_t6 : Fin k0_t6_loop.trips) : BitVec 32 :=
  let c0_i32_41 : BitVec 32 := 0#32
  let c1_i32_43 : BitVec 32 := 1#32
  let arg7 : BitVec 32 := Scf.iv c0_i32_41 c1_i32_43 k0_t6
  let c256_i32 : BitVec 32 := 256#32
  let v75 : BitVec 32 := Scalar.muli arg7 c256_i32
  v75
def k0_off6 (k0_t6 : Fin k0_t6_loop.trips) : Fin 2 → Nat :=
  let c0_i32_41 : BitVec 32 := 0#32
  let c1_i32_43 : BitVec 32 := 1#32
  let arg7 : BitVec 32 := Scf.iv c0_i32_41 c1_i32_43 k0_t6
  let c256_i32 : BitVec 32 := 256#32
  let v75 : BitVec 32 := Scalar.muli arg7 c256_i32
  let v76 : BitVec 32 := v75
  let v77 : Index := Scalar.indexCast v76
  let c640 : Index := 640#32
  ![v77.toNat, 640]
@[reducible] def k0_t7_loop : Scf.Loop 32 :=
  let c0_i32_50 : BitVec 32 := 0#32
  let c4_i32_51 : BitVec 32 := 4#32
  let v73 : BitVec 32 := Scalar.addi c0_i32_50 c4_i32_51
  let c1_i32_52 : BitVec 32 := 1#32
  ⟨c0_i32_50, v73, c1_i32_52⟩
def k0_mult7 (k0_t7 : Fin k0_t7_loop.trips) : BitVec 32 :=
  let c0_i32_50 : BitVec 32 := 0#32
  let c1_i32_52 : BitVec 32 := 1#32
  let arg7 : BitVec 32 := Scf.iv c0_i32_50 c1_i32_52 k0_t7
  let c256_i32 : BitVec 32 := 256#32
  let v75 : BitVec 32 := Scalar.muli arg7 c256_i32
  v75
def k0_off7 (k0_t7 : Fin k0_t7_loop.trips) : Fin 2 → Nat :=
  let c0_i32_50 : BitVec 32 := 0#32
  let c1_i32_52 : BitVec 32 := 1#32
  let arg7 : BitVec 32 := Scf.iv c0_i32_50 c1_i32_52 k0_t7
  let c256_i32 : BitVec 32 := 256#32
  let v75 : BitVec 32 := Scalar.muli arg7 c256_i32
  let v76 : BitVec 32 := v75
  let v77 : Index := Scalar.indexCast v76
  let c768 : Index := 768#32
  ![v77.toNat, 768]
@[reducible] def k0_t8_loop : Scf.Loop 32 :=
  let c0_i32_54 : BitVec 32 := 0#32
  let c4_i32_55 : BitVec 32 := 4#32
  let v74 : BitVec 32 := Scalar.addi c0_i32_54 c4_i32_55
  let c1_i32_56 : BitVec 32 := 1#32
  ⟨c0_i32_54, v74, c1_i32_56⟩
def k0_mult8 (k0_t8 : Fin k0_t8_loop.trips) : BitVec 32 :=
  let c0_i32_54 : BitVec 32 := 0#32
  let c1_i32_56 : BitVec 32 := 1#32
  let arg7 : BitVec 32 := Scf.iv c0_i32_54 c1_i32_56 k0_t8
  let c256_i32 : BitVec 32 := 256#32
  let v75 : BitVec 32 := Scalar.muli arg7 c256_i32
  v75
def k0_off8 (k0_t8 : Fin k0_t8_loop.trips) : Fin 2 → Nat :=
  let c0_i32_54 : BitVec 32 := 0#32
  let c1_i32_56 : BitVec 32 := 1#32
  let arg7 : BitVec 32 := Scf.iv c0_i32_54 c1_i32_56 k0_t8
  let c256_i32 : BitVec 32 := 256#32
  let v75 : BitVec 32 := Scalar.muli arg7 c256_i32
  let v76 : BitVec 32 := v75
  let v77 : Index := Scalar.indexCast v76
  let c896 : Index := 896#32
  ![v77.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LatReferenceIdeal.lean ====
abbrev S8192x1024 : Shape := ⟨2, ![8192, 1024]⟩
abbrev S8192x256 : Shape := ⟨2, ![8192, 256]⟩
abbrev S8x2x256x4x64 : Shape := ⟨5, ![8, 2, 256, 4, 64]⟩
abbrev S8x1024x16x64 : Shape := ⟨4, ![8, 1024, 16, 64]⟩
abbrev S8x1024x4x64 : Shape := ⟨4, ![8, 1024, 4, 64]⟩
abbrev S8x1x256x4x64 : Shape := ⟨5, ![8, 1, 256, 4, 64]⟩
abbrev S8x256x4x64 : Shape := ⟨4, ![8, 256, 4, 64]⟩
abbrev S8x1280x4x64 : Shape := ⟨4, ![8, 1280, 4, 64]⟩
abbrev S8x1024x4x4x64 : Shape := ⟨5, ![8, 1024, 4, 4, 64]⟩
abbrev S8x4x1280x1024x4 : Shape := ⟨5, ![8, 4, 1280, 1024, 4]⟩
abbrev S8x4x4x1024x1280 : Shape := ⟨5, ![8, 4, 4, 1024, 1280]⟩
abbrev S_ : Shape := ⟨0, ![]⟩
abbrev S8x4x4x1024 : Shape := ⟨4, ![8, 4, 4, 1024]⟩
abbrev S8x4x4x1024x1 : Shape := ⟨5, ![8, 4, 4, 1024, 1]⟩
abbrev S8x4x64x4x1024 : Shape := ⟨5, ![8, 4, 64, 4, 1024]⟩
abbrev S8x1024x1024 : Shape := ⟨3, ![8, 1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S8192x256, .f32⟩
  | .hbm, ⟨3, _⟩ => ⟨S8x2x256x4x64, .f32⟩
  | .hbm, ⟨4, _⟩ => ⟨S8x2x256x4x64, .f32⟩
  | .hbm, ⟨5, _⟩ => ⟨S8x1024x16x64, .bf16⟩
  | .hbm, ⟨6, _⟩ => ⟨S8x1024x4x64, .f32⟩
  | .hbm, ⟨7, _⟩ => ⟨S8x1024x4x64, .f32⟩
  | .hbm, ⟨8, _⟩ => ⟨S8x1x256x4x64, .f32⟩
  | .hbm, ⟨9, _⟩ => ⟨S8x256x4x64, .f32⟩
  | .hbm, ⟨10, _⟩ => ⟨S8x1280x4x64, .f32⟩
  | .hbm, ⟨11, _⟩ => ⟨S8x1x256x4x64, .f32⟩
  | .hbm, ⟨12, _⟩ => ⟨S8x256x4x64, .f32⟩
  | .hbm, ⟨13, _⟩ => ⟨S8x1280x4x64, .f32⟩
  | .hbm, ⟨14, _⟩ => ⟨S8x1024x4x4x64, .bf16⟩
  | .hbm, ⟨15, _⟩ => ⟨S8x1024x4x4x64, .f32⟩
  | .hbm, ⟨16, _⟩ => ⟨S8x4x1280x1024x4, .f32⟩
  | .hbm, ⟨17, _⟩ => ⟨S8x4x4x1024x1280, .f32⟩
  | .hbm, ⟨18, _⟩ => ⟨S_, .f32⟩
  | .hbm, ⟨19, _⟩ => ⟨S8x4x4x1024x1280, .f32⟩
  | .hbm, ⟨20, _⟩ => ⟨S8x4x4x1024x1280, .f32⟩
  | .hbm, ⟨21, _⟩ => ⟨S_, .f32⟩
  | .hbm, ⟨22, _⟩ => ⟨S8x4x4x1024, .f32⟩
  | .hbm, ⟨23, _⟩ => ⟨S_, .f32⟩
  | .hbm, ⟨24, _⟩ => ⟨S8x4x4x1024, .f32⟩
  | .hbm, ⟨25, _⟩ => ⟨S8x4x4x1024, .f32⟩
  | .hbm, ⟨26, _⟩ => ⟨S8x4x4x1024x1, .f32⟩
  | .hbm, ⟨27, _⟩ => ⟨S8x4x4x1024x1280, .f32⟩
  | .hbm, ⟨28, _⟩ => ⟨S8x4x4x1024x1280, .f32⟩
  | .hbm, ⟨29, _⟩ => ⟨S8x4x4x1024x1280, .f32⟩
  | .hbm, ⟨30, _⟩ => ⟨S_, .f32⟩
  | .hbm, ⟨31, _⟩ => ⟨S8x4x4x1024, .f32⟩
  | .hbm, ⟨32, _⟩ => ⟨S8x4x4x1024x1, .f32⟩
  | .hbm, ⟨33, _⟩ => ⟨S8x4x4x1024x1280, .f32⟩
  | .hbm, ⟨34, _⟩ => ⟨S8x4x4x1024x1280, .f32⟩
  | .hbm, ⟨35, _⟩ => ⟨S8x4x64x4x1024, .f32⟩
  | .hbm, ⟨36, _⟩ => ⟨S8x1024x4x4x64, .f32⟩
  | .hbm, ⟨37, _⟩ => ⟨S8x1024x1024, .f32⟩
  | .hbm, ⟨38, _⟩ => ⟨S8192x1024, .f32⟩
  | .hbm, ⟨39, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Rope.lean ====
abbrev S8x1024x1024 : Shape := ⟨3, ![8, 1024, 1024]⟩
abbrev S16x6144 : Shape := ⟨2, ![16, 6144]⟩
abbrev S1024 : Shape := ⟨1, ![1024]⟩
abbrev S1024x7680 : Shape := ⟨2, ![1024, 7680]⟩
abbrev S3072 : Shape := ⟨1, ![3072]⟩
abbrev S64 : Shape := ⟨1, ![64]⟩
abbrev S16 : Shape := ⟨1, ![16]⟩
abbrev S2 : Shape := ⟨1, ![2]⟩
abbrev S2x2 : Shape := ⟨2, ![2, 2]⟩
abbrev S_ : Shape := ⟨0, ![]⟩
abbrev S64x64 : Shape := ⟨2, ![64, 64]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8x8x128x1024 : Shape := ⟨4, ![8, 8, 128, 1024]⟩
abbrev S8x128x8x1024 : Shape := ⟨4, ![8, 128, 8, 1024]⟩
abbrev S8192x1024 : Shape := ⟨2, ![8192, 1024]⟩
abbrev S16x1x6144 : Shape := ⟨3, ![16, 1, 6144]⟩
abbrev S1x1024 : Shape := ⟨2, ![1, 1024]⟩
abbrev S1x3072 : Shape := ⟨2, ![1, 3072]⟩
abbrev S16x1 : Shape := ⟨2, ![16, 1]⟩
abbrev S1x16 : Shape := ⟨2, ![1, 16]⟩
abbrev S16x16 : Shape := ⟨2, ![16, 16]⟩
abbrev S64x1 : Shape := ⟨2, ![64, 1]⟩
abbrev S64x16 : Shape := ⟨2, ![64, 16]⟩
abbrev S16x1x16 : Shape := ⟨3, ![16, 1, 16]⟩
abbrev S1x64x16 : Shape := ⟨3, ![1, 64, 16]⟩
abbrev S16x64x16 : Shape := ⟨3, ![16, 64, 16]⟩
abbrev S1024x16 : Shape := ⟨2, ![1024, 16]⟩
abbrev S1024x1x16 : Shape := ⟨3, ![1024, 1, 16]⟩
abbrev S1024x2x16 : Shape := ⟨3, ![1024, 2, 16]⟩
abbrev S1024x1x2x1x16 : Shape := ⟨5, ![1024, 1, 2, 1, 16]⟩
abbrev S1024x2x2x2x16 : Shape := ⟨5, ![1024, 2, 2, 2, 16]⟩
abbrev S2x1 : Shape := ⟨2, ![2, 1]⟩
abbrev S1x1x1x2x1 : Shape := ⟨5, ![1, 1, 1, 2, 1]⟩
abbrev S1x1024x128 : Shape := ⟨3, ![1, 1024, 128]⟩
abbrev S1x8x128x128 : Shape := ⟨4, ![1, 8, 128, 128]⟩
abbrev S1x128x8x128 : Shape := ⟨4, ![1, 128, 8, 128]⟩
abbrev S1024x128 : Shape := ⟨2, ![1024, 128]⟩
abbrev S8192x256 : Shape := ⟨2, ![8192, 256]⟩
abbrev S8192x3072 : Shape := ⟨2, ![8192, 3072]⟩
abbrev S512x1024 : Shape := ⟨2, ![512, 1024]⟩
abbrev S1x1x6144 : Shape := ⟨3, ![1, 1, 6144]⟩
abbrev S512x128 : Shape := ⟨2, ![512, 128]⟩
abbrev S512x256 : Shape := ⟨2, ![512, 256]⟩
abbrev S512x3072 : Shape := ⟨2, ![512, 3072]⟩
abbrev S1x6144 : Shape := ⟨2, ![1, 6144]⟩
abbrev S512 : Shape := ⟨1, ![512]⟩
abbrev S512x1 : Shape := ⟨2, ![512, 1]⟩
abbrev S1024x1024 : Shape := ⟨2, ![1024, 1024]⟩
abbrev S1024x256 : Shape := ⟨2, ![1024, 256]⟩
abbrev S8x128x8x256 : Shape := ⟨4, ![8, 128, 8, 256]⟩
abbrev S8x8x128x256 : Shape := ⟨4, ![8, 8, 128, 256]⟩
abbrev S8x1024x256 : Shape := ⟨3, ![8, 1024, 256]⟩
abbrev S8x128x8x3072 : Shape := ⟨4, ![8, 128, 8, 3072]⟩
abbrev S8x8x128x3072 : Shape := ⟨4, ![8, 8, 128, 3072]⟩
abbrev S8x1024x3072 : Shape := ⟨3, ![8, 1024, 3072]⟩

abbrev nBuf : Space → Nat
  | .hbm => 108
  | .vmem => 28
  | .smem => 0
  | _ => 0

abbrev bufTy : (tb : Table) → Fin (tcTables nBuf tb) → BufTy
  | .hbm, ⟨0, _⟩ => ⟨S8x1024x1024, .f32⟩
  | .hbm, ⟨1, _⟩ => ⟨S16x6144, .f32⟩
  | .hbm, ⟨2, _⟩ => ⟨S1024, .f32⟩
  | .hbm, ⟨3, _⟩ => ⟨S1024x7680, .f32⟩
  | .hbm, ⟨4, _⟩ => ⟨S3072, .f32⟩
  | .hbm, ⟨5, _⟩ => ⟨S64, .f32⟩
  | .hbm, ⟨6, _⟩ => ⟨S64, .f32⟩
  | .hbm, ⟨7, _⟩ => ⟨S16, .f32⟩
  | .hbm, ⟨8, _⟩ => ⟨S2, .f32⟩
  | .hbm, ⟨9, _⟩ => ⟨S2x2, .i32⟩
  | .hbm, ⟨10, _⟩ => ⟨S2x2, .i32⟩
  | .hbm, ⟨11, _⟩ => ⟨S_, .i32⟩
  | .hbm, ⟨12, _⟩ => ⟨S2x2, .i32⟩
  | .hbm, ⟨13, _⟩ => ⟨S2x2, .i32⟩
  | .hbm, ⟨14, _⟩ => ⟨S2x2, .i1⟩
  | .hbm, ⟨15, _⟩ => ⟨S2x2, .f32⟩
  | .hbm, ⟨16, _⟩ => ⟨S_, .f32⟩
  | .hbm, ⟨17, _⟩ => ⟨S64x64, .f32⟩
  | .hbm, ⟨18, _⟩ => ⟨S64x64, .f32⟩
  | .hbm, ⟨19, _⟩ => ⟨S2x1x2x1, .f32⟩
  | .hbm, ⟨20, _⟩ => ⟨S1x64x1x64, .f32⟩
  | .hbm, ⟨21, _⟩ => ⟨S2x64x2x64, .f32⟩
  | .hbm, ⟨22, _⟩ => ⟨S2x64x2x64, .f32⟩
  | .hbm, ⟨23, _⟩ => ⟨S2x64x2x64, .f32⟩
  | .hbm, ⟨24, _⟩ => ⟨S128x128, .f32⟩
  | .hbm, ⟨25, _⟩ => ⟨S128x128, .bf16⟩
  | .hbm, ⟨26, _⟩ => ⟨S1x64, .f32⟩
  | .hbm, ⟨27, _⟩ => ⟨S2x64, .f32⟩
  | .hbm, ⟨28, _⟩ => ⟨S128, .f32⟩
  | .hbm, ⟨29, _⟩ => ⟨S1x128, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S8x8x128x1024, .f32⟩
  | .hbm, ⟨35, _⟩ => ⟨S8x128x8x1024, .f32⟩
  | .hbm, ⟨36, _⟩ => ⟨S8192x1024, .f32⟩
  | .hbm, ⟨37, _⟩ => ⟨S16x1x6144, .f32⟩
  | .hbm, ⟨38, _⟩ => ⟨S1x1024, .f32⟩
  | .hbm, ⟨39, _⟩ => ⟨S1024x7680, .bf16⟩
  | .hbm, ⟨40, _⟩ => ⟨S1x3072, .f32⟩
  | .hbm, ⟨41, _⟩ => ⟨S16, .i32⟩
  | .hbm, ⟨42, _⟩ => ⟨S16, .f32⟩
  | .hbm, ⟨43, _⟩ => ⟨S16x1, .f32⟩
  | .hbm, ⟨44, _⟩ => ⟨S1x16, .f32⟩
  | .hbm, ⟨45, _⟩ => ⟨S16x16, .f32⟩
  | .hbm, ⟨46, _⟩ => ⟨S16x16, .f32⟩
  | .hbm, ⟨47, _⟩ => ⟨S16x16, .f32⟩
  | .hbm, ⟨48, _⟩ => ⟨S64, .i32⟩
  | .hbm, ⟨49, _⟩ => ⟨S64, .f32⟩
  | .hbm, ⟨50, _⟩ => ⟨S64x1, .f32⟩
  | .hbm, ⟨51, _⟩ => ⟨S1x16, .f32⟩
  | .hbm, ⟨52, _⟩ => ⟨S64x16, .f32⟩
  | .hbm, ⟨53, _⟩ => ⟨S64x16, .f32⟩
  | .hbm, ⟨54, _⟩ => ⟨S64x16, .f32⟩
  | .hbm, ⟨55, _⟩ => ⟨S16x1x16, .f32⟩
  | .hbm, ⟨56, _⟩ => ⟨S1x64x16, .f32⟩
  | .hbm, ⟨57, _⟩ => ⟨S16x64x16, .f32⟩
  | .hbm, ⟨58, _⟩ => ⟨S1024x16, .f32⟩
  | .hbm, ⟨59, _⟩ => ⟨S16x64x16, .f32⟩
  | .hbm, ⟨60, _⟩ => ⟨S1024x16, .f32⟩
  | .hbm, ⟨61, _⟩ => ⟨S1024x1x16, .f32⟩
  | .hbm, ⟨62, _⟩ => ⟨S1024x1x16, .f32⟩
  | .hbm, ⟨63, _⟩ => ⟨S1024x2x16, .f32⟩
  | .hbm, ⟨64, _⟩ => ⟨S1024x1x2x1x16, .f32⟩
  | .hbm, ⟨65, _⟩ => ⟨S1024x2x2x2x16, .f32⟩
  | .hbm, ⟨66, _⟩ => ⟨S2x1, .f32⟩
  | .hbm, ⟨67, _⟩ => ⟨S1024x2x2x2x16, .f32⟩
  | .hbm, ⟨68, _⟩ => ⟨S1024x2x2x2x16, .f32⟩
  | .hbm, ⟨69, _⟩ => ⟨S1x1x1x2x1, .f32⟩
  | .hbm, ⟨70, _⟩ => ⟨S1024x2x2x2x16, .f32⟩
  | .hbm, ⟨71, _⟩ => ⟨S1024x2x2x2x16, .f32⟩
  | .hbm, ⟨72, _⟩ => ⟨S1x1024x128, .f32⟩
  | .hbm, ⟨73, _⟩ => ⟨S1x8x128x128, .f32⟩
  | .hbm, ⟨74, _⟩ => ⟨S1x128x8x128, .f32⟩
  | .hbm, ⟨75, _⟩ => ⟨S1024x128, .f32⟩
  | .hbm, ⟨76, _⟩ => ⟨S1x1024x128, .f32⟩
  | .hbm, ⟨77, _⟩ => ⟨S1x8x128x128, .f32⟩
  | .hbm, ⟨78, _⟩ => ⟨S1x128x8x128, .f32⟩
  | .hbm, ⟨79, _⟩ => ⟨S1024x128, .f32⟩
  | .hbm, ⟨80, _⟩ => ⟨S8192x1024, .bf16⟩
  | .hbm, ⟨81, _⟩ => ⟨S8192x1024, .bf16⟩
  | .hbm, ⟨82, _⟩ => ⟨S8192x1024, .bf16⟩
  | .hbm, ⟨83, _⟩ => ⟨S8192x256, .f32⟩
  | .hbm, ⟨84, _⟩ => ⟨S8192x256, .f32⟩
  | .hbm, ⟨85, _⟩ => ⟨S8192x1024, .bf16⟩
  | .hbm, ⟨86, _⟩ => ⟨S8192x3072, .bf16⟩
  | .hbm, ⟨87, _⟩ => ⟨S8x128x8x1024, .bf16⟩
  | .hbm, ⟨88, _⟩ => ⟨S8x8x128x1024, .bf16⟩
  | .hbm, ⟨89, _⟩ => ⟨S8x1024x1024, .bf16⟩
  | .hbm, ⟨90, _⟩ => ⟨S8x128x8x1024, .bf16⟩
  | .hbm, ⟨91, _⟩ => ⟨S8x8x128x1024, .bf16⟩
  | .hbm, ⟨92, _⟩ => ⟨S8x1024x1024, .bf16⟩
  | .hbm, ⟨93, _⟩ => ⟨S8x128x8x1024, .bf16⟩
  | .hbm, ⟨94, _⟩ => ⟨S8x8x128x1024, .bf16⟩
  | .hbm, ⟨95, _⟩ => ⟨S8x1024x1024, .bf16⟩
  | .hbm, ⟨96, _⟩ => ⟨S8x128x8x256, .f32⟩
  | .hbm, ⟨97, _⟩ => ⟨S8x8x128x256, .f32⟩
  | .hbm, ⟨98, _⟩ => ⟨S8x1024x256, .f32⟩
  | .hbm, ⟨99, _⟩ => ⟨S8x128x8x256, .f32⟩
  | .hbm, ⟨100, _⟩ => ⟨S8x8x128x256, .f32⟩
  | .hbm, ⟨101, _⟩ => ⟨S8x1024x256, .f32⟩
  | .hbm, ⟨102, _⟩ => ⟨S8x128x8x1024, .bf16⟩
  | .hbm, ⟨103, _⟩ => ⟨S8x8x128x1024, .bf16⟩
  | .hbm, ⟨104, _⟩ => ⟨S8x1024x1024, .bf16⟩
  | .hbm, ⟨105, _⟩ => ⟨S8x128x8x3072, .bf16⟩
  | .hbm, ⟨106, _⟩ => ⟨S8x8x128x3072, .bf16⟩
  | .hbm, ⟨107, _⟩ => ⟨S8x1024x3072, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x7680, .bf16⟩
  | .local _ .vmem, ⟨6, _⟩ => ⟨S1x3072, .f32⟩
  | .local _ .vmem, ⟨7, _⟩ => ⟨S1x128, .f32⟩
  | .local _ .vmem, ⟨8, _⟩ => ⟨S1x128, .f32⟩
  | .local _ .vmem, ⟨9, _⟩ => ⟨S128x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x1024, .bf16⟩
  | .local _ .vmem, ⟨25, _⟩ => ⟨S512x1024, .bf16⟩
  | .local _ .vmem, ⟨26, _⟩ => ⟨S512x3072, .bf16⟩
  | .local _ .vmem, ⟨27, _⟩ => ⟨S512x3072, .bf16⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63_0 : Ref sig .tc := ⟨.hbm, 80, rfl⟩
abbrev main_v63_1 : Ref sig .tc := ⟨.hbm, 81, rfl⟩
abbrev main_v63_2 : Ref sig .tc := ⟨.hbm, 82, rfl⟩
abbrev main_v63_3 : Ref sig .tc := ⟨.hbm, 83, rfl⟩
abbrev main_v63_4 : Ref sig .tc := ⟨.hbm, 84, rfl⟩
abbrev main_v63_5 : Ref sig .tc := ⟨.hbm, 85, rfl⟩
abbrev main_v63_6 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x7680 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== RopeReferenceIdeal.lean ====
abbrev S8x1024x1024 : Shape := ⟨3, ![8, 1024, 1024]⟩
abbrev S16x6144 : Shape := ⟨2, ![16, 6144]⟩
abbrev S1024 : Shape := ⟨1, ![1024]⟩
abbrev S1024x7680 : Shape := ⟨2, ![1024, 7680]⟩
abbrev S3072 : Shape := ⟨1, ![3072]⟩
abbrev S64 : Shape := ⟨1, ![64]⟩
abbrev S16 : Shape := ⟨1, ![16]⟩
abbrev S1x16 : Shape := ⟨2, ![1, 16]⟩
abbrev S8x6144 : Shape := ⟨2, ![8, 6144]⟩
abbrev S8x1x6144 : Shape := ⟨3, ![8, 1, 6144]⟩
abbrev S8x1x1024 : Shape := ⟨3, ![8, 1, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1024x7680 : Shape := ⟨3, ![8, 1024, 7680]⟩
abbrev S8x1024x256 : Shape := ⟨3, ![8, 1024, 256]⟩
abbrev S8x1024x3072 : Shape := ⟨3, ![8, 1024, 3072]⟩
abbrev S8x1024x16x64 : Shape := ⟨4, ![8, 1024, 16, 64]⟩
abbrev S8x1024x16 : Shape := ⟨3, ![8, 1024, 16]⟩
abbrev S8x1024x16x1 : Shape := ⟨4, ![8, 1024, 16, 1]⟩
abbrev S1x1x1x64 : Shape := ⟨4, ![1, 1, 1, 64]⟩
abbrev S16x1 : Shape := ⟨2, ![16, 1]⟩
abbrev S16x64 : Shape := ⟨2, ![16, 64]⟩
abbrev S1x64 : Shape := ⟨2, ![1, 64]⟩
abbrev S8x1024x16x32 : Shape := ⟨4, ![8, 1024, 16, 32]⟩
abbrev S1024x1 : Shape := ⟨2, ![1024, 1]⟩
abbrev S1024x16 : Shape := ⟨2, ![1024, 16]⟩
abbrev S1x1024x1x16 : Shape := ⟨4, ![1, 1024, 1, 16]⟩
abbrev S8x1024x16x16 : Shape := ⟨4, ![8, 1024, 16, 16]⟩
abbrev S8x1024x4x64 : Shape := ⟨4, ![8, 1024, 4, 64]⟩
abbrev S8x1024x4 : Shape := ⟨3, ![8, 1024, 4]⟩
abbrev S8x1024x4x1 : Shape := ⟨4, ![8, 1024, 4, 1]⟩
abbrev S8x1024x4x32 : Shape := ⟨4, ![8, 1024, 4, 32]⟩
abbrev S8x1024x4x16 : Shape := ⟨4, ![8, 1024, 4, 16]⟩
abbrev S1x1x3072 : Shape := ⟨3, ![1, 1, 3072]⟩

abbrev nBuf : Space → Nat
  | .hbm => 229
  | .vmem => 0
  | .smem => 0
  | _ => 0

abbrev hbmTy0_0 (i : Nat) : BufTy := match i % 128 with
  | 0 => ⟨S8x1024x1024, .f32⟩
  | 1 => ⟨S16x6144, .f32⟩
  | 2 => ⟨S1024, .f32⟩
  | 3 => ⟨S1024x7680, .f32⟩
  | 4 => ⟨S3072, .f32⟩
  | 5 => ⟨S64, .f32⟩
  | 6 => ⟨S64, .f32⟩
  | 7 => ⟨S16, .f32⟩
  | 8 => ⟨S1x16, .f32⟩
  | 9 => ⟨S16, .f32⟩
  | 10 => ⟨S1x16, .f32⟩
  | 11 => ⟨S16, .f32⟩
  | 12 => ⟨S1x16, .f32⟩
  | 13 => ⟨S16, .f32⟩
  | 14 => ⟨S1x16, .f32⟩
  | 15 => ⟨S8x6144, .f32⟩
  | 16 => ⟨S8x1x6144, .f32⟩
  | 17 => ⟨S8x1x1024, .f32⟩
  | 18 => ⟨S8x1x1024, .f32⟩
  | 19 => ⟨S8x1024x1024, .f32⟩
  | 20 => ⟨S_, .f32⟩
  | 21 => ⟨S8x1024, .f32⟩
  | 22 => ⟨S8x1024x1, .f32⟩
  | 23 => ⟨S_, .f32⟩
  | 24 => ⟨S8x1024x1, .f32⟩
  | 25 => ⟨S8x1024x1, .f32⟩
  | 26 => ⟨S_, .f32⟩
  | 27 => ⟨S8x1024x1, .f32⟩
  | 28 => ⟨S8x1024x1, .f32⟩
  | 29 => ⟨S8x1024x1, .f32⟩
  | 30 => ⟨S8x1024x1024, .f32⟩
  | 31 => ⟨S8x1024x1024, .f32⟩
  | 32 => ⟨S1x1x1024, .f32⟩
  | 33 => ⟨S8x1024x1024, .f32⟩
  | 34 => ⟨S8x1024x1024, .f32⟩
  | 35 => ⟨S_, .f32⟩
  | 36 => ⟨S8x1x1024, .f32⟩
  | 37 => ⟨S8x1x1024, .f32⟩
  | 38 => ⟨S8x1024x1024, .f32⟩
  | 39 => ⟨S8x1024x1024, .f32⟩
  | 40 => ⟨S8x1024x1024, .f32⟩
  | 41 => ⟨S8x1024x1024, .f32⟩
  | 42 => ⟨S8x1024x7680, .f32⟩
  | 43 => ⟨S8x1024x1024, .f32⟩
  | 44 => ⟨S8x1024x1024, .f32⟩
  | 45 => ⟨S8x1024x1024, .f32⟩
  | 46 => ⟨S8x1024x256, .f32⟩
  | 47 => ⟨S8x1024x256, .f32⟩
  | 48 => ⟨S8x1024x1024, .f32⟩
  | 49 => ⟨S8x1024x3072, .f32⟩
  | 50 => ⟨S8x1024x16x64, .f32⟩
  | 51 => ⟨S8x1024x16x64, .f32⟩
  | 52 => ⟨S_, .f32⟩
  | 53 => ⟨S8x1024x16, .f32⟩
  | 54 => ⟨S8x1024x16x1, .f32⟩
  | 55 => ⟨S_, .f32⟩
  | 56 => ⟨S8x1024x16x1, .f32⟩
  | 57 => ⟨S8x1024x16x1, .f32⟩
  | 58 => ⟨S_, .f32⟩
  | 59 => ⟨S8x1024x16x1, .f32⟩
  | 60 => ⟨S8x1024x16x1, .f32⟩
  | 61 => ⟨S8x1024x16x1, .f32⟩
  | 62 => ⟨S8x1024x16x64, .f32⟩
  | 63 => ⟨S8x1024x16x64, .f32⟩
  | 64 => ⟨S1x1x1x64, .f32⟩
  | 65 => ⟨S8x1024x16x64, .f32⟩
  | 66 => ⟨S8x1024x16x64, .f32⟩
  | 67 => ⟨S16, .i32⟩
  | 68 => ⟨S16x1, .i32⟩
  | 69 => ⟨S16x64, .i32⟩
  | 70 => ⟨S1024, .i32⟩
  | 71 => ⟨S1024, .f32⟩
  | 72 => ⟨S64, .i32⟩
  | 73 => ⟨S1x64, .i32⟩
  | 74 => ⟨S16x64, .i32⟩
  | 75 => ⟨S1024, .i32⟩
  | 76 => ⟨S1024, .f32⟩
  | 77 => ⟨S8x1024x16x32, .f32⟩
  | 78 => ⟨S1024x1, .f32⟩
  | 79 => ⟨S1024x16, .f32⟩
  | 80 => ⟨S1024x16, .f32⟩
  | 81 => ⟨S1024x16, .f32⟩
  | 82 => ⟨S1024x16, .f32⟩
  | 83 => ⟨S1x1024x1x16, .f32⟩
  | 84 => ⟨S1024x16, .f32⟩
  | 85 => ⟨S1x1024x1x16, .f32⟩
  | 86 => ⟨S8x1024x16x16, .f32⟩
  | 87 => ⟨S8x1024x16x16, .f32⟩
  | 88 => ⟨S8x1024x16x16, .f32⟩
  | 89 => ⟨S8x1024x16x16, .f32⟩
  | 90 => ⟨S8x1024x16x16, .f32⟩
  | 91 => ⟨S8x1024x16x16, .f32⟩
  | 92 => ⟨S8x1024x16x16, .f32⟩
  | 93 => ⟨S8x1024x16x16, .f32⟩
  | 94 => ⟨S8x1024x16x16, .f32⟩
  | 95 => ⟨S8x1024x16x16, .f32⟩
  | 96 => ⟨S8x1024x16x16, .f32⟩
  | 97 => ⟨S8x1024x16x16, .f32⟩
  | 98 => ⟨S8x1024x16x32, .f32⟩
  | 99 => ⟨S8x1024x16x32, .f32⟩
  | 100 => ⟨S1024x1, .f32⟩
  | 101 => ⟨S1024x16, .f32⟩
  | 102 => ⟨S1024x16, .f32⟩
  | 103 => ⟨S1024x16, .f32⟩
  | 104 => ⟨S1024x16, .f32⟩
  | 105 => ⟨S1x1024x1x16, .f32⟩
  | 106 => ⟨S1024x16, .f32⟩
  | 107 => ⟨S1x1024x1x16, .f32⟩
  | 108 => ⟨S8x1024x16x16, .f32⟩
  | 109 => ⟨S8x1024x16x16, .f32⟩
  | 110 => ⟨S8x1024x16x16, .f32⟩
  | 111 => ⟨S8x1024x16x16, .f32⟩
  | 112 => ⟨S8x1024x16x16, .f32⟩
  | 113 => ⟨S8x1024x16x16, .f32⟩
  | 114 => ⟨S8x1024x16x16, .f32⟩
  | 115 => ⟨S8x1024x16x16, .f32⟩
  | 116 => ⟨S8x1024x16x16, .f32⟩
  | 117 => ⟨S8x1024x16x16, .f32⟩
  | 118 => ⟨S8x1024x16x16, .f32⟩
  | 119 => ⟨S8x1024x16x16, .f32⟩
  | 120 => ⟨S8x1024x16x32, .f32⟩
  | 121 => ⟨S8x1024x16x64, .f32⟩
  | 122 => ⟨S8x1024x1024, .f32⟩
  | 123 => ⟨S8x1024x4x64, .f32⟩
  | 124 => ⟨S8x1024x4x64, .f32⟩
  | 125 => ⟨S_, .f32⟩
  | 126 => ⟨S8x1024x4, .f32⟩
  | 127 => ⟨S8x1024x4x1, .f32⟩
  | _ => ⟨S8x1024x1024, .f32⟩

abbrev hbmTy0_1 (i : Nat) : BufTy := match i % 128 with
  | 0 => ⟨S_, .f32⟩
  | 1 => ⟨S8x1024x4x1, .f32⟩
  | 2 => ⟨S8x1024x4x1, .f32⟩
  | 3 => ⟨S_, .f32⟩
  | 4 => ⟨S8x1024x4x1, .f32⟩
  | 5 => ⟨S8x1024x4x1, .f32⟩
  | 6 => ⟨S8x1024x4x1, .f32⟩
  | 7 => ⟨S8x1024x4x64, .f32⟩
  | 8 => ⟨S8x1024x4x64, .f32⟩
  | 9 => ⟨S1x1x1x64, .f32⟩
  | 10 => ⟨S8x1024x4x64, .f32⟩
  | 11 => ⟨S8x1024x4x64, .f32⟩
  | 12 => ⟨S16, .i32⟩
  | 13 => ⟨S16x1, .i32⟩
  | 14 => ⟨S16x64, .i32⟩
  | 15 => ⟨S1024, .i32⟩
  | 16 => ⟨S1024, .f32⟩
  | 17 => ⟨S64, .i32⟩
  | 18 => ⟨S1x64, .i32⟩
  | 19 => ⟨S16x64, .i32⟩
  | 20 => ⟨S1024, .i32⟩
  | 21 => ⟨S1024, .f32⟩
  | 22 => ⟨S8x1024x4x32, .f32⟩
  | 23 => ⟨S1024x1, .f32⟩
  | 24 => ⟨S1024x16, .f32⟩
  | 25 => ⟨S1024x16, .f32⟩
  | 26 => ⟨S1024x16, .f32⟩
  | 27 => ⟨S1024x16, .f32⟩
  | 28 => ⟨S1x1024x1x16, .f32⟩
  | 29 => ⟨S1024x16, .f32⟩
  | 30 => ⟨S1x1024x1x16, .f32⟩
  | 31 => ⟨S8x1024x4x16, .f32⟩
  | 32 => ⟨S8x1024x4x16, .f32⟩
  | 33 => ⟨S8x1024x4x16, .f32⟩
  | 34 => ⟨S8x1024x4x16, .f32⟩
  | 35 => ⟨S8x1024x4x16, .f32⟩
  | 36 => ⟨S8x1024x4x16, .f32⟩
  | 37 => ⟨S8x1024x4x16, .f32⟩
  | 38 => ⟨S8x1024x4x16, .f32⟩
  | 39 => ⟨S8x1024x4x16, .f32⟩
  | 40 => ⟨S8x1024x4x16, .f32⟩
  | 41 => ⟨S8x1024x4x16, .f32⟩
  | 42 => ⟨S8x1024x4x16, .f32⟩
  | 43 => ⟨S8x1024x4x32, .f32⟩
  | 44 => ⟨S8x1024x4x32, .f32⟩
  | 45 => ⟨S1024x1, .f32⟩
  | 46 => ⟨S1024x16, .f32⟩
  | 47 => ⟨S1024x16, .f32⟩
  | 48 => ⟨S1024x16, .f32⟩
  | 49 => ⟨S1024x16, .f32⟩
  | 50 => ⟨S1x1024x1x16, .f32⟩
  | 51 => ⟨S1024x16, .f32⟩
  | 52 => ⟨S1x1024x1x16, .f32⟩
  | 53 => ⟨S8x1024x4x16, .f32⟩
  | 54 => ⟨S8x1024x4x16, .f32⟩
  | 55 => ⟨S8x1024x4x16, .f32⟩
  | 56 => ⟨S8x1024x4x16, .f32⟩
  | 57 => ⟨S8x1024x4x16, .f32⟩
  | 58 => ⟨S8x1024x4x16, .f32⟩
  | 59 => ⟨S8x1024x4x16, .f32⟩
  | 60 => ⟨S8x1024x4x16, .f32⟩
  | 61 => ⟨S8x1024x4x16, .f32⟩
  | 62 => ⟨S8x1024x4x16, .f32⟩
  | 63 => ⟨S8x1024x4x16, .f32⟩
  | 64 => ⟨S8x1024x4x16, .f32⟩
  | 65 => ⟨S8x1024x4x32, .f32⟩
  | 66 => ⟨S8x1024x4x64, .f32⟩
  | 67 => ⟨S8x1024x256, .f32⟩
  | 68 => ⟨S8x1024x1024, .bf16⟩
  | 69 => ⟨S8x1024x1024, .f32⟩
  | 70 => ⟨S8x1024x1024, .f32⟩
  | 71 => ⟨S_, .f32⟩
  | 72 => ⟨S8x1024x1024, .f32⟩
  | 73 => ⟨S8x1024x1024, .f32⟩
  | 74 => ⟨S8x1024x1024, .f32⟩
  | 75 => ⟨S_, .f32⟩
  | 76 => ⟨S8x1024x1024, .f32⟩
  | 77 => ⟨S8x1024x1024, .f32⟩
  | 78 => ⟨S8x1024x1024, .f32⟩
  | 79 => ⟨S_, .f32⟩
  | 80 => ⟨S8x1024x1024, .f32⟩
  | 81 => ⟨S8x1024x1024, .f32⟩
  | 82 => ⟨S_, .f32⟩
  | 83 => ⟨S8x1024x1024, .f32⟩
  | 84 => ⟨S8x1024x1024, .f32⟩
  | 85 => ⟨S8x1024x1024, .f32⟩
  | 86 => ⟨S8x1024x1024, .bf16⟩
  | 87 => ⟨S8x1024x1024, .bf16⟩
  | 88 => ⟨S8x1024x1024, .bf16⟩
  | 89 => ⟨S1x1x3072, .f32⟩
  | 90 => ⟨S8x1024x3072, .f32⟩
  | 91 => ⟨S8x1024x3072, .f32⟩
  | 92 => ⟨S8x1024x3072, .f32⟩
  | 93 => ⟨S8x1024x3072, .f32⟩
  | 94 => ⟨S_, .f32⟩
  | 95 => ⟨S8x1024x3072, .f32⟩
  | 96 => ⟨S8x1024x3072, .f32⟩
  | 97 => ⟨S_, .f32⟩
  | 98 => ⟨S8x1024x3072, .f32⟩
  | 99 => ⟨S8x1024x3072, .f32⟩
  | 100 => ⟨S8x1024x3072, .bf16⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_10 : Ref sig .tc := ⟨.hbm, 125, rfl⟩
abbrev main_v107 : Ref sig .tc := ⟨.hbm, 126, rfl⟩
abbrev main_v108 : Ref sig .tc := ⟨.hbm, 127, rfl⟩
abbrev main_cst_11 : Ref sig .tc := ⟨.hbm, 128, rfl⟩
abbrev main_v109 : Ref sig .tc := ⟨.hbm, 129, rfl⟩
abbrev main_v110 : Ref sig .tc := ⟨.hbm, 130, rfl⟩
abbrev main_cst_12 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_cst_13 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_cst_14 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_cst_15 : Ref sig .tc := ⟨.hbm, 207, rfl⟩
abbrev main_v184 : Ref sig .tc := ⟨.hbm, 208, rfl⟩
abbrev main_v185 : Ref sig .tc := ⟨.hbm, 209, rfl⟩
abbrev main_cst_16 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_cst_17 : Ref sig .tc := ⟨.hbm, 222, rfl⟩
abbrev main_v197 : Ref sig .tc := ⟨.hbm, 223, rfl⟩
abbrev main_v198 : Ref sig .tc := ⟨.hbm, 224, rfl⟩
abbrev main_cst_18 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩

abbrev nD : Nat := 1
abbrev τ : Topo := Topo.v7x

variable {F : FTy → Type} [FloatOps F]
-- ==== Mid.lean ====
abbrev S4096x3072 : Shape := ⟨2, ![4096, 3072]⟩
abbrev S3072x1024 : Shape := ⟨2, ![3072, 1024]⟩
abbrev S4096x1024 : Shape := ⟨2, ![4096, 1024]⟩
abbrev S16x6144 : Shape := ⟨2, ![16, 6144]⟩
abbrev S1024 : Shape := ⟨1, ![1024]⟩
abbrev S16x1x6144 : Shape := ⟨3, ![16, 1, 6144]⟩
abbrev S1x1024 : Shape := ⟨2, ![1, 1024]⟩
abbrev S512x3072 : Shape := ⟨2, ![512, 3072]⟩
abbrev S512x1024 : Shape := ⟨2, ![512, 1024]⟩
abbrev S1x1x6144 : Shape := ⟨3, ![1, 1, 6144]⟩
abbrev S1x1x1024 : Shape := ⟨3, ![1, 1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .f32⟩
  | .hbm, ⟨2, _⟩ => ⟨S4096x1024, .f32⟩
  | .hbm, ⟨3, _⟩ => ⟨S16x6144, .f32⟩
  | .hbm, ⟨4, _⟩ => ⟨S1024, .f32⟩
  | .hbm, ⟨5, _⟩ => ⟨S3072x1024, .bf16⟩
  | .hbm, ⟨6, _⟩ => ⟨S16x1x6144, .f32⟩
  | .hbm, ⟨7, _⟩ => ⟨S1x1024, .f32⟩
  | .hbm, ⟨8, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1x6144, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MidReferenceIdeal.lean ====
abbrev S4096x3072 : Shape := ⟨2, ![4096, 3072]⟩
abbrev S3072x1024 : Shape := ⟨2, ![3072, 1024]⟩
abbrev S4096x1024 : Shape := ⟨2, ![4096, 1024]⟩
abbrev S16x6144 : Shape := ⟨2, ![16, 6144]⟩
abbrev S1024 : Shape := ⟨1, ![1024]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .f32⟩
  | .hbm, ⟨2, _⟩ => ⟨S4096x1024, .f32⟩
  | .hbm, ⟨3, _⟩ => ⟨S16x6144, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S4096x3072, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.EExt.lean ====
/- Facts about extended reals that the certificates share: sums of finite numbers, a positive factor taken out of a sum, and
   the weighted mean of a softmax, divided before or after the sum. -/
module

public import Idealize.ShloMosaic.Lib.Pointwise

@[expose] public section

noncomputable section

namespace Cert.EExt

open Idealize.ShloMosaic

/-- A finite number: an extended real that is a real. -/
def Fin' (x : EReal) : Prop := ∃ r : ℝ, x = (r : EReal)

theorem Fin'.coe (r : ℝ) : Fin' (r : EReal) := ⟨r, rfl⟩

theorem Fin'.mul {x y : EReal} : Fin' x → Fin' y → Fin' (x * y)
  | ⟨a, ha⟩, ⟨b, hb⟩ => ⟨a * b, by rw [ha, hb, EReal.coe_mul]⟩

theorem Fin'.add {x y : EReal} : Fin' x → Fin' y → Fin' (x + y)
  | ⟨a, ha⟩, ⟨b, hb⟩ => ⟨a + b, by rw [ha, hb, EReal.coe_add]⟩

theorem Fin'.sum {ι : Type*} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih

/-- A number whose absolute value is below `⊤` is finite. -/
theorem Fin'.of_abs_lt {x : EReal} (h : max x (-x) < ⊤) : Fin' x := by
  induction x with
  | bot => simp at h
  | top => simp at h
  | coe r => exact ⟨r, rfl⟩

/-- A nonnegative finite factor goes into a sum, on the right. -/
theorem sum_mul {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The maximum of finitely many finite numbers, at least one of them, is finite. -/
theorem fin_fold_max {n : Nat} (hn : 0 < n) {s : Fin n → EReal} (h : ∀ i, Fin' (s i)) :
    Fin' (Finset.fold max ⊥ s Finset.univ) := by
  obtain ⟨r0, hr0⟩ := h ⟨0, hn⟩
  have hb : ⊥ < Finset.fold max ⊥ s Finset.univ :=
    (Finset.lt_fold_max _).mpr (Or.inr ⟨⟨0, hn⟩, Finset.mem_univ _, by rw [hr0]; exact EReal.bot_lt_coe r0⟩)
  have ht : Finset.fold max ⊥ s Finset.univ < ⊤ :=
    (Finset.fold_max_lt _).mpr ⟨bot_lt_top, fun i _ => by obtain ⟨r, hr⟩ := h i; rw [hr]; exact EReal.coe_lt_top r⟩
  exact ⟨_, (EReal.coe_toReal ht.ne hb.ne').symm⟩

/-- The sum of the exponentials of a row of finite numbers less a finite number is a positive real. -/
theorem sum_exp {n : Nat} (hn : 0 < n) {s : Fin n → EReal} (h : ∀ i, Fin' (s i)) {M : EReal} (hM : Fin' M) :
    ∃ L : ℝ, 0 < L ∧ ∑ i, Ideal.exp (s i - M) = (L : EReal) := by
  obtain ⟨m, rfl⟩ := hM
  choose r hr using h
  refine ⟨∑ i, Real.exp (r i - m), Finset.sum_pos (fun i _ => Real.exp_pos _) ⟨⟨0, hn⟩, Finset.mem_univ _⟩, ?_⟩
  have : ∀ i, Ideal.exp (s i - m) = ((Real.exp (r i - m) : ℝ) : EReal) := fun i => by
    rw [hr i, ← EReal.coe_sub]; rfl
  simp only [this]
  induction (Finset.univ : Finset (Fin n)) using Finset.induction_on with
  | empty => simp
  | insert a s ha ih => rw [Finset.sum_insert ha, Finset.sum_insert ha, EReal.coe_add, ih]

/-- Division by a positive real is multiplication by its inverse. -/
theorem div_coe (x : EReal) {L : ℝ} (hL : 0 < L) : Ideal.div x (L : EReal) = x * ((L⁻¹ : ℝ) : EReal) := by
  rw [Ideal.div, if_neg (by exact_mod_cast hL.ne'), ← EReal.coe_inv]

/-- Zero divided by the sum of such a row is zero. -/
theorem zero_div_sum_exp {n : Nat} (hn : 0 < n) {s : Fin n → EReal} (h : ∀ i, Fin' (s i)) {M : EReal} (hM : Fin' M) :
    Ideal.div 0 (∑ i, Ideal.exp (s i - M)) = 0 := by
  obtain ⟨L, hL, h⟩ := sum_exp hn h hM
  rw [h, div_coe _ hL, zero_mul]

/-- THE WEIGHTED MEAN OF A SOFTMAX: dividing the weighted sum by the row's sum is weighting by the divided weights. -/
theorem softmax_mean {n : Nat} (hn : 0 < n) {s : Fin n → EReal} (h : ∀ i, Fin' (s i)) {M : EReal} (hM : Fin' M)
    (v : Fin n → EReal) :
    Ideal.div (∑ i, Ideal.exp (s i - M) * v i) (∑ i, Ideal.exp (s i - M))
      = ∑ i, v i * Ideal.div (Ideal.exp (s i - M)) (∑ j, Ideal.exp (s j - M)) := by
  obtain ⟨L, hL, h⟩ := sum_exp hn h hM
  rw [h, div_coe _ hL, sum_mul _ _ (by exact_mod_cast (inv_pos.mpr hL).le) (EReal.coe_ne_top _)]
  refine Finset.sum_congr rfl fun i _ => ?_
  rw [div_coe _ hL, mul_comm (Ideal.exp _), mul_assoc]

/-- The pattern of −∞. -/
theorem ofBits_neg_inf : Ideal.ofBits .f32 0xFF800000#32 = ⊥ := by
  simp [Ideal.ofBits, Ideal.ieee]

/-- The pattern of +∞. -/
theorem ofBits_inf : Ideal.ofBits .f32 0x7F800000#32 = ⊤ := by
  simp [Ideal.ofBits, Ideal.ieee]

/-- The pattern of 1/8 is a finite number. -/
theorem fin_eighth : Fin' (Ideal.ofBits .f32 0x3E000000#32) := by
  simp [Ideal.ofBits, Ideal.ieee]
  exact ⟨_, rfl⟩

end Cert.EExt

end
-- ==== Proof.AttnHead.lean ====
/- Attention of one query over any number of keys, and keys and values held in one half of 128 lanes: what the two
   attention kernels have in common, apart from their shapes. -/
module

public import proofs.«01_k».proof.Proof.EExt

@[expose] public section

noncomputable section

namespace Cert.Att

open Idealize.ShloMosaic Cert.EExt

/-- Attention of one query over `n` keys: the exponentials of the scaled scores less their maximum, times the values,
    divided by their sum. -/
def att {w n : Nat} (q : Fin w → EReal) (k : Fin n → Fin w → EReal) (v : Fin n → EReal) : EReal :=
  Ideal.div
    (∑ x, Ideal.exp ((∑ d, q d * k x d) * Ideal.ofBits .f32 0x3E000000#32
      - Finset.fold max ⊥ (fun x => (∑ d, q d * k x d) * Ideal.ofBits .f32 0x3E000000#32) Finset.univ) * v x)
    (∑ x, Ideal.exp ((∑ d, q d * k x d) * Ideal.ofBits .f32 0x3E000000#32
      - Finset.fold max ⊥ (fun x => (∑ d, q d * k x d) * Ideal.ofBits .f32 0x3E000000#32) Finset.univ))

/-- Finite queries and keys have finite scores. -/
theorem fin_score {w : Nat} {q k : Fin w → EReal} (hq : ∀ d, Fin' (q d)) (hk : ∀ d, Fin' (k d)) :
    Fin' ((∑ d, q d * k d) * Ideal.ofBits .f32 0x3E000000#32) :=
  (Fin'.sum _ fun d => (hq d).mul (hk d)).mul fin_eighth

/-- No value, no result: zero values give zero, the queries and keys being finite. -/
theorem att_zero {w n : Nat} (hn : 0 < n) {q : Fin w → EReal} {k : Fin n → Fin w → EReal} (hq : ∀ d, Fin' (q d))
    (hk : ∀ x d, Fin' (k x d)) : att q k (fun _ => 0) = 0 := by
  unfold att
  simp only [mul_zero, Finset.sum_const_zero]
  exact zero_div_sum_exp hn (fun x => fin_score hq (hk x)) (fin_fold_max hn fun x => fin_score hq (hk x))

/-- The low or the high half of 128 lanes. -/
def lane (b : Fin 2) (d : Fin 64) : Fin 128 := ⟨64 * b.val + d.val, by omega⟩

/-- Every lane is in one of the two halves. -/
theorem lane_surj (l : Fin 128) : ∃ b d, l = lane b d :=
  ⟨⟨l.val / 64, by omega⟩, ⟨l.val % 64, by omega⟩, Fin.ext (by simp [lane]; omega)⟩

/-- A sum over 128 lanes is the sum over the two halves. -/
theorem sum_lanes (f : Fin 128 → EReal) : ∑ l, f l = ∑ d, f (lane 0 d) + ∑ d, f (lane 1 d) := by
  rw [show (∑ l, f l) = ∑ l : Fin (64 + 64), f l from rfl, Fin.sum_univ_add]
  congr 1 <;> refine Finset.sum_congr rfl fun d _ => congrArg f (Fin.ext ?_) <;> simp [lane]

variable {n : Nat}

/-- `K` holds the 64 columns of `X` from `o` on in the half `b` of its lanes, and zero in the other half. -/
def Half (b : Fin 2) (K : Fin n → Fin 128 → EReal) (X : Fin n → Fin 256 → EReal) (o : Nat) (ho : o + 64 ≤ 256) : Prop :=
  ∀ (j : Fin n) (d : Fin 64), K j (lane b d) = X j ⟨o + d.val, by omega⟩ ∧ K j (lane (1 - b) d) = 0

section Half
variable {b : Fin 2} {K : Fin n → Fin 128 → EReal} {X : Fin n → Fin 256 → EReal} {o : Nat}

/-- The sum of products with keys held in one half runs over that half only. -/
theorem sum_half {ho : o + 64 ≤ 256} (h : Half b K X o ho) (q : Fin 128 → EReal) (j : Fin n) :
    ∑ l, q l * K j l = ∑ d, q (lane b d) * X j ⟨o + d.val, by omega⟩ := by
  rw [sum_lanes]
  have h1 : ∑ d, q (lane b d) * K j (lane b d) = ∑ d, q (lane b d) * X j ⟨o + d.val, by omega⟩ :=
    Finset.sum_congr rfl fun d _ => by rw [(h j d).1]
  have h0 : ∑ d, q (lane (1 - b) d) * K j (lane (1 - b) d) = 0 :=
    Finset.sum_eq_zero fun d _ => by rw [(h j d).2, mul_zero]
  fin_cases b
  · exact (congrArg₂ (· + ·) h1 h0).trans (add_zero _)
  · exact (congrArg₂ (· + ·) h0 h1).trans (zero_add _)

/-- One head over all the lanes, its keys in the half `b`, is the head over that half. -/
theorem att_half {ho : o + 64 ≤ 256} (h : Half b K X o ho) (q : Fin 128 → EReal) (v : Fin n → EReal) :
    att q K v = att (fun d => q (lane b d)) (fun x d => X x ⟨o + d.val, by omega⟩) v := by
  unfold att
  simp only [sum_half h q]

theorem slt_lane : ∀ l : Fin 128, IntOp.cmpi .slt (BitVec.ofNat 32 l.val) 64#32 = if l.val < 64 then 1#1 else 0#1 := by
  decide +kernel

theorem sge_lane : ∀ l : Fin 128, IntOp.cmpi .sge (BitVec.ofNat 32 l.val) 64#32 = if 64 ≤ l.val then 1#1 else 0#1 := by
  decide +kernel

/-- Columns kept where the lane is below 64 are in the low half. -/
theorem half_lo {ho : o + 128 ≤ 256}
    (h : ∀ j l, K j l = Scalar.select (IntOp.cmpi .slt (BitVec.ofNat 32 l.val) 64#32) (X j ⟨o + l.val, by omega⟩) 0) :
    Half 0 K X o (by omega) := by
  intro j d
  constructor
  · rw [h, slt_lane, if_pos (by simp [lane])]
    exact congrArg (X j) (Fin.ext (by simp [lane]))
  · rw [h, slt_lane, if_neg (by simp [lane])]
    rfl

/-- Columns kept where the lane is at least 64 are in the high half. -/
theorem half_hi {ho : o + 128 ≤ 256}
    (h : ∀ j l, K j l = Scalar.select (IntOp.cmpi .sge (BitVec.ofNat 32 l.val) 64#32) (X j ⟨o + l.val, by omega⟩) 0) :
    Half 1 K X (o + 64) (by omega) := by
  intro j d
  constructor
  · rw [h, sge_lane, if_pos (by simp [lane])]
    exact congrArg (X j) (Fin.ext (by simp [lane]; omega))
  · rw [h, sge_lane, if_neg (by simp [lane])]
    rfl

/-- A rotation by half the lanes changes the half. -/
theorem half_rot {ho : o + 64 ≤ 256} {K' : Fin n → Fin 128 → EReal} (h : Half b K X o ho)
    (e : ∀ j c d, K' j (lane (1 - c) d) = K j (lane c d)) : Half (1 - b) K' X o ho :=
  fun j d => ⟨(e j b d).trans (h j d).1, (e j (1 - b) d).trans (h j d).2⟩

end Half

/-- TWO HEADS: at the lane `d` of the half `b`, the sum of the low and of the high head is the attention of the queries of
    that half. -/
theorem pair_att {q : Fin 128 → EReal} {klo khi vlo vhi : Fin n → Fin 128 → EReal} {X Y : Fin n → Fin 256 → EReal} {o : Nat}
    {ho : o + 64 ≤ 256} (hn : 0 < n) (hklo : Half 0 klo X o ho) (hkhi : Half 1 khi X o ho) (hvlo : Half 0 vlo Y o ho)
    (hvhi : Half 1 vhi Y o ho) (hq : ∀ l, Fin' (q l)) (hX : ∀ j l, Fin' (X j l)) (b : Fin 2) (d : Fin 64) :
    att q klo (fun x => vlo x (lane b d)) + att q khi (fun x => vhi x (lane b d))
      = att (fun d => q (lane b d)) (fun x d => X x ⟨o + d.val, by omega⟩) (fun x => Y x ⟨o + d.val, by omega⟩) := by
  rw [att_half hklo, att_half hkhi]
  have z : ∀ b' : Fin 2, att (fun d => q (lane b' d)) (fun x d => X x ⟨o + d.val, by omega⟩) (fun _ => 0) = 0 :=
    fun b' => att_zero hn (fun d => hq _) fun x d => hX _ _
  fin_cases b
  · have h1 : (fun x => vhi x (lane 0 d)) = fun _ => 0 := funext fun x => (hvhi x d).2
    have h2 : (fun x => vlo x (lane 0 d)) = fun x => Y x ⟨o + d.val, by omega⟩ := funext fun x => (hvlo x d).1
    show att _ _ (fun x => vlo x (lane 0 d)) + att _ _ (fun x => vhi x (lane 0 d)) = _
    rw [h1, h2, z, add_zero]; rfl
  · have h1 : (fun x => vlo x (lane 1 d)) = fun _ => 0 := funext fun x => (hvlo x d).2
    have h2 : (fun x => vhi x (lane 1 d)) = fun x => Y x ⟨o + d.val, by omega⟩ := funext fun x => (hvhi x d).1
    show att _ _ (fun x => vlo x (lane 1 d)) + att _ _ (fun x => vhi x (lane 1 d)) = _
    rw [h1, h2, z, zero_add]; rfl

/-- A comparison with infinity that holds says the compared value is finite. -/
theorem fin_of_bit {x : EReal} (h : Ideal.cmp .olt (max x (-x)) (Ideal.ofBits .f32 0x7F800000#32) = 1#1) : Fin' x := by
  rw [ofBits_inf] at h
  refine Fin'.of_abs_lt ?_
  by_contra hx
  simp [Ideal.cmp, hx] at h

end Cert.Att

end
-- ==== Proof.AttnPair.lean ====
/- One pair of heads of the attention kernel: the tile of 128 output columns that one store writes, as a function of the
   128 query columns and of the keys and values laid in the lower and in the upper half of the lanes. -/
module

public import proofs.«01_k».proof.Proof.Gen.CtxIdeal.Skeleton
public import proofs.«01_k».proof.Proof.AttnHead
public import Idealize.ShloMosaic.Lib.Pointwise

@[expose] public section

noncomputable section

namespace Cert.CtxIdeal.Attn

open Cert.CtxIdeal Cert.CtxIdeal.Gen Idealize.ShloMosaic

variable {F : FTy → Type} [FloatOps F]

/-- The scaled scores of one head's queries against its keys. -/
def scores (q k : FVec F S256x128 .bf16) : FVec F S256x256 .f32 :=
  mulf (matmul dot_S256x128_S256x128_S256x256_1_1_0_0_n_n none q k (constant S256x256 .f32 0x00000000#32))
    (broadcast S256x256 (Scalar.ofBits .f32 0x3E000000#32))

/-- The exponentials of the scores less their row's maximum. -/
def expo (q k : FVec F S256x128 .bf16) : FVec F S256x256 .f32 :=
  exp (subf (scores q k) (broadcastTo S256x256 (shapeCast S256x1 (multiReduction .maximumf [1] S256 (scores q k) 0xFF800000#32
    reduces_S256x256_S256 (.inl rfl) rfl) shapeCasts_S256_S256x1) broadcasts_S256x1_S256x256))

/-- One head: the exponentials times the values, each row divided by the row's sum. -/
def headOut (q k v : FVec F S256x128 .bf16) : FVec F S256x128 .f32 :=
  divf (matmul dot_S256x256_S256x128_S256x128_1_0_0_1_n_n none (truncf .bf16 (expo q k) bitsLt_bf16_f32) v
      (constant S256x128 .f32 0x00000000#32))
    (broadcastTo S256x128 (shapeCast S256x1 (multiReduction .add [1] S256 (expo q k) 0x00000000#32
      reduces_S256x256_S256 (.inl rfl) rfl) shapeCasts_S256_S256x1) broadcasts_S256x1_S256x128)

/-- Two heads' results in the two halves of 128 lanes. -/
def pairOut (q klo khi vlo vhi : FVec F S256x128 .bf16) : FVec F S256x128 .bf16 :=
  truncf .bf16 (addf (addf (broadcast S256x128 (Scalar.ofBits .f32 0x00000000#32)) (headOut q klo vlo)) (headOut q khi vhi))
    bitsLt_bf16_f32

open Cert.EExt Cert.Att

/-- `K` holds the 64 columns of `X` from `o` on in the half `b` of its lanes, and zero in the other half. -/
abbrev Half (b : Fin 2) (K : FVec Ideal S256x128 .bf16) (X : FVec Ideal S256x256 .f32) (o : Nat) (ho : o + 64 ≤ 256) : Prop :=
  Att.Half b (fun j l => K (ix2 j l)) (fun j l => X (ix2 j l)) o ho

/-- One head at a lane is the attention over all the lanes. -/
theorem headOut_apply (q k v : FVec Ideal S256x128 .bf16) (r : Fin 256) (l : Fin 128) :
    headOut q k v (ix2 r l) = att (fun d => q (ix2 r d)) (fun x d => k (ix2 x d)) (fun x => v (ix2 x l)) := by
  unfold att
  pointwise [headOut, expo, scores, ofBits_neg_inf]

/-- TWO HEADS: at the lane `d` of the half `b`, the pair's result is the attention of the queries of that half. -/
theorem pairOut_att {q klo khi vlo vhi : FVec Ideal S256x128 .bf16} {X Y : FVec Ideal S256x256 .f32} {o : Nat}
    {ho : o + 64 ≤ 256} (hklo : Half 0 klo X o ho) (hkhi : Half 1 khi X o ho) (hvlo : Half 0 vlo Y o ho)
    (hvhi : Half 1 vhi Y o ho) (hq : ∀ r l, Fin' (q (ix2 r l))) (hX : ∀ r l, Fin' (X (ix2 r l)))
    (r : Fin 256) (b : Fin 2) (d : Fin 64) :
    pairOut q klo khi vlo vhi (ix2 r (lane b d))
      = att (fun d => q (ix2 r (lane b d))) (fun x d => X (ix2 x ⟨o + d.val, by omega⟩)) (fun x => Y (ix2 x ⟨o + d.val, by omega⟩)) := by
  have e : pairOut q klo khi vlo vhi (ix2 r (lane b d))
      = headOut q klo vlo (ix2 r (lane b d)) + headOut q khi vhi (ix2 r (lane b d)) := by
    pointwise [pairOut]
  rw [e, headOut_apply, headOut_apply]
  exact pair_att (by decide) hklo hkhi hvlo hvhi (fun l => hq r l) hX b d

end Cert.CtxIdeal.Attn

end
-- ==== Proof.AttnTile.lean ====
/- What one grid point of the attention kernel writes: its eight stores, each a pair of heads, at an index of the block. -/
module

public import proofs.«01_k».proof.Proof.Gen.CtxIdeal.Frame
public import proofs.«01_k».proof.Proof.AttnPair
public import Idealize.ShloMosaic.Lib.Pipeline.ValueKit

@[expose] public section

set_option maxRecDepth 16384

noncomputable section

namespace Cert.CtxIdeal.Attn

open Cert.CtxIdeal Cert.CtxIdeal.Gen Idealize.ShloMosaic Cert.EExt
open Cert.Att (att lane lane_surj half_lo half_hi)

/-! ### The eight payloads are the pair function -/

section Pay
variable {F : FTy → Type} [FloatOps F]

theorem pay8 (q klo khi vlo vhi : FVec F S256x128 .bf16) :
    k0_pay1 khi vhi klo vlo q (k0_pay49 (F := F)) = pairOut q klo khi vlo vhi := rfl

theorem pay7 (q klo khi vlo vhi : FVec F S256x128 .bf16) :
    k0_pay48 khi vhi klo vlo q = pairOut q klo khi vlo vhi := rfl

theorem pay6 (q klo khi vlo vhi : FVec F S256x128 .bf16) :
    k0_pay42 vlo khi vhi q (k0_pay39 (F := F)) (k0_pay40 klo q) (k0_pay41 klo q) = pairOut q klo khi vlo vhi := rfl

theorem pay5 (q khi vlo vhi : FVec F S256x128 .bf16) (x : FVec F S256x256 .bf16) (i : IVec S1x128 32) :
    k0_pay38 vlo khi vhi q (k0_pay35 (F := F)) (k0_pay36 x i q) (k0_pay37 (F := F))
      = pairOut q (k0_pay31 x i) khi vlo vhi := rfl

theorem pay4 (q klo khi vlo vhi : FVec F S256x128 .bf16) :
    k0_pay29 khi vhi q (k0_pay25 (F := F)) (k0_pay27 klo vlo q) (k0_pay28 klo q) = pairOut q klo khi vlo vhi := rfl

theorem pay3 (q khi vlo vhi : FVec F S256x128 .bf16) (x : FVec F S256x256 .bf16) (i : IVec S1x128 32) :
    k0_pay24 khi vhi vlo q (k0_pay21 (F := F)) (k0_pay22 x i q) (k0_pay23 x i q)
      = pairOut q (k0_pay19 x i) khi vlo vhi := rfl

theorem pay2 (q klo khi vlo vhi : FVec F S256x128 .bf16) :
    k0_pay15 vhi (k0_pay12 klo vlo q) (k0_pay13 khi q) (k0_pay14 khi q) = pairOut q klo khi vlo vhi := rfl

theorem pay1 (q vhi : FVec F S256x128 .bf16) (x y : FVec F S256x256 .f32) :
    k0_pay11 vhi (k0_pay9 x y q) (k0_pay10 x q) = pairOut q (k0_pay5 x) (k0_pay7 x) (k0_pay6 y) vhi := rfl

end Pay

/-! ### The halves -/

/-- The lane numbers, as the kernel makes them. -/
abbrev lanes : IVec S1x128 32 := iota .tc S1x128 32 [1] iota_S1x128_d1_w32

/-- A rotation by half the lanes changes the half. -/
theorem half_rot {b : Fin 2} {K : FVec Ideal S256x128 .bf16} {X : FVec Ideal S256x256 .f32} {o : Nat} {ho : o + 64 ≤ 256}
    (h : Half b K X o ho) : Half (1 - b) (dynamicRotate 1 64#32 none K rotates_S256x128_d1) X o ho := by
  refine Att.half_rot h fun j c d => ?_
  pointwise
  refine congrArg K (congrArg (ix2 j) (Fin.ext ?_))
  fin_cases c <;> simp [lane] <;> omega

section Halves
variable (x : FVec Ideal S256x256 .f32)

theorem half_5 : Half 0 (k0_pay5 x) x 0 (by decide) :=
  half_lo (ho := by decide) fun j l => by pointwise [k0_pay5, k0_pay4, k0_pay2]
theorem half_6 : Half 0 (k0_pay6 x) x 0 (by decide) :=
  half_lo (ho := by decide) fun j l => by pointwise [k0_pay6, k0_pay4, k0_pay3]
theorem half_7 : Half 1 (k0_pay7 x) x 0 (by decide) := half_rot (half_5 x)
theorem half_8 : Half 1 (k0_pay8 x) x 0 (by decide) := half_rot (half_6 x)
theorem half_17 : Half 1 (k0_pay17 (k0_pay2 x) lanes) x 64 (by decide) :=
  half_hi (o := 0) (ho := by decide) fun j l => by pointwise [k0_pay17, k0_pay16, k0_pay2]
theorem half_18 : Half 1 (k0_pay18 (k0_pay3 x) lanes) x 64 (by decide) :=
  half_hi (o := 0) (ho := by decide) fun j l => by pointwise [k0_pay18, k0_pay16, k0_pay3]
theorem half_19 : Half 0 (k0_pay19 (k0_pay2 x) lanes) x 64 (by decide) := half_rot (half_17 x)
theorem half_20 : Half 0 (k0_pay20 (k0_pay3 x) lanes) x 64 (by decide) := half_rot (half_18 x)
theorem half_31 : Half 0 (k0_pay31 (k0_pay2 x) lanes) x 128 (by decide) :=
  half_lo (ho := by decide) fun j l => by pointwise [k0_pay31, k0_pay30, k0_pay2]
theorem half_32 : Half 0 (k0_pay32 (k0_pay3 x) lanes) x 128 (by decide) :=
  half_lo (ho := by decide) fun j l => by pointwise [k0_pay32, k0_pay30, k0_pay3]
theorem half_33 : Half 1 (k0_pay33 (k0_pay2 x) lanes) x 128 (by decide) := half_rot (half_31 x)
theorem half_34 : Half 1 (k0_pay34 (k0_pay3 x) lanes) x 128 (by decide) := half_rot (half_32 x)
theorem half_44 : Half 1 (k0_pay44 (k0_pay2 x) lanes) x 192 (by decide) :=
  half_hi (o := 128) (ho := by decide) fun j l => by pointwise [k0_pay44, k0_pay43, k0_pay2]
theorem half_45 : Half 1 (k0_pay45 (k0_pay3 x) lanes) x 192 (by decide) :=
  half_hi (o := 128) (ho := by decide) fun j l => by pointwise [k0_pay45, k0_pay43, k0_pay3]
theorem half_46 : Half 0 (k0_pay46 (k0_pay2 x) lanes) x 192 (by decide) := half_rot (half_44 x)
theorem half_47 : Half 0 (k0_pay47 (k0_pay3 x) lanes) x 192 (by decide) := half_rot (half_45 x)

end Halves

/-! ### The block -/

/-- The attention at the head `h` and its dimension `d` of the query row `r`, from the blocks of one sequence: the head's
    keys and values are those of the group `h / 4`. -/
def blockAtt (x0 : FVec Ideal S256x1024 .bf16) (x1 x2 : FVec Ideal S256x256 .f32) (r : Fin 256) (h : Fin 16) (d : Fin 64) : EReal :=
  att (fun d' : Fin 64 => x0 (ix2 r ⟨64 * h.val + d'.val, by omega⟩))
    (fun (x : Fin 256) (d' : Fin 64) => x1 (ix2 x ⟨64 * (h.val / 4) + d'.val, by omega⟩))
    (fun x => x2 (ix2 x ⟨64 * (h.val / 4) + d.val, by omega⟩))

/-- One store at an index: the pair `p` of heads, over the whole key and value blocks. -/
theorem piece {x0 : FVec Ideal S256x1024 .bf16} {x1 x2 : FVec Ideal S256x256 .f32} (hq : ∀ i, Fin' (x0 i))
    (hk : ∀ i, Fin' (x1 i)) {X Y : FVec Ideal S256x256 .f32} (hX : X = x1) (hY : Y = x2) (p : Fin 8) (q klo khi vlo vhi : FVec Ideal S256x128 .bf16)
    (eq : ∀ r l, q (ix2 r l) = x0 (ix2 r ⟨128 * p.val + l.val, by omega⟩)) {o : Nat} (eo : o = 64 * (p.val / 2)) {ho : o + 64 ≤ 256}
    (hklo : Half 0 klo X o ho) (hkhi : Half 1 khi X o ho) (hvlo : Half 0 vlo Y o ho) (hvhi : Half 1 vhi Y o ho)
    (x : S256x128.Idx) (r : Fin 256) (h : Fin 16) (d : Fin 64) (e0 : r.val = (x 0).val)
    (e1 : 64 * h.val + d.val = 128 * p.val + (x 1).val) :
    pairOut q klo khi vlo vhi x = blockAtt x0 x1 x2 r h d := by
  obtain ⟨b, d', hl⟩ : ∃ b d', x 1 = lane b d' := lane_surj (x 1)
  have hx : x = ix2 r (lane b d') := by
    funext i; fin_cases i
    · exact Fin.ext e0.symm
    · exact hl
  have hlv : (x 1).val = 64 * b.val + d'.val := by rw [hl]; rfl
  have hh : h.val = 2 * p.val + b.val := by omega
  obtain rfl : d = d' := Fin.ext (by omega)
  subst eo hX hY
  rw [hx, pairOut_att hklo hkhi hvlo hvhi _ fun a l => hk _]
  · unfold blockAtt
    have e4 : h.val / 4 = p.val / 2 := by omega
    congr 1
    · funext d'; rw [eq]; exact congrArg x0 (congrArg (ix2 r) (Fin.ext (by simp [lane]; omega)))
    · funext a d'; exact congrArg X (congrArg (ix2 a) (Fin.ext (by simp [e4])))
    · funext a; exact congrArg Y (congrArg (ix2 a) (Fin.ext (by simp [e4])))
  · intro a l; rw [eq]; exact hq _

/-- The kernel's only row block begins at row 0. -/
theorem off0 : BitVec.toNat (Scalar.indexCast (Scalar.muli 0#32 256#32)) = 0 := by decide

theorem ld_whole (x : FVec Ideal S256x256 .f32) : View.ld (Val := Elt Ideal) (e' := .f32) x r0_0 = x := by
  funext i; idx_vars i; pointwise

/-- THE BLOCK one grid point writes, at an index. -/
theorem out_apply (x0 : FVec Ideal S256x1024 .bf16) (x1 x2 : FVec Ideal S256x256 .f32) (hq : ∀ i, Fin' (x0 i))
    (hk : ∀ i, Fin' (x1 i)) (r : Fin 256) (h : Fin 16) (d : Fin 64) :
    (out0_3 (F := Ideal) x0 x1 x2 (ix2 r ⟨64 * h.val + d.val, by omega⟩)) = blockAtt x0 x1 x2 r h d := by
  have lk := ld_whole x1
  have lv := ld_whole x2
  unfold out0_3
  canon_tiles x e
  · exact (congrFun (pay8 _ _ _ _ _) x).trans (piece hq hk lk lv 7 _ _ _ _ _ (fun r l => by pointwise [k0_off8, off0]) rfl
      (half_46 _) (half_44 _) (half_47 _) (half_45 _) x r h d e0 e1)
  · exact (congrFun (pay7 _ _ _ _ _) x).trans (piece hq hk lk lv 6 _ _ _ _ _ (fun r l => by pointwise [k0_off7, off0]) rfl
      (half_46 _) (half_44 _) (half_47 _) (half_45 _) x r h d e0 e1)
  · exact (congrFun (pay6 _ _ _ _ _) x).trans (piece hq hk lk lv 5 _ _ _ _ _ (fun r l => by pointwise [k0_off6, off0]) rfl
      (half_31 _) (half_33 _) (half_32 _) (half_34 _) x r h d e0 e1)
  · exact (congrFun (pay5 _ _ _ _ _ _) x).trans (piece hq hk lk lv 4 _ _ _ _ _ (fun r l => by pointwise [k0_off5, off0]) rfl
      (half_31 _) (half_33 _) (half_32 _) (half_34 _) x r h d e0 e1)
  · exact (congrFun (pay4 _ _ _ _ _) x).trans (piece hq hk lk lv 3 _ _ _ _ _ (fun r l => by pointwise [k0_off4, off0]) rfl
      (half_19 _) (half_17 _) (half_20 _) (half_18 _) x r h d e0 e1)
  · exact (congrFun (pay3 _ _ _ _ _ _) x).trans (piece hq hk lk lv 2 _ _ _ _ _ (fun r l => by pointwise [k0_off3, off0]) rfl
      (half_19 _) (half_17 _) (half_20 _) (half_18 _) x r h d e0 e1)
  · exact (congrFun (pay2 _ _ _ _ _) x).trans (piece hq hk lk lv 1 _ _ _ _ _ (fun r l => by pointwise [k0_off2, off0]) rfl
      (half_5 _) (half_7 _) (half_6 _) (half_8 _) x r h d e0 e1)
  · exact (congrFun (pay1 _ _ _ _) x).trans (piece hq hk lk lv 0 _ _ _ _ _ (fun r l => by pointwise [k0_off1, off0]) rfl
      (half_5 _) (half_7 _) (half_6 _) (half_8 _) x r h d e0 (e1.trans (Nat.zero_add _).symm))

end Cert.CtxIdeal.Attn

end
-- ==== Proof.AttnRef.lean ====
/- The reference's attention at an index of its result. -/
module

public import proofs.«01_k».proof.Proof.Gen.CtxReferenceIdeal.Run
public import proofs.«01_k».proof.Proof.AttnHead
public import Idealize.ShloMosaic.Lib.Pointwise

@[expose] public section

set_option maxRecDepth 16384

noncomputable section

namespace Cert.CtxReferenceIdeal.Attn

open Cert.CtxReferenceIdeal Cert.CtxReferenceIdeal.Gen Idealize.ShloMosaic Cert.EExt

variable {F : FTy → Type} [FloatOps F] (q : FVec F S4096x1024 .bf16) (k v : FVec F S4096x256 .f32)

/-- The scaled scores, by sequence, group, head of the group, query row and key. -/
def scores : FVec F S16x4x4x256x256 .f32 :=
  mulf (transpose S16x4x4x256x256 [0, 1, 4, 3, 2] (Host.dotGeneral dot_S16x256x4x64_S16x256x4x4x64_S16x4x256x256x4_3_4_1_13_02_02 none (shapeCast _ k shapeCasts_S4096x256_S16x256x4x64) (extf .f32 (shapeCast _ (shapeCast _ q shapeCasts_S4096x1024_S16x256x16x64) shapeCasts_S16x256x16x64_S16x256x4x4x64) bitsLt_bf16_f32)) transposes_S16x4x256x256x4_S16x4x4x256x256_0_1_4_3_2) (broadcastInDim S16x4x4x256x256 ![] bcast_S_S16x4x4x256x256 (constant S_ .f32 0x3E000000#32))

/-- Each row's largest score. -/
def top : FVec F S16x4x4x256 .f32 :=
  maximumf (broadcastInDim S16x4x4x256 ![] bcast_S_S16x4x4x256 (constant S_ .f32 0xFF800000#32)) (Host.reduce FloatOps.maximumf (scores q k) (constant S_ .f32 0xFF800000#32) reducesTo_S16x4x4x256x256_S16x4x4x256_d4 h_S_)

/-- The exponentials of the scores less their row's largest. -/
def expo : FVec F S16x4x4x256x256 .f32 :=
  Host.exp (subf (scores q k) (broadcastInDim S16x4x4x256x256 ![0, 1, 2, 3, 4] bcast_S16x4x4x256x1_S16x4x4x256x256_0_1_2_3_4 (broadcastInDim S16x4x4x256x1 ![0, 1, 2, 3] bcast_S16x4x4x256_S16x4x4x256x1_0_1_2_3 (top q k))))

/-- The softmax weights. -/
def weights : FVec F S16x4x4x256x256 .f32 :=
  Host.divf (expo q k) (broadcastInDim S16x4x4x256x256 ![0, 1, 2, 3, 4] bcast_S16x4x4x256x1_S16x4x4x256x256_0_1_2_3_4 (broadcastInDim S16x4x4x256x1 ![0, 1, 2, 3] bcast_S16x4x4x256_S16x4x4x256x1_0_1_2_3 (Host.reduceAdd (expo q k) (constant S_ .f32 0x00000000#32) reducesTo_S16x4x4x256x256_S16x4x4x256_d4 h_S_)))

/-- The reference's result. -/
def out : FVec F S4096x1024 .bf16 :=
  truncf .bf16 (shapeCast _ (shapeCast _ (transpose S16x256x4x4x64 [0, 4, 1, 3, 2] (Host.dotGeneral dot_S16x256x4x64_S16x4x4x256x256_S16x4x64x4x256_1_4_3_23_02_01 none (shapeCast _ v shapeCasts_S4096x256_S16x256x4x64) (weights q k)) transposes_S16x4x64x4x256_S16x256x4x4x64_0_4_1_3_2) shapeCasts_S16x256x4x4x64_S16x256x1024) shapeCasts_S16x256x1024_S4096x1024) bitsLt_bf16_f32

/-- The reference's run, with its result the term above. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => h c) (Value.run m ρ)

end Cert.CtxReferenceIdeal.Attn

namespace Cert.CtxReferenceIdeal.Attn

open Cert.CtxReferenceIdeal Cert.CtxReferenceIdeal.Gen Idealize.ShloMosaic Cert.EExt

variable (q : FVec Ideal S4096x1024 .bf16) (k v : FVec Ideal S4096x256 .f32)

/-- The score of a query row and a key of one sequence and head. -/
abbrev score (s : Fin 16) (h : Fin 16) (r j : Fin 256) : EReal :=
  (∑ d : Fin 64, q (ix2 ⟨256 * s.val + r.val, by omega⟩ ⟨64 * h.val + d.val, by omega⟩)
    * k (ix2 ⟨256 * s.val + j.val, by omega⟩ ⟨64 * (h.val / 4) + d.val, by omega⟩)) * Ideal.ofBits .f32 0x3E000000#32

theorem scores_apply (s : Fin 16) (h : Fin 16) (r j : Fin 256) :
    scores q k (ix5 s ⟨h.val / 4, by omega⟩ ⟨h.val % 4, by omega⟩ r j) = score q k s h r j := by
  pointwise [scores]
  refine congrArg (· * _) (Finset.sum_congr rfl fun d _ => (mul_comm _ _).trans (congrArg₂ (· * ·) (congrArg q ?_) (congrArg k ?_)))
  · exact congrArg₂ ix2 (Fin.ext (by simp; omega)) (Fin.ext (by simp; omega))
  · exact congrArg₂ ix2 (Fin.ext (by simp; omega)) (Fin.ext (by simp; omega))

/-- A row's largest score. -/
abbrev rowTop (s : Fin 16) (h : Fin 16) (r : Fin 256) : EReal := Finset.fold max ⊥ (score q k s h r) Finset.univ

theorem reduce_apply (x : FVec Ideal S16x4x4x256x256 .f32) (s : Fin 16) (g a : Fin 4) (r : Fin 256) :
    Host.reduce FloatOps.maximumf x (constant S_ .f32 0xFF800000#32) reducesTo_S16x4x4x256x256_S16x4x4x256_d4 h_S_ (ix4 s g a r)
      = Finset.fold max ⊥ (fun j => x (ix5 s g a r j)) Finset.univ := by
  pointwise [ofBits_neg_inf]

theorem max_apply (x y : FVec Ideal S16x4x4x256 .f32) (i : S16x4x4x256.Idx) : maximumf x y i = max (x i) (y i) := rfl

theorem bottom_apply (i : S16x4x4x256.Idx) :
    (broadcastInDim S16x4x4x256 ![] bcast_S_S16x4x4x256 (constant S_ .f32 0xFF800000#32) : FVec Ideal S16x4x4x256 .f32) i = (⊥ : EReal) := by
  rw [← ofBits_neg_inf]; rfl

theorem top_apply (s : Fin 16) (h : Fin 16) (r : Fin 256) :
    top q k (ix4 s ⟨h.val / 4, by omega⟩ ⟨h.val % 4, by omega⟩ r) = rowTop q k s h r := by
  refine (max_apply _ _ _).trans ?_
  rw [bottom_apply, reduce_apply, max_eq_right bot_le]
  exact Finset.fold_congr fun j _ => scores_apply q k s h r j

theorem expo_apply (s : Fin 16) (h : Fin 16) (r j : Fin 256) :
    expo q k (ix5 s ⟨h.val / 4, by omega⟩ ⟨h.val % 4, by omega⟩ r j) = Ideal.exp (score q k s h r j - rowTop q k s h r) := by
  pointwise [expo, scores_apply, top_apply]

theorem weights_apply (s : Fin 16) (h : Fin 16) (r j : Fin 256) :
    weights q k (ix5 s ⟨h.val / 4, by omega⟩ ⟨h.val % 4, by omega⟩ r j)
      = Ideal.div (Ideal.exp (score q k s h r j - rowTop q k s h r)) (∑ x, Ideal.exp (score q k s h r x - rowTop q k s h r)) := by
  pointwise [weights, expo_apply]

/-- The reference's result at a row and a head's dimension. -/
theorem out_apply (hq : ∀ i, Fin' (q i)) (hk : ∀ i, Fin' (k i)) (s : Fin 16) (r : Fin 256) (h : Fin 16) (d : Fin 64) :
    out q k v (ix2 ⟨256 * s.val + r.val, by omega⟩ ⟨64 * h.val + d.val, by omega⟩)
      = Cert.Att.att (fun d' : Fin 64 => q (ix2 ⟨256 * s.val + r.val, by omega⟩ ⟨64 * h.val + d'.val, by omega⟩))
        (fun (x : Fin 256) (d' : Fin 64) => k (ix2 ⟨256 * s.val + x.val, by omega⟩ ⟨64 * (h.val / 4) + d'.val, by omega⟩))
        (fun x => v (ix2 ⟨256 * s.val + x.val, by omega⟩ ⟨64 * (h.val / 4) + d.val, by omega⟩)) := by
  have hs : ∀ x, Fin' (score q k s h r x) := fun x => Cert.Att.fin_score (fun _ => hq _) (fun _ => hk _)
  refine Eq.trans ?_ (softmax_mean (by decide) hs (fin_fold_max (by decide) hs) _).symm
  pointwise [out]
  refine Finset.sum_congr rfl fun x _ => congrArg₂ (· * ·) (congrArg v ?_) ?_
  · exact congrArg₂ ix2 (Fin.ext (by simp; omega)) (Fin.ext (by simp; omega))
  · rw [← weights_apply]
    refine congrArg (weights q k) ?_
    congr 1 <;> exact Fin.ext (by simp; omega)

end Cert.CtxReferenceIdeal.Attn

end
-- ==== Proof.AttnValue.lean ====
/- The attention kernel's result array, block by block, and the two programs' agreement. -/
module

public import proofs.«01_k».proof.Proof.Gen.CtxIdeal.Value
public import proofs.«01_k».proof.Proof.Gen.Pre_finite_qk
public import proofs.«01_k».proof.Proof.AttnTile
public import proofs.«01_k».proof.Proof.AttnRef
public import Idealize.ShloMosaic.Lib.ReduceAll

@[expose] public section

set_option maxRecDepth 16384

noncomputable section

namespace Cert.CtxIdeal.Attn

open Cert.CtxIdeal Cert.CtxIdeal.Gen Idealize.ShloMosaic Cert.EExt
open Cert.Att (att fin_of_bit)
open Idealize.ShloMosaic.Pipeline (Dat)

/-- The attention of the row of sequence `s`, the head `h` and its dimension `d`, from the whole arrays. -/
def attAt (q : FVec Ideal S4096x1024 .bf16) (k v : FVec Ideal S4096x256 .f32) (s : Fin 16) (r : Fin 256) (h : Fin 16) (d : Fin 64) : EReal :=
  att (fun d' : Fin 64 => q (ix2 ⟨256 * s.val + r.val, by omega⟩ ⟨64 * h.val + d'.val, by omega⟩))
    (fun (x : Fin 256) (d' : Fin 64) => k (ix2 ⟨256 * s.val + x.val, by omega⟩ ⟨64 * (h.val / 4) + d'.val, by omega⟩))
    (fun x => v (ix2 ⟨256 * s.val + x.val, by omega⟩ ⟨64 * (h.val / 4) + d.val, by omega⟩))

/-- The whole result. -/
def G (q : FVec Ideal S4096x1024 .bf16) (k v : FVec Ideal S4096x256 .f32) : FVec Ideal S4096x1024 .bf16 := fun j =>
  attAt q k v ⟨(j 0).val / 256, by have : (j 0).val < 4096 := (j 0).isLt; omega⟩ ⟨(j 0).val % 256, by omega⟩
    ⟨(j 1).val / 64, by have : (j 1).val < 1024 := (j 1).isLt; omega⟩ ⟨(j 1).val % 64, by omega⟩

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel

theorem blk0 (c : Dev nD) (t : Fin cfg0.N) (r : Fin 256) (l : Fin 1024) :
    iblk m c 0 t (ix2 r l) = m ((c.tc : Thread nD τ).loc main_arg0) (ix2 ⟨256 * t.val + r.val, by have : t.val < 16 := t.isLt; omega⟩ l) := by
  blk_simp [iblk, idx0]
  rw [V_main_arg0]
  refine congrArg _ ?_
  blk_ext [idx0]

theorem blk1 (c : Dev nD) (t : Fin cfg0.N) (r : Fin 256) (l : Fin 256) :
    iblk m c 1 t (ix2 r l) = m ((c.tc : Thread nD τ).loc main_arg1) (ix2 ⟨256 * t.val + r.val, by have : t.val < 16 := t.isLt; omega⟩ l) := by
  blk_simp [iblk, idx1]
  rw [V_main_arg1]
  refine congrArg _ ?_
  blk_ext [idx1]

theorem blk2 (c : Dev nD) (t : Fin cfg0.N) (r : Fin 256) (l : Fin 256) :
    iblk m c 2 t (ix2 r l) = m ((c.tc : Thread nD τ).loc main_arg2) (ix2 ⟨256 * t.val + r.val, by have : t.val < 16 := t.isLt; omega⟩ l) := by
  blk_simp [iblk, idx2]
  rw [V_main_arg2]
  refine congrArg _ ?_
  blk_ext [idx2]

/-- The array after the run is the attention at every index. -/
theorem arr_eq (c : Dev nD) (hq : ∀ i, Fin' (m ((c.tc : Thread nD τ).loc main_arg0) i)) (hk : ∀ i, Fin' (m ((c.tc : Thread nD τ).loc main_arg1) i)) :
    (dats m 0 c).arrAt 3 cfg0.N = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp; rw [after0_3]
  have h1 : (y 1).val < 1024 := (y 1).isLt
  have h0 : (y 0).val < 256 := (y 0).isLt
  have ht : t.val < 16 := t.isLt
  have hy : y = ix2 (⟨(y 0).val, h0⟩ : Fin 256) (⟨64 * ((y 1).val / 64) + (y 1).val % 64, by omega⟩ : Fin 1024) := by
    funext i; fin_cases i
    · rfl
    · exact Fin.ext (by simp; omega)
  have he : (win0_3.blk t).view.emb y = ix2 (⟨256 * t.val + (y 0).val, by omega⟩ : Fin 4096) (⟨(y 1).val, h1⟩ : Fin 1024) := by
    blk_ext [idx3]
  rw [he]
  have fq : ∀ i, Fin' (iblk m c 0 t i) := fun i => by rw [eq_ix2 i]; exact (blk0 m c t _ _) ▸ hq _
  have fk : ∀ i, Fin' (iblk m c 1 t i) := fun i => by rw [eq_ix2 i]; exact (blk1 m c t _ _) ▸ hk _
  have o := out_apply (iblk m c 0 t) (iblk m c 1 t) (iblk m c 2 t) fq fk ⟨(y 0).val, h0⟩ ⟨(y 1).val / 64, by omega⟩ ⟨(y 1).val % 64, by omega⟩
  refine ((congrArg (out0_3 _ _ _) hy).trans o).trans ?_
  unfold blockAtt G attAt
  congr 1
  · funext d'
    exact (blk0 m c t _ _).trans (congrArg _ (congrArg₂ ix2 (Fin.ext (by simp; omega)) (Fin.ext (by simp))))
  · funext x d'
    exact (blk1 m c t _ _).trans (congrArg _ (congrArg₂ ix2 (Fin.ext (by simp; omega)) (Fin.ext (by simp))))
  · funext x
    exact (blk2 m c t _ _).trans (congrArg _ (congrArg₂ ix2 (Fin.ext (by simp; omega)) (Fin.ext (by simp))))

/-- The precondition says that every query and every key is finite. -/
theorem finite_of_pre {q : FVec Ideal S4096x1024 .bf16} {k v : FVec Ideal S4096x256 .f32}
    (h : Cert.Pre_finite_qk.fn (F := Ideal) q k v = fun _ => 1#1) : (∀ i, Fin' (q i)) ∧ ∀ i, Fin' (k i) := by
  haveI : Subsingleton Cert.Pre_finite_qk.S_.Idx := ⟨fun a b => funext fun i => i.elim0⟩
  have h0 := IntOp.andi_eq_one.1 (congrFun h (fun i => i.elim0))
  exact ⟨fun i => fin_of_bit (Host.reduce_andi_all _ _ _ _ _ h0.1 i), fun i => fin_of_bit (Host.reduce_andi_all _ _ _ _ _ h0.2 i)⟩

/-- The reference's result is the same attention. -/
theorem ref_eq {q : FVec Ideal S4096x1024 .bf16} {k v : FVec Ideal S4096x256 .f32} (hq : ∀ i, Fin' (q i)) (hk : ∀ i, Fin' (k i)) :
    Cert.CtxReferenceIdeal.Attn.out q k v = G q k v := by
  funext j
  have h0 : (j 0).val < 4096 := (j 0).isLt
  have h1 : (j 1).val < 1024 := (j 1).isLt
  have hj : j = ix2 (⟨256 * ((j 0).val / 256) + (j 0).val % 256, by omega⟩ : Fin 4096) (⟨64 * ((j 1).val / 64) + (j 1).val % 64, by omega⟩ : Fin 1024) := by
    funext i; fin_cases i
    · exact Fin.ext (by simp; omega)
    · exact Fin.ext (by simp; omega)
  exact (congrArg (Cert.CtxReferenceIdeal.Attn.out q k v) hj).trans
    (Cert.CtxReferenceIdeal.Attn.out_apply q k v hq hk ⟨(j 0).val / 256, by omega⟩ ⟨(j 0).val % 256, by omega⟩ ⟨(j 1).val / 64, by omega⟩ ⟨(j 1).val % 64, by omega⟩)

end Cert.CtxIdeal.Attn

end
-- ==== Proof.AttnClaim.lean ====
/- The attention pair's claims: both programs run and keep their arguments, and their results are equal. -/
module

public import proofs.«01_k».proof.Defs
public import proofs.«01_k».proof.Proof.Gen.Ctx.Frame
public import proofs.«01_k».proof.Proof.AttnValue
public import Idealize.ShloMosaic.Adequacy
public import Idealize.ShloMosaic.Init

@[expose] public section

noncomputable section

namespace Cert.Proof.Attn

open Idealize.ShloMosaic Idealize.SL.Sem

theorem ref_quiescent : Cert.quiescent_CtxReferenceIdeal := fun m ρ _ =>
  (θ_run Cert.CtxReferenceIdeal.defs _ _).mono (fun r h => ⟨fun c => (h c).2, sem_eq_zero_of_no_sems (by decide) r.2⟩)
    (Cert.CtxReferenceIdeal.Value.run m ρ)

theorem algebraic : Cert.algebraic_CtxIdeal_CtxReferenceIdeal_pre_finite_qk := by
  intro m g m' g' hpre hagree
  have hf := fun c => Cert.CtxIdeal.Attn.finite_of_pre (hpre c)
  refine ⟨fun c => Cert.CtxIdeal.Attn.G (m ((c.tc : Thread _ _).loc Cert.CtxIdeal.main_arg0)) (m ((c.tc : Thread _ _).loc Cert.CtxIdeal.main_arg1)) (m ((c.tc : Thread _ _).loc Cert.CtxIdeal.main_arg2)), ?_, ?_⟩
  · exact (θ_run Cert.CtxIdeal.defs _ _).mono
      (fun _ h c => ⟨(h c).1.trans (Cert.CtxIdeal.Attn.arr_eq m c (hf c).1 (hf c).2), (h c).2⟩) (Cert.CtxIdeal.Value.run_blocks m g)
  · refine (θ_run Cert.CtxReferenceIdeal.defs _ _).mono (fun _ h c => ⟨(h c).1.trans ?_, (h c).2⟩) (Cert.CtxReferenceIdeal.Attn.run m' g')
    obtain ⟨e0, e1, e2⟩ := hagree c
    rw [e0, e1, e2]
    exact Cert.CtxIdeal.Attn.ref_eq (hf c).1 (hf c).2

/-- Everything claimed of the attention. -/
theorem claims : Cert.quiescent_Ctx ∧ Cert.quiescent_CtxIdeal ∧ Cert.quiescent_CtxIdeal_pre_finite_qk ∧ Cert.quiescent_CtxReferenceIdeal
    ∧ Cert.quiescent_CtxReferenceIdeal_pre_finite_qk ∧ Cert.preserves_Ctx_CtxIdeal
    ∧ Cert.algebraic_CtxIdeal_CtxReferenceIdeal_pre_finite_qk :=
  ⟨fun m ρ _ => Cert.Ctx.Gen.frame m ρ, fun m ρ _ => Cert.CtxIdeal.Gen.frame m ρ, fun m ρ _ => Cert.CtxIdeal.Gen.frame m ρ,
    ref_quiescent, fun m ρ _ => ref_quiescent m ρ trivial, trivial, algebraic⟩

end Cert.Proof.Attn

end
-- ==== Proof.Rows.lean ====
module

public import Idealize.ShloMosaic.Lib.Pointwise

@[expose] public section

/-! What one row of the layer's calls is, on plain functions of a coordinate: the kernels' tiles and the references'
    whole arrays are both brought to these. -/

noncomputable section

namespace Cert.Rows

open Idealize.ShloMosaic

/-- The reciprocal of the root mean square of a row of 1024 entries. -/
def inv (x : Fin 1024 → EReal) : EReal :=
  Ideal.rsqrt (Ideal.div (∑ k, x k * x k) (Ideal.ofBits .f32 1149239296#32) + Ideal.ofBits .f32 897988541#32)

/-- The rmsnorm of a row with a gain. -/
def rms (x g : Fin 1024 → EReal) (l : Fin 1024) : EReal := x l * inv x * g l

end Cert.Rows

end
-- ==== Proof.MergeTile.lean ====
/- The merge of the three branches, its residual and the second norm: the kernel's tile and its whole results, entry by
   entry. -/
module

public import proofs.«01_k».proof.Proof.Gen.MergeIdeal.Frame
public import proofs.«01_k».proof.Proof.Rows
public import Idealize.ShloMosaic.Lib.Pipeline.ValueKit
public import Idealize.ShloMosaic.Lib.Pointwise
public import Idealize.ShloMosaic.Lib.StableHlo.Run

@[expose] public section

set_option maxRecDepth 16384

noncomputable section

namespace Cert.MergeIdeal.Mrg

open Cert.MergeIdeal Cert.MergeIdeal.Gen Idealize.ShloMosaic Idealize.ShloMosaic.TcCoe

/-- The gated sum of the three branches' products, a row. -/
def mix (g : Fin 3072 → EReal) (a o c : Fin 1024 → EReal) (wa wb wc : Fin 1024 → Fin 1024 → EReal) (k : Fin 1024) : EReal :=
  g ⟨k.val, by omega⟩ * ∑ j, a j * wa j k + g ⟨1024 + k.val, by omega⟩ * ∑ j, o j * wb j k
    + g ⟨2048 + k.val, by omega⟩ * ∑ j, c j * wc j k

/-- The residual row after the output projection `wo`: the gate is `md` at 2048 and on. -/
def res (x : Fin 1024 → EReal) (md : Fin 6144 → EReal) (y : Fin 1024 → EReal) (wo : Fin 1024 → Fin 1024 → EReal)
    (l : Fin 1024) : EReal := x l + md ⟨2048 + l.val, by omega⟩ * ∑ k, y k * wo k l

/-- The normed and modulated row: shift at 3072, scale at 4096. -/
def nrm (x1 : Fin 1024 → EReal) (gn : Fin 1024 → EReal) (md : Fin 6144 → EReal) (l : Fin 1024) : EReal :=
  Rows.rms x1 gn l * (Ideal.ofBits .f32 0x3F800000#32 + md ⟨4096 + l.val, by omega⟩) + md ⟨3072 + l.val, by omega⟩

section
variable (x0 x1 x2 : FVec Ideal S512x1024 .bf16) (x3 : FVec Ideal S512x3072 .bf16) (x4 : FVec Ideal S512x1024 .f32)
  (x5 : FVec Ideal S1x1x6144 .f32) (x6 : FVec Ideal S1x1024 .f32) (x7 x8 x9 x10 : FVec Ideal S1024x1024 .bf16)

/-- A row of the tile's residual. -/
def tileRes (r : Fin 512) : Fin 1024 → EReal :=
  res (fun l => x4 (ix2 r l)) (fun l => x5 (ix3 0 0 l))
    (mix (fun k => x3 (ix2 r k)) (fun k => x0 (ix2 r k)) (fun k => x1 (ix2 r k)) (fun k => x2 (ix2 r k))
      (fun j k => x7 (ix2 j k)) (fun j k => x8 (ix2 j k)) (fun j k => x9 (ix2 j k))) (fun k l => x10 (ix2 k l))

theorem pay1_apply (r : Fin 512) (l : Fin 1024) :
    k0_pay1 (F := Ideal) (k0_pay8 x0 x1 x2 x3 x4 x5 x6 x7 x8 x9 x10) (k0_pay9 x0 x1 x2 x3 x4 x5 x6 x7 x8 x9 x10) (View.ld x4 r0_1) (ix2 r l)
      = tileRes x0 x1 x2 x3 x4 x5 x7 x8 x9 x10 r l := by
  pointwise [k0_pay1, k0_pay8, k0_pay9, k0_pay3, k0_pay5, k0_pay4, tileRes, res, mix]

theorem out11_apply (r : Fin 512) (l : Fin 1024) :
    out0_11 (F := Ideal) x0 x1 x2 x3 x4 x5 x6 x7 x8 x9 x10 (ix2 r l) = tileRes x0 x1 x2 x3 x4 x5 x7 x8 x9 x10 r l := by
  unfold out0_11
  canon_tiles x e
  idx_vars x
  obtain rfl : r = _ := Fin.ext e0
  obtain rfl : l = _ := Fin.ext e1
  exact pay1_apply _ _ _ _ _ _ _ _ _ _ _ _ _

theorem out12_apply (r : Fin 512) (l : Fin 1024) :
    out0_12 (F := Ideal) x0 x1 x2 x3 x4 x5 x6 x7 x8 x9 x10 (ix2 r l)
      = nrm (tileRes x0 x1 x2 x3 x4 x5 x7 x8 x9 x10 r) (fun l => x6 (ix2 0 l)) (fun l => x5 (ix3 0 0 l)) l := by
  unfold out0_12
  canon_tiles x e
  idx_vars x
  obtain rfl : r = _ := Fin.ext e0
  obtain rfl : l = _ := Fin.ext e1
  pointwise [k0_pay2, pay1_apply, k0_pay6, k0_pay7, k0_pay4, nrm, Rows.rms, Rows.inv]
end

section run
variable {F : FTy → Type} [FloatOps F]

/-- The kernel's run: the two result arrays after the last grid point, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6_0) = (dats m 0 c).arrAt 11 cfg0.N
      ∧ r.2.mem ((c.tc : Thread nD τ).loc main_v6_1) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1 11, (h c).1 12,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)
end run

end Cert.MergeIdeal.Mrg

end
-- ==== Proof.MergeValue.lean ====
/- The merge kernel's result arrays, entry by entry. -/
module

public import proofs.«01_k».proof.Proof.MergeTile

@[expose] public section

set_option maxRecDepth 16384

noncomputable section

namespace Cert.MergeIdeal.Mrg

open Cert.MergeIdeal Cert.MergeIdeal.Gen Idealize.ShloMosaic Idealize.ShloMosaic.TcCoe

section
variable (a o cc : FVec Ideal S8192x1024 .bf16) (gates : FVec Ideal S8192x3072 .bf16) (x : FVec Ideal S8192x1024 .f32)
  (mod : FVec Ideal S16x6144 .f32) (gn : FVec Ideal S1024 .f32) (wa wb wc wo : FVec Ideal S1024x1024 .f32)

/-- The modulation of a row's sequence. -/
def md (i : Fin 8192) (l : Fin 6144) : EReal := mod (ix2 ⟨i.val / 1024, by omega⟩ l)

/-- A row of the residual. -/
def rowRes (i : Fin 8192) : Fin 1024 → EReal :=
  res (fun l => x (ix2 i l)) (md mod i)
    (mix (fun k => gates (ix2 i k)) (fun k => a (ix2 i k)) (fun k => o (ix2 i k)) (fun k => cc (ix2 i k))
      (fun j k => wa (ix2 j k)) (fun j k => wb (ix2 j k)) (fun j k => wc (ix2 j k))) (fun k l => wo (ix2 k l))

/-- The residual. -/
def G1 : FVec Ideal S8192x1024 .f32 := fun i => rowRes a o cc gates x mod wa wb wc wo (i 0) (i 1)

/-- The normed and modulated residual. -/
def G2 : FVec Ideal S8192x1024 .bf16 := fun i =>
  nrm (rowRes a o cc gates x mod wa wb wc wo (i 0)) (fun l => gn (ix1 l)) (md mod (i 0)) (i 1)
end

variable (m : (ℓ : Loc nD τ sig) → Buf (Elt Ideal) ℓ)

theorem V_main_v0 (c : Dev nD) : V m c main_v0 = truncf (F := Ideal) (s := S1024x1024) .bf16 (m ((c.tc : Thread nD τ).loc main_arg7)) bitsLt_bf16_f32 := by
  show StableHlo.after hostOps0 _ (Proc.devRef .tc main_v0) = _
  after_results

theorem V_main_v1 (c : Dev nD) : V m c main_v1 = truncf (F := Ideal) (s := S1024x1024) .bf16 (m ((c.tc : Thread nD τ).loc main_arg8)) bitsLt_bf16_f32 := by
  show StableHlo.after hostOps0 _ (Proc.devRef .tc main_v1) = _
  after_results

theorem V_main_v2 (c : Dev nD) : V m c main_v2 = truncf (F := Ideal) (s := S1024x1024) .bf16 (m ((c.tc : Thread nD τ).loc main_arg9)) bitsLt_bf16_f32 := by
  show StableHlo.after hostOps0 _ (Proc.devRef .tc main_v2) = _
  after_results

theorem V_main_v3 (c : Dev nD) : V m c main_v3 = truncf (F := Ideal) (s := S1024x1024) .bf16 (m ((c.tc : Thread nD τ).loc main_arg10)) bitsLt_bf16_f32 := by
  show StableHlo.after hostOps0 _ (Proc.devRef .tc main_v3) = _
  after_results

theorem V_main_v4 (c : Dev nD) : V m c main_v4 = shapeCast S16x1x6144 (m ((c.tc : Thread nD τ).loc main_arg5)) shapeCasts_S16x6144_S16x1x6144 := by
  show StableHlo.after hostOps0 _ (Proc.devRef .tc main_v4) = _
  after_results
  rfl

theorem V_main_v5 (c : Dev nD) : V m c main_v5 = shapeCast S1x1024 (m ((c.tc : Thread nD τ).loc main_arg6)) shapeCasts_S1024_S1x1024 := by
  show StableHlo.after hostOps0 _ (Proc.devRef .tc main_v5) = _
  after_results
  rfl

theorem mod_apply (x : FVec Ideal S16x6144 .f32) (b : Fin 16) (l : Fin 6144) :
    shapeCast S16x1x6144 x shapeCasts_S16x6144_S16x1x6144 (ix3 b 0 l) = x (ix2 b l) := by pointwise

theorem gain_apply (x : FVec Ideal S1024 .f32) (l : Fin 1024) :
    shapeCast S1x1024 x shapeCasts_S1024_S1x1024 (ix2 0 l) = x (ix1 l) := by pointwise

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val / 2, 0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![t.val, 0] := by decide +kernel
theorem idx12 : ∀ t : Fin cfg0.N, win0_12.index t = ![t.val, 0] := by decide +kernel

theorem blk0 (c : Dev nD) (t : Fin cfg0.N) (r : Fin 512) (l : Fin 1024) :
    iblk m c 0 t (ix2 r l) = m ((c.tc : Thread nD τ).loc main_arg0) (ix2 ⟨512 * t.val + r.val, by have : t.val < 16 := t.isLt; omega⟩ l) := by
  blk_simp [iblk, idx0]; rw [V_main_arg0]; refine congrArg _ ?_; blk_ext [idx0]

theorem blk1 (c : Dev nD) (t : Fin cfg0.N) (r : Fin 512) (l : Fin 1024) :
    iblk m c 1 t (ix2 r l) = m ((c.tc : Thread nD τ).loc main_arg1) (ix2 ⟨512 * t.val + r.val, by have : t.val < 16 := t.isLt; omega⟩ l) := by
  blk_simp [iblk, idx1]; rw [V_main_arg1]; refine congrArg _ ?_; blk_ext [idx1]

theorem blk2 (c : Dev nD) (t : Fin cfg0.N) (r : Fin 512) (l : Fin 1024) :
    iblk m c 2 t (ix2 r l) = m ((c.tc : Thread nD τ).loc main_arg2) (ix2 ⟨512 * t.val + r.val, by have : t.val < 16 := t.isLt; omega⟩ l) := by
  blk_simp [iblk, idx2]; rw [V_main_arg2]; refine congrArg _ ?_; blk_ext [idx2]

theorem blk3 (c : Dev nD) (t : Fin cfg0.N) (r : Fin 512) (l : Fin 3072) :
    iblk m c 3 t (ix2 r l) = m ((c.tc : Thread nD τ).loc main_arg3) (ix2 ⟨512 * t.val + r.val, by have : t.val < 16 := t.isLt; omega⟩ l) := by
  blk_simp [iblk, idx3]; rw [V_main_arg3]; refine congrArg _ ?_; blk_ext [idx3]

theorem blk4 (c : Dev nD) (t : Fin cfg0.N) (r : Fin 512) (l : Fin 1024) :
    iblk m c 4 t (ix2 r l) = m ((c.tc : Thread nD τ).loc main_arg4) (ix2 ⟨512 * t.val + r.val, by have : t.val < 16 := t.isLt; omega⟩ l) := by
  blk_simp [iblk, idx4]; rw [V_main_arg4]; refine congrArg _ ?_; blk_ext [idx4]

theorem blk5 (c : Dev nD) (t : Fin cfg0.N) (l : Fin 6144) :
    iblk m c 5 t (ix3 0 0 l) = m ((c.tc : Thread nD τ).loc main_arg5) (ix2 ⟨t.val / 2, by have : t.val < 16 := t.isLt; omega⟩ l) := by
  have ht : t.val < 16 := t.isLt
  blk_simp [iblk, idx5]; rw [V_main_v4]
  have he : (win0_5.blk t).view.emb (ix3 0 0 l) = ix3 (⟨t.val / 2, by omega⟩ : Fin 16) (0 : Fin 1) l := by
    blk_ext [idx5]
  rw [he]; exact mod_apply _ _ _

theorem blk6 (c : Dev nD) (t : Fin cfg0.N) (l : Fin 1024) :
    iblk m c 6 t (ix2 0 l) = m ((c.tc : Thread nD τ).loc main_arg6) (ix1 l) := by
  blk_simp [iblk, idx6]; rw [V_main_v5]
  have he : (win0_6.blk t).view.emb (ix2 0 l) = ix2 (0 : Fin 1) l := by
    blk_ext [idx6]
  rw [he]; exact gain_apply _ _

theorem blk7 (c : Dev nD) (t : Fin cfg0.N) (k l : Fin 1024) :
    iblk m c 7 t (ix2 k l) = m ((c.tc : Thread nD τ).loc main_arg7) (ix2 k l) := by
  blk_simp [iblk, idx7]; rw [V_main_v0]; show m _ _ = _; refine congrArg _ ?_; blk_ext [idx7]

theorem blk8 (c : Dev nD) (t : Fin cfg0.N) (k l : Fin 1024) :
    iblk m c 8 t (ix2 k l) = m ((c.tc : Thread nD τ).loc main_arg8) (ix2 k l) := by
  blk_simp [iblk, idx8]; rw [V_main_v1]; show m _ _ = _; refine congrArg _ ?_; blk_ext [idx8]

theorem blk9 (c : Dev nD) (t : Fin cfg0.N) (k l : Fin 1024) :
    iblk m c 9 t (ix2 k l) = m ((c.tc : Thread nD τ).loc main_arg9) (ix2 k l) := by
  blk_simp [iblk, idx9]; rw [V_main_v2]; show m _ _ = _; refine congrArg _ ?_; blk_ext [idx9]

theorem blk10 (c : Dev nD) (t : Fin cfg0.N) (k l : Fin 1024) :
    iblk m c 10 t (ix2 k l) = m ((c.tc : Thread nD τ).loc main_arg10) (ix2 k l) := by
  blk_simp [iblk, idx10]; rw [V_main_v3]; show m _ _ = _; refine congrArg _ ?_; blk_ext [idx10]

/-- A tile's row of the residual is the array's. -/
theorem tile_row (c : Dev nD) (t : Fin cfg0.N) (r : Fin 512) :
    tileRes (iblk m c 0 t) (iblk m c 1 t) (iblk m c 2 t) (iblk m c 3 t) (iblk m c 4 t) (iblk m c 5 t) (iblk m c 7 t) (iblk m c 8 t) (iblk m c 9 t) (iblk m c 10 t) r
      = rowRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) ⟨512 * t.val + r.val, by have : t.val < 16 := t.isLt; omega⟩ := by
  unfold tileRes rowRes
  congr 1
  · funext l; exact blk4 m c t _ _
  · funext l; exact (blk5 m c t _).trans (congrArg _ (congrArg₂ ix2 (Fin.ext (by simp; omega)) rfl))
  · congr 1
    · funext k; exact blk3 m c t _ _
    · funext k; exact blk0 m c t _ _
    · funext k; exact blk1 m c t _ _
    · funext k; exact blk2 m c t _ _
    · funext j k; exact blk7 m c t _ _
    · funext j k; exact blk8 m c t _ _
    · funext j k; exact blk9 m c t _ _
  · funext j k; exact blk10 m c t _ _

theorem arr11_eq (c : Dev nD) :
    (dats m 0 c).arrAt 11 cfg0.N = G1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) := by
  refine (dats m 0 c).arrAt_eq_of_covers 11 _ (by decide +kernel) fun t hf y => ?_
  blk_simp; rw [after0_11]
  have h1 : (y 1).val < 1024 := (y 1).isLt
  have h0 : (y 0).val < 512 := (y 0).isLt
  have ht : t.val < 16 := t.isLt
  have hy : y = ix2 (⟨(y 0).val, h0⟩ : Fin 512) (⟨(y 1).val, h1⟩ : Fin 1024) := by
    funext i; fin_cases i <;> rfl
  have he : (win0_11.blk t).view.emb y = ix2 (⟨512 * t.val + (y 0).val, by omega⟩ : Fin 8192) (⟨(y 1).val, h1⟩ : Fin 1024) := by
    blk_ext [idx11]
  rw [he]
  refine ((congrArg (out0_11 _ _ _ _ _ _ _ _ _ _ _) hy).trans (out11_apply (iblk m c 0 t) (iblk m c 1 t) (iblk m c 2 t) (iblk m c 3 t) (iblk m c 4 t) (iblk m c 5 t) (iblk m c 6 t) (iblk m c 7 t) (iblk m c 8 t) (iblk m c 9 t) (iblk m c 10 t) _ _)).trans ?_
  unfold G1
  exact congrFun (tile_row m c t _) _

theorem arr12_eq (c : Dev nD) :
    (dats m 0 c).arrAt 12 cfg0.N = G2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (dats m 0 c).arrAt_eq_of_covers 12 _ (by decide +kernel) fun t hf y => ?_
  blk_simp; rw [after0_12]
  have h1 : (y 1).val < 1024 := (y 1).isLt
  have h0 : (y 0).val < 512 := (y 0).isLt
  have ht : t.val < 16 := t.isLt
  have hy : y = ix2 (⟨(y 0).val, h0⟩ : Fin 512) (⟨(y 1).val, h1⟩ : Fin 1024) := by
    funext i; fin_cases i <;> rfl
  have he : (win0_12.blk t).view.emb y = ix2 (⟨512 * t.val + (y 0).val, by omega⟩ : Fin 8192) (⟨(y 1).val, h1⟩ : Fin 1024) := by
    blk_ext [idx12]
  rw [he]
  refine ((congrArg (out0_12 _ _ _ _ _ _ _ _ _ _ _) hy).trans (out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) _ _)).trans ?_
  unfold G2
  rw [tile_row]
  congr 1
  · funext k; exact blk6 m c t _
  · funext l; exact (blk5 m c t _).trans (congrArg _ (congrArg₂ ix2 (Fin.ext (by simp; omega)) rfl))

end Cert.MergeIdeal.Mrg

end
-- ==== Proof.MergeRef.lean ====
/- The merge's reference at an index of its results. -/
module

public import proofs.«01_k».proof.Proof.Gen.MergeReferenceIdeal.Run
public import proofs.«01_k».proof.Proof.MergeValue

@[expose] public section

set_option maxRecDepth 16384

noncomputable section

namespace Cert.MergeReferenceIdeal.Mrg

open Cert.MergeReferenceIdeal Cert.MergeReferenceIdeal.Gen Idealize.ShloMosaic

section
variable {F : FTy → Type} [FloatOps F] (a o cc : FVec F S8192x1024 .bf16) (gates : FVec F S8192x3072 .bf16)
  (x : FVec F S8192x1024 .f32) (mod : FVec F S16x6144 .f32) (gn : FVec F S1024 .f32) (wa wb wc wo : FVec F S1024x1024 .f32)

/-- The gated sum of the branches' products. -/
def mixed : FVec F S8192x1024 .f32 :=
  addf (addf (mulf (extractStridedSlice S8192x1024 ![0, 0] (extf .f32 gates bitsLt_bf16_f32) slices_S8192x3072_S8192x1024_0_0) (Host.dotGeneral dot_S8192x1024_S1024x1024_S8192x1024_1_0_0_1_n_n none (extf .f32 a bitsLt_bf16_f32) wa)) (mulf (extractStridedSlice S8192x1024 ![0, 1024] (extf .f32 gates bitsLt_bf16_f32) slices_S8192x3072_S8192x1024_0_1024) (Host.dotGeneral dot_S8192x1024_S1024x1024_S8192x1024_1_0_0_1_n_n none (extf .f32 o bitsLt_bf16_f32) wb))) (mulf (extractStridedSlice S8192x1024 ![0, 2048] (extf .f32 gates bitsLt_bf16_f32) slices_S8192x3072_S8192x1024_0_2048) (Host.dotGeneral dot_S8192x1024_S1024x1024_S8192x1024_1_0_0_1_n_n none (extf .f32 cc bitsLt_bf16_f32) wc))

/-- The modulation rows of the samples. -/
def mods : FVec F S8x1x6144 .f32 := broadcastInDim S8x1x6144 ![0, 2] bcast_S8x6144_S8x1x6144_0_2 (extractStridedSlice S8x6144 ![0, 0] mod slices_S16x6144_S8x6144_0_0)

/-- The residual, by sequence. -/
def resid : FVec F S8x1024x1024 .f32 :=
  addf (shapeCast _ x shapeCasts_S8192x1024_S8x1024x1024) (mulf (broadcastInDim S8x1024x1024 ![0, 1, 2] bcast_S8x1x1024_S8x1024x1024_0_1_2 (extractStridedSlice S8x1x1024 ![0, 0, 2048] (mods mod) slices_S8x1x6144_S8x1x1024_0_0_2048)) (shapeCast _ (Host.dotGeneral dot_S8192x1024_S1024x1024_S8192x1024_1_0_0_1_n_n none (mixed a o cc gates wa wb wc) wo) shapeCasts_S8192x1024_S8x1024x1024))

/-- The reference's first result. -/
def out1 : FVec F S8192x1024 .f32 := shapeCast _ (resid a o cc gates x mod wa wb wc wo) shapeCasts_S8x1024x1024_S8192x1024

/-- The reference's second result. -/
def out2 : FVec F S8192x1024 .bf16 :=
  truncf .bf16 (shapeCast _ (addf (mulf (mulf (mulf (resid a o cc gates x mod wa wb wc wo) (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf (resid a o cc gates x mod wa wb wc wo) (resid a o cc gates x mod wa wb wc wo)) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 gn))) (broadcastInDim S8x1024x1024 ![0, 1, 2] bcast_S8x1x1024_S8x1024x1024_0_1_2 (addf (broadcastInDim S8x1x1024 ![] bcast_S_S8x1x1024 (constant S_ .f32 0x3F800000#32)) (extractStridedSlice S8x1x1024 ![0, 0, 4096] (mods mod) slices_S8x1x6144_S8x1x1024_0_0_4096)))) (broadcastInDim S8x1024x1024 ![0, 1, 2] bcast_S8x1x1024_S8x1024x1024_0_1_2 (extractStridedSlice S8x1x1024 ![0, 0, 3072] (mods mod) slices_S8x1x6144_S8x1x1024_0_0_3072))) shapeCasts_S8x1024x1024_S8192x1024) bitsLt_bf16_f32
end

/-- The reference's run, with its results the terms above. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v47) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => h c) (Value.run m ρ)

variable (a o cc : FVec Ideal S8192x1024 .bf16) (gates : FVec Ideal S8192x3072 .bf16) (x : FVec Ideal S8192x1024 .f32)
  (mod : FVec Ideal S16x6144 .f32) (gn : FVec Ideal S1024 .f32) (wa wb wc wo : FVec Ideal S1024x1024 .f32)

theorem resid_apply (b : Fin 8) (r l : Fin 1024) :
    resid a o cc gates x mod wa wb wc wo (ix3 b r l)
      = Cert.MergeIdeal.Mrg.rowRes a o cc gates x mod wa wb wc wo ⟨b.val * 1024 + r.val, by omega⟩ l := by
  have h : (b.val * 1024 + r.val) / 1024 = b.val := by omega
  pointwise [resid, mods, mixed, Cert.MergeIdeal.Mrg.rowRes, Cert.MergeIdeal.Mrg.res, Cert.MergeIdeal.Mrg.mix, Cert.MergeIdeal.Mrg.md, h]

theorem out1_eq : out1 a o cc gates x mod wa wb wc wo = Cert.MergeIdeal.Mrg.G1 a o cc gates x mod wa wb wc wo := by
  funext i
  idx_vars i
  pointwise [out1, resid_apply, Cert.MergeIdeal.Mrg.G1, Nat.div_add_mod', Fin.eta]

theorem out2_eq : out2 a o cc gates x mod gn wa wb wc wo = Cert.MergeIdeal.Mrg.G2 a o cc gates x mod gn wa wb wc wo := by
  funext i
  idx_vars i
  pointwise [out2, mods, resid_apply, Cert.MergeIdeal.Mrg.G2, Cert.MergeIdeal.Mrg.nrm, Cert.MergeIdeal.Mrg.md, Rows.rms, Rows.inv, Nat.div_add_mod', Fin.eta]

end Cert.MergeReferenceIdeal.Mrg

end
-- ==== Proof.MergeClaim.lean ====
/- The merge's claims: the programs run and keep their arguments, and their results are equal. -/
module

public import proofs.«01_k».proof.Defs
public import proofs.«01_k».proof.Proof.Gen.Merge.Frame
public import proofs.«01_k».proof.Proof.MergeRef
public import Idealize.ShloMosaic.Adequacy
public import Idealize.ShloMosaic.Init

@[expose] public section

noncomputable section

namespace Cert.Proof.Mrg

open Idealize.ShloMosaic Idealize.SL.Sem

theorem ref_quiescent : Cert.quiescent_MergeReferenceIdeal := fun m ρ _ =>
  (θ_run Cert.MergeReferenceIdeal.defs _ _).mono (fun r h => ⟨fun c => (h c).2.2, sem_eq_zero_of_no_sems (by decide) r.2⟩)
    (Cert.MergeReferenceIdeal.Value.run m ρ)

theorem algebraic : Cert.algebraic_MergeIdeal_MergeReferenceIdeal := by
  intro m g m' g' hpre hagree
  refine ⟨fun c => Cert.MergeIdeal.Mrg.G1 (m ((c.tc : Thread _ _).loc Cert.MergeIdeal.main_arg0)) (m ((c.tc : Thread _ _).loc Cert.MergeIdeal.main_arg1)) (m ((c.tc : Thread _ _).loc Cert.MergeIdeal.main_arg2)) (m ((c.tc : Thread _ _).loc Cert.MergeIdeal.main_arg3)) (m ((c.tc : Thread _ _).loc Cert.MergeIdeal.main_arg4)) (m ((c.tc : Thread _ _).loc Cert.MergeIdeal.main_arg5)) (m ((c.tc : Thread _ _).loc Cert.MergeIdeal.main_arg7)) (m ((c.tc : Thread _ _).loc Cert.MergeIdeal.main_arg8)) (m ((c.tc : Thread _ _).loc Cert.MergeIdeal.main_arg9)) (m ((c.tc : Thread _ _).loc Cert.MergeIdeal.main_arg10)),
    fun c => Cert.MergeIdeal.Mrg.G2 (m ((c.tc : Thread _ _).loc Cert.MergeIdeal.main_arg0)) (m ((c.tc : Thread _ _).loc Cert.MergeIdeal.main_arg1)) (m ((c.tc : Thread _ _).loc Cert.MergeIdeal.main_arg2)) (m ((c.tc : Thread _ _).loc Cert.MergeIdeal.main_arg3)) (m ((c.tc : Thread _ _).loc Cert.MergeIdeal.main_arg4)) (m ((c.tc : Thread _ _).loc Cert.MergeIdeal.main_arg5)) (m ((c.tc : Thread _ _).loc Cert.MergeIdeal.main_arg6)) (m ((c.tc : Thread _ _).loc Cert.MergeIdeal.main_arg7)) (m ((c.tc : Thread _ _).loc Cert.MergeIdeal.main_arg8)) (m ((c.tc : Thread _ _).loc Cert.MergeIdeal.main_arg9)) (m ((c.tc : Thread _ _).loc Cert.MergeIdeal.main_arg10)), ?_, ?_⟩
  · exact (θ_run Cert.MergeIdeal.defs _ _).mono
      (fun _ h c => ⟨(h c).1.trans (Cert.MergeIdeal.Mrg.arr11_eq m c), (h c).2.1.trans (Cert.MergeIdeal.Mrg.arr12_eq m c), (h c).2.2⟩)
      (Cert.MergeIdeal.Mrg.run m g)
  · refine (θ_run Cert.MergeReferenceIdeal.defs _ _).mono (fun _ h c => ⟨(h c).1.trans ?_, (h c).2.1.trans ?_, (h c).2.2⟩)
      (Cert.MergeReferenceIdeal.Mrg.run m' g')
    · obtain ⟨e0, e1, e2, e3, e4, e5, e6, e7, e8, e9, e10⟩ := hagree c
      rw [e0, e1, e2, e3, e4, e5, e7, e8, e9, e10]
      exact Cert.MergeReferenceIdeal.Mrg.out1_eq _ _ _ _ _ _ _ _ _ _
    · obtain ⟨e0, e1, e2, e3, e4, e5, e6, e7, e8, e9, e10⟩ := hagree c
      rw [e0, e1, e2, e3, e4, e5, e6, e7, e8, e9, e10]
      exact Cert.MergeReferenceIdeal.Mrg.out2_eq _ _ _ _ _ _ _ _ _ _ _

/-- Everything claimed of the merge. -/
theorem claims : Cert.quiescent_Merge ∧ Cert.quiescent_MergeIdeal ∧ Cert.quiescent_MergeReferenceIdeal
    ∧ Cert.preserves_Merge_MergeIdeal ∧ Cert.algebraic_MergeIdeal_MergeReferenceIdeal :=
  ⟨fun m ρ _ => Cert.Merge.Gen.frame m ρ, fun m ρ _ => Cert.MergeIdeal.Gen.frame m ρ, ref_quiescent, trivial, algebraic⟩

end Cert.Proof.Mrg

end
-- ==== Proof.UpTile.lean ====
/- The up projection with its convolution: the kernel's tile, entry by entry. -/
module

public import proofs.«01_k».proof.Proof.Gen.FfnUpIdeal.Frame
public import Idealize.ShloMosaic.Lib.Pipeline.ValueKit
public import Idealize.ShloMosaic.Lib.Pointwise
public import Idealize.ShloMosaic.Lib.StableHlo.Run

@[expose] public section

set_option maxRecDepth 16384

noncomputable section

namespace Cert.FfnUpIdeal.Up

open Cert.FfnUpIdeal Cert.FfnUpIdeal.Gen Idealize.ShloMosaic Idealize.ShloMosaic.TcCoe

/-! ## The convolution over time -/

/-- The value a step before, zero before the start. -/
def before (z : Fin 1024 → EReal) (t : Fin 1024) : EReal := if t.val = 0 then 0 else z ⟨t.val - 1, by omega⟩

/-- The value a step after, zero after the end. -/
def next (z : Fin 1024 → EReal) (t : Fin 1024) : EReal := if h : t.val < 1023 then z ⟨t.val + 1, by omega⟩ else 0

/-- The convolution of width three with its bias. -/
def conv (z : Fin 1024 → EReal) (w : Fin 3 → EReal) (b : EReal) (t : Fin 1024) : EReal :=
  b + before z t * w 0 + z t * w 1 + next z t * w 2

/-- The gated product. -/
def act (g v : EReal) : EReal := g * Ideal.logistic g * v

/-! ## The layout of a tile's rows: time t lies at position (t % 128) * 8 + t / 128 -/

/-- The time at a position. -/
def tm (p : Fin 1024) : Fin 1024 := ⟨p.val % 8 * 128 + p.val / 8, by omega⟩

/-- The position of a time. -/
def pos (t : Fin 1024) : Fin 1024 := ⟨t.val % 128 * 8 + t.val / 128, by omega⟩

theorem tm_pos (t : Fin 1024) : tm (pos t) = t := Fin.ext (by unfold tm pos; dsimp only; omega)

theorem pos_tm (p : Fin 1024) : pos (tm p) = p := Fin.ext (by unfold tm pos; dsimp only; omega)

/-- The rows of the positions a step before. -/
def prevRows (z : FVec Ideal S1024x512 .f32) : FVec Ideal S1024x512 .f32 :=
  concatenate S1024x512 0 [⟨S8x512, select (cmpi .eq (iota .tc S8x512 32 [0] iota_S8x512_d0_w32) (broadcast S8x512 0#32)) (broadcast S8x512 (Scalar.ofBits .f32 0x00000000#32))
      (dynamicRotate 0 1#32 none (extractStridedSlice S8x512 ![1016, 0] z slices_S1024x512_o1016_0_S8x512) rotates_S8x512_d0)⟩,
    ⟨S1016x512, extractStridedSlice S1016x512 ![0, 0] z slices_S1024x512_o0_0_S1016x512⟩] concatenates_S8x512_S1016x512_S1024x512_d0

/-- The rows of the positions a step after. -/
def nextRows (z : FVec Ideal S1024x512 .f32) : FVec Ideal S1024x512 .f32 :=
  concatenate S1024x512 0 [⟨S1016x512, extractStridedSlice S1016x512 ![8, 0] z slices_S1024x512_o8_0_S1016x512⟩,
    ⟨S8x512, select (cmpi .eq (iota .tc S8x512 32 [0] iota_S8x512_d0_w32) (broadcast S8x512 7#32)) (broadcast S8x512 (Scalar.ofBits .f32 0x00000000#32))
      (dynamicRotate 0 7#32 none (extractStridedSlice S8x512 ![0, 0] z slices_S1024x512_o0_0_S8x512) rotates_S8x512_d0)⟩] concatenates_S1016x512_S8x512_S1024x512_d0

/-- The selection of the first row out of eight, -/
theorem sel0 (n : Nat) (h : n < 8) (a b : EReal) :
    Scalar.select (IntOp.cmpi CmpIPredicate.eq (BitVec.ofNat 32 n) 0#32) a b = if n = 0 then a else b := by
  interval_cases n <;> rfl

/-- and of the last. -/
theorem sel7 (n : Nat) (h : n < 8) (a b : EReal) :
    Scalar.select (IntOp.cmpi CmpIPredicate.eq (BitVec.ofNat 32 n) 7#32) a b = if n = 7 then a else b := by
  interval_cases n <;> rfl

theorem prevRows_apply (z : FVec Ideal S1024x512 .f32) (p : Fin 1024) (l : Fin 512) :
    prevRows z (ix2 p l) = before (fun t => z (ix2 (pos t) l)) (tm p) := by
  have hp := p.isLt
  trans (if h : p.val < 8 then if p.val = 0 then 0 else z (ix2 ⟨1015 + p.val, by omega⟩ l) else z (ix2 ⟨p.val - 8, by omega⟩ l))
  · pointwise [prevRows]
    by_cases h : p.val < 8
    · rw [dif_pos h, dif_pos h, sel0 _ h]
      by_cases h0 : p.val = 0
      · rw [if_pos h0, if_pos h0]
      · rw [if_neg h0, if_neg h0]
        refine congrArg z (congrArg (ix2 · l) (Fin.ext ?_))
        show 1016 + (p.val + 8 - 1) % 8 = 1015 + p.val
        omega
    · rw [dif_neg h, dif_neg h]
  · unfold before tm pos
    dsimp only
    split_ifs with h h0 h1 h1 h1
    · rfl
    · omega
    · omega
    · refine congrArg z (congrArg (ix2 · l) (Fin.ext ?_)); dsimp only; omega
    · omega
    · refine congrArg z (congrArg (ix2 · l) (Fin.ext ?_)); dsimp only; omega

theorem nextRows_apply (z : FVec Ideal S1024x512 .f32) (p : Fin 1024) (l : Fin 512) :
    nextRows z (ix2 p l) = next (fun t => z (ix2 (pos t) l)) (tm p) := by
  have hp := p.isLt
  trans (if h : p.val < 1016 then z (ix2 ⟨8 + p.val, by omega⟩ l) else if h1 : p.val = 1023 then 0 else z (ix2 ⟨p.val - 1015, by omega⟩ l))
  · pointwise [nextRows]
    by_cases h : p.val < 1016
    · rw [dif_pos h, dif_pos h]
    · rw [dif_neg h, dif_neg h, sel7 _ (by omega)]
      by_cases h0 : p.val = 1023
      · rw [dif_pos h0, if_pos (by omega)]
      · rw [dif_neg h0, if_neg (by omega)]
        refine congrArg z (congrArg (ix2 · l) (Fin.ext ?_))
        show (p.val - 1016 + 8 - 7) % 8 = p.val - 1015
        omega
  · unfold next tm pos
    dsimp only
    split_ifs with h h1 h1 h1
    · refine congrArg z (congrArg (ix2 · l) (Fin.ext ?_)); dsimp only; omega
    · omega
    · omega
    · rfl
    · refine congrArg z (congrArg (ix2 · l) (Fin.ext ?_)); dsimp only; omega
    · omega

section
variable (x0 : FVec Ideal S1024x1024 .bf16) (x1 x2 : FVec Ideal S1024x512 .bf16) (x3 x4 : FVec Ideal S3x512 .f32) (x5 x6 : FVec Ideal S1x512 .f32)

/-- The tile's product. -/
def dotTile (w : FVec Ideal S1024x512 .bf16) : FVec Ideal S1024x512 .f32 :=
  matmul dot_S1024x1024_S1024x512_S1024x512_1_0_0_1_n_n none (k0_pay1 x0) (shapeCast S1024x512 w shapeCasts_S1024x512_S1024x512) (constant S1024x512 .f32 0x00000000#32)

theorem dotTile_apply (w : FVec Ideal S1024x512 .bf16) (p : Fin 1024) (l : Fin 512) :
    dotTile x0 w (ix2 p l) = ∑ k, x0 (ix2 p k) * w (ix2 k l) := by
  pointwise [dotTile, k0_pay1]

/-- The tile's convolution. -/
def convTile (z : FVec Ideal S1024x512 .f32) (b w0 w1 w2 : FVec Ideal S1x512 .f32) : FVec Ideal S1024x512 .f32 :=
  addf (addf (addf (broadcastTo S1024x512 (shapeCast S1x512 b shapeCasts_S1x512_S1x512) broadcasts_S1x512_S1024x512)
    (mulf (prevRows z) (broadcastTo S1024x512 w0 broadcasts_S1x512_S1024x512)))
    (mulf z (broadcastTo S1024x512 w1 broadcasts_S1x512_S1024x512)))
    (mulf (nextRows z) (broadcastTo S1024x512 w2 broadcasts_S1x512_S1024x512))

theorem convTile_apply (z : FVec Ideal S1024x512 .f32) (w : FVec Ideal S3x512 .f32) (b : FVec Ideal S1x512 .f32) (p : Fin 1024) (l : Fin 512) :
    convTile z (View.ld (Val := Elt Ideal) (e' := .f32) b r0_2) (View.ld (Val := Elt Ideal) (e' := .f32) w r0_3) (View.ld (Val := Elt Ideal) (e' := .f32) w r0_4) (View.ld (Val := Elt Ideal) (e' := .f32) w r0_5) (ix2 p l)
      = conv (fun t => z (ix2 (pos t) l)) (fun k => w (ix2 k l)) (b (ix2 0 l)) (tm p) := by
  pointwise [convTile, prevRows_apply, nextRows_apply, conv, pos_tm]

theorem pay2_eq (v0 : FVec Ideal S1024x1024 .bf16) (v2 : FVec Ideal S1024x512 .bf16) (b w0 w1 w2 : FVec Ideal S1x512 .f32) :
    k0_pay2 (F := Ideal) v0 v2 b w0 w1 w2 = convTile (dotTile v0 v2) b w0 w1 w2 := rfl

theorem pay3_eq (v0 : FVec Ideal S1024x1024 .bf16) (g : FVec Ideal S1024x512 .f32) (v2 : FVec Ideal S1024x512 .bf16) (b w0 w1 w2 : FVec Ideal S1x512 .f32) :
    k0_pay3 (F := Ideal) (k0_pay1 v0) g v2 b w0 w1 w2
      = truncf .bf16 (mulf (mulf g (logistic g)) (convTile (dotTile v0 v2) b w0 w1 w2)) bitsLt_bf16_f32 := rfl

/-- A column of the tile's product, over time. -/
def colT (w : FVec Ideal S1024x512 .bf16) (l : Fin 512) (t : Fin 1024) : EReal := ∑ k, x0 (ix2 (pos t) k) * w (ix2 k l)

theorem ld_x0 : View.ld (Val := Elt Ideal) (e' := .bf16) x0 r0_0 = x0 := by
  funext y; idx_vars y; pointwise
theorem ld_w (w : FVec Ideal S1024x512 .bf16) : View.ld (Val := Elt Ideal) (e' := .bf16) w r0_1 = w := by
  funext y; idx_vars y; pointwise

theorem out7_apply (p : Fin 1024) (l : Fin 512) :
    out0_7 (F := Ideal) x0 x1 x2 x3 x4 x5 x6 (ix2 p l)
      = act (conv (colT x0 x1 l) (fun k => x3 (ix2 k l)) (x5 (ix2 0 l)) (tm p))
          (conv (colT x0 x2 l) (fun k => x4 (ix2 k l)) (x6 (ix2 0 l)) (tm p)) := by
  unfold out0_7
  canon_tiles x e
  all_goals
    idx_vars x
    obtain rfl : p = _ := Fin.ext e0
    obtain rfl : l = _ := Fin.ext (by simpa using e1)
    rw [ld_x0, ld_w, ld_w, pay2_eq, pay3_eq]
    pointwise [convTile_apply, dotTile_apply, act]
    rfl
end

end Cert.FfnUpIdeal.Up

end
-- ==== Proof.UpValue.lean ====
/- The up projection's result array, entry by entry, and the program's run. -/
module

public import proofs.«01_k».proof.Proof.UpTile

@[expose] public section

set_option maxRecDepth 16384

noncomputable section

namespace Cert.FfnUpIdeal.Up

open Cert.FfnUpIdeal Cert.FfnUpIdeal.Gen Idealize.ShloMosaic Idealize.ShloMosaic.TcCoe Idealize.SL.Sem

section
variable (h : FVec Ideal S8x1024x1024 .bf16) (w : FVec Ideal S1024x6144 .f32) (cw : FVec Ideal S3x6144 .f32) (cb : FVec Ideal S6144 .f32)

/-- A column of the product, over a sequence's times. -/
def col (b : Fin 8) (l : Fin 6144) (t : Fin 1024) : EReal := ∑ k, h (ix3 b t k) * w (ix2 k l)

/-- An entry of the convolution. -/
def cv (b : Fin 8) (t : Fin 1024) (l : Fin 6144) : EReal :=
  conv (col h w b l) (fun k => cw (ix2 k l)) (cb (ix1 l)) t

/-- The result, by sequence, time and column. -/
def G : FVec Ideal S8x1024x3072 .bf16 := fun i =>
  act (cv h w cw cb (i 0) (i 1) ⟨(i 2).val, by have : (i 2).val < 3072 := (i 2).isLt; omega⟩)
    (cv h w cw cb (i 0) (i 1) ⟨3072 + (i 2).val, by have : (i 2).val < 3072 := (i 2).isLt; omega⟩)

/-- The kernel's result array, by sequence and position. -/
def G7 : FVec Ideal S8192x3072 .bf16 := fun i =>
  G h w cw cb (ix3 (⟨(i 0).val / 1024, by have : (i 0).val < 8192 := (i 0).isLt; omega⟩ : Fin 8) (tm ⟨(i 0).val % 1024, by omega⟩) (i 1))
end

/-! ## The host's layouts, on any array -/

/-- Times to positions. -/
def inter (x : FVec Ideal S8x1024x1024 .bf16) : FVec Ideal S8192x1024 .bf16 :=
  shapeCast S8192x1024 (transpose S8x128x8x1024 [0, 2, 1, 3] (shapeCast S8x8x128x1024 x shapeCasts_S8x1024x1024_S8x8x128x1024) transposes_S8x8x128x1024_S8x128x8x1024_0_2_1_3) shapeCasts_S8x128x8x1024_S8192x1024

theorem inter_apply (x : FVec Ideal S8x1024x1024 .bf16) (b : Fin 8) (p k : Fin 1024) :
    inter x (ix2 (⟨1024 * b.val + p.val, by omega⟩ : Fin 8192) k) = x (ix3 b (tm p) k) := by
  pointwise [inter]
  refine congrArg x (congrArg (ix3 b · k) (Fin.ext ?_))
  unfold tm
  dsimp only
  omega

/-- Positions to times. -/
def deinter (x : FVec Ideal S8192x3072 .bf16) : FVec Ideal S8x1024x3072 .bf16 :=
  shapeCast S8x1024x3072 (transpose S8x8x128x3072 [0, 2, 1, 3] (shapeCast S8x128x8x3072 x shapeCasts_S8192x3072_S8x128x8x3072) transposes_S8x128x8x3072_S8x8x128x3072_0_2_1_3) shapeCasts_S8x8x128x3072_S8x1024x3072

theorem deinter_apply (x : FVec Ideal S8192x3072 .bf16) (b : Fin 8) (t : Fin 1024) (l : Fin 3072) :
    deinter x (ix3 b t l) = x (ix2 (⟨1024 * b.val + (pos t).val, by omega⟩ : Fin 8192) l) := by
  pointwise [deinter]
  refine congrArg x (congrArg (ix2 · l) (Fin.ext ?_))
  unfold pos
  dsimp only
  omega

theorem bias_apply (x : FVec Ideal S6144 .f32) (l : Fin 6144) :
    shapeCast S1x6144 x shapeCasts_S6144_S1x6144 (ix2 0 l) = x (ix1 l) := by pointwise

theorem deinter_G7 (h : FVec Ideal S8x1024x1024 .bf16) (w : FVec Ideal S1024x6144 .f32) (cw : FVec Ideal S3x6144 .f32) (cb : FVec Ideal S6144 .f32) :
    deinter (G7 h w cw cb) = G h w cw cb := by
  funext i
  idx_vars i
  rw [deinter_apply]
  have hp := (pos i1).isLt
  have hi := i0.isLt
  have h0 : (1024 * i0.val + (pos i1).val) / 1024 = i0.val := by omega
  have h1 : (1024 * i0.val + (pos i1).val) % 1024 = (pos i1).val := by omega
  unfold G7
  refine congrArg (G h w cw cb) (congrArg₂ (ix3 · · i2) (Fin.ext h0) ?_)
  exact (congrArg tm (Fin.ext h1)).trans (tm_pos i1)

variable (m : (ℓ : Loc nD τ sig) → Buf (Elt Ideal) ℓ)

theorem V_main_v2 (c : Dev nD) : V m c main_v2 = inter (m ((c.tc : Thread nD τ).loc main_arg0)) := by
  show StableHlo.after hostOps0 _ (Proc.devRef .tc main_v2) = _
  after_results
  rfl

theorem V_main_v3 (c : Dev nD) : V m c main_v3 = truncf (F := Ideal) (s := S1024x6144) .bf16 (m ((c.tc : Thread nD τ).loc main_arg1)) bitsLt_bf16_f32 := by
  show StableHlo.after hostOps0 _ (Proc.devRef .tc main_v3) = _
  after_results

theorem V_main_v4 (c : Dev nD) : V m c main_v4 = shapeCast S1x6144 (m ((c.tc : Thread nD τ).loc main_arg3)) shapeCasts_S6144_S1x6144 := by
  show StableHlo.after hostOps0 _ (Proc.devRef .tc main_v4) = _
  after_results
  rfl

theorem idx0 : ∀ t : Fin cfg0.N, win0_0.index t = ![t.val / 6, 0] := by decide +kernel
theorem idx1 : ∀ t : Fin cfg0.N, win0_1.index t = ![0, t.val % 6] := by decide +kernel
theorem idx2 : ∀ t : Fin cfg0.N, win0_2.index t = ![0, 6 + t.val % 6] := by decide +kernel
theorem idx3 : ∀ t : Fin cfg0.N, win0_3.index t = ![0, t.val % 6] := by decide +kernel
theorem idx4 : ∀ t : Fin cfg0.N, win0_4.index t = ![0, 6 + t.val % 6] := by decide +kernel
theorem idx5 : ∀ t : Fin cfg0.N, win0_5.index t = ![0, t.val % 6] := by decide +kernel
theorem idx6 : ∀ t : Fin cfg0.N, win0_6.index t = ![0, 6 + t.val % 6] := by decide +kernel
theorem idx7 : ∀ t : Fin cfg0.N, win0_7.index t = ![t.val / 6, t.val % 6] := by decide +kernel

theorem blk0 (c : Dev nD) (t : Fin cfg0.N) (p k : Fin 1024) :
    iblk m c 0 t (ix2 p k) = (m ((c.tc : Thread nD τ).loc main_arg0)) (ix3 ⟨t.val / 6, by have : t.val < 48 := t.isLt; omega⟩ (tm p) k) := by
  have ht : t.val < 48 := t.isLt
  blk_simp [iblk, idx0]; rw [V_main_v2]
  have he : (win0_0.blk t).view.emb (ix2 p k) = ix2 (⟨1024 * (⟨t.val / 6, by omega⟩ : Fin 8).val + p.val, by dsimp only; omega⟩ : Fin 8192) k := by
    blk_ext [idx0]
  rw [he]; exact inter_apply _ _ _ _

theorem blk1 (c : Dev nD) (t : Fin cfg0.N) (k : Fin 1024) (l : Fin 512) :
    iblk m c 1 t (ix2 k l) = (m ((c.tc : Thread nD τ).loc main_arg1)) (ix2 k ⟨512 * (t.val % 6) + l.val, by omega⟩) := by
  blk_simp [iblk, idx1]; rw [V_main_v3]; show m _ _ = _; refine congrArg _ ?_; blk_ext [idx1]

theorem blk2 (c : Dev nD) (t : Fin cfg0.N) (k : Fin 1024) (l : Fin 512) :
    iblk m c 2 t (ix2 k l) = (m ((c.tc : Thread nD τ).loc main_arg1)) (ix2 k ⟨(3072 + 512 * (t.val % 6)) + l.val, by omega⟩) := by
  blk_simp [iblk, idx2]; rw [V_main_v3]; show m _ _ = _; refine congrArg _ ?_; blk_ext [idx2]

theorem blk3 (c : Dev nD) (t : Fin cfg0.N) (k : Fin 3) (l : Fin 512) :
    iblk m c 3 t (ix2 k l) = (m ((c.tc : Thread nD τ).loc main_arg2)) (ix2 k ⟨512 * (t.val % 6) + l.val, by omega⟩) := by
  blk_simp [iblk, idx3]; rw [V_main_arg2]; refine congrArg _ ?_; blk_ext [idx3]

theorem blk4 (c : Dev nD) (t : Fin cfg0.N) (k : Fin 3) (l : Fin 512) :
    iblk m c 4 t (ix2 k l) = (m ((c.tc : Thread nD τ).loc main_arg2)) (ix2 k ⟨(3072 + 512 * (t.val % 6)) + l.val, by omega⟩) := by
  blk_simp [iblk, idx4]; rw [V_main_arg2]; refine congrArg _ ?_; blk_ext [idx4]

theorem blk5 (c : Dev nD) (t : Fin cfg0.N) (l : Fin 512) :
    iblk m c 5 t (ix2 0 l) = (m ((c.tc : Thread nD τ).loc main_arg3)) (ix1 ⟨512 * (t.val % 6) + l.val, by omega⟩) := by
  blk_simp [iblk, idx5]; rw [V_main_v4]
  have he : (win0_5.blk t).view.emb (ix2 0 l) = ix2 (0 : Fin 1) (⟨512 * (t.val % 6) + l.val, by omega⟩ : Fin 6144) := by
    blk_ext [idx5]
  rw [he]; exact bias_apply _ _

theorem blk6 (c : Dev nD) (t : Fin cfg0.N) (l : Fin 512) :
    iblk m c 6 t (ix2 0 l) = (m ((c.tc : Thread nD τ).loc main_arg3)) (ix1 ⟨(3072 + 512 * (t.val % 6)) + l.val, by omega⟩) := by
  blk_simp [iblk, idx6]; rw [V_main_v4]
  have he : (win0_6.blk t).view.emb (ix2 0 l) = ix2 (0 : Fin 1) (⟨(3072 + 512 * (t.val % 6)) + l.val, by omega⟩ : Fin 6144) := by
    blk_ext [idx6]
  rw [he]; exact bias_apply _ _

theorem tile_cv1 (c : Dev nD) (t : Fin cfg0.N) (l : Fin 512) (s : Fin 1024) :
    conv (colT (iblk m c 0 t) (iblk m c 1 t) l) (fun k => iblk m c 3 t (ix2 k l)) (iblk m c 5 t (ix2 0 l)) s
      = cv (m ((c.tc : Thread nD τ).loc main_arg0)) (m ((c.tc : Thread nD τ).loc main_arg1)) (m ((c.tc : Thread nD τ).loc main_arg2)) (m ((c.tc : Thread nD τ).loc main_arg3)) ⟨t.val / 6, by have : t.val < 48 := t.isLt; omega⟩ s ⟨512 * (t.val % 6) + l.val, by omega⟩ := by
  unfold cv
  congr 1
  · funext u
    refine Finset.sum_congr rfl fun k _ => congrArg₂ _ ?_ (blk1 m c t k l)
    exact (blk0 m c t (pos u) k).trans (congrArg _ (congrArg (ix3 _ · k) (tm_pos u)))
  · funext k; exact blk3 m c t k l
  · exact blk5 m c t l

theorem tile_cv2 (c : Dev nD) (t : Fin cfg0.N) (l : Fin 512) (s : Fin 1024) :
    conv (colT (iblk m c 0 t) (iblk m c 2 t) l) (fun k => iblk m c 4 t (ix2 k l)) (iblk m c 6 t (ix2 0 l)) s
      = cv (m ((c.tc : Thread nD τ).loc main_arg0)) (m ((c.tc : Thread nD τ).loc main_arg1)) (m ((c.tc : Thread nD τ).loc main_arg2)) (m ((c.tc : Thread nD τ).loc main_arg3)) ⟨t.val / 6, by have : t.val < 48 := t.isLt; omega⟩ s ⟨(3072 + 512 * (t.val % 6)) + l.val, by omega⟩ := by
  unfold cv
  congr 1
  · funext u
    refine Finset.sum_congr rfl fun k _ => congrArg₂ _ ?_ (blk2 m c t k l)
    exact (blk0 m c t (pos u) k).trans (congrArg _ (congrArg (ix3 _ · k) (tm_pos u)))
  · funext k; exact blk4 m c t k l
  · exact blk6 m c t l

theorem arr7_eq (c : Dev nD) : (dats m 0 c).arrAt 7 cfg0.N = G7 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp; rw [after0_7]
  have h1 : (y 1).val < 512 := (y 1).isLt
  have h0 : (y 0).val < 1024 := (y 0).isLt
  have ht : t.val < 48 := t.isLt
  have hy : y = ix2 (⟨(y 0).val, h0⟩ : Fin 1024) (⟨(y 1).val, h1⟩ : Fin 512) := by
    funext i; fin_cases i <;> rfl
  have he : (win0_7.blk t).view.emb y = ix2 (⟨1024 * (t.val / 6) + (y 0).val, by omega⟩ : Fin 8192) (⟨512 * (t.val % 6) + (y 1).val, by omega⟩ : Fin 3072) := by
    blk_ext [idx7]
  rw [he]
  refine ((congrArg (out0_7 _ _ _ _ _ _ _) hy).trans (out7_apply (iblk m c 0 t) (iblk m c 1 t) (iblk m c 2 t) (iblk m c 3 t) (iblk m c 4 t) (iblk m c 5 t) (iblk m c 6 t) _ _)).trans ?_
  rw [tile_cv1, tile_cv2]
  unfold G7 G
  have hb : (1024 * (t.val / 6) + (y 0).val) / 1024 = t.val / 6 := by omega
  have hp : (1024 * (t.val / 6) + (y 0).val) % 1024 = (y 0).val := by omega
  have hc : ∀ (l : Fin 6144) (l' : Fin 6144), l = l' → cv (m ((c.tc : Thread nD τ).loc main_arg0)) (m ((c.tc : Thread nD τ).loc main_arg1)) (m ((c.tc : Thread nD τ).loc main_arg2)) (m ((c.tc : Thread nD τ).loc main_arg3)) ⟨t.val / 6, by omega⟩ (tm ⟨(y 0).val, h0⟩) l
      = cv (m ((c.tc : Thread nD τ).loc main_arg0)) (m ((c.tc : Thread nD τ).loc main_arg1)) (m ((c.tc : Thread nD τ).loc main_arg2)) (m ((c.tc : Thread nD τ).loc main_arg3)) ⟨(1024 * (t.val / 6) + (y 0).val) / 1024, by omega⟩ (tm ⟨(1024 * (t.val / 6) + (y 0).val) % 1024, by omega⟩) l' := by
    rintro l _ rfl
    congr 1
    · exact Fin.ext hb.symm
    · exact congrArg tm (Fin.ext hp.symm)
  refine congrArg₂ act (hc _ _ (Fin.ext rfl)) (hc _ _ (Fin.ext ?_))
  show 3072 + 512 * (t.val % 6) + (y 1).val = 3072 + (512 * (t.val % 6) + (y 1).val)
  omega

theorem tail_main_v8 (c : Dev nD) :
    Pipeline.afterTail₀ cfgs (dats m) 0 (V0 m) [hostOps1] c main_v8 = G (m ((c.tc : Thread nD τ).loc main_arg0)) (m ((c.tc : Thread nD τ).loc main_arg1)) (m ((c.tc : Thread nD τ).loc main_arg2)) (m ((c.tc : Thread nD τ).loc main_arg3)) := by
  have hw : Pipeline.withArrays (cfgs 0).spec c (V0 m c) (fun w => (dats m 0 c).arrAt w (cfgs 0).N) (Proc.devRef .tc main_v5)
      = G7 (m ((c.tc : Thread nD τ).loc main_arg0)) (m ((c.tc : Thread nD τ).loc main_arg1)) (m ((c.tc : Thread nD τ).loc main_arg2)) (m ((c.tc : Thread nD τ).loc main_arg3)) :=
    ((dats m 0 c).withArrays_arrAt sharedIn0 (V0 m c) (A_eq m c) 7).trans (arr7_eq m c)
  unfold Pipeline.afterTail₀
  simp only [List.flatten_cons, List.flatten_nil, List.append_nil]
  after_results
  rw [hw]
  exact deinter_G7 _ _ _ _

/-- The program's run, with its result the array above. -/
theorem run (ρ : Dev nD → PrngReg) :
    θ_run defs (onTc (τ := τ) (main (F := Ideal))) ⟨m, fun _ => 0, ρ⟩ fun r => ∀ c : Dev nD,
      r.2.mem ((c.tc : Thread nD τ).loc main_v8) = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v8 (Pipeline.mem_restRefs_of main_v8 (by decide) (by decide))).trans (tail_main_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 4).trans (((dats m 0 c).arrAt_in 4 rfl _).trans ((A_eq m c 4).trans (V_main_arg2 m c))),
      ((h c).2 main_arg3 (Pipeline.mem_restRefs_of main_arg3 (by decide) (by decide))).trans (W_main_arg3 m (dats m) c)⟩)
    (run_main m ρ)

end Cert.FfnUpIdeal.Up

end
-- ==== Proof.UpRef.lean ====
/- The up projection's reference at an index of its result. -/
module

public import proofs.«01_k».proof.Proof.Gen.FfnUpReferenceIdeal.Run
public import proofs.«01_k».proof.Proof.UpValue

@[expose] public section

set_option maxRecDepth 16384

noncomputable section

namespace Cert.FfnUpReferenceIdeal.Up

open Cert.FfnUpReferenceIdeal Cert.FfnUpReferenceIdeal.Gen Idealize.ShloMosaic

section
variable {F : FTy → Type} [FloatOps F] (h : FVec F S8x1024x1024 .bf16) (w : FVec F S1024x6144 .f32) (cw : FVec F S3x6144 .f32) (cb : FVec F S6144 .f32)

/-- The product, with a zero row before and after each sequence. -/
def padded : FVec F S8x1026x6144 .f32 :=
  pad S8x1026x6144 ![0, 1, 0] ![0, 1, 0] ![0, 0, 0] (Host.dotGeneral dot_S8x1024x1024_S1024x6144_S8x1024x6144_2_0_01_1_n_n none (extf .f32 h bitsLt_bf16_f32) w) (sitofp .f32 (constantI S_ 32 0#32)) pads_S8x1024x6144_S8x1026x6144_000_110_000 h_S_

/-- The convolution. -/
def cv : FVec F S8x1024x6144 .f32 :=
  addf (addf (addf (broadcastInDim S8x1024x6144 ![0, 1, 2] bcast_S1x1x6144_S8x1024x6144_0_1_2 (broadcastInDim S1x1x6144 ![2] bcast_S6144_S1x1x6144_2 cb)) (mulf (extractStridedSlice S8x1024x6144 ![0, 0, 0] (padded h w) slices_S8x1026x6144_S8x1024x6144_0_0_0) (broadcastInDim S8x1024x6144 ![0, 1, 2] bcast_S1x1x6144_S8x1024x6144_0_1_2 (broadcastInDim S1x1x6144 ![2] bcast_S6144_S1x1x6144_2 (shapeCast _ (extractStridedSlice S1x6144 ![0, 0] cw slices_S3x6144_S1x6144_0_0) shapeCasts_S1x6144_S6144))))) (mulf (extractStridedSlice S8x1024x6144 ![0, 1, 0] (padded h w) slices_S8x1026x6144_S8x1024x6144_0_1_0) (broadcastInDim S8x1024x6144 ![0, 1, 2] bcast_S1x1x6144_S8x1024x6144_0_1_2 (broadcastInDim S1x1x6144 ![2] bcast_S6144_S1x1x6144_2 (shapeCast _ (extractStridedSlice S1x6144 ![1, 0] cw slices_S3x6144_S1x6144_1_0) shapeCasts_S1x6144_S6144))))) (mulf (extractStridedSlice S8x1024x6144 ![0, 2, 0] (padded h w) slices_S8x1026x6144_S8x1024x6144_0_2_0) (broadcastInDim S8x1024x6144 ![0, 1, 2] bcast_S1x1x6144_S8x1024x6144_0_1_2 (broadcastInDim S1x1x6144 ![2] bcast_S6144_S1x1x6144_2 (shapeCast _ (extractStridedSlice S1x6144 ![2, 0] cw slices_S3x6144_S1x6144_2_0) shapeCasts_S1x6144_S6144))))

/-- The reference's result. -/
def out : FVec F S8x1024x3072 .bf16 :=
  truncf .bf16 (mulf (mulf (extractStridedSlice S8x1024x3072 ![0, 0, 0] (cv h w cw cb) slices_S8x1024x6144_S8x1024x3072_0_0_0) (Host.divf (broadcastInDim S8x1024x3072 ![] bcast_S_S8x1024x3072 (constant S_ .f32 0x3F800000#32)) (addf (broadcastInDim S8x1024x3072 ![] bcast_S_S8x1024x3072 (constant S_ .f32 0x3F800000#32)) (Host.exp (Host.negf (extractStridedSlice S8x1024x3072 ![0, 0, 0] (cv h w cw cb) slices_S8x1024x6144_S8x1024x3072_0_0_0)))))) (extractStridedSlice S8x1024x3072 ![0, 0, 3072] (cv h w cw cb) slices_S8x1024x6144_S8x1024x3072_0_0_3072)) bitsLt_bf16_f32
end

/-- The reference's run, with its result the term above. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (Value.run m ρ)

variable (h : FVec Ideal S8x1024x1024 .bf16) (w : FVec Ideal S1024x6144 .f32) (cw : FVec Ideal S3x6144 .f32) (cb : FVec Ideal S6144 .f32)

theorem padded_apply (b : Fin 8) (t : Fin 1026) (l : Fin 6144) :
    padded h w (ix3 b t l) = if ht : 1 ≤ t.val ∧ t.val < 1025 then Cert.FfnUpIdeal.Up.col h w b l ⟨t.val - 1, by omega⟩ else 0 := by
  pointwise [padded, Cert.FfnUpIdeal.Up.col]
  by_cases ht : 1 ≤ t.val ∧ t.val < 1025
  · rw [dif_pos ht, dif_pos ⟨ht.1, by omega⟩]
  · rw [dif_neg ht, dif_neg fun hn => ht ⟨hn.1, by omega⟩]
    simp [FloatOps.sitofp]

theorem cv_apply (b : Fin 8) (t : Fin 1024) (l : Fin 6144) :
    cv h w cw cb (ix3 b t l) = Cert.FfnUpIdeal.Up.cv h w cw cb b t l := by
  have ht := t.isLt
  pointwise [cv, padded_apply, Cert.FfnUpIdeal.Up.cv, Cert.FfnUpIdeal.Up.conv, Cert.FfnUpIdeal.Up.before, Cert.FfnUpIdeal.Up.next]
  refine congrArg₂ (· + ·) (congrArg₂ (· + ·) (congrArg (cb (ix1 l) + · * _) ?_) (congrArg (· * _) ?_)) (congrArg (· * _) ?_)
  · by_cases h0 : t.val = 0
    · rw [if_pos h0, dif_neg fun hn => absurd hn.1 (by omega)]
    · rw [if_neg h0, dif_pos ⟨by omega, by omega⟩]
  · rw [dif_pos (by omega)]
  · by_cases h0 : t.val < 1023
    · rw [dif_pos h0, dif_pos ⟨by omega, by omega⟩]
      exact congrArg _ (Fin.ext (show 2 + t.val - 1 = t.val + 1 by omega))
    · rw [dif_neg h0, dif_neg fun hn => absurd hn.2 (by omega)]

theorem out_eq : out h w cw cb = Cert.FfnUpIdeal.Up.G h w cw cb := by
  funext i
  idx_vars i
  pointwise [out, cv_apply, Cert.FfnUpIdeal.Up.G, Cert.FfnUpIdeal.Up.act, Ideal.logistic]

end Cert.FfnUpReferenceIdeal.Up

end
-- ==== Proof.UpClaim.lean ====
/- The up projection's claims: the programs run and keep their arguments, and their results are equal. -/
module

public import proofs.«01_k».proof.Defs
public import proofs.«01_k».proof.Proof.Gen.FfnUp.Frame
public import proofs.«01_k».proof.Proof.UpRef
public import Idealize.ShloMosaic.Adequacy
public import Idealize.ShloMosaic.Init

@[expose] public section

noncomputable section

namespace Cert.Proof.Up

open Idealize.ShloMosaic Idealize.SL.Sem

theorem ref_quiescent : Cert.quiescent_FfnUpReferenceIdeal := fun m ρ _ =>
  (θ_run Cert.FfnUpReferenceIdeal.defs _ _).mono (fun r h => ⟨fun c => (h c).2, sem_eq_zero_of_no_sems (by decide) r.2⟩)
    (Cert.FfnUpReferenceIdeal.Up.run m ρ)

theorem algebraic : Cert.algebraic_FfnUpIdeal_FfnUpReferenceIdeal := by
  intro m g m' g' hpre hagree
  refine ⟨fun c => Cert.FfnUpIdeal.Up.G (m ((c.tc : Thread _ _).loc Cert.FfnUpIdeal.main_arg0)) (m ((c.tc : Thread _ _).loc Cert.FfnUpIdeal.main_arg1)) (m ((c.tc : Thread _ _).loc Cert.FfnUpIdeal.main_arg2)) (m ((c.tc : Thread _ _).loc Cert.FfnUpIdeal.main_arg3)), Cert.FfnUpIdeal.Up.run m g, ?_⟩
  refine (θ_run Cert.FfnUpReferenceIdeal.defs _ _).mono (fun _ h c => ⟨(h c).1.trans ?_, (h c).2⟩)
    (Cert.FfnUpReferenceIdeal.Up.run m' g')
  obtain ⟨e0, e1, e2, e3⟩ := hagree c
  rw [e0, e1, e2, e3]
  exact Cert.FfnUpReferenceIdeal.Up.out_eq _ _ _ _

/-- Everything claimed of the up projection. -/
theorem claims : Cert.quiescent_FfnUp ∧ Cert.quiescent_FfnUpIdeal ∧ Cert.quiescent_FfnUpReferenceIdeal
    ∧ Cert.preserves_FfnUp_FfnUpIdeal ∧ Cert.algebraic_FfnUpIdeal_FfnUpReferenceIdeal :=
  ⟨fun m ρ _ => Cert.FfnUp.Gen.frame m ρ, fun m ρ _ => Cert.FfnUpIdeal.Gen.frame m ρ, ref_quiescent, trivial, algebraic⟩

end Cert.Proof.Up

end
-- ==== Proof.DownTile.lean ====
/- The down projection with the final norm: the kernel's tile and its whole result, entry by entry. -/
module

public import proofs.«01_k».proof.Proof.Gen.FfnDownIdeal.Value
public import proofs.«01_k».proof.Proof.Rows
public import Idealize.ShloMosaic.Lib.Pipeline.ValueKit
public import Idealize.ShloMosaic.Lib.Pointwise
public import Idealize.ShloMosaic.Lib.StableHlo.Run

@[expose] public section

set_option maxRecDepth 16384

noncomputable section

namespace Cert.FfnDownIdeal.Down

open Cert.FfnDownIdeal Cert.FfnDownIdeal.Gen Idealize.ShloMosaic Idealize.ShloMosaic.TcCoe

/-- The row the norm is taken of: the layer's input plus the gated product. -/
def res (x gate : Fin 1024 → EReal) (a : Fin 3072 → EReal) (w : Fin 3072 → Fin 1024 → EReal) (l : Fin 1024) : EReal :=
  x l + gate l * ∑ k, a k * w k l

/-- The whole result, entry by entry. -/
def G (act : FVec Ideal S8192x3072 .bf16) (w : FVec Ideal S3072x1024 .f32) (x : FVec Ideal S8192x1024 .f32)
    (mod : FVec Ideal S16x6144 .f32) (fg : FVec Ideal S1024 .f32) : FVec Ideal S8192x1024 .f32 := fun i =>
  Rows.rms (res (fun c => x (ix2 (i 0) c))
      (fun c => mod (ix2 ⟨(i 0).val / 1024, by have : (i 0).val < 8192 := (i 0).isLt; omega⟩ ⟨5120 + c.val, by omega⟩))
      (fun k => act (ix2 (i 0) k)) (fun k c => w (ix2 k c)))
    (fun c => fg (ix1 c)) (i 1)

theorem out_apply (x0 : FVec Ideal S512x3072 .bf16) (x1 : FVec Ideal S3072x1024 .bf16) (x2 : FVec Ideal S512x1024 .f32)
    (x3 : FVec Ideal S1x1x6144 .f32) (x4 : FVec Ideal S1x1024 .f32) (r : Fin 512) (l : Fin 1024) :
    out0_5 (F := Ideal) x0 x1 x2 x3 x4 (ix2 r l)
      = Rows.rms (res (fun c => x2 (ix2 r c)) (fun c => x3 (ix3 0 0 ⟨5120 + c.val, by omega⟩)) (fun k => x0 (ix2 r k))
          (fun k c => x1 (ix2 k c))) (fun c => x4 (ix2 0 c)) l := by
  unfold out0_5
  canon_tiles x e
  idx_vars x
  pointwise [k0_pay1]
  obtain rfl : r = _ := Fin.ext e0
  obtain rfl : l = _ := Fin.ext e1
  rfl

variable (m : (ℓ : Loc nD τ sig) → Buf (Elt Ideal) ℓ)

theorem V_main_v0 (c : Dev nD) : V m c main_v0 = truncf (F := Ideal) (s := S3072x1024) .bf16 (m ((c.tc : Thread nD τ).loc main_arg1)) bitsLt_bf16_f32 := by
  show StableHlo.after hostOps0 _ (Proc.devRef .tc main_v0) = _
  after_results

theorem V_main_v1 (c : Dev nD) : V m c main_v1 = shapeCast S16x1x6144 (m ((c.tc : Thread nD τ).loc main_arg3)) shapeCasts_S16x6144_S16x1x6144 := by
  show StableHlo.after hostOps0 _ (Proc.devRef .tc main_v1) = _
  after_results
  rfl

theorem V_main_v2 (c : Dev nD) : V m c main_v2 = shapeCast S1x1024 (m ((c.tc : Thread nD τ).loc main_arg4)) shapeCasts_S1024_S1x1024 := by
  show StableHlo.after hostOps0 _ (Proc.devRef .tc main_v2) = _
  after_results
  rfl

theorem mod_apply (x : FVec Ideal S16x6144 .f32) (b : Fin 16) (l : Fin 6144) :
    shapeCast S16x1x6144 x shapeCasts_S16x6144_S16x1x6144 (ix3 b 0 l) = x (ix2 b l) := by pointwise

theorem gain_apply (x : FVec Ideal S1024 .f32) (l : Fin 1024) :
    shapeCast S1x1024 x shapeCasts_S1024_S1x1024 (ix2 0 l) = x (ix1 l) := by pointwise

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val / 2, 0, 0] := by decide +kernel
theorem idx4 : ∀ t : Fin cfg0.N, win0_4.index t = ![0, 0] := by decide +kernel
theorem idx5 : ∀ t : Fin cfg0.N, win0_5.index t = ![t.val, 0] := by decide +kernel

theorem blk0 (c : Dev nD) (t : Fin cfg0.N) (r : Fin 512) (l : Fin 3072) :
    iblk m c 0 t (ix2 r l) = m ((c.tc : Thread nD τ).loc main_arg0) (ix2 ⟨512 * t.val + r.val, by have : t.val < 16 := t.isLt; omega⟩ l) := by
  blk_simp [iblk, idx0]; rw [V_main_arg0]; refine congrArg _ ?_; blk_ext [idx0]

theorem blk1 (c : Dev nD) (t : Fin cfg0.N) (k : Fin 3072) (l : Fin 1024) :
    iblk m c 1 t (ix2 k l) = m ((c.tc : Thread nD τ).loc main_arg1) (ix2 k l) := by
  blk_simp [iblk, idx1]; rw [V_main_v0]; show m _ _ = _; refine congrArg _ ?_; blk_ext [idx1]

theorem blk2 (c : Dev nD) (t : Fin cfg0.N) (r : Fin 512) (l : Fin 1024) :
    iblk m c 2 t (ix2 r l) = m ((c.tc : Thread nD τ).loc main_arg2) (ix2 ⟨512 * t.val + r.val, by have : t.val < 16 := t.isLt; omega⟩ l) := by
  blk_simp [iblk, idx2]; rw [V_main_arg2]; refine congrArg _ ?_; blk_ext [idx2]

theorem blk3 (c : Dev nD) (t : Fin cfg0.N) (l : Fin 6144) :
    iblk m c 3 t (ix3 0 0 l) = m ((c.tc : Thread nD τ).loc main_arg3) (ix2 ⟨t.val / 2, by have : t.val < 16 := t.isLt; omega⟩ l) := by
  have ht : t.val < 16 := t.isLt
  blk_simp [iblk, idx3]; rw [V_main_v1]
  have he : (win0_3.blk t).view.emb (ix3 0 0 l) = ix3 (⟨t.val / 2, by omega⟩ : Fin 16) (0 : Fin 1) l := by
    blk_ext [idx3]
  rw [he]; exact mod_apply _ _ _

theorem blk4 (c : Dev nD) (t : Fin cfg0.N) (l : Fin 1024) :
    iblk m c 4 t (ix2 0 l) = m ((c.tc : Thread nD τ).loc main_arg4) (ix1 l) := by
  blk_simp [iblk, idx4]; rw [V_main_v2]
  have he : (win0_4.blk t).view.emb (ix2 0 l) = ix2 (0 : Fin 1) l := by
    blk_ext [idx4]
  rw [he]; exact gain_apply _ _

/-- The array after the run is the result at every index. -/
theorem arr_eq (c : Dev nD) :
    (dats m 0 c).arrAt 5 cfg0.N = G (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp; rw [after0_5]
  have h1 : (y 1).val < 1024 := (y 1).isLt
  have h0 : (y 0).val < 512 := (y 0).isLt
  have ht : t.val < 16 := t.isLt
  have hy : y = ix2 (⟨(y 0).val, h0⟩ : Fin 512) (⟨(y 1).val, h1⟩ : Fin 1024) := by
    funext i; fin_cases i <;> rfl
  have he : (win0_5.blk t).view.emb y = ix2 (⟨512 * t.val + (y 0).val, by omega⟩ : Fin 8192) (⟨(y 1).val, h1⟩ : Fin 1024) := by
    blk_ext [idx5]
  rw [he]
  refine ((congrArg (out0_5 _ _ _ _ _) hy).trans (out_apply (iblk m c 0 t) (iblk m c 1 t) (iblk m c 2 t) (iblk m c 3 t) (iblk m c 4 t) _ _)).trans ?_
  unfold G
  congr 1
  · congr 1
    · funext k; exact blk2 m c t _ _
    · funext k
      exact (blk3 m c t _).trans (congrArg _ (congrArg₂ ix2 (Fin.ext (by simp; omega)) rfl))
    · funext k; exact blk0 m c t _ _
    · funext k l; exact blk1 m c t _ _
  · funext k; exact blk4 m c t _

end Cert.FfnDownIdeal.Down

end
-- ==== Proof.DownRef.lean ====
/- The down projection's reference at an index of its result. -/
module

public import proofs.«01_k».proof.Proof.Gen.FfnDownReferenceIdeal.Run
public import proofs.«01_k».proof.Proof.DownTile

@[expose] public section

set_option maxRecDepth 16384

noncomputable section

namespace Cert.FfnDownReferenceIdeal.Down

open Cert.FfnDownReferenceIdeal Cert.FfnDownReferenceIdeal.Gen Idealize.ShloMosaic

section
variable {F : FTy → Type} [FloatOps F] (act : FVec F S8192x3072 .bf16) (w : FVec F S3072x1024 .f32)
  (x : FVec F S8192x1024 .f32) (mod : FVec F S16x6144 .f32) (fg : FVec F S1024 .f32)

/-- The layer's output before the final norm. -/
def sum2 : FVec F S8x1024x1024 .f32 :=
  addf (shapeCast _ x shapeCasts_S8192x1024_S8x1024x1024) (mulf (broadcastInDim S8x1024x1024 ![0, 1, 2] bcast_S8x1x1024_S8x1024x1024_0_1_2 (broadcastInDim S8x1x1024 ![0, 2] bcast_S8x1024_S8x1x1024_0_2 (extractStridedSlice S8x1024 ![0, 5120] (extractStridedSlice S8x6144 ![0, 0] mod slices_S16x6144_S8x6144_0_0) slices_S8x6144_S8x1024_0_5120))) (shapeCast _ (Host.dotGeneral dot_S8192x3072_S3072x1024_S8192x1024_1_0_0_1_n_n none (extf .f32 act bitsLt_bf16_f32) w) shapeCasts_S8192x1024_S8x1024x1024))

/-- The reference's result. -/
def out : FVec F S8192x1024 .f32 :=
  shapeCast _ (mulf (mulf (sum2 act w x mod) (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf (sum2 act w x mod) (sum2 act w x mod)) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 fg))) shapeCasts_S8x1024x1024_S8192x1024
end

/-- The reference's run, with its result the term above. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => h c) (Value.run m ρ)

variable (act : FVec Ideal S8192x3072 .bf16) (w : FVec Ideal S3072x1024 .f32)
  (x : FVec Ideal S8192x1024 .f32) (mod : FVec Ideal S16x6144 .f32) (fg : FVec Ideal S1024 .f32)

theorem sum2_apply (b : Fin 8) (r l : Fin 1024) :
    sum2 act w x mod (ix3 b r l)
      = Cert.FfnDownIdeal.Down.res (fun c => x (ix2 ⟨b.val * 1024 + r.val, by omega⟩ c)) (fun c => mod (ix2 ⟨b.val, by omega⟩ ⟨5120 + c.val, by omega⟩))
          (fun k => act (ix2 ⟨b.val * 1024 + r.val, by omega⟩ k)) (fun k c => w (ix2 k c)) l := by
  pointwise [sum2, Cert.FfnDownIdeal.Down.res]

/-- The reference's result is the kernel's. -/
theorem out_eq : out act w x mod fg = Cert.FfnDownIdeal.Down.G act w x mod fg := by
  funext i
  idx_vars i
  pointwise [out, sum2_apply, Cert.FfnDownIdeal.Down.G, Rows.rms, Rows.inv, Nat.div_add_mod', Fin.eta]

end Cert.FfnDownReferenceIdeal.Down

end
-- ==== Proof.DownClaim.lean ====
/- The down projection's claims: the programs run and keep their arguments, and their results are equal. -/
module

public import proofs.«01_k».proof.Defs
public import proofs.«01_k».proof.Proof.Gen.FfnDown.Frame
public import proofs.«01_k».proof.Proof.DownRef
public import Idealize.ShloMosaic.Adequacy
public import Idealize.ShloMosaic.Init

@[expose] public section

noncomputable section

namespace Cert.Proof.Down

open Idealize.ShloMosaic Idealize.SL.Sem

theorem ref_quiescent : Cert.quiescent_FfnDownReferenceIdeal := fun m ρ _ =>
  (θ_run Cert.FfnDownReferenceIdeal.defs _ _).mono (fun r h => ⟨fun c => (h c).2, sem_eq_zero_of_no_sems (by decide) r.2⟩)
    (Cert.FfnDownReferenceIdeal.Value.run m ρ)

theorem algebraic : Cert.algebraic_FfnDownIdeal_FfnDownReferenceIdeal := by
  intro m g m' g' hpre hagree
  refine ⟨fun c => Cert.FfnDownIdeal.Down.G (m ((c.tc : Thread _ _).loc Cert.FfnDownIdeal.main_arg0)) (m ((c.tc : Thread _ _).loc Cert.FfnDownIdeal.main_arg1)) (m ((c.tc : Thread _ _).loc Cert.FfnDownIdeal.main_arg2)) (m ((c.tc : Thread _ _).loc Cert.FfnDownIdeal.main_arg3)) (m ((c.tc : Thread _ _).loc Cert.FfnDownIdeal.main_arg4)), ?_, ?_⟩
  · exact (θ_run Cert.FfnDownIdeal.defs _ _).mono
      (fun _ h c => ⟨(h c).1.trans (Cert.FfnDownIdeal.Down.arr_eq m c), (h c).2⟩) (Cert.FfnDownIdeal.Value.run_blocks m g)
  · refine (θ_run Cert.FfnDownReferenceIdeal.defs _ _).mono (fun _ h c => ⟨(h c).1.trans ?_, (h c).2⟩) (Cert.FfnDownReferenceIdeal.Down.run m' g')
    obtain ⟨e0, e1, e2, e3, e4⟩ := hagree c
    rw [e0, e1, e2, e3, e4]
    exact Cert.FfnDownReferenceIdeal.Down.out_eq _ _ _ _ _

/-- Everything claimed of the down projection. -/
theorem claims : Cert.quiescent_FfnDown ∧ Cert.quiescent_FfnDownIdeal ∧ Cert.quiescent_FfnDownReferenceIdeal
    ∧ Cert.preserves_FfnDown_FfnDownIdeal ∧ Cert.algebraic_FfnDownIdeal_FfnDownReferenceIdeal :=
  ⟨fun m ρ _ => Cert.FfnDown.Gen.frame m ρ, fun m ρ _ => Cert.FfnDownIdeal.Gen.frame m ρ, ref_quiescent, trivial, algebraic⟩

end Cert.Proof.Down

end
-- ==== Proof.InpTile.lean ====
/- The input projection: the kernel's tile, entry by entry. -/
module

public import proofs.«01_k».proof.Proof.Gen.InprojIdeal.Frame
public import proofs.«01_k».proof.Proof.Rows
public import Idealize.ShloMosaic.Lib.Pipeline.ValueKit
public import Idealize.ShloMosaic.Lib.Pointwise
public import Idealize.ShloMosaic.Lib.StableHlo.Run

@[expose] public section

set_option maxRecDepth 16384

noncomputable section

namespace Cert.InprojIdeal.Inp

open Cert.InprojIdeal Cert.InprojIdeal.Gen Idealize.ShloMosaic Idealize.ShloMosaic.TcCoe

/-- The normed and modulated row: shift at 0, scale at 1024. -/
def hrow (x gn : Fin 1024 → EReal) (md : Fin 6144 → EReal) (l : Fin 1024) : EReal :=
  Rows.rms x gn l * (Ideal.ofBits .f32 0x3F800000#32 + md ⟨1024 + l.val, by omega⟩) + md ⟨l.val, by omega⟩

/-- One column of the projection. -/
def proj (h : Fin 1024 → EReal) (w : Fin 1024 → Fin 7680 → EReal) (l : Fin 7680) : EReal := ∑ k, h k * w k l

/-- The approximate gelu. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- Two heads' norm, their mean squares taken by a product with `gm`. -/
def headTile (y : Fin 128 → EReal) (gm : Fin 128 → Fin 128 → EReal) (g : Fin 128 → EReal) (j : Fin 128) : EReal :=
  y j * Ideal.rsqrt ((∑ i, y i * y i * gm i j) + Ideal.ofBits .f32 897988541#32) * g j

section
variable (x0 : FVec Ideal S512x1024 .f32) (x1 : FVec Ideal S1x1x6144 .f32) (x2 : FVec Ideal S1x1024 .f32)
  (x3 : FVec Ideal S1024x7680 .bf16) (x4 : FVec Ideal S1x3072 .f32) (x5 x6 : FVec Ideal S1x128 .f32)
  (x7 : FVec Ideal S128x128 .bf16)

/-- A row of the tile's normed input. -/
def tileH (r : Fin 512) : Fin 1024 → EReal :=
  hrow (fun l => x0 (ix2 r l)) (fun l => x2 (ix2 0 l)) (fun l => x1 (ix3 0 0 l))

/-- An entry of the tile's projection. -/
def tileP (r : Fin 512) (l : Fin 7680) : EReal := proj (tileH x0 x1 x2 r) (fun k l => x3 (ix2 k l)) l

theorem pay4_apply (r : Fin 512) (l : Fin 1024) :
    k0_pay4 (F := Ideal) (View.ld x1 r0_0) (View.ld x0 r0_1) (View.ld x2 r0_2) (ix2 r l) = tileH x0 x1 x2 r l := by
  pointwise [k0_pay4, tileH, hrow, Rows.rms, Rows.inv]

theorem pay34_apply (r : Fin 512) (l : Fin 1024) :
    k0_pay34 (F := Ideal) x0 x1 x2 x3 x4 x5 x6 x7 (ix2 r l) = tileH x0 x1 x2 r l := pay4_apply x0 x1 x2 r l

theorem pay6_apply (r : Fin 512) (l : Fin 1024) :
    k0_pay6 (F := Ideal) (View.ld x1 r0_0) (View.ld x0 r0_1) (View.ld x2 r0_2) (View.ld x3 r0_4) (ix2 r l)
      = tileP x0 x1 x2 x3 r ⟨1024 + l.val, by omega⟩ := by
  pointwise [k0_pay6, pay4_apply, tileP, proj]

theorem pay9_apply (r : Fin 512) (l : Fin 1024) :
    k0_pay9 (F := Ideal) (k0_pay34 x0 x1 x2 x3 x4 x5 x6 x7) (View.ld x3 r0_5) (ix2 r l) = tileP x0 x1 x2 x3 r ⟨2048 + l.val, by omega⟩ := by
  pointwise [k0_pay9, pay34_apply, tileP, proj]

theorem pay35_apply (r : Fin 512) (l : Fin 1024) :
    k0_pay35 (F := Ideal) x0 x1 x2 x3 x4 x5 x6 x7 (ix2 r l) = tileP x0 x1 x2 x3 r ⟨2048 + l.val, by omega⟩ := pay9_apply x0 x1 x2 x3 x4 x5 x6 x7 r l

theorem pay25_apply (r : Fin 512) (l : Fin 256) :
    k0_pay25 (F := Ideal) (k0_pay34 x0 x1 x2 x3 x4 x5 x6 x7) (View.ld x3 r0_16) (ix2 r l) = tileP x0 x1 x2 x3 r ⟨3072 + l.val, by omega⟩ := by
  pointwise [k0_pay25, pay34_apply, tileP, proj]

theorem out8_apply (r : Fin 512) (l : Fin 1024) :
    out0_8 (F := Ideal) x0 x1 x2 x3 x4 x5 x6 x7 (ix2 r l) = tileP x0 x1 x2 x3 r ⟨l.val, by omega⟩ := by
  unfold out0_8
  canon_tiles x e
  idx_vars x
  obtain rfl : r = _ := Fin.ext e0
  obtain rfl : l = _ := Fin.ext e1
  pointwise [k0_pay5, pay4_apply, tileP, proj]

theorem out9_apply (r : Fin 512) (l : Fin 1024) :
    out0_9 (F := Ideal) x0 x1 x2 x3 x4 x5 x6 x7 (ix2 r l) = gelu (tileP x0 x1 x2 x3 r ⟨1024 + l.val, by omega⟩) := by
  unfold out0_9
  canon_tiles x e
  idx_vars x
  obtain rfl : r = _ := Fin.ext e0
  obtain rfl : l = _ := Fin.ext e1
  pointwise [k0_pay8, k0_pay7, pay6_apply, gelu]

theorem out12_apply (r : Fin 512) (l : Fin 256) :
    out0_12 (F := Ideal) x0 x1 x2 x3 x4 x5 x6 x7 (ix2 r l) = tileP x0 x1 x2 x3 r ⟨3328 + l.val, by omega⟩ := by
  unfold out0_12
  canon_tiles x e
  idx_vars x
  obtain rfl : r = _ := Fin.ext e0
  obtain rfl : l = _ := Fin.ext e1
  pointwise [k0_pay32, pay34_apply, tileP, proj]

theorem out13_apply (r : Fin 512) (l : Fin 1024) :
    out0_13 (F := Ideal) x0 x1 x2 x3 x4 x5 x6 x7 (ix2 r l) = tileP x0 x1 x2 x3 r ⟨3584 + l.val, by omega⟩ := by
  unfold out0_13
  canon_tiles x e
  idx_vars x
  obtain rfl : r = _ := Fin.ext e0
  obtain rfl : l = _ := Fin.ext e1
  pointwise [k0_pay33, pay34_apply, tileP, proj]

theorem out14_apply (r : Fin 512) (g : Fin 3) (l : Fin 1024) :
    out0_14 (F := Ideal) x0 x1 x2 x3 x4 x5 x6 x7 (ix2 r ⟨1024 * g.val + l.val, by omega⟩)
      = Ideal.logistic (tileP x0 x1 x2 x3 r ⟨4608 + (1024 * g.val + l.val), by omega⟩ + x4 (ix2 0 ⟨1024 * g.val + l.val, by omega⟩)) := by
  unfold out0_14
  canon_tiles x e
  all_goals
    idx_vars x
    obtain rfl : r = _ := Fin.ext e0
    obtain rfl : l = x1 := Fin.ext (by omega)
    have hc := Nat.add_sub_cancel (n := 1024 * g.val) (m := l.val)
    rw [e1] at hc
    simp only [Nat.add_sub_cancel, Nat.sub_self] at hc
    pointwise [k0_pay1, k0_pay2, k0_pay3, pay34_apply, tileP, proj, ← hc, Nat.zero_add]
  all_goals simp only [← Nat.add_assoc, Nat.reduceAdd]

theorem out10_apply (r : Fin 512) (b : Fin 8) (j : Fin 128) :
    out0_10 (F := Ideal) x0 x1 x2 x3 x4 x5 x6 x7 (ix2 r ⟨128 * b.val + j.val, by omega⟩)
      = headTile (fun i => tileP x0 x1 x2 x3 r ⟨2048 + (128 * b.val + i.val), by omega⟩) (fun i j => x7 (ix2 i j)) (fun j => x5 (ix2 0 j)) j := by
  unfold out0_10
  canon_tiles x e
  all_goals
    idx_vars x
    obtain rfl : r = _ := Fin.ext e0
    obtain rfl : j = x1 := Fin.ext (by omega)
    have hc := Nat.add_sub_cancel (n := 128 * b.val) (m := j.val)
    rw [e1] at hc
    simp only [Nat.add_sub_cancel, Nat.sub_self] at hc
    pointwise [k0_pay10, k0_pay11, k0_pay12, k0_pay13, k0_pay14, k0_pay15, k0_pay16, k0_pay17, k0_pay18, k0_pay19, k0_pay20, k0_pay21, k0_pay22, k0_pay23, k0_pay24, pay9_apply, pay35_apply, headTile, ← hc, Nat.zero_add]

theorem out11_apply (r : Fin 512) (b : Fin 2) (j : Fin 128) :
    out0_11 (F := Ideal) x0 x1 x2 x3 x4 x5 x6 x7 (ix2 r ⟨128 * b.val + j.val, by omega⟩)
      = headTile (fun i => tileP x0 x1 x2 x3 r ⟨3072 + (128 * b.val + i.val), by omega⟩) (fun i j => x7 (ix2 i j)) (fun j => x6 (ix2 0 j)) j := by
  unfold out0_11
  canon_tiles x e
  all_goals
    idx_vars x
    obtain rfl : r = _ := Fin.ext e0
    obtain rfl : j = x1 := Fin.ext (by omega)
    have hc := Nat.add_sub_cancel (n := 128 * b.val) (m := j.val)
    rw [e1] at hc
    simp only [Nat.add_sub_cancel, Nat.sub_self] at hc
    pointwise [k0_pay26, k0_pay27, k0_pay28, k0_pay29, k0_pay30, k0_pay31, pay25_apply, headTile, ← hc, Nat.zero_add]

end

end Cert.InprojIdeal.Inp

end
-- ==== Proof.InpValue.lean ====
/- The input projection's result arrays, entry by entry. -/
module

public import proofs.«01_k».proof.Proof.Gen.InprojIdeal.Value
public import proofs.«01_k».proof.Proof.InpTile
public import proofs.«01_k».proof.Proof.EExt

@[expose] public section

set_option maxRecDepth 16384

noncomputable section

namespace Cert.InprojIdeal.Inp

open Cert.InprojIdeal Cert.InprojIdeal.Gen Idealize.ShloMosaic Idealize.ShloMosaic.TcCoe

/-- One head's root-mean-square norm, over 64 lanes. -/
def headNorm (y g : Fin 64 → EReal) (j : Fin 64) : EReal :=
  y j * Ideal.rsqrt (Ideal.div (∑ k, y k * y k) (Ideal.ofBits .f32 0x42800000#32) + Ideal.ofBits .f32 0x358637BD#32) * g j

/-- Dividing by 64 is multiplying by the pattern of 1/64. -/
theorem div_64 (x : EReal) : Ideal.div x (Ideal.ofBits .f32 0x42800000#32) = x * Ideal.ofBits .f32 0x3C800000#32 := by
  have h1 : Ideal.ofBits .f32 0x42800000#32 = ((64 : ℝ) : EReal) := by
    simp [Ideal.ofBits, Ideal.ieee]; norm_num [← EReal.coe_mul]
  have h2 : Ideal.ofBits .f32 0x3C800000#32 = ((64⁻¹ : ℝ) : EReal) := by
    simp [Ideal.ofBits, Ideal.ieee]; norm_num [← EReal.coe_mul]
  rw [h1, h2, EExt.div_coe _ (by norm_num)]

theorem c64 : 0 ≤ Ideal.ofBits .f32 0x3C800000#32 ∧ Ideal.ofBits .f32 0x3C800000#32 ≠ ⊤ := by
  have h2 : Ideal.ofBits .f32 0x3C800000#32 = ((64⁻¹ : ℝ) : EReal) := by
    simp [Ideal.ofBits, Ideal.ieee]; norm_num [← EReal.coe_mul]
  rw [h2]
  exact ⟨by exact_mod_cast (by norm_num : (0:ℝ) ≤ 64⁻¹), EReal.coe_ne_top _⟩

/-- The product with the block-diagonal matrix is the mean over the lane's own head. -/
theorem sum_gm (y : Fin 128 → EReal) (gm : Fin 128 → Fin 128 → EReal)
    (hgm : ∀ i j, gm i j = (if i.val / 64 = j.val / 64 then 1 else 0) * Ideal.ofBits .f32 0x3C800000#32) (j : Fin 128) :
    ∑ i, y i * y i * gm i j = Ideal.div (∑ k : Fin 64, y ⟨j.val / 64 * 64 + k.val, by omega⟩ * y ⟨j.val / 64 * 64 + k.val, by omega⟩)
      (Ideal.ofBits .f32 0x42800000#32) := by
  rw [div_64, EExt.sum_mul _ _ c64.1 c64.2]
  rw [show (∑ i, y i * y i * gm i j) = _ from Fin.sum_univ_add (a := 64) (b := 64) (fun i : Fin (64 + 64) => y i * y i * gm i j)]
  have h : j.val / 64 = 0 ∨ j.val / 64 = 1 := by omega
  have ha : ∀ k : Fin 64, k.val / 64 = 0 := fun k => by omega
  have hb : ∀ k : Fin 64, (64 + k.val) / 64 = 1 := fun k => by omega
  rcases h with h | h
  · simp only [hgm, h, Fin.val_castAdd, Fin.val_natAdd, ha, hb, if_true, one_mul, zero_mul, mul_zero, Nat.one_ne_zero, if_false, Finset.sum_const_zero, add_zero, Nat.zero_add]
    rfl
  · simp only [hgm, h, Fin.val_castAdd, Fin.val_natAdd, ha, hb, if_true, one_mul, zero_mul, mul_zero, Nat.zero_ne_one, if_false, Finset.sum_const_zero, zero_add, Nat.one_mul]
    rfl

theorem headTile_eq (y : Fin 128 → EReal) (gm : Fin 128 → Fin 128 → EReal) (g : Fin 64 → EReal)
    (hgm : ∀ i j, gm i j = (if i.val / 64 = j.val / 64 then 1 else 0) * Ideal.ofBits .f32 0x3C800000#32) (j : Fin 128) :
    headTile y gm (fun j => g ⟨j.val % 64, by omega⟩) j
      = headNorm (fun k => y ⟨j.val / 64 * 64 + k.val, by omega⟩) g ⟨j.val % 64, by omega⟩ := by
  unfold headTile headNorm
  rw [sum_gm y gm hgm]
  refine congrArg₂ _ (congrArg₂ _ (congrArg y (Fin.ext ?_)) rfl) rfl
  show j.val = j.val / 64 * 64 + j.val % 64
  omega

section
variable (x : FVec Ideal S4096x1024 .f32) (mod : FVec Ideal S16x6144 .f32) (n1g : FVec Ideal S1024 .f32)
  (w : FVec Ideal S1024x7680 .f32) (bg : FVec Ideal S3072 .f32) (qg kg : FVec Ideal S64 .f32)

/-- An entry of the projection. -/
def rowP (i : Fin 4096) (l : Fin 7680) : EReal :=
  proj (hrow (fun l => x (ix2 i l)) (fun l => n1g (ix1 l)) (fun l => mod (ix2 8 l))) (fun k l => w (ix2 k l)) l

/-- The recurrent branch's input. -/
def G8 : FVec Ideal S4096x1024 .bf16 := fun i => rowP x mod n1g w (i 0) ⟨(i 1).val, by have : (i 1).val < 1024 := (i 1).isLt; omega⟩
/-- The recurrent branch's gate. -/
def G9 : FVec Ideal S4096x1024 .bf16 := fun i => gelu (rowP x mod n1g w (i 0) ⟨1024 + (i 1).val, by have : (i 1).val < 1024 := (i 1).isLt; omega⟩)
/-- The queries. -/
def G10 : FVec Ideal S4096x1024 .bf16 := fun i =>
  headNorm (fun k => rowP x mod n1g w (i 0) ⟨2048 + ((i 1).val / 64 * 64 + k.val), by have : (i 1).val < 1024 := (i 1).isLt; omega⟩)
    (fun j => qg (ix1 j)) ⟨(i 1).val % 64, by omega⟩
/-- The keys. -/
def G11 : FVec Ideal S4096x256 .f32 := fun i =>
  headNorm (fun k => rowP x mod n1g w (i 0) ⟨3072 + ((i 1).val / 64 * 64 + k.val), by have : (i 1).val < 256 := (i 1).isLt; omega⟩)
    (fun j => kg (ix1 j)) ⟨(i 1).val % 64, by omega⟩
/-- The values. -/
def G12 : FVec Ideal S4096x256 .f32 := fun i => rowP x mod n1g w (i 0) ⟨3328 + (i 1).val, by have : (i 1).val < 256 := (i 1).isLt; omega⟩
/-- The pooled branch's input. -/
def G13 : FVec Ideal S4096x1024 .bf16 := fun i => rowP x mod n1g w (i 0) ⟨3584 + (i 1).val, by have : (i 1).val < 1024 := (i 1).isLt; omega⟩
/-- The branches' gates. -/
def G14 : FVec Ideal S4096x3072 .bf16 := fun i =>
  Ideal.logistic (rowP x mod n1g w (i 0) ⟨4608 + (i 1).val, by have : (i 1).val < 3072 := (i 1).isLt; omega⟩ + bg (ix1 (i 1)))
end

/-! ## The host's layouts, on any array -/

theorem mod_apply (x : FVec Ideal S16x6144 .f32) (b : Fin 16) (l : Fin 6144) :
    shapeCast S16x1x6144 x shapeCasts_S16x6144_S16x1x6144 (ix3 b 0 l) = x (ix2 b l) := by pointwise

theorem gain_apply (x : FVec Ideal S1024 .f32) (l : Fin 1024) :
    shapeCast S1x1024 x shapeCasts_S1024_S1x1024 (ix2 0 l) = x (ix1 l) := by pointwise

theorem bias_apply (x : FVec Ideal S3072 .f32) (l : Fin 3072) :
    shapeCast S1x3072 x shapeCasts_S3072_S1x3072 (ix2 0 l) = x (ix1 l) := by pointwise

/-- A head's gain, twice. -/
def twice (x : FVec Ideal S64 .f32) : FVec Ideal S1x128 .f32 :=
  shapeCast S1x128 (shapeCast S128 (broadcastInDim S2x64 ![0, 1] bcast_S1x64_S2x64_0_1 (shapeCast S1x64 x shapeCasts_S64_S1x64)) shapeCasts_S2x64_S128) shapeCasts_S128_S1x128

theorem twice_apply (x : FVec Ideal S64 .f32) (l : Fin 128) : twice x (ix2 0 l) = x (ix1 ⟨l.val % 64, by omega⟩) := by
  pointwise [twice]

/-- The two by two unit matrix. -/
def eye : FVec Ideal S2x2 .f32 :=
  uitofp (F := Ideal) .f32 (cmpi .eq (addi (iotaInDim S2x2 32 0) (broadcastInDim S2x2 ![] bcast_S_S2x2 (constantI S_ 32 0#32))) (iotaInDim S2x2 32 1))

theorem eye_apply (a b : Fin 2) : eye (ix2 a b) = if a.val = b.val then 1 else 0 := by
  fin_cases a <;> fin_cases b <;> pointwise [eye] <;> simp [FloatOps.uitofp, IntOp.cmpi, IntOp.addi]

/-- A two by two matrix times the constant, as blocks of 64. -/
def kron (e : FVec Ideal S2x2 .f32) : FVec Ideal S128x128 .bf16 :=
  truncf .bf16 (shapeCast S128x128 (mulf (broadcastInDim S2x64x2x64 ![0, 1, 2, 3] bcast_S2x1x2x1_S2x64x2x64_0_1_2_3 (broadcastInDim S2x1x2x1 ![0, 2] bcast_S2x2_S2x1x2x1_0_2 e))
    (broadcastInDim S2x64x2x64 ![0, 1, 2, 3] bcast_S1x64x1x64_S2x64x2x64_0_1_2_3 (broadcastInDim S1x64x1x64 ![1, 3] bcast_S64x64_S1x64x1x64_1_3 (broadcastInDim S64x64 ![] bcast_S_S64x64 (constant S_ .f32 0x3C800000#32))))) shapeCasts_S2x64x2x64_S128x128) bitsLt_bf16_f32

theorem kron_apply (e : FVec Ideal S2x2 .f32) (i j : Fin 128) :
    kron e (ix2 i j) = e (ix2 ⟨i.val / 64, by omega⟩ ⟨j.val / 64, by omega⟩) * Ideal.ofBits .f32 0x3C800000#32 := by
  pointwise [kron]

variable (m : (ℓ : Loc nD τ sig) → Buf (Elt Ideal) ℓ)

theorem V_main_v8 (c : Dev nD) : V m c main_v8 = kron eye := by
  show StableHlo.after [hostOps0, hostOps0_1, hostOps0_2].flatten _ (Proc.devRef .tc main_v8) = _
  simp only [List.flatten_cons, List.flatten_nil, List.append_nil, List.cons_append, List.nil_append]
  after_results
  rfl

theorem V_main_v12 (c : Dev nD) : V m c main_v12 = twice (m ((c.tc : Thread nD τ).loc main_arg5)) := by
  show StableHlo.after [hostOps0, hostOps0_1, hostOps0_2].flatten _ (Proc.devRef .tc main_v12) = _
  simp only [List.flatten_cons, List.flatten_nil, List.append_nil, List.cons_append, List.nil_append]
  after_results
  rfl

theorem V_main_v16 (c : Dev nD) : V m c main_v16 = twice (m ((c.tc : Thread nD τ).loc main_arg6)) := by
  show StableHlo.after [hostOps0, hostOps0_1, hostOps0_2].flatten _ (Proc.devRef .tc main_v16) = _
  simp only [List.flatten_cons, List.flatten_nil, List.append_nil, List.cons_append, List.nil_append]
  after_results
  rfl

theorem V_main_v17 (c : Dev nD) : V m c main_v17 = shapeCast S16x1x6144 (m ((c.tc : Thread nD τ).loc main_arg1)) shapeCasts_S16x6144_S16x1x6144 := by
  show StableHlo.after [hostOps0, hostOps0_1, hostOps0_2].flatten _ (Proc.devRef .tc main_v17) = _
  simp only [List.flatten_cons, List.flatten_nil, List.append_nil, List.cons_append, List.nil_append]
  after_results
  rfl

theorem V_main_v18 (c : Dev nD) : V m c main_v18 = shapeCast S1x1024 (m ((c.tc : Thread nD τ).loc main_arg2)) shapeCasts_S1024_S1x1024 := by
  show StableHlo.after [hostOps0, hostOps0_1, hostOps0_2].flatten _ (Proc.devRef .tc main_v18) = _
  simp only [List.flatten_cons, List.flatten_nil, List.append_nil, List.cons_append, List.nil_append]
  after_results
  rfl

theorem V_main_v19 (c : Dev nD) : V m c main_v19 = truncf (F := Ideal) (s := S1024x7680) .bf16 (m ((c.tc : Thread nD τ).loc main_arg3)) bitsLt_bf16_f32 := by
  show StableHlo.after [hostOps0, hostOps0_1, hostOps0_2].flatten _ (Proc.devRef .tc main_v19) = _
  simp only [List.flatten_cons, List.flatten_nil, List.append_nil, List.cons_append, List.nil_append]
  after_results

theorem V_main_v20 (c : Dev nD) : V m c main_v20 = shapeCast S1x3072 (m ((c.tc : Thread nD τ).loc main_arg4)) shapeCasts_S3072_S1x3072 := by
  show StableHlo.after [hostOps0, hostOps0_1, hostOps0_2].flatten _ (Proc.devRef .tc main_v20) = _
  simp only [List.flatten_cons, List.flatten_nil, List.append_nil, List.cons_append, List.nil_append]
  after_results
  rfl

theorem idx0 : ∀ t : Fin cfg0.N, win0_0.index t = ![t.val, 0] := by decide +kernel
theorem idx1 : ∀ t : Fin cfg0.N, win0_1.index t = ![8, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![t.val, 0] := by decide +kernel
theorem idx13 : ∀ t : Fin cfg0.N, win0_13.index t = ![t.val, 0] := by decide +kernel
theorem idx14 : ∀ t : Fin cfg0.N, win0_14.index t = ![t.val, 0] := by decide +kernel

theorem blk0 (c : Dev nD) (t : Fin cfg0.N) (r : Fin 512) (l : Fin 1024) :
    iblk m c 0 t (ix2 r l) = (m ((c.tc : Thread nD τ).loc main_arg0)) (ix2 ⟨512 * t.val + r.val, by have : t.val < 8 := t.isLt; omega⟩ l) := by
  blk_simp [iblk, idx0]; rw [V_main_arg0]; refine congrArg _ ?_; blk_ext [idx0]

theorem blk1 (c : Dev nD) (t : Fin cfg0.N) (l : Fin 6144) : iblk m c 1 t (ix3 0 0 l) = (m ((c.tc : Thread nD τ).loc main_arg1)) (ix2 8 l) := by
  blk_simp [iblk, idx1]; rw [V_main_v17]
  have he : (win0_1.blk t).view.emb (ix3 0 0 l) = ix3 (8 : Fin 16) (0 : Fin 1) l := by
    blk_ext [idx1]
  rw [he]; exact mod_apply _ _ _

theorem blk3 (c : Dev nD) (t : Fin cfg0.N) (k : Fin 1024) (l : Fin 7680) : iblk m c 3 t (ix2 k l) = (m ((c.tc : Thread nD τ).loc main_arg3)) (ix2 k l) := by
  blk_simp [iblk, idx3]; rw [V_main_v19]; show m _ _ = _; refine congrArg _ ?_; blk_ext [idx3]

theorem blk2 (c : Dev nD) (t : Fin cfg0.N) (l : Fin 1024) : iblk m c 2 t (ix2 0 l) = (m ((c.tc : Thread nD τ).loc main_arg2)) (ix1 l) := by
  blk_simp [iblk, idx2]; rw [V_main_v18]
  have he : (win0_2.blk t).view.emb (ix2 0 l) = ix2 (0 : Fin 1) l := by
    blk_ext [idx2]
  rw [he]; exact gain_apply _ _

theorem blk4 (c : Dev nD) (t : Fin cfg0.N) (l : Fin 3072) : iblk m c 4 t (ix2 0 l) = (m ((c.tc : Thread nD τ).loc main_arg4)) (ix1 l) := by
  blk_simp [iblk, idx4]; rw [V_main_v20]
  have he : (win0_4.blk t).view.emb (ix2 0 l) = ix2 (0 : Fin 1) l := by
    blk_ext [idx4]
  rw [he]; exact bias_apply _ _

theorem blk5 (c : Dev nD) (t : Fin cfg0.N) (l : Fin 128) : iblk m c 5 t (ix2 0 l) = (m ((c.tc : Thread nD τ).loc main_arg5)) (ix1 ⟨l.val % 64, by omega⟩) := by
  blk_simp [iblk, idx5]; rw [V_main_v12]
  have he : (win0_5.blk t).view.emb (ix2 0 l) = ix2 (0 : Fin 1) l := by
    blk_ext [idx5]
  rw [he]; exact twice_apply _ _

theorem blk6 (c : Dev nD) (t : Fin cfg0.N) (l : Fin 128) : iblk m c 6 t (ix2 0 l) = (m ((c.tc : Thread nD τ).loc main_arg6)) (ix1 ⟨l.val % 64, by omega⟩) := by
  blk_simp [iblk, idx6]; rw [V_main_v16]
  have he : (win0_6.blk t).view.emb (ix2 0 l) = ix2 (0 : Fin 1) l := by
    blk_ext [idx6]
  rw [he]; exact twice_apply _ _

theorem blk7 (c : Dev nD) (t : Fin cfg0.N) (i j : Fin 128) :
    iblk m c 7 t (ix2 i j) = (if i.val / 64 = j.val / 64 then 1 else 0) * Ideal.ofBits .f32 0x3C800000#32 := by
  blk_simp [iblk, idx7]; rw [V_main_v8]
  have he : (win0_7.blk t).view.emb (ix2 i j) = ix2 i j := by
    blk_ext [idx7]
  rw [he]; exact (kron_apply _ _ _).trans (congrArg (· * _) (eye_apply _ _))

/-- An entry of a tile's projection is the array's. -/
theorem tile_row (c : Dev nD) (t : Fin cfg0.N) (r : Fin 512) :
    tileP (iblk m c 0 t) (iblk m c 1 t) (iblk m c 2 t) (iblk m c 3 t) r
      = rowP (m ((c.tc : Thread nD τ).loc main_arg0)) (m ((c.tc : Thread nD τ).loc main_arg1)) (m ((c.tc : Thread nD τ).loc main_arg2)) (m ((c.tc : Thread nD τ).loc main_arg3)) ⟨512 * t.val + r.val, by have : t.val < 8 := t.isLt; omega⟩ := by
  funext l
  unfold tileP rowP tileH
  congr 1
  · congr 1
    · funext l; exact blk0 m c t _ _
    · funext l; exact blk2 m c t _
    · funext l; exact blk1 m c t _
  · funext k l; exact blk3 m c t _ _

theorem arr8_eq (c : Dev nD) :
    (dats m 0 c).arrAt 8 cfg0.N = G8 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 8 _ (by decide +kernel) fun t hf y => ?_
  blk_simp; rw [after0_8]
  have h1 : (y 1).val < 1024 := (y 1).isLt
  have h0 : (y 0).val < 512 := (y 0).isLt
  have ht : t.val < 8 := t.isLt
  have hy : y = ix2 (⟨(y 0).val, h0⟩ : Fin 512) (⟨(y 1).val, h1⟩ : Fin 1024) := by
    funext i; fin_cases i <;> rfl
  have he : (win0_8.blk t).view.emb y = ix2 (⟨512 * t.val + (y 0).val, by omega⟩ : Fin 4096) (⟨(y 1).val, h1⟩ : Fin 1024) := by
    blk_ext [idx8]
  rw [he]
  refine ((congrArg (out0_8 _ _ _ _ _ _ _ _) hy).trans (out8_apply (iblk m c 0 t) (iblk m c 1 t) (iblk m c 2 t) (iblk m c 3 t) (iblk m c 4 t) (iblk m c 5 t) (iblk m c 6 t) (iblk m c 7 t) _ _)).trans ?_
  rw [tile_row]; rfl

theorem arr9_eq (c : Dev nD) :
    (dats m 0 c).arrAt 9 cfg0.N = G9 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 9 _ (by decide +kernel) fun t hf y => ?_
  blk_simp; rw [after0_9]
  have h1 : (y 1).val < 1024 := (y 1).isLt
  have h0 : (y 0).val < 512 := (y 0).isLt
  have ht : t.val < 8 := t.isLt
  have hy : y = ix2 (⟨(y 0).val, h0⟩ : Fin 512) (⟨(y 1).val, h1⟩ : Fin 1024) := by
    funext i; fin_cases i <;> rfl
  have he : (win0_9.blk t).view.emb y = ix2 (⟨512 * t.val + (y 0).val, by omega⟩ : Fin 4096) (⟨(y 1).val, h1⟩ : Fin 1024) := by
    blk_ext [idx9]
  rw [he]
  refine ((congrArg (out0_9 _ _ _ _ _ _ _ _) hy).trans (out9_apply (iblk m c 0 t) (iblk m c 1 t) (iblk m c 2 t) (iblk m c 3 t) (iblk m c 4 t) (iblk m c 5 t) (iblk m c 6 t) (iblk m c 7 t) _ _)).trans ?_
  rw [tile_row]; rfl

theorem arr12_eq (c : Dev nD) :
    (dats m 0 c).arrAt 12 cfg0.N = G12 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 12 _ (by decide +kernel) fun t hf y => ?_
  blk_simp; rw [after0_12]
  have h1 : (y 1).val < 256 := (y 1).isLt
  have h0 : (y 0).val < 512 := (y 0).isLt
  have ht : t.val < 8 := t.isLt
  have hy : y = ix2 (⟨(y 0).val, h0⟩ : Fin 512) (⟨(y 1).val, h1⟩ : Fin 256) := by
    funext i; fin_cases i <;> rfl
  have he : (win0_12.blk t).view.emb y = ix2 (⟨512 * t.val + (y 0).val, by omega⟩ : Fin 4096) (⟨(y 1).val, h1⟩ : Fin 256) := by
    blk_ext [idx12]
  rw [he]
  refine ((congrArg (out0_12 _ _ _ _ _ _ _ _) hy).trans (out12_apply (iblk m c 0 t) (iblk m c 1 t) (iblk m c 2 t) (iblk m c 3 t) (iblk m c 4 t) (iblk m c 5 t) (iblk m c 6 t) (iblk m c 7 t) _ _)).trans ?_
  rw [tile_row]; rfl

theorem arr13_eq (c : Dev nD) :
    (dats m 0 c).arrAt 13 cfg0.N = G13 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 13 _ (by decide +kernel) fun t hf y => ?_
  blk_simp; rw [after0_13]
  have h1 : (y 1).val < 1024 := (y 1).isLt
  have h0 : (y 0).val < 512 := (y 0).isLt
  have ht : t.val < 8 := t.isLt
  have hy : y = ix2 (⟨(y 0).val, h0⟩ : Fin 512) (⟨(y 1).val, h1⟩ : Fin 1024) := by
    funext i; fin_cases i <;> rfl
  have he : (win0_13.blk t).view.emb y = ix2 (⟨512 * t.val + (y 0).val, by omega⟩ : Fin 4096) (⟨(y 1).val, h1⟩ : Fin 1024) := by
    blk_ext [idx13]
  rw [he]
  refine ((congrArg (out0_13 _ _ _ _ _ _ _ _) hy).trans (out13_apply (iblk m c 0 t) (iblk m c 1 t) (iblk m c 2 t) (iblk m c 3 t) (iblk m c 4 t) (iblk m c 5 t) (iblk m c 6 t) (iblk m c 7 t) _ _)).trans ?_
  rw [tile_row]; rfl

theorem arr10_eq (c : Dev nD) :
    (dats m 0 c).arrAt 10 cfg0.N = G10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  refine (dats m 0 c).arrAt_eq_of_covers 10 _ (by decide +kernel) fun t hf y => ?_
  blk_simp; rw [after0_10]
  have h1 : (y 1).val < 1024 := (y 1).isLt
  have h0 : (y 0).val < 512 := (y 0).isLt
  have ht : t.val < 8 := t.isLt
  have hy : y = ix2 (⟨(y 0).val, h0⟩ : Fin 512) (⟨(y 1).val, h1⟩ : Fin 1024) := by
    funext i; fin_cases i <;> rfl
  have he : (win0_10.blk t).view.emb y = ix2 (⟨512 * t.val + (y 0).val, by omega⟩ : Fin 4096) (⟨(y 1).val, h1⟩ : Fin 1024) := by
    blk_ext [idx10]
  rw [he]
  have hy' : (ix2 (⟨(y 0).val, h0⟩ : Fin 512) (⟨(y 1).val, h1⟩ : Fin 1024) : S512x1024.Idx)
      = ix2 ⟨(y 0).val, h0⟩ ⟨128 * (⟨(y 1).val / 128, by omega⟩ : Fin 8).val + (⟨(y 1).val % 128, by omega⟩ : Fin 128).val, by dsimp only; omega⟩ :=
    congrArg _ (Fin.ext (by dsimp only; omega))
  refine ((congrArg (out0_10 _ _ _ _ _ _ _ _) (hy.trans hy')).trans (out10_apply (iblk m c 0 t) (iblk m c 1 t) (iblk m c 2 t) (iblk m c 3 t) (iblk m c 4 t) (iblk m c 5 t) (iblk m c 6 t) (iblk m c 7 t) _ _ _)).trans ?_
  rw [tile_row]
  rw [show (fun j => iblk m c 5 t (ix2 0 j)) = fun j => (fun j => (m ((c.tc : Thread nD τ).loc main_arg5)) (ix1 j)) ⟨j.val % 64, by omega⟩ from funext fun j => blk5 m c t j]
  rw [headTile_eq _ _ (fun j => (m ((c.tc : Thread nD τ).loc main_arg5)) (ix1 j)) (fun i j => blk7 m c t i j)]
  unfold G10
  refine congrArg₂ (fun y j => headNorm y _ j) (funext fun k => congrArg _ (Fin.ext ?_)) (Fin.ext ?_)
  · show 2048 + (128 * ((y 1).val / 128) + ((y 1).val % 128 / 64 * 64 + k.val)) = 2048 + ((y 1).val / 64 * 64 + k.val)
    omega
  · show (y 1).val % 128 % 64 = (y 1).val % 64
    omega

theorem arr11_eq (c : Dev nD) :
    (dats m 0 c).arrAt 11 cfg0.N = G11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) := by
  refine (dats m 0 c).arrAt_eq_of_covers 11 _ (by decide +kernel) fun t hf y => ?_
  blk_simp; rw [after0_11]
  have h1 : (y 1).val < 256 := (y 1).isLt
  have h0 : (y 0).val < 512 := (y 0).isLt
  have ht : t.val < 8 := t.isLt
  have hy : y = ix2 (⟨(y 0).val, h0⟩ : Fin 512) (⟨(y 1).val, h1⟩ : Fin 256) := by
    funext i; fin_cases i <;> rfl
  have he : (win0_11.blk t).view.emb y = ix2 (⟨512 * t.val + (y 0).val, by omega⟩ : Fin 4096) (⟨(y 1).val, h1⟩ : Fin 256) := by
    blk_ext [idx11]
  rw [he]
  have hy' : (ix2 (⟨(y 0).val, h0⟩ : Fin 512) (⟨(y 1).val, h1⟩ : Fin 256) : S512x256.Idx)
      = ix2 ⟨(y 0).val, h0⟩ ⟨128 * (⟨(y 1).val / 128, by omega⟩ : Fin 2).val + (⟨(y 1).val % 128, by omega⟩ : Fin 128).val, by dsimp only; omega⟩ :=
    congrArg _ (Fin.ext (by dsimp only; omega))
  refine ((congrArg (out0_11 _ _ _ _ _ _ _ _) (hy.trans hy')).trans (out11_apply (iblk m c 0 t) (iblk m c 1 t) (iblk m c 2 t) (iblk m c 3 t) (iblk m c 4 t) (iblk m c 5 t) (iblk m c 6 t) (iblk m c 7 t) _ _ _)).trans ?_
  rw [tile_row]
  rw [show (fun j => iblk m c 6 t (ix2 0 j)) = fun j => (fun j => (m ((c.tc : Thread nD τ).loc main_arg6)) (ix1 j)) ⟨j.val % 64, by omega⟩ from funext fun j => blk6 m c t j]
  rw [headTile_eq _ _ (fun j => (m ((c.tc : Thread nD τ).loc main_arg6)) (ix1 j)) (fun i j => blk7 m c t i j)]
  unfold G11
  refine congrArg₂ (fun y j => headNorm y _ j) (funext fun k => congrArg _ (Fin.ext ?_)) (Fin.ext ?_)
  · show 3072 + (128 * ((y 1).val / 128) + ((y 1).val % 128 / 64 * 64 + k.val)) = 3072 + ((y 1).val / 64 * 64 + k.val)
    omega
  · show (y 1).val % 128 % 64 = (y 1).val % 64
    omega

theorem arr14_eq (c : Dev nD) :
    (dats m 0 c).arrAt 14 cfg0.N = G14 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 14 _ (by decide +kernel) fun t hf y => ?_
  blk_simp; rw [after0_14]
  have h1 : (y 1).val < 3072 := (y 1).isLt
  have h0 : (y 0).val < 512 := (y 0).isLt
  have ht : t.val < 8 := t.isLt
  have hy : y = ix2 (⟨(y 0).val, h0⟩ : Fin 512) (⟨(y 1).val, h1⟩ : Fin 3072) := by
    funext i; fin_cases i <;> rfl
  have he : (win0_14.blk t).view.emb y = ix2 (⟨512 * t.val + (y 0).val, by omega⟩ : Fin 4096) (⟨(y 1).val, h1⟩ : Fin 3072) := by
    blk_ext [idx14]
  rw [he]
  have hy' : (ix2 (⟨(y 0).val, h0⟩ : Fin 512) (⟨(y 1).val, h1⟩ : Fin 3072) : S512x3072.Idx)
      = ix2 ⟨(y 0).val, h0⟩ ⟨1024 * (⟨(y 1).val / 1024, by omega⟩ : Fin 3).val + (⟨(y 1).val % 1024, by omega⟩ : Fin 1024).val, by dsimp only; omega⟩ :=
    congrArg _ (Fin.ext (by dsimp only; omega))
  refine ((congrArg (out0_14 _ _ _ _ _ _ _ _) (hy.trans hy')).trans (out14_apply (iblk m c 0 t) (iblk m c 1 t) (iblk m c 2 t) (iblk m c 3 t) (iblk m c 4 t) (iblk m c 5 t) (iblk m c 6 t) (iblk m c 7 t) _ _ _)).trans ?_
  rw [tile_row, blk4]
  unfold G14
  have hd : 1024 * ((y 1).val / 1024) + (y 1).val % 1024 = (y 1).val := by omega
  refine congrArg Ideal.logistic (congrArg₂ (· + ·) (congrArg _ (Fin.ext ?_)) (congrArg _ (congrArg ix1 (Fin.ext ?_))))
  · show 4608 + (1024 * ((y 1).val / 1024) + (y 1).val % 1024) = 4608 + (y 1).val
    omega
  · exact hd

end Cert.InprojIdeal.Inp

end
-- ==== Proof.InpRef.lean ====
/- The input projection's reference at an index of its results. -/
module

public import proofs.«01_k».proof.Proof.Gen.InprojReferenceIdeal.Run
public import proofs.«01_k».proof.Proof.InpValue

@[expose] public section

set_option maxRecDepth 16384

noncomputable section

namespace Cert.InprojReferenceIdeal.Inp

open Cert.InprojReferenceIdeal Cert.InprojReferenceIdeal.Gen Idealize.ShloMosaic

section
variable {F : FTy → Type} [FloatOps F] (x : FVec F S4096x1024 .f32) (mod : FVec F S16x6144 .f32) (n1g : FVec F S1024 .f32)
  (w : FVec F S1024x7680 .f32) (bg : FVec F S3072 .f32) (qg kg : FVec F S64 .f32)

/-- The projection of the normed and modulated input. -/
def prj : FVec F S4096x7680 .f32 :=
  Host.dotGeneral dot_S4096x1024_S1024x7680_S4096x7680_1_0_0_1_n_n none (addf (mulf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 n1g))) (broadcastInDim S4096x1024 ![0, 1] bcast_S1x1024_S4096x1024_0_1 (broadcastInDim S1x1024 ![1] bcast_S1024_S1x1024_1 (addf (broadcastInDim S1024 ![] bcast_S_S1024 (constant S_ .f32 0x3F800000#32)) (shapeCast _ (extractStridedSlice S1x1024 ![8, 1024] mod slices_S16x6144_S1x1024_8_1024) shapeCasts_S1x1024_S1024))))) (broadcastInDim S4096x1024 ![0, 1] bcast_S1x1024_S4096x1024_0_1 (broadcastInDim S1x1024 ![1] bcast_S1024_S1x1024_1 (shapeCast _ (extractStridedSlice S1x1024 ![8, 0] mod slices_S16x6144_S1x1024_8_0) shapeCasts_S1x1024_S1024)))) w

/-- The recurrent branch's input. -/
def out8 : FVec F S4096x1024 .bf16 :=
  truncf .bf16 (extractStridedSlice S4096x1024 ![0, 0] (prj x mod n1g w) slices_S4096x7680_S4096x1024_0_0) bitsLt_bf16_f32

/-- The recurrent branch's gate. -/
def out9 : FVec F S4096x1024 .bf16 :=
  truncf .bf16 (mulf (extractStridedSlice S4096x1024 ![0, 1024] (prj x mod n1g w) slices_S4096x7680_S4096x1024_0_1024) (mulf (broadcastInDim S4096x1024 ![] bcast_S_S4096x1024 (constant S_ .f32 0x3F000000#32)) (addf (broadcastInDim S4096x1024 ![] bcast_S_S4096x1024 (constant S_ .f32 0x3F800000#32)) (Host.tanh (mulf (broadcastInDim S4096x1024 ![] bcast_S_S4096x1024 (constant S_ .f32 0x3F4C422A#32)) (addf (extractStridedSlice S4096x1024 ![0, 1024] (prj x mod n1g w) slices_S4096x7680_S4096x1024_0_1024) (mulf (broadcastInDim S4096x1024 ![] bcast_S_S4096x1024 (constant S_ .f32 0x3D372713#32)) (mulf (mulf (extractStridedSlice S4096x1024 ![0, 1024] (prj x mod n1g w) slices_S4096x7680_S4096x1024_0_1024) (extractStridedSlice S4096x1024 ![0, 1024] (prj x mod n1g w) slices_S4096x7680_S4096x1024_0_1024)) (extractStridedSlice S4096x1024 ![0, 1024] (prj x mod n1g w) slices_S4096x7680_S4096x1024_0_1024))))))))) bitsLt_bf16_f32

/-- The queries. -/
def out10 : FVec F S4096x1024 .bf16 :=
  truncf .bf16 (shapeCast _ (mulf (mulf (shapeCast _ (extractStridedSlice S4096x1024 ![0, 2048] (prj x mod n1g w) slices_S4096x7680_S4096x1024_0_2048) shapeCasts_S4096x1024_S4096x16x64) (broadcastInDim S4096x16x64 ![0, 1, 2] bcast_S4096x16x1_S4096x16x64_0_1_2 (Host.rsqrt (addf (Host.divf (broadcastInDim S4096x16x1 ![0, 1] bcast_S4096x16_S4096x16x1_0_1 (Host.reduceAdd (mulf (shapeCast _ (extractStridedSlice S4096x1024 ![0, 2048] (prj x mod n1g w) slices_S4096x7680_S4096x1024_0_2048) shapeCasts_S4096x1024_S4096x16x64) (shapeCast _ (extractStridedSlice S4096x1024 ![0, 2048] (prj x mod n1g w) slices_S4096x7680_S4096x1024_0_2048) shapeCasts_S4096x1024_S4096x16x64)) (constant S_ .f32 0x00000000#32) reducesTo_S4096x16x64_S4096x16_d2 h_S_)) (broadcastInDim S4096x16x1 ![] bcast_S_S4096x16x1 (constant S_ .f32 0x42800000#32))) (broadcastInDim S4096x16x1 ![] bcast_S_S4096x16x1 (constant S_ .f32 0x358637BD#32)))))) (broadcastInDim S4096x16x64 ![0, 1, 2] bcast_S1x1x64_S4096x16x64_0_1_2 (broadcastInDim S1x1x64 ![2] bcast_S64_S1x1x64_2 qg))) shapeCasts_S4096x16x64_S4096x1024) bitsLt_bf16_f32

/-- The keys. -/
def out11 : FVec F S4096x256 .f32 :=
  shapeCast _ (mulf (mulf (shapeCast _ (extractStridedSlice S4096x256 ![0, 3072] (prj x mod n1g w) slices_S4096x7680_S4096x256_0_3072) shapeCasts_S4096x256_S4096x4x64) (broadcastInDim S4096x4x64 ![0, 1, 2] bcast_S4096x4x1_S4096x4x64_0_1_2 (Host.rsqrt (addf (Host.divf (broadcastInDim S4096x4x1 ![0, 1] bcast_S4096x4_S4096x4x1_0_1 (Host.reduceAdd (mulf (shapeCast _ (extractStridedSlice S4096x256 ![0, 3072] (prj x mod n1g w) slices_S4096x7680_S4096x256_0_3072) shapeCasts_S4096x256_S4096x4x64) (shapeCast _ (extractStridedSlice S4096x256 ![0, 3072] (prj x mod n1g w) slices_S4096x7680_S4096x256_0_3072) shapeCasts_S4096x256_S4096x4x64)) (constant S_ .f32 0x00000000#32) reducesTo_S4096x4x64_S4096x4_d2 h_S_)) (broadcastInDim S4096x4x1 ![] bcast_S_S4096x4x1 (constant S_ .f32 0x42800000#32))) (broadcastInDim S4096x4x1 ![] bcast_S_S4096x4x1 (constant S_ .f32 0x358637BD#32)))))) (broadcastInDim S4096x4x64 ![0, 1, 2] bcast_S1x1x64_S4096x4x64_0_1_2 (broadcastInDim S1x1x64 ![2] bcast_S64_S1x1x64_2 kg))) shapeCasts_S4096x4x64_S4096x256

/-- The values. -/
def out12 : FVec F S4096x256 .f32 :=
  extractStridedSlice S4096x256 ![0, 3328] (prj x mod n1g w) slices_S4096x7680_S4096x256_0_3328

/-- The pooled branch's input. -/
def out13 : FVec F S4096x1024 .bf16 :=
  truncf .bf16 (extractStridedSlice S4096x1024 ![0, 3584] (prj x mod n1g w) slices_S4096x7680_S4096x1024_0_3584) bitsLt_bf16_f32

/-- The branches' gates. -/
def out14 : FVec F S4096x3072 .bf16 :=
  truncf .bf16 (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extractStridedSlice S4096x3072 ![0, 4608] (prj x mod n1g w) slices_S4096x7680_S4096x3072_0_4608) (broadcastInDim S4096x3072 ![0, 1] bcast_S1x3072_S4096x3072_0_1 (broadcastInDim S1x3072 ![1] bcast_S3072_S1x3072_1 bg))))))) bitsLt_bf16_f32

end

/-- The reference's run, with its results the terms above. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = out8 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v77) = out9 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v78) = out10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v62) = out11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_v30) = out12 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v79) = out13 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v89) = out14 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => h c) (Value.run m ρ)

variable (x : FVec Ideal S4096x1024 .f32) (mod : FVec Ideal S16x6144 .f32) (n1g : FVec Ideal S1024 .f32)
  (w : FVec Ideal S1024x7680 .f32) (bg : FVec Ideal S3072 .f32) (qg kg : FVec Ideal S64 .f32)

theorem prj_apply (i : Fin 4096) (l : Fin 7680) :
    prj x mod n1g w (ix2 i l) = Cert.InprojIdeal.Inp.rowP x mod n1g w i l := by
  pointwise [prj, Cert.InprojIdeal.Inp.rowP, Cert.InprojIdeal.Inp.proj, Cert.InprojIdeal.Inp.hrow, Rows.rms, Rows.inv]

theorem out8_eq : out8 x mod n1g w = Cert.InprojIdeal.Inp.G8 x mod n1g w := by
  funext i
  idx_vars i
  pointwise [out8, prj_apply, Cert.InprojIdeal.Inp.G8, Nat.div_add_mod', Fin.eta]

theorem out9_eq : out9 x mod n1g w = Cert.InprojIdeal.Inp.G9 x mod n1g w := by
  funext i
  idx_vars i
  pointwise [out9, prj_apply, Cert.InprojIdeal.Inp.G9, Cert.InprojIdeal.Inp.gelu, Nat.div_add_mod', Fin.eta]
  simp only [mul_assoc]

theorem out10_eq : out10 x mod n1g w qg = Cert.InprojIdeal.Inp.G10 x mod n1g w qg := by
  funext i
  idx_vars i
  pointwise [out10, prj_apply, Cert.InprojIdeal.Inp.G10, Cert.InprojIdeal.Inp.headNorm, Nat.div_add_mod', Fin.eta]

theorem out11_eq : out11 x mod n1g w kg = Cert.InprojIdeal.Inp.G11 x mod n1g w kg := by
  funext i
  idx_vars i
  pointwise [out11, prj_apply, Cert.InprojIdeal.Inp.G11, Cert.InprojIdeal.Inp.headNorm, Nat.div_add_mod', Fin.eta]

theorem out12_eq : out12 x mod n1g w = Cert.InprojIdeal.Inp.G12 x mod n1g w := by
  funext i
  idx_vars i
  pointwise [out12, prj_apply, Cert.InprojIdeal.Inp.G12, Nat.div_add_mod', Fin.eta]

theorem out13_eq : out13 x mod n1g w = Cert.InprojIdeal.Inp.G13 x mod n1g w := by
  funext i
  idx_vars i
  pointwise [out13, prj_apply, Cert.InprojIdeal.Inp.G13, Nat.div_add_mod', Fin.eta]

theorem out14_eq : out14 x mod n1g w bg = Cert.InprojIdeal.Inp.G14 x mod n1g w bg := by
  funext i
  idx_vars i
  pointwise [out14, prj_apply, Cert.InprojIdeal.Inp.G14, Ideal.logistic, Nat.div_add_mod', Fin.eta]

end Cert.InprojReferenceIdeal.Inp

end
-- ==== Proof.InpClaim.lean ====
/- The input projection's claims: the programs run and keep their arguments, and their results are equal. -/
module

public import proofs.«01_k».proof.Defs
public import proofs.«01_k».proof.Proof.Gen.Inproj.Frame
public import proofs.«01_k».proof.Proof.InpRef
public import Idealize.ShloMosaic.Adequacy
public import Idealize.ShloMosaic.Init

@[expose] public section

noncomputable section

namespace Cert.Proof.Inp

open Idealize.ShloMosaic Idealize.SL.Sem

theorem ref_quiescent : Cert.quiescent_InprojReferenceIdeal := fun m ρ _ =>
  (θ_run Cert.InprojReferenceIdeal.defs _ _).mono (fun r h => ⟨fun c => (h c).2.2.2.2.2.2.2, sem_eq_zero_of_no_sems (by decide) r.2⟩)
    (Cert.InprojReferenceIdeal.Inp.run m ρ)

theorem algebraic : Cert.algebraic_InprojIdeal_InprojReferenceIdeal := by
  intro m g m' g' hpre hagree
  refine ⟨fun c => Cert.InprojIdeal.Inp.G8 (m ((c.tc : Thread _ _).loc Cert.InprojIdeal.main_arg0)) (m ((c.tc : Thread _ _).loc Cert.InprojIdeal.main_arg1)) (m ((c.tc : Thread _ _).loc Cert.InprojIdeal.main_arg2)) (m ((c.tc : Thread _ _).loc Cert.InprojIdeal.main_arg3)),
    fun c => Cert.InprojIdeal.Inp.G9 (m ((c.tc : Thread _ _).loc Cert.InprojIdeal.main_arg0)) (m ((c.tc : Thread _ _).loc Cert.InprojIdeal.main_arg1)) (m ((c.tc : Thread _ _).loc Cert.InprojIdeal.main_arg2)) (m ((c.tc : Thread _ _).loc Cert.InprojIdeal.main_arg3)),
    fun c => Cert.InprojIdeal.Inp.G10 (m ((c.tc : Thread _ _).loc Cert.InprojIdeal.main_arg0)) (m ((c.tc : Thread _ _).loc Cert.InprojIdeal.main_arg1)) (m ((c.tc : Thread _ _).loc Cert.InprojIdeal.main_arg2)) (m ((c.tc : Thread _ _).loc Cert.InprojIdeal.main_arg3)) (m ((c.tc : Thread _ _).loc Cert.InprojIdeal.main_arg5)),
    fun c => Cert.InprojIdeal.Inp.G11 (m ((c.tc : Thread _ _).loc Cert.InprojIdeal.main_arg0)) (m ((c.tc : Thread _ _).loc Cert.InprojIdeal.main_arg1)) (m ((c.tc : Thread _ _).loc Cert.InprojIdeal.main_arg2)) (m ((c.tc : Thread _ _).loc Cert.InprojIdeal.main_arg3)) (m ((c.tc : Thread _ _).loc Cert.InprojIdeal.main_arg6)),
    fun c => Cert.InprojIdeal.Inp.G12 (m ((c.tc : Thread _ _).loc Cert.InprojIdeal.main_arg0)) (m ((c.tc : Thread _ _).loc Cert.InprojIdeal.main_arg1)) (m ((c.tc : Thread _ _).loc Cert.InprojIdeal.main_arg2)) (m ((c.tc : Thread _ _).loc Cert.InprojIdeal.main_arg3)),
    fun c => Cert.InprojIdeal.Inp.G13 (m ((c.tc : Thread _ _).loc Cert.InprojIdeal.main_arg0)) (m ((c.tc : Thread _ _).loc Cert.InprojIdeal.main_arg1)) (m ((c.tc : Thread _ _).loc Cert.InprojIdeal.main_arg2)) (m ((c.tc : Thread _ _).loc Cert.InprojIdeal.main_arg3)),
    fun c => Cert.InprojIdeal.Inp.G14 (m ((c.tc : Thread _ _).loc Cert.InprojIdeal.main_arg0)) (m ((c.tc : Thread _ _).loc Cert.InprojIdeal.main_arg1)) (m ((c.tc : Thread _ _).loc Cert.InprojIdeal.main_arg2)) (m ((c.tc : Thread _ _).loc Cert.InprojIdeal.main_arg3)) (m ((c.tc : Thread _ _).loc Cert.InprojIdeal.main_arg4)), ?_, ?_⟩
  · exact (θ_run Cert.InprojIdeal.defs _ _).mono
      (fun _ h c => ⟨((h c).1).trans (Cert.InprojIdeal.Inp.arr8_eq m c), ((h c).2.1).trans (Cert.InprojIdeal.Inp.arr9_eq m c), ((h c).2.2.1).trans (Cert.InprojIdeal.Inp.arr10_eq m c), ((h c).2.2.2.1).trans (Cert.InprojIdeal.Inp.arr11_eq m c), ((h c).2.2.2.2.1).trans (Cert.InprojIdeal.Inp.arr12_eq m c), ((h c).2.2.2.2.2.1).trans (Cert.InprojIdeal.Inp.arr13_eq m c), ((h c).2.2.2.2.2.2.1).trans (Cert.InprojIdeal.Inp.arr14_eq m c), (h c).2.2.2.2.2.2.2⟩)
      (Cert.InprojIdeal.Value.run_blocks m g)
  · refine (θ_run Cert.InprojReferenceIdeal.defs _ _).mono (fun _ h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, (h c).2.2.2.2.2.2.2⟩)
      (Cert.InprojReferenceIdeal.Inp.run m' g')
    · obtain ⟨e0, e1, e2, e3, e4, e5, e6⟩ := hagree c
      rw [e0, e1, e2, e3]
      exact Cert.InprojReferenceIdeal.Inp.out8_eq _ _ _ _
    · obtain ⟨e0, e1, e2, e3, e4, e5, e6⟩ := hagree c
      rw [e0, e1, e2, e3]
      exact Cert.InprojReferenceIdeal.Inp.out9_eq _ _ _ _
    · obtain ⟨e0, e1, e2, e3, e4, e5, e6⟩ := hagree c
      rw [e0, e1, e2, e3, e5]
      exact Cert.InprojReferenceIdeal.Inp.out10_eq _ _ _ _ _
    · obtain ⟨e0, e1, e2, e3, e4, e5, e6⟩ := hagree c
      rw [e0, e1, e2, e3, e6]
      exact Cert.InprojReferenceIdeal.Inp.out11_eq _ _ _ _ _
    · obtain ⟨e0, e1, e2, e3, e4, e5, e6⟩ := hagree c
      rw [e0, e1, e2, e3]
      exact Cert.InprojReferenceIdeal.Inp.out12_eq _ _ _ _
    · obtain ⟨e0, e1, e2, e3, e4, e5, e6⟩ := hagree c
      rw [e0, e1, e2, e3]
      exact Cert.InprojReferenceIdeal.Inp.out13_eq _ _ _ _
    · obtain ⟨e0, e1, e2, e3, e4, e5, e6⟩ := hagree c
      rw [e0, e1, e2, e3, e4]
      exact Cert.InprojReferenceIdeal.Inp.out14_eq _ _ _ _ _

/-- Everything claimed of the input projection. -/
theorem claims : Cert.quiescent_Inproj ∧ Cert.quiescent_InprojIdeal ∧ Cert.quiescent_InprojReferenceIdeal
    ∧ Cert.preserves_Inproj_InprojIdeal ∧ Cert.algebraic_InprojIdeal_InprojReferenceIdeal :=
  ⟨fun m ρ _ => Cert.Inproj.Gen.frame m ρ, fun m ρ _ => Cert.InprojIdeal.Gen.frame m ρ, ref_quiescent, trivial, algebraic⟩

end Cert.Proof.Inp

end
-- ==== Proof.PoolShift.lean ====
/- Shifts over time in the interleaved layout: the kernel's moves of rows, entry by entry. -/
module

public import proofs.«01_k».proof.Proof.Gen.PoolIdeal.Frame
public import proofs.«01_k».proof.Proof.UpTile
public import Idealize.ShloMosaic.Lib.Pipeline.ValueKit
public import Idealize.ShloMosaic.Lib.Pointwise
public import Idealize.ShloMosaic.Lib.StableHlo.Run

@[expose] public section

set_option maxRecDepth 16384

noncomputable section

namespace Cert.PoolIdeal.Pool

open Cert.PoolIdeal Cert.PoolIdeal.Gen Idealize.ShloMosaic Idealize.ShloMosaic.TcCoe
open Cert.FfnUpIdeal.Up (tm pos tm_pos pos_tm sel0 sel7)

/-- A sequence at any integer time: zero before the start and after the end. -/
def ext (z : Fin 1024 → EReal) (t : Int) : EReal := if h : 0 ≤ t ∧ t < 1024 then z ⟨t.toNat, by omega⟩ else 0

/-- A column of a tile, by time. -/
def col (x : FVec Ideal S1024x256 .f32) (l : Fin 256) (t : Fin 1024) : EReal := x (ix2 (pos t) l)

theorem ext_pos (x : FVec Ideal S1024x256 .f32) (l : Fin 256) (t : Int) (p : Fin 1024) (h : (tm p).val = t) :
    x (ix2 p l) = ext (col x l) t := by
  have ht := (tm p).isLt
  unfold ext col
  rw [dif_pos (by omega)]
  have e : (⟨t.toNat, by omega⟩ : Fin 1024) = tm p := Fin.ext (by dsimp only; omega)
  exact congrArg x (congrArg (ix2 · l) ((pos_tm p).symm.trans (congrArg pos e.symm)))

theorem ext_out (z : Fin 1024 → EReal) (t : Int) (h : t < 0 ∨ 1024 ≤ t) : 0 = ext z t := by
  unfold ext
  rw [dif_neg (by omega)]

theorem leaf0 (z : FVec Ideal S1024x256 .f32) (l : Fin 256) (q : Nat) (hq : q < 8) (i : Fin 1024) (T : Int)
    (h0 : q = 0 → T < 0 ∨ 1024 ≤ T) (h1 : q ≠ 0 → (tm i).val = T) :
    Scalar.select (IntOp.cmpi CmpIPredicate.eq (BitVec.ofNat 32 q) 0#32) 0 (z (ix2 i l)) = ext (col z l) T := by
  rw [sel0 _ hq]
  by_cases h : q = 0
  · rw [if_pos h]; exact ext_out _ _ (h0 h)
  · rw [if_neg h]; exact ext_pos _ _ _ _ (h1 h)

theorem leaf7 (z : FVec Ideal S1024x256 .f32) (l : Fin 256) (q : Nat) (hq : q < 8) (i : Fin 1024) (T : Int)
    (h0 : q = 7 → T < 0 ∨ 1024 ≤ T) (h1 : q ≠ 7 → (tm i).val = T) :
    Scalar.select (IntOp.cmpi CmpIPredicate.eq (BitVec.ofNat 32 q) 7#32) 0 (z (ix2 i l)) = ext (col z l) T := by
  rw [sel7 _ hq]
  by_cases h : q = 7
  · rw [if_pos h]; exact ext_out _ _ (h0 h)
  · rw [if_neg h]; exact ext_pos _ _ _ _ (h1 h)

/-- The rows of the positions 1 steps before. -/
def prev1 (z : FVec Ideal S1024x256 .f32) : FVec Ideal S1024x256 .f32 :=
  concatenate S1024x256 0 [⟨S8x256, select (cmpi .eq (iota .tc S8x256 32 [0] iota_S8x256_d0_w32) (broadcast S8x256 0#32)) (broadcast S8x256 (Scalar.ofBits .f32 0x00000000#32)) (dynamicRotate 0 1#32 none (extractStridedSlice S8x256 ![1016, 0] z slices_S1024x256_o1016_0_S8x256) rotates_S8x256_d0)⟩, ⟨S1016x256, extractStridedSlice S1016x256 ![0, 0] z slices_S1024x256_o0_0_S1016x256⟩] concatenates_S8x256_S1016x256_S1024x256_d0

theorem prev1_apply (z : FVec Ideal S1024x256 .f32) (p : Fin 1024) (l : Fin 256) :
    prev1 z (ix2 p l) = ext (col z l) ((tm p).val - 1) := by
  have hp := p.isLt
  pointwise [prev1]
  by_cases h0 : p.val < 8
  · rw [dif_pos h0]; refine leaf0 _ _ _ (by omega) _ _ (fun _ => by unfold tm; dsimp only; omega) (fun _ => by unfold tm; dsimp only; omega)
  rw [dif_neg h0]
  refine ext_pos _ _ _ _ (by unfold tm; dsimp only; omega)

/-- The rows of the positions 1 steps after. -/
def next1 (z : FVec Ideal S1024x256 .f32) : FVec Ideal S1024x256 .f32 :=
  concatenate S1024x256 0 [⟨S1016x256, extractStridedSlice S1016x256 ![8, 0] z slices_S1024x256_o8_0_S1016x256⟩, ⟨S8x256, select (cmpi .eq (iota .tc S8x256 32 [0] iota_S8x256_d0_w32) (broadcast S8x256 7#32)) (broadcast S8x256 (Scalar.ofBits .f32 0x00000000#32)) (dynamicRotate 0 7#32 none (extractStridedSlice S8x256 ![0, 0] z slices_S1024x256_o0_0_S8x256) rotates_S8x256_d0)⟩] concatenates_S1016x256_S8x256_S1024x256_d0

theorem next1_apply (z : FVec Ideal S1024x256 .f32) (p : Fin 1024) (l : Fin 256) :
    next1 z (ix2 p l) = ext (col z l) ((tm p).val + 1) := by
  have hp := p.isLt
  pointwise [next1]
  by_cases h0 : p.val < 1016
  · rw [dif_pos h0]; refine ext_pos _ _ _ _ (by unfold tm; dsimp only; omega)
  rw [dif_neg h0]
  refine leaf7 _ _ _ (by omega) _ _ (fun _ => by unfold tm; dsimp only; omega) (fun _ => by unfold tm; dsimp only; omega)

/-- The rows of the positions 2 steps before. -/
def prev2 (z : FVec Ideal S1024x256 .f32) : FVec Ideal S1024x256 .f32 :=
  concatenate S1024x256 0 [⟨S8x256, select (cmpi .eq (iota .tc S8x256 32 [0] iota_S8x256_d0_w32) (broadcast S8x256 0#32)) (broadcast S8x256 (Scalar.ofBits .f32 0x00000000#32)) (dynamicRotate 0 1#32 none (extractStridedSlice S8x256 ![1008, 0] z slices_S1024x256_o1008_0_S8x256) rotates_S8x256_d0)⟩, ⟨S8x256, select (cmpi .eq (iota .tc S8x256 32 [0] iota_S8x256_d0_w32) (broadcast S8x256 0#32)) (broadcast S8x256 (Scalar.ofBits .f32 0x00000000#32)) (dynamicRotate 0 1#32 none (extractStridedSlice S8x256 ![1016, 0] z slices_S1024x256_o1016_0_S8x256) rotates_S8x256_d0)⟩, ⟨S1008x256, extractStridedSlice S1008x256 ![0, 0] z slices_S1024x256_o0_0_S1008x256⟩] concatenates_S8x256_S8x256_S1008x256_S1024x256_d0

theorem prev2_apply (z : FVec Ideal S1024x256 .f32) (p : Fin 1024) (l : Fin 256) :
    prev2 z (ix2 p l) = ext (col z l) ((tm p).val - 2) := by
  have hp := p.isLt
  pointwise [prev2]
  by_cases h0 : p.val < 8
  · rw [dif_pos h0]; refine leaf0 _ _ _ (by omega) _ _ (fun _ => by unfold tm; dsimp only; omega) (fun _ => by unfold tm; dsimp only; omega)
  rw [dif_neg h0]
  by_cases h1 : p.val - 8 < 8
  · rw [dif_pos h1]; refine leaf0 _ _ _ (by omega) _ _ (fun _ => by unfold tm; dsimp only; omega) (fun _ => by unfold tm; dsimp only; omega)
  rw [dif_neg h1]
  refine ext_pos _ _ _ _ (by unfold tm; dsimp only; omega)

/-- The rows of the positions 2 steps after. -/
def next2 (z : FVec Ideal S1024x256 .f32) : FVec Ideal S1024x256 .f32 :=
  concatenate S1024x256 0 [⟨S1008x256, extractStridedSlice S1008x256 ![16, 0] z slices_S1024x256_o16_0_S1008x256⟩, ⟨S8x256, select (cmpi .eq (iota .tc S8x256 32 [0] iota_S8x256_d0_w32) (broadcast S8x256 7#32)) (broadcast S8x256 (Scalar.ofBits .f32 0x00000000#32)) (dynamicRotate 0 7#32 none (extractStridedSlice S8x256 ![0, 0] z slices_S1024x256_o0_0_S8x256) rotates_S8x256_d0)⟩, ⟨S8x256, select (cmpi .eq (iota .tc S8x256 32 [0] iota_S8x256_d0_w32) (broadcast S8x256 7#32)) (broadcast S8x256 (Scalar.ofBits .f32 0x00000000#32)) (dynamicRotate 0 7#32 none (extractStridedSlice S8x256 ![8, 0] z slices_S1024x256_o8_0_S8x256) rotates_S8x256_d0)⟩] concatenates_S1008x256_S8x256_S8x256_S1024x256_d0

theorem next2_apply (z : FVec Ideal S1024x256 .f32) (p : Fin 1024) (l : Fin 256) :
    next2 z (ix2 p l) = ext (col z l) ((tm p).val + 2) := by
  have hp := p.isLt
  pointwise [next2]
  by_cases h0 : p.val < 1008
  · rw [dif_pos h0]; refine ext_pos _ _ _ _ (by unfold tm; dsimp only; omega)
  rw [dif_neg h0]
  by_cases h1 : p.val - 1008 < 8
  · rw [dif_pos h1]; refine leaf7 _ _ _ (by omega) _ _ (fun _ => by unfold tm; dsimp only; omega) (fun _ => by unfold tm; dsimp only; omega)
  rw [dif_neg h1]
  refine leaf7 _ _ _ (by omega) _ _ (fun _ => by unfold tm; dsimp only; omega) (fun _ => by unfold tm; dsimp only; omega)

/-- The rows of the positions 4 steps before. -/
def prev4 (z : FVec Ideal S1024x256 .f32) : FVec Ideal S1024x256 .f32 :=
  concatenate S1024x256 0 [⟨S8x256, select (cmpi .eq (iota .tc S8x256 32 [0] iota_S8x256_d0_w32) (broadcast S8x256 0#32)) (broadcast S8x256 (Scalar.ofBits .f32 0x00000000#32)) (dynamicRotate 0 1#32 none (extractStridedSlice S8x256 ![992, 0] z slices_S1024x256_o992_0_S8x256) rotates_S8x256_d0)⟩, ⟨S8x256, select (cmpi .eq (iota .tc S8x256 32 [0] iota_S8x256_d0_w32) (broadcast S8x256 0#32)) (broadcast S8x256 (Scalar.ofBits .f32 0x00000000#32)) (dynamicRotate 0 1#32 none (extractStridedSlice S8x256 ![1000, 0] z slices_S1024x256_o1000_0_S8x256) rotates_S8x256_d0)⟩, ⟨S8x256, select (cmpi .eq (iota .tc S8x256 32 [0] iota_S8x256_d0_w32) (broadcast S8x256 0#32)) (broadcast S8x256 (Scalar.ofBits .f32 0x00000000#32)) (dynamicRotate 0 1#32 none (extractStridedSlice S8x256 ![1008, 0] z slices_S1024x256_o1008_0_S8x256) rotates_S8x256_d0)⟩, ⟨S8x256, select (cmpi .eq (iota .tc S8x256 32 [0] iota_S8x256_d0_w32) (broadcast S8x256 0#32)) (broadcast S8x256 (Scalar.ofBits .f32 0x00000000#32)) (dynamicRotate 0 1#32 none (extractStridedSlice S8x256 ![1016, 0] z slices_S1024x256_o1016_0_S8x256) rotates_S8x256_d0)⟩, ⟨S992x256, extractStridedSlice S992x256 ![0, 0] z slices_S1024x256_o0_0_S992x256⟩] concatenates_S8x256_S8x256_S8x256_S8x256_S992x256_S1024x256_d0

theorem prev4_apply (z : FVec Ideal S1024x256 .f32) (p : Fin 1024) (l : Fin 256) :
    prev4 z (ix2 p l) = ext (col z l) ((tm p).val - 4) := by
  have hp := p.isLt
  pointwise [prev4]
  by_cases h0 : p.val < 8
  · rw [dif_pos h0]; refine leaf0 _ _ _ (by omega) _ _ (fun _ => by unfold tm; dsimp only; omega) (fun _ => by unfold tm; dsimp only; omega)
  rw [dif_neg h0]
  by_cases h1 : p.val - 8 < 8
  · rw [dif_pos h1]; refine leaf0 _ _ _ (by omega) _ _ (fun _ => by unfold tm; dsimp only; omega) (fun _ => by unfold tm; dsimp only; omega)
  rw [dif_neg h1]
  by_cases h2 : p.val - 8 - 8 < 8
  · rw [dif_pos h2]; refine leaf0 _ _ _ (by omega) _ _ (fun _ => by unfold tm; dsimp only; omega) (fun _ => by unfold tm; dsimp only; omega)
  rw [dif_neg h2]
  by_cases h3 : p.val - 8 - 8 - 8 < 8
  · rw [dif_pos h3]; refine leaf0 _ _ _ (by omega) _ _ (fun _ => by unfold tm; dsimp only; omega) (fun _ => by unfold tm; dsimp only; omega)
  rw [dif_neg h3]
  refine ext_pos _ _ _ _ (by unfold tm; dsimp only; omega)

/-- The rows of the positions 4 steps after. -/
def next4 (z : FVec Ideal S1024x256 .f32) : FVec Ideal S1024x256 .f32 :=
  concatenate S1024x256 0 [⟨S992x256, extractStridedSlice S992x256 ![32, 0] z slices_S1024x256_o32_0_S992x256⟩, ⟨S8x256, select (cmpi .eq (iota .tc S8x256 32 [0] iota_S8x256_d0_w32) (broadcast S8x256 7#32)) (broadcast S8x256 (Scalar.ofBits .f32 0x00000000#32)) (dynamicRotate 0 7#32 none (extractStridedSlice S8x256 ![0, 0] z slices_S1024x256_o0_0_S8x256) rotates_S8x256_d0)⟩, ⟨S8x256, select (cmpi .eq (iota .tc S8x256 32 [0] iota_S8x256_d0_w32) (broadcast S8x256 7#32)) (broadcast S8x256 (Scalar.ofBits .f32 0x00000000#32)) (dynamicRotate 0 7#32 none (extractStridedSlice S8x256 ![8, 0] z slices_S1024x256_o8_0_S8x256) rotates_S8x256_d0)⟩, ⟨S8x256, select (cmpi .eq (iota .tc S8x256 32 [0] iota_S8x256_d0_w32) (broadcast S8x256 7#32)) (broadcast S8x256 (Scalar.ofBits .f32 0x00000000#32)) (dynamicRotate 0 7#32 none (extractStridedSlice S8x256 ![16, 0] z slices_S1024x256_o16_0_S8x256) rotates_S8x256_d0)⟩, ⟨S8x256, select (cmpi .eq (iota .tc S8x256 32 [0] iota_S8x256_d0_w32) (broadcast S8x256 7#32)) (broadcast S8x256 (Scalar.ofBits .f32 0x00000000#32)) (dynamicRotate 0 7#32 none (extractStridedSlice S8x256 ![24, 0] z slices_S1024x256_o24_0_S8x256) rotates_S8x256_d0)⟩] concatenates_S992x256_S8x256_S8x256_S8x256_S8x256_S1024x256_d0

theorem next4_apply (z : FVec Ideal S1024x256 .f32) (p : Fin 1024) (l : Fin 256) :
    next4 z (ix2 p l) = ext (col z l) ((tm p).val + 4) := by
  have hp := p.isLt
  pointwise [next4]
  by_cases h0 : p.val < 992
  · rw [dif_pos h0]; refine ext_pos _ _ _ _ (by unfold tm; dsimp only; omega)
  rw [dif_neg h0]
  by_cases h1 : p.val - 992 < 8
  · rw [dif_pos h1]; refine leaf7 _ _ _ (by omega) _ _ (fun _ => by unfold tm; dsimp only; omega) (fun _ => by unfold tm; dsimp only; omega)
  rw [dif_neg h1]
  by_cases h2 : p.val - 992 - 8 < 8
  · rw [dif_pos h2]; refine leaf7 _ _ _ (by omega) _ _ (fun _ => by unfold tm; dsimp only; omega) (fun _ => by unfold tm; dsimp only; omega)
  rw [dif_neg h2]
  by_cases h3 : p.val - 992 - 8 - 8 < 8
  · rw [dif_pos h3]; refine leaf7 _ _ _ (by omega) _ _ (fun _ => by unfold tm; dsimp only; omega) (fun _ => by unfold tm; dsimp only; omega)
  rw [dif_neg h3]
  refine leaf7 _ _ _ (by omega) _ _ (fun _ => by unfold tm; dsimp only; omega) (fun _ => by unfold tm; dsimp only; omega)

end Cert.PoolIdeal.Pool

end
-- ==== Proof.PoolTile.lean ====
/- The pooling kernel's tile, entry by entry. -/
module

public import proofs.«01_k».proof.Proof.PoolShift

@[expose] public section

set_option maxRecDepth 16384

noncomputable section

namespace Cert.PoolIdeal.Pool

open Cert.PoolIdeal Cert.PoolIdeal.Gen Idealize.ShloMosaic Idealize.ShloMosaic.TcCoe
open Cert.FfnUpIdeal.Up (tm pos tm_pos pos_tm)

/-! ## The mathematics -/

/-- The number of times within the sequence among the window's, as the programs count them. -/
def cntBits (m : BitVec 32) (t : Fin 1024) : BitVec 32 :=
  IntOp.subi (IntOp.minsi (IntOp.addi (BitVec.ofNat 32 t.val) m) 1024#32) (IntOp.maxsi (IntOp.subi (BitVec.ofNat 32 t.val) m) 0#32)

/-- One group's entry: the window's mean less the value itself, through the group's matrix, times the scale. -/
def poolAt (m : Nat) (z : Fin 256 → Fin 1024 → EReal) (w : Fin 256 → EReal) (s : EReal) (t : Fin 1024) : EReal :=
  (∑ k, (Ideal.div (∑ i ∈ Finset.range (m + m), ext (z k) ((t.val : Int) - m + i)) (FloatOps.sitofp (F := Ideal) .f32 (cntBits (BitVec.ofNat 32 m) t)) - z k t) * w k) * s

/-- The entry of group `g` at its column `l`. -/
def poolB (z : Fin 1024 → Fin 1024 → EReal) (w : Fin 4 → Fin 256 → Fin 256 → EReal) (s : Fin 1024 → EReal) (t : Fin 1024) (g : Fin 4) (l : Fin 256) : EReal :=
  poolAt (2 ^ g.val) (fun k => z ⟨256 * g.val + k.val, by omega⟩) (fun k => w g k l) (s ⟨256 * g.val + l.val, by omega⟩) t

/-- The entry at any column. -/
def poolG (z : Fin 1024 → Fin 1024 → EReal) (w : Fin 4 → Fin 256 → Fin 256 → EReal) (s : Fin 1024 → EReal) (t c : Fin 1024) : EReal :=
  poolB z w s t ⟨c.val / 256, by omega⟩ ⟨c.val % 256, by omega⟩

theorem poolG_at (z : Fin 1024 → Fin 1024 → EReal) (w : Fin 4 → Fin 256 → Fin 256 → EReal) (s : Fin 1024 → EReal) (t c : Fin 1024) (g : Fin 4) (l : Fin 256)
    (hc : c.val = 256 * g.val + l.val) : poolB z w s t g l = poolG z w s t c := by
  unfold poolG
  have h1 : g = ⟨c.val / 256, by omega⟩ := Fin.ext (by dsimp only; omega)
  have h2 : l = ⟨c.val % 256, by omega⟩ := Fin.ext (by dsimp only; omega)
  exact congrArg₂ (poolB z w s t) h1 h2

/-- A window's sum from its middle: the half before, counted backwards, and the half from there on. -/
theorem win_sum (f : Int → EReal) (m : Nat) (T : Int) :
    ∑ k ∈ Finset.range m, f (T - 1 - (k : Int)) + ∑ k ∈ Finset.range m, f (T + (k : Int)) = ∑ i ∈ Finset.range (m + m), f (T - m + i) := by
  rw [Finset.sum_range_add]
  congr 1
  · rw [← Finset.sum_range_reflect]
    refine Finset.sum_congr rfl fun k hk => congrArg f ?_
    have := Finset.mem_range.1 hk
    omega
  · refine Finset.sum_congr rfl fun k _ => congrArg f ?_
    push_cast
    ring

section
variable (z : Fin 1024 → EReal) (l : Fin 256)

theorem ext_of_nonneg (x : FVec Ideal S1024x256 .f32) (t : Int) (h0 : 0 ≤ t) (h1 : t < 1024) : ∃ p : Fin 1024, (tm p).val = t ∧ ext (col x l) t = x (ix2 p l) := by
  refine ⟨pos ⟨t.toNat, by omega⟩, ?_, ?_⟩
  · rw [tm_pos]; dsimp only; omega
  · refine (ext_pos x l t _ ?_).symm
    rw [tm_pos]; dsimp only; omega

/-- Adding the rows m steps before doubles a sum over the last m times. -/
theorem back (x pr : FVec Ideal S1024x256 .f32) (m : Nat) (n : Int) (hn : n = m)
    (hp : ∀ p, pr (ix2 p l) = ext (col x l) ((tm p).val - n))
    (hx : ∀ t : Int, t < 1024 → ext (col x l) t = ∑ k ∈ Finset.range m, ext z (t - k)) :
    ∀ t : Int, t < 1024 → ext (col (addf x pr) l) t = ∑ k ∈ Finset.range (m + m), ext z (t - k) := by
  subst hn
  intro t ht
  by_cases h0 : 0 ≤ t
  · obtain ⟨p, e, h⟩ := ext_of_nonneg l (addf x pr) t h0 ht
    rw [h]
    show x (ix2 p l) + pr (ix2 p l) = _
    rw [hp, ext_pos x l t p e, e, hx t ht, hx (t - m) (by omega), Finset.sum_range_add]
    refine congrArg _ (Finset.sum_congr rfl fun k _ => congrArg _ ?_)
    push_cast
    ring
  · rw [← ext_out _ t (.inl (by omega))]
    exact (Finset.sum_eq_zero fun k _ => (ext_out z _ (.inl (by omega))).symm).symm

/-- Adding the rows m steps after doubles a sum over the next m times. -/
theorem fwd (x nx : FVec Ideal S1024x256 .f32) (m : Nat) (n : Int) (hn : n = m)
    (hp : ∀ p, nx (ix2 p l) = ext (col x l) ((tm p).val + n))
    (hx : ∀ t : Int, 0 ≤ t → ext (col x l) t = ∑ k ∈ Finset.range m, ext z (t + k)) :
    ∀ t : Int, 0 ≤ t → ext (col (addf x nx) l) t = ∑ k ∈ Finset.range (m + m), ext z (t + k) := by
  subst hn
  intro t ht
  by_cases h0 : t < 1024
  · obtain ⟨p, e, h⟩ := ext_of_nonneg l (addf x nx) t ht h0
    rw [h]
    show x (ix2 p l) + nx (ix2 p l) = _
    rw [hp, ext_pos x l t p e, e, hx t ht, hx (t + m) (by omega), Finset.sum_range_add]
    refine congrArg _ (Finset.sum_congr rfl fun k _ => congrArg _ ?_)
    push_cast
    ring
  · rw [← ext_out _ t (.inr (by omega))]
    exact (Finset.sum_eq_zero fun k _ => (ext_out z _ (.inr (by omega))).symm).symm

/-- The two halves make the window. -/
theorem window (b f : FVec Ideal S1024x256 .f32) (m : Nat)
    (hb : ∀ t : Int, t < 1024 → ext (col b l) t = ∑ k ∈ Finset.range m, ext z (t - k))
    (hf : ∀ t : Int, 0 ≤ t → ext (col f l) t = ∑ k ∈ Finset.range m, ext z (t + k)) (p : Fin 1024) :
    addf (prev1 b) f (ix2 p l) = ∑ i ∈ Finset.range (m + m), ext z (((tm p).val : Int) - m + i) := by
  have hp := (tm p).isLt
  show prev1 b (ix2 p l) + f (ix2 p l) = _
  rw [prev1_apply, ext_pos f l (tm p).val p rfl, hb _ (by omega), hf _ (by omega)]
  exact win_sum (ext z) m _

theorem one_back (x : FVec Ideal S1024x256 .f32) (t : Int) (_ : t < 1024) : ext (col x l) t = ∑ k ∈ Finset.range 1, ext (col x l) (t - k) := by simp
theorem one_fwd (x : FVec Ideal S1024x256 .f32) (t : Int) (_ : 0 ≤ t) : ext (col x l) t = ∑ k ∈ Finset.range 1, ext (col x l) (t + k) := by simp

end

/-! ## One group of the kernel -/

/-- A position's time, as the kernel computes it. -/
theorem time_bits : ∀ p : Fin 1024, IntOp.addi (IntOp.muli (IntOp.andi (BitVec.ofNat 32 p.val) 7#32) 128#32) (IntOp.shrsi .vector (BitVec.ofNat 32 p.val) 3#32)
    = BitVec.ofNat 32 (tm p).val := by decide +kernel

/-- What one group's store writes, from its columns and its windows' sums. -/
def grp (m : BitVec 32) (x win : FVec Ideal S1024x256 .f32) (w : FVec Ideal S1x256x256 .bf16) (s : FVec Ideal S1x256 .f32) : FVec Ideal S1024x256 .bf16 :=
  truncf .bf16 (mulf (matmul dot_S1024x256_S256x256_S1024x256_1_0_0_1_n_n none
      (truncf .bf16 (subf (divf win (broadcastTo S1024x256 (sitofp .f32 (subi (minsi (addi k0_pay1 (broadcast S1024x1 m)) (broadcast S1024x1 1024#32))
        (maxsi (subi k0_pay1 (broadcast S1024x1 m)) (broadcast S1024x1 0#32)))) broadcasts_S1024x1_S1024x256)) x) bitsLt_bf16_f32)
      (shapeCast S256x256 w shapeCasts_S1x256x256_S256x256) (constant S1024x256 .f32 0x00000000#32))
    (broadcastTo S1024x256 (shapeCast S1x256 s shapeCasts_S1x256_S1x256) broadcasts_S1x256_S1024x256)) bitsLt_bf16_f32

theorem grp_apply (m : BitVec 32) (x win : FVec Ideal S1024x256 .f32) (w : FVec Ideal S1x256x256 .bf16) (s : FVec Ideal S1x256 .f32) (p : Fin 1024) (l : Fin 256) :
    grp m x win w s (ix2 p l) = (∑ k, (Ideal.div (win (ix2 p k)) (FloatOps.sitofp (F := Ideal) .f32 (cntBits m (tm p))) - x (ix2 p k)) * w (ix3 0 k l)) * s (ix2 0 l) := by
  pointwise [grp, k0_pay1]
  rw [time_bits]
  rfl

theorem grp_pool (m : Nat) (x win : FVec Ideal S1024x256 .f32) (w : FVec Ideal S1x256x256 .bf16) (s : FVec Ideal S1x256 .f32) (p : Fin 1024) (l : Fin 256)
    (hw : ∀ k, win (ix2 p k) = ∑ i ∈ Finset.range (m + m), ext (col x k) (((tm p).val : Int) - m + i)) :
    grp (BitVec.ofNat 32 m) x win w s (ix2 p l) = poolAt m (fun k => col x k) (fun k => w (ix3 0 k l)) (s (ix2 0 l)) (tm p) := by
  rw [grp_apply]
  unfold poolAt
  refine congrArg (· * _) (Finset.sum_congr rfl fun k _ => congrArg (· * _) ?_)
  rw [hw]
  exact congrArg (_ - ·) (congrArg x (congrArg (ix2 · k) (pos_tm p).symm))

/-! ## The four stores -/

variable (x0 : FVec Ideal S1024x1024 .bf16) (x1 : FVec Ideal S4x256x256 .bf16) (x2 : FVec Ideal S1x1024 .f32)

/-- A group's columns. -/
abbrev x' (v : FVec Ideal S1024x256 .bf16) : FVec Ideal S1024x256 .f32 := k0_pay5 v

def b2 (x : FVec Ideal S1024x256 .f32) := addf x (prev1 x)
def f2 (x : FVec Ideal S1024x256 .f32) := addf x (next1 x)
def b4 (x : FVec Ideal S1024x256 .f32) := addf (b2 x) (prev2 (b2 x))
def f4 (x : FVec Ideal S1024x256 .f32) := addf (f2 x) (next2 (f2 x))
def b8 (x : FVec Ideal S1024x256 .f32) := addf (b4 x) (prev4 (b4 x))
def f8 (x : FVec Ideal S1024x256 .f32) := addf (f4 x) (next4 (f4 x))

section
variable (x : FVec Ideal S1024x256 .f32) (l : Fin 256)
theorem hb2 : ∀ t : Int, t < 1024 → ext (col (b2 x) l) t = ∑ k ∈ Finset.range 2, ext (col x l) (t - k) :=
  back (col x l) l x (prev1 x) 1 1 rfl (fun p => prev1_apply x p l) (one_back l x)
theorem hf2 : ∀ t : Int, 0 ≤ t → ext (col (f2 x) l) t = ∑ k ∈ Finset.range 2, ext (col x l) (t + k) :=
  fwd (col x l) l x (next1 x) 1 1 rfl (fun p => next1_apply x p l) (one_fwd l x)
theorem hb4 : ∀ t : Int, t < 1024 → ext (col (b4 x) l) t = ∑ k ∈ Finset.range 4, ext (col x l) (t - k) :=
  back (col x l) l (b2 x) (prev2 (b2 x)) 2 2 rfl (fun p => prev2_apply _ p l) (hb2 x l)
theorem hf4 : ∀ t : Int, 0 ≤ t → ext (col (f4 x) l) t = ∑ k ∈ Finset.range 4, ext (col x l) (t + k) :=
  fwd (col x l) l (f2 x) (next2 (f2 x)) 2 2 rfl (fun p => next2_apply _ p l) (hf2 x l)
theorem hb8 : ∀ t : Int, t < 1024 → ext (col (b8 x) l) t = ∑ k ∈ Finset.range 8, ext (col x l) (t - k) :=
  back (col x l) l (b4 x) (prev4 (b4 x)) 4 4 rfl (fun p => prev4_apply _ p l) (hb4 x l)
theorem hf8 : ∀ t : Int, 0 ≤ t → ext (col (f8 x) l) t = ∑ k ∈ Finset.range 8, ext (col x l) (t + k) :=
  fwd (col x l) l (f4 x) (next4 (f4 x)) 4 4 rfl (fun p => next4_apply _ p l) (hf4 x l)
end

theorem pay_0 (v : FVec Ideal S1024x256 .bf16) (w : FVec Ideal S1x256x256 .bf16) (s : FVec Ideal S1x256 .f32) :
    k0_pay4 (F := Ideal) (k0_pay2 v w) (k0_pay3 s) = grp 1#32 (x' v) (addf (prev1 (x' v)) (x' v)) w s := rfl

theorem pay_1 (v : FVec Ideal S1024x256 .bf16) (w : FVec Ideal S1x256x256 .bf16) (s : FVec Ideal S1x256 .f32) :
    k0_pay9 (F := Ideal) (k0_pay5 v) (k0_pay6 v) (k0_pay7 (k0_pay33 (F := Ideal) x0 x1 x2)) (k0_pay8 (k0_pay33 (F := Ideal) x0 x1 x2)) 0#32 w s
      = grp 2#32 (x' v) (addf (prev1 (b2 (x' v))) (f2 (x' v))) w s := rfl

theorem pay_2 (v : FVec Ideal S1024x256 .bf16) (w : FVec Ideal S1x256x256 .bf16) (s : FVec Ideal S1x256 .f32) :
    k0_pay16 (F := Ideal) (k0_pay33 (F := Ideal) x0 x1 x2) (k0_pay10 v) (k0_pay14 (k0_pay11 v) (k0_pay12 v) (iota .tc S8x256 32 [0] iota_S8x256_d0_w32) k0_pay13) (k0_pay15 (k0_pay33 (F := Ideal) x0 x1 x2)) w s
      = grp 4#32 (x' v) (addf (prev1 (b4 (x' v))) (f4 (x' v))) w s := rfl

theorem pay_3 (w : FVec Ideal S1x256x256 .bf16) (s : FVec Ideal S1x256 .f32) :
    k0_pay32 (F := Ideal) (k0_pay33 (F := Ideal) x0 x1 x2) (k0_pay34 (F := Ideal) x0 x1 x2) (k0_pay36 (F := Ideal) x0 x1 x2) (k0_pay25 (k0_pay20 (k0_pay35 (F := Ideal) x0 x1 x2)) (iota .tc S8x256 32 [0] iota_S8x256_d0_w32) (k0_pay22 (k0_pay35 (F := Ideal) x0 x1 x2)) k0_pay23 (k0_pay24 (k0_pay35 (F := Ideal) x0 x1 x2)) 1#32) (k0_pay26 (k0_pay36 (F := Ideal) x0 x1 x2)) (k0_pay27 (k0_pay36 (F := Ideal) x0 x1 x2)) (k0_pay28 (k0_pay36 (F := Ideal) x0 x1 x2)) (k0_pay29 (k0_pay36 (F := Ideal) x0 x1 x2)) k0_pay30 (k0_pay31 (k0_pay36 (F := Ideal) x0 x1 x2)) w s
      = grp 8#32 (x' (View.ld (Val := Elt Ideal) (e' := .bf16) x0 r0_9)) (addf (prev1 (b8 (x' (View.ld (Val := Elt Ideal) (e' := .bf16) x0 r0_9)))) (f8 (x' (View.ld (Val := Elt Ideal) (e' := .bf16) x0 r0_9)))) w s := rfl

/-- The tile's entry. -/
def blockPool (p c : Fin 1024) : EReal :=
  poolG (fun c t => x0 (ix2 (pos t) c)) (fun g k l => x1 (ix3 g k l)) (fun c => x2 (ix2 0 c)) (tm p) c

/-- One store's entry, from what was read for its group. -/
theorem piece (g : Fin 4) (v : FVec Ideal S1024x256 .bf16) (w : FVec Ideal S1x256x256 .bf16) (s : FVec Ideal S1x256 .f32) (win : FVec Ideal S1024x256 .f32)
    (m : Nat) (hm : m = 2 ^ g.val)
    (hv : ∀ p (k : Fin 256), v (ix2 p k) = x0 (ix2 p ⟨256 * g.val + k.val, by omega⟩)) (hw : ∀ k l, w (ix3 0 k l) = x1 (ix3 g k l))
    (hs : ∀ l : Fin 256, s (ix2 0 l) = x2 (ix2 0 ⟨256 * g.val + l.val, by omega⟩))
    (hwin : ∀ p k, win (ix2 p k) = ∑ i ∈ Finset.range (m + m), ext (col (x' v) k) (((tm p).val : Int) - m + i))
    (x : S1024x256.Idx) (p c : Fin 1024) (e0 : p.val = (x 0).val) (e1 : c.val = 256 * g.val + (x 1).val) :
    grp (BitVec.ofNat 32 m) (x' v) win w s x = blockPool x0 x1 x2 p c := by
  have h1 : (x 1).val < 256 := (x 1).isLt
  have hx : x = ix2 p (⟨(x 1).val, h1⟩ : Fin 256) := by
    funext i; fin_cases i
    · exact Fin.ext e0.symm
    · rfl
  rw [hx, grp_pool m _ _ _ _ _ _ fun k => hwin p k]
  subst hm
  refine Eq.trans ?_ (poolG_at _ _ _ _ c g ⟨(x 1).val, h1⟩ e1)
  unfold poolB
  have hc : ∀ k t, col (x' v) k t = x0 (ix2 (pos t) ⟨256 * g.val + k.val, by omega⟩) := by
    intro k t
    exact Eq.trans (by pointwise [col, k0_pay5]) (hv (pos t) k)
  congr 1
  · funext k t; exact hc k t
  · funext k; exact hw k _
  · exact hs _

theorem out_apply (p c : Fin 1024) : out0_3 (F := Ideal) x0 x1 x2 (ix2 p c) = blockPool x0 x1 x2 p c := by
  unfold out0_3
  canon_tiles x e
  · exact (congrFun (pay_3 x0 x1 x2 _ _) x).trans (piece x0 x1 x2 3 _ _ _ _ 8 rfl (fun p k => by pointwise) (fun k l => by pointwise) (fun l => by pointwise)
      (fun p k => window _ _ _ _ 8 (hb8 _ _) (hf8 _ _) _) x p c e0 e1)
  · exact (congrFun (pay_2 x0 x1 x2 _ _ _) x).trans (piece x0 x1 x2 2 _ _ _ _ 4 rfl (fun p k => by pointwise) (fun k l => by pointwise) (fun l => by pointwise)
      (fun p k => window _ _ _ _ 4 (hb4 _ _) (hf4 _ _) _) x p c e0 e1)
  · exact (congrFun (pay_1 x0 x1 x2 _ _ _) x).trans (piece x0 x1 x2 1 _ _ _ _ 2 rfl (fun p k => by pointwise) (fun k l => by pointwise) (fun l => by pointwise)
      (fun p k => window _ _ _ _ 2 (hb2 _ _) (hf2 _ _) _) x p c e0 e1)
  · exact (congrFun (pay_0 _ _ _) x).trans (piece x0 x1 x2 0 _ _ _ _ 1 rfl (fun p k => by pointwise) (fun k l => by pointwise) (fun l => by pointwise)
      (fun p k => window _ _ _ _ 1 (one_back _ _) (one_fwd _ _) _) x p c e0 (e1.trans (Nat.zero_add _).symm))

end Cert.PoolIdeal.Pool

end
-- ==== Proof.PoolValue.lean ====
/- The pooling's result array, entry by entry, and the program's run. -/
module

public import proofs.«01_k».proof.Proof.PoolTile
public import proofs.«01_k».proof.Proof.UpValue

@[expose] public section

set_option maxRecDepth 16384

noncomputable section

namespace Cert.PoolIdeal.Pool

open Cert.PoolIdeal Cert.PoolIdeal.Gen Idealize.ShloMosaic Idealize.ShloMosaic.TcCoe Idealize.SL.Sem
open Cert.FfnUpIdeal.Up (tm pos tm_pos pos_tm inter inter_apply)

section
variable (u : FVec Ideal S8x1024x1024 .bf16) (w : FVec Ideal S4x256x256 .f32) (s : FVec Ideal S1024 .f32)

/-- The result, by sequence, time and column. -/
def G : FVec Ideal S8x1024x1024 .bf16 := fun i =>
  poolG (fun c t => u (ix3 (i 0) t c)) (fun g k l => w (ix3 g k l)) (fun c => s (ix1 c)) (i 1) (i 2)

/-- The kernel's result array, by sequence and position. -/
def G3 : FVec Ideal S8192x1024 .bf16 := fun i =>
  G u w s (ix3 (⟨(i 0).val / 1024, by have : (i 0).val < 8192 := (i 0).isLt; omega⟩ : Fin 8) (tm ⟨(i 0).val % 1024, by omega⟩) (i 1))
end

/-- Positions to times. -/
def deinter (x : FVec Ideal S8192x1024 .bf16) : FVec Ideal S8x1024x1024 .bf16 :=
  shapeCast S8x1024x1024 (transpose S8x8x128x1024 [0, 2, 1, 3] (shapeCast S8x128x8x1024 x shapeCasts_S8192x1024_S8x128x8x1024) transposes_S8x128x8x1024_S8x8x128x1024_0_2_1_3) shapeCasts_S8x8x128x1024_S8x1024x1024

theorem deinter_apply (x : FVec Ideal S8192x1024 .bf16) (b : Fin 8) (t : Fin 1024) (l : Fin 1024) :
    deinter x (ix3 b t l) = x (ix2 (⟨1024 * b.val + (pos t).val, by omega⟩ : Fin 8192) l) := by
  pointwise [deinter]
  refine congrArg x (congrArg (ix2 · l) (Fin.ext ?_))
  unfold pos
  dsimp only
  omega

theorem scale_apply (x : FVec Ideal S1024 .f32) (l : Fin 1024) :
    shapeCast S1x1024 x shapeCasts_S1024_S1x1024 (ix2 0 l) = x (ix1 l) := by pointwise

theorem deinter_G3 (u : FVec Ideal S8x1024x1024 .bf16) (w : FVec Ideal S4x256x256 .f32) (s : FVec Ideal S1024 .f32) :
    deinter (G3 u w s) = G u w s := by
  funext i
  idx_vars i
  rw [deinter_apply]
  have hp := (pos i1).isLt
  have hi := i0.isLt
  have h0 : (1024 * i0.val + (pos i1).val) / 1024 = i0.val := by omega
  have h1 : (1024 * i0.val + (pos i1).val) % 1024 = (pos i1).val := by omega
  unfold G3
  refine congrArg (G u w s) (congrArg₂ (ix3 · · i2) (Fin.ext h0) ?_)
  exact (congrArg tm (Fin.ext h1)).trans (tm_pos i1)

variable (m : (ℓ : Loc nD τ sig) → Buf (Elt Ideal) ℓ)

theorem V_main_v2 (c : Dev nD) : V m c main_v2 = inter (m ((c.tc : Thread nD τ).loc main_arg0)) := by
  show StableHlo.after hostOps0 _ (Proc.devRef .tc main_v2) = _
  after_results
  rfl

theorem V_main_v3 (c : Dev nD) : V m c main_v3 = truncf (F := Ideal) (s := S4x256x256) .bf16 (m ((c.tc : Thread nD τ).loc main_arg1)) bitsLt_bf16_f32 := by
  show StableHlo.after hostOps0 _ (Proc.devRef .tc main_v3) = _
  after_results

theorem V_main_v4 (c : Dev nD) : V m c main_v4 = shapeCast S1x1024 (m ((c.tc : Thread nD τ).loc main_arg2)) shapeCasts_S1024_S1x1024 := by
  show StableHlo.after hostOps0 _ (Proc.devRef .tc main_v4) = _
  after_results
  rfl

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![0, 0] := by decide +kernel
theorem idx3 : ∀ t : Fin cfg0.N, win0_3.index t = ![t.val, 0] := by decide +kernel

theorem blk0 (c : Dev nD) (t : Fin cfg0.N) (p k : Fin 1024) :
    iblk m c 0 t (ix2 p k) = (m ((c.tc : Thread nD τ).loc main_arg0)) (ix3 (⟨t.val, t.isLt⟩ : Fin 8) (tm p) k) := by
  have ht : t.val < 8 := t.isLt
  blk_simp [iblk, idx0]; rw [V_main_v2]
  have he : (win0_0.blk t).view.emb (ix2 p k) = ix2 (⟨1024 * (⟨t.val, ht⟩ : Fin 8).val + p.val, by dsimp only; omega⟩ : Fin 8192) k := by
    blk_ext [idx0]
  rw [he]; exact inter_apply _ _ _ _

theorem blk1 (c : Dev nD) (t : Fin cfg0.N) (g : Fin 4) (k l : Fin 256) :
    iblk m c 1 t (ix3 g k l) = (m ((c.tc : Thread nD τ).loc main_arg1)) (ix3 g k l) := by
  blk_simp [iblk, idx1]; rw [V_main_v3]; show m _ _ = _; refine congrArg _ ?_; blk_ext [idx1]

theorem blk2 (c : Dev nD) (t : Fin cfg0.N) (l : Fin 1024) :
    iblk m c 2 t (ix2 0 l) = (m ((c.tc : Thread nD τ).loc main_arg2)) (ix1 l) := by
  blk_simp [iblk, idx2]; rw [V_main_v4]
  have he : (win0_2.blk t).view.emb (ix2 0 l) = ix2 (0 : Fin 1) l := by
    blk_ext [idx2]
  rw [he]; exact scale_apply _ _

theorem tile_eq (c : Dev nD) (t : Fin cfg0.N) (p l : Fin 1024) :
    blockPool (iblk m c 0 t) (iblk m c 1 t) (iblk m c 2 t) p l = G (m ((c.tc : Thread nD τ).loc main_arg0)) (m ((c.tc : Thread nD τ).loc main_arg1)) (m ((c.tc : Thread nD τ).loc main_arg2)) (ix3 (⟨t.val, t.isLt⟩ : Fin 8) (tm p) l) := by
  have e0 : (fun l s => iblk m c 0 t (ix2 (pos s) l)) = fun l s => (m ((c.tc : Thread nD τ).loc main_arg0)) (ix3 (⟨t.val, t.isLt⟩ : Fin 8) s l) := by
    funext l s
    exact (blk0 m c t (pos s) l).trans (congrArg _ (congrArg (ix3 _ · l) (tm_pos s)))
  have e1 : (fun g k l => iblk m c 1 t (ix3 g k l)) = fun g k l => (m ((c.tc : Thread nD τ).loc main_arg1)) (ix3 g k l) := by
    funext g k l; exact blk1 m c t g k l
  have e2 : (fun l => iblk m c 2 t (ix2 0 l)) = fun l => (m ((c.tc : Thread nD τ).loc main_arg2)) (ix1 l) := by
    funext l; exact blk2 m c t l
  unfold blockPool G
  rw [e0, e1, e2]
  rfl

theorem arr3_eq (c : Dev nD) : (dats m 0 c).arrAt 3 cfg0.N = G3 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp; rw [after0_3]
  have h1 : (y 1).val < 1024 := (y 1).isLt
  have h0 : (y 0).val < 1024 := (y 0).isLt
  have ht : t.val < 8 := t.isLt
  have hy : y = ix2 (⟨(y 0).val, h0⟩ : Fin 1024) (⟨(y 1).val, h1⟩ : Fin 1024) := by
    funext i; fin_cases i <;> rfl
  have he : (win0_3.blk t).view.emb y = ix2 (⟨1024 * t.val + (y 0).val, by omega⟩ : Fin 8192) (⟨(y 1).val, h1⟩ : Fin 1024) := by
    blk_ext [idx3]
  rw [he]
  refine ((congrArg (out0_3 _ _ _) hy).trans (out_apply (iblk m c 0 t) (iblk m c 1 t) (iblk m c 2 t) _ _)).trans ?_
  rw [tile_eq]
  have hb : (1024 * t.val + (y 0).val) / 1024 = t.val := by omega
  have hp : (1024 * t.val + (y 0).val) % 1024 = (y 0).val := by omega
  unfold G3
  refine congrArg (G (m ((c.tc : Thread nD τ).loc main_arg0)) (m ((c.tc : Thread nD τ).loc main_arg1)) (m ((c.tc : Thread nD τ).loc main_arg2))) (congrArg₂ (ix3 · · (⟨(y 1).val, h1⟩ : Fin 1024)) (Fin.ext hb.symm) ?_)
  exact congrArg tm (Fin.ext hp.symm)

theorem shared : Pipeline.SharedIn spec0 := by decide

theorem tail_main_v8 (c : Dev nD) :
    Pipeline.afterTail₀ cfgs (dats m) 0 (V0 m) [hostOps1] c main_v8 = G (m ((c.tc : Thread nD τ).loc main_arg0)) (m ((c.tc : Thread nD τ).loc main_arg1)) (m ((c.tc : Thread nD τ).loc main_arg2)) := by
  have hw : Pipeline.withArrays (cfgs 0).spec c (V0 m c) (fun w => (dats m 0 c).arrAt w (cfgs 0).N) (Proc.devRef .tc main_v5)
      = G3 (m ((c.tc : Thread nD τ).loc main_arg0)) (m ((c.tc : Thread nD τ).loc main_arg1)) (m ((c.tc : Thread nD τ).loc main_arg2)) :=
    ((dats m 0 c).withArrays_arrAt shared (V0 m c) (A_eq m c) 3).trans (arr3_eq m c)
  unfold Pipeline.afterTail₀
  simp only [List.flatten_cons, List.flatten_nil, List.append_nil]
  after_results
  rw [hw]
  exact deinter_G3 _ _ _

/-- The program's run, with its result the array above. -/
theorem run (ρ : Dev nD → PrngReg) :
    θ_run defs (onTc (τ := τ) (main (F := Ideal))) ⟨m, fun _ => 0, ρ⟩ fun r => ∀ c : Dev nD,
      r.2.mem ((c.tc : Thread nD τ).loc main_v8) = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v8 (Pipeline.mem_restRefs_of main_v8 (by decide) (by decide))).trans (tail_main_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.PoolIdeal.Pool

end
-- ==== Proof.PoolRef.lean ====
/- The pooling's reference at an index of its result. -/
module

public import proofs.«01_k».proof.Proof.Gen.PoolReferenceIdeal.Run
public import proofs.«01_k».proof.Proof.PoolValue

@[expose] public section

set_option maxRecDepth 16384

noncomputable section

namespace Cert.PoolReferenceIdeal.Pool

open Cert.PoolReferenceIdeal Cert.PoolReferenceIdeal.Gen Idealize.ShloMosaic
open Cert.PoolIdeal.Pool (ext poolAt poolB poolG poolG_at cntBits)

section
variable {F : FTy → Type} [FloatOps F] (u : FVec F S8x1024x1024 .bf16) (w : FVec F S4x256x256 .f32) (s : FVec F S1024 .f32)

/-- How many of a window's times lie within the sequence. -/
def cnt (left width : BitVec 32) : IVec S1024 32 :=
  subi (minsi (broadcastInDim S1024 ![] bcast_S_S1024 (id (constantI S_ 32 1024#32))) (maxsi (broadcastInDim S1024 ![] bcast_S_S1024 (id (constantI S_ 32 0#32))) (addi (subi (iotaInDim S1024 32 0) (broadcastInDim S1024 ![] bcast_S_S1024 (constantI S_ 32 left))) (broadcastInDim S1024 ![] bcast_S_S1024 (constantI S_ 32 width))))) (minsi (broadcastInDim S1024 ![] bcast_S_S1024 (id (constantI S_ 32 1024#32))) (maxsi (broadcastInDim S1024 ![] bcast_S_S1024 (id (constantI S_ 32 0#32))) (subi (iotaInDim S1024 32 0) (broadcastInDim S1024 ![] bcast_S_S1024 (constantI S_ 32 left)))))

/-- One group's product, from its columns, its windows' sums and its matrix. -/
def grp (left width : BitVec 32) (x win : FVec F S8x1024x256 .f32) (wg : FVec F S1x256x256 .f32) : FVec F S8x1024x256 .f32 :=
  Host.dotGeneral dot_S8x1024x256_S256x256_S8x1024x256_2_0_01_1_n_n none (subf (Host.divf win (broadcastInDim S8x1024x256 ![0, 1, 2] bcast_S1x1024x1_S8x1024x256_0_1_2 (broadcastInDim S1x1024x1 ![1] bcast_S1024_S1x1024x1_1 (sitofp .f32 (cnt left width))))) x) (shapeCast _ wg shapeCasts_S1x256x256_S256x256)

/-- Group 0's columns, the same padded with zero rows, and the windows' sums. -/
def u0 : FVec F S8x1024x256 .f32 := extractStridedSlice S8x1024x256 ![0, 0, 0] (extf .f32 u bitsLt_bf16_f32) slices_S8x1024x1024_S8x1024x256_0_0_0
def pad0 : FVec F S8x1025x256 .f32 := pad S8x1025x256 ![0, 1, 0] ![0, 0, 0] ![0, 0, 0] (u0 u) (sitofp .f32 (constantI S_ 32 0#32)) pads_S8x1024x256_S8x1025x256_000_100_000 h_S_
def sum0 : FVec F S8x1024x256 .f32 := addf (extractStridedSlice S8x1024x256 ![0, 0, 0] (pad0 u) slices_S8x1025x256_S8x1024x256_0_0_0) (extractStridedSlice S8x1024x256 ![0, 1, 0] (pad0 u) slices_S8x1025x256_S8x1024x256_0_1_0)

/-- Group 1's columns, the same padded with zero rows, and the windows' sums. -/
def u1 : FVec F S8x1024x256 .f32 := extractStridedSlice S8x1024x256 ![0, 0, 256] (extf .f32 u bitsLt_bf16_f32) slices_S8x1024x1024_S8x1024x256_0_0_256
def pad1 : FVec F S8x1027x256 .f32 := pad S8x1027x256 ![0, 2, 0] ![0, 1, 0] ![0, 0, 0] (u1 u) (sitofp .f32 (constantI S_ 32 0#32)) pads_S8x1024x256_S8x1027x256_000_210_000 h_S_
def sum1 : FVec F S8x1024x256 .f32 := addf (addf (addf (extractStridedSlice S8x1024x256 ![0, 0, 0] (pad1 u) slices_S8x1027x256_S8x1024x256_0_0_0) (extractStridedSlice S8x1024x256 ![0, 1, 0] (pad1 u) slices_S8x1027x256_S8x1024x256_0_1_0)) (extractStridedSlice S8x1024x256 ![0, 2, 0] (pad1 u) slices_S8x1027x256_S8x1024x256_0_2_0)) (extractStridedSlice S8x1024x256 ![0, 3, 0] (pad1 u) slices_S8x1027x256_S8x1024x256_0_3_0)

/-- Group 2's columns, the same padded with zero rows, and the windows' sums. -/
def u2 : FVec F S8x1024x256 .f32 := extractStridedSlice S8x1024x256 ![0, 0, 512] (extf .f32 u bitsLt_bf16_f32) slices_S8x1024x1024_S8x1024x256_0_0_512
def pad2 : FVec F S8x1031x256 .f32 := pad S8x1031x256 ![0, 4, 0] ![0, 3, 0] ![0, 0, 0] (u2 u) (sitofp .f32 (constantI S_ 32 0#32)) pads_S8x1024x256_S8x1031x256_000_430_000 h_S_
def sum2 : FVec F S8x1024x256 .f32 := addf (addf (addf (addf (addf (addf (addf (extractStridedSlice S8x1024x256 ![0, 0, 0] (pad2 u) slices_S8x1031x256_S8x1024x256_0_0_0) (extractStridedSlice S8x1024x256 ![0, 1, 0] (pad2 u) slices_S8x1031x256_S8x1024x256_0_1_0)) (extractStridedSlice S8x1024x256 ![0, 2, 0] (pad2 u) slices_S8x1031x256_S8x1024x256_0_2_0)) (extractStridedSlice S8x1024x256 ![0, 3, 0] (pad2 u) slices_S8x1031x256_S8x1024x256_0_3_0)) (extractStridedSlice S8x1024x256 ![0, 4, 0] (pad2 u) slices_S8x1031x256_S8x1024x256_0_4_0)) (extractStridedSlice S8x1024x256 ![0, 5, 0] (pad2 u) slices_S8x1031x256_S8x1024x256_0_5_0)) (extractStridedSlice S8x1024x256 ![0, 6, 0] (pad2 u) slices_S8x1031x256_S8x1024x256_0_6_0)) (extractStridedSlice S8x1024x256 ![0, 7, 0] (pad2 u) slices_S8x1031x256_S8x1024x256_0_7_0)

/-- Group 3's columns, the same padded with zero rows, and the windows' sums. -/
def u3 : FVec F S8x1024x256 .f32 := extractStridedSlice S8x1024x256 ![0, 0, 768] (extf .f32 u bitsLt_bf16_f32) slices_S8x1024x1024_S8x1024x256_0_0_768
def pad3 : FVec F S8x1039x256 .f32 := pad S8x1039x256 ![0, 8, 0] ![0, 7, 0] ![0, 0, 0] (u3 u) (sitofp .f32 (constantI S_ 32 0#32)) pads_S8x1024x256_S8x1039x256_000_870_000 h_S_
def sum3 : FVec F S8x1024x256 .f32 := addf (addf (addf (addf (addf (addf (addf (addf (addf (addf (addf (addf (addf (addf (addf (extractStridedSlice S8x1024x256 ![0, 0, 0] (pad3 u) slices_S8x1039x256_S8x1024x256_0_0_0) (extractStridedSlice S8x1024x256 ![0, 1, 0] (pad3 u) slices_S8x1039x256_S8x1024x256_0_1_0)) (extractStridedSlice S8x1024x256 ![0, 2, 0] (pad3 u) slices_S8x1039x256_S8x1024x256_0_2_0)) (extractStridedSlice S8x1024x256 ![0, 3, 0] (pad3 u) slices_S8x1039x256_S8x1024x256_0_3_0)) (extractStridedSlice S8x1024x256 ![0, 4, 0] (pad3 u) slices_S8x1039x256_S8x1024x256_0_4_0)) (extractStridedSlice S8x1024x256 ![0, 5, 0] (pad3 u) slices_S8x1039x256_S8x1024x256_0_5_0)) (extractStridedSlice S8x1024x256 ![0, 6, 0] (pad3 u) slices_S8x1039x256_S8x1024x256_0_6_0)) (extractStridedSlice S8x1024x256 ![0, 7, 0] (pad3 u) slices_S8x1039x256_S8x1024x256_0_7_0)) (extractStridedSlice S8x1024x256 ![0, 8, 0] (pad3 u) slices_S8x1039x256_S8x1024x256_0_8_0)) (extractStridedSlice S8x1024x256 ![0, 9, 0] (pad3 u) slices_S8x1039x256_S8x1024x256_0_9_0)) (extractStridedSlice S8x1024x256 ![0, 10, 0] (pad3 u) slices_S8x1039x256_S8x1024x256_0_10_0)) (extractStridedSlice S8x1024x256 ![0, 11, 0] (pad3 u) slices_S8x1039x256_S8x1024x256_0_11_0)) (extractStridedSlice S8x1024x256 ![0, 12, 0] (pad3 u) slices_S8x1039x256_S8x1024x256_0_12_0)) (extractStridedSlice S8x1024x256 ![0, 13, 0] (pad3 u) slices_S8x1039x256_S8x1024x256_0_13_0)) (extractStridedSlice S8x1024x256 ![0, 14, 0] (pad3 u) slices_S8x1039x256_S8x1024x256_0_14_0)) (extractStridedSlice S8x1024x256 ![0, 15, 0] (pad3 u) slices_S8x1039x256_S8x1024x256_0_15_0)

/-- The groups side by side. -/
def cat : FVec F S8x1024x1024 .f32 :=
  concatenate S8x1024x1024 2 [⟨S8x1024x256, grp 1#32 2#32 (u0 u) (sum0 u) (extractStridedSlice S1x256x256 ![0, 0, 0] w slices_S4x256x256_S1x256x256_0_0_0)⟩, ⟨S8x1024x256, grp 2#32 4#32 (u1 u) (sum1 u) (extractStridedSlice S1x256x256 ![1, 0, 0] w slices_S4x256x256_S1x256x256_1_0_0)⟩, ⟨S8x1024x256, grp 4#32 8#32 (u2 u) (sum2 u) (extractStridedSlice S1x256x256 ![2, 0, 0] w slices_S4x256x256_S1x256x256_2_0_0)⟩, ⟨S8x1024x256, grp 8#32 16#32 (u3 u) (sum3 u) (extractStridedSlice S1x256x256 ![3, 0, 0] w slices_S4x256x256_S1x256x256_3_0_0)⟩] concatenates_S8x1024x256_S8x1024x256_S8x1024x256_S8x1024x256_S8x1024x1024_d2

/-- The reference's result. -/
def out : FVec F S8x1024x1024 .bf16 :=
  truncf .bf16 (mulf (cat u w) (broadcastInDim S8x1024x1024 ![0, 1, 2] bcast_S1x1x1024_S8x1024x1024_0_1_2 (broadcastInDim S1x1x1024 ![2] bcast_S1024_S1x1x1024_2 s))) bitsLt_bf16_f32
end

/-- The reference's run, with its result the term above. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v138) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => h c) (Value.run m ρ)

variable (u : FVec Ideal S8x1024x1024 .bf16) (w : FVec Ideal S4x256x256 .f32) (s : FVec Ideal S1024 .f32)

/-- A column of a sequence, by time. -/
def colR (b : Fin 8) (c : Fin 1024) (t : Fin 1024) : EReal := u (ix3 b t c)

theorem u0_apply (b : Fin 8) (t : Fin 1024) (l : Fin 256) : u0 u (ix3 b t l) = colR u b ⟨256 * 0 + l.val, by omega⟩ t := by
  pointwise [u0, colR]

theorem pad0_apply (b : Fin 8) (t : Fin 1025) (l : Fin 256) : pad0 u (ix3 b t l) = ext (colR u b ⟨256 * 0 + l.val, by omega⟩) ((t.val : Int) - 1) := by
  have hb := t.isLt
  pointwise [pad0, u0_apply, ext]
  by_cases ht : 1 ≤ t.val ∧ t.val < 1025
  · rw [dif_pos (by omega), dif_pos (by omega)]
    exact congrArg (colR u b _) (Fin.ext (by dsimp only; omega))
  · rw [dif_neg (by omega), dif_neg (by omega)]
    simp [FloatOps.sitofp]

theorem sum0_apply (b : Fin 8) (t : Fin 1024) (l : Fin 256) :
    sum0 u (ix3 b t l) = ∑ i ∈ Finset.range (1 + 1), ext (colR u b ⟨256 * 0 + l.val, by omega⟩) ((t.val : Int) - (1 : Nat) + i) := by
  pointwise [sum0, pad0_apply]
  show _ = ∑ i ∈ Finset.range 2, _
  simp only [Finset.sum_range_succ, Finset.sum_range_zero, zero_add]
  repeat' first | refine congrArg₂ (· + ·) ?_ (congrArg (ext _) (by push_cast; omega)) | exact congrArg (ext _) (by push_cast; omega)

theorem cnt0 : ∀ t : Fin 1024, cnt 1#32 2#32 (ix1 t) = cntBits 1#32 t := by decide +kernel

theorem u1_apply (b : Fin 8) (t : Fin 1024) (l : Fin 256) : u1 u (ix3 b t l) = colR u b ⟨256 * 1 + l.val, by omega⟩ t := by
  pointwise [u1, colR]

theorem pad1_apply (b : Fin 8) (t : Fin 1027) (l : Fin 256) : pad1 u (ix3 b t l) = ext (colR u b ⟨256 * 1 + l.val, by omega⟩) ((t.val : Int) - 2) := by
  have hb := t.isLt
  pointwise [pad1, u1_apply, ext]
  by_cases ht : 2 ≤ t.val ∧ t.val < 1026
  · rw [dif_pos (by omega), dif_pos (by omega)]
    exact congrArg (colR u b _) (Fin.ext (by dsimp only; omega))
  · rw [dif_neg (by omega), dif_neg (by omega)]
    simp [FloatOps.sitofp]

theorem sum1_apply (b : Fin 8) (t : Fin 1024) (l : Fin 256) :
    sum1 u (ix3 b t l) = ∑ i ∈ Finset.range (2 + 2), ext (colR u b ⟨256 * 1 + l.val, by omega⟩) ((t.val : Int) - (2 : Nat) + i) := by
  pointwise [sum1, pad1_apply]
  show _ = ∑ i ∈ Finset.range 4, _
  simp only [Finset.sum_range_succ, Finset.sum_range_zero, zero_add]
  repeat' first | refine congrArg₂ (· + ·) ?_ (congrArg (ext _) (by push_cast; omega)) | exact congrArg (ext _) (by push_cast; omega)

theorem cnt1 : ∀ t : Fin 1024, cnt 2#32 4#32 (ix1 t) = cntBits 2#32 t := by decide +kernel

theorem u2_apply (b : Fin 8) (t : Fin 1024) (l : Fin 256) : u2 u (ix3 b t l) = colR u b ⟨256 * 2 + l.val, by omega⟩ t := by
  pointwise [u2, colR]

theorem pad2_apply (b : Fin 8) (t : Fin 1031) (l : Fin 256) : pad2 u (ix3 b t l) = ext (colR u b ⟨256 * 2 + l.val, by omega⟩) ((t.val : Int) - 4) := by
  have hb := t.isLt
  pointwise [pad2, u2_apply, ext]
  by_cases ht : 4 ≤ t.val ∧ t.val < 1028
  · rw [dif_pos (by omega), dif_pos (by omega)]
    exact congrArg (colR u b _) (Fin.ext (by dsimp only; omega))
  · rw [dif_neg (by omega), dif_neg (by omega)]
    simp [FloatOps.sitofp]

theorem sum2_apply (b : Fin 8) (t : Fin 1024) (l : Fin 256) :
    sum2 u (ix3 b t l) = ∑ i ∈ Finset.range (4 + 4), ext (colR u b ⟨256 * 2 + l.val, by omega⟩) ((t.val : Int) - (4 : Nat) + i) := by
  pointwise [sum2, pad2_apply]
  show _ = ∑ i ∈ Finset.range 8, _
  simp only [Finset.sum_range_succ, Finset.sum_range_zero, zero_add]
  repeat' first | refine congrArg₂ (· + ·) ?_ (congrArg (ext _) (by push_cast; omega)) | exact congrArg (ext _) (by push_cast; omega)

theorem cnt2 : ∀ t : Fin 1024, cnt 4#32 8#32 (ix1 t) = cntBits 4#32 t := by decide +kernel

theorem u3_apply (b : Fin 8) (t : Fin 1024) (l : Fin 256) : u3 u (ix3 b t l) = colR u b ⟨256 * 3 + l.val, by omega⟩ t := by
  pointwise [u3, colR]

theorem pad3_apply (b : Fin 8) (t : Fin 1039) (l : Fin 256) : pad3 u (ix3 b t l) = ext (colR u b ⟨256 * 3 + l.val, by omega⟩) ((t.val : Int) - 8) := by
  have hb := t.isLt
  pointwise [pad3, u3_apply, ext]
  by_cases ht : 8 ≤ t.val ∧ t.val < 1032
  · rw [dif_pos (by omega), dif_pos (by omega)]
    exact congrArg (colR u b _) (Fin.ext (by dsimp only; omega))
  · rw [dif_neg (by omega), dif_neg (by omega)]
    simp [FloatOps.sitofp]

theorem sum3_apply (b : Fin 8) (t : Fin 1024) (l : Fin 256) :
    sum3 u (ix3 b t l) = ∑ i ∈ Finset.range (8 + 8), ext (colR u b ⟨256 * 3 + l.val, by omega⟩) ((t.val : Int) - (8 : Nat) + i) := by
  pointwise [sum3, pad3_apply]
  show _ = ∑ i ∈ Finset.range 16, _
  simp only [Finset.sum_range_succ, Finset.sum_range_zero, zero_add]
  repeat' first | refine congrArg₂ (· + ·) ?_ (congrArg (ext _) (by push_cast; omega)) | exact congrArg (ext _) (by push_cast; omega)

theorem cnt3 : ∀ t : Fin 1024, cnt 8#32 16#32 (ix1 t) = cntBits 8#32 t := by decide +kernel

theorem grp_apply (left width : BitVec 32) (x win : FVec Ideal S8x1024x256 .f32) (wg : FVec Ideal S1x256x256 .f32) (b : Fin 8) (t : Fin 1024) (l : Fin 256) :
    grp left width x win wg (ix3 b t l) = ∑ k, (Ideal.div (win (ix3 b t k)) (FloatOps.sitofp (F := Ideal) .f32 (cnt left width (ix1 t))) - x (ix3 b t k)) * wg (ix3 0 k l) := by
  pointwise [grp]

/-- One group's product is the group's entry, short of its scale. -/
theorem grp_pool (g : Fin 4) (m : Nat) (hm : m = 2 ^ g.val) (left width : BitVec 32) (x win : FVec Ideal S8x1024x256 .f32) (wg : FVec Ideal S1x256x256 .f32) (b : Fin 8) (t : Fin 1024) (l : Fin 256) (c : Fin 1024)
    (hx : ∀ k : Fin 256, x (ix3 b t k) = colR u b ⟨256 * g.val + k.val, by omega⟩ t)
    (hwin : ∀ k : Fin 256, win (ix3 b t k) = ∑ i ∈ Finset.range (m + m), ext (colR u b ⟨256 * g.val + k.val, by omega⟩) ((t.val : Int) - m + i))
    (hc : cnt left width (ix1 t) = cntBits (BitVec.ofNat 32 m) t) (hw : ∀ k, wg (ix3 0 k l) = w (ix3 g k l)) (e : c.val = 256 * g.val + l.val) :
    grp left width x win wg (ix3 b t l) * s (ix1 c) = poolG (fun c t => u (ix3 b t c)) (fun g k l => w (ix3 g k l)) (fun c => s (ix1 c)) t c := by
  refine Eq.trans ?_ (poolG_at _ _ _ _ c g l e)
  rw [grp_apply]
  unfold poolB poolAt
  subst hm
  refine congrArg₂ (· * ·) (Finset.sum_congr rfl fun k _ => congrArg₂ (· * ·) ?_ (hw k)) (congrArg s (congrArg ix1 (Fin.ext e)))
  rw [hx, hwin, hc]
  rfl

theorem out_eq : out u w s = Cert.PoolIdeal.Pool.G u w s := by
  funext i
  idx_vars i
  show _ = poolG (fun c t => u (ix3 i0 t c)) (fun g k l => w (ix3 g k l)) (fun c => s (ix1 c)) i1 i2
  have hi := i2.isLt
  pointwise [out, cat]
  by_cases h0 : i2.val < 256
  · rw [dif_pos (by omega)]
    exact grp_pool u w s 0 1 rfl _ _ _ _ _ i0 i1 _ i2 (fun k => u0_apply u i0 i1 k) (fun k => sum0_apply u i0 i1 k) (cnt0 i1) (fun k => by pointwise) (by dsimp only; omega)
  by_cases h1 : i2.val < 512
  · rw [dif_neg (by omega)]; rw [dif_pos (by omega)]
    exact grp_pool u w s 1 2 rfl _ _ _ _ _ i0 i1 _ i2 (fun k => u1_apply u i0 i1 k) (fun k => sum1_apply u i0 i1 k) (cnt1 i1) (fun k => by pointwise) (by dsimp only; omega)
  by_cases h2 : i2.val < 768
  · rw [dif_neg (by omega)]; rw [dif_neg (by omega)]; rw [dif_pos (by omega)]
    exact grp_pool u w s 2 4 rfl _ _ _ _ _ i0 i1 _ i2 (fun k => u2_apply u i0 i1 k) (fun k => sum2_apply u i0 i1 k) (cnt2 i1) (fun k => by pointwise) (by dsimp only; omega)
  rw [dif_neg (by omega), dif_neg (by omega), dif_neg (by omega)]
  exact grp_pool u w s 3 8 rfl _ _ _ _ _ i0 i1 _ i2 (fun k => u3_apply u i0 i1 k) (fun k => sum3_apply u i0 i1 k) (cnt3 i1) (fun k => by pointwise) (by dsimp only; omega)

end Cert.PoolReferenceIdeal.Pool

end
-- ==== Proof.PoolClaim.lean ====
/- The pooling's claims: the programs run and keep their arguments, and their results are equal. -/
module

public import proofs.«01_k».proof.Defs
public import proofs.«01_k».proof.Proof.Gen.Pool.Frame
public import proofs.«01_k».proof.Proof.PoolRef
public import Idealize.ShloMosaic.Adequacy
public import Idealize.ShloMosaic.Init

@[expose] public section

noncomputable section

namespace Cert.Proof.Pool

open Idealize.ShloMosaic Idealize.SL.Sem

theorem ref_quiescent : Cert.quiescent_PoolReferenceIdeal := fun m ρ _ =>
  (θ_run Cert.PoolReferenceIdeal.defs _ _).mono (fun r h => ⟨fun c => (h c).2, sem_eq_zero_of_no_sems (by decide) r.2⟩)
    (Cert.PoolReferenceIdeal.Pool.run m ρ)

theorem algebraic : Cert.algebraic_PoolIdeal_PoolReferenceIdeal := by
  intro m g m' g' hpre hagree
  refine ⟨fun c => Cert.PoolIdeal.Pool.G (m ((c.tc : Thread _ _).loc Cert.PoolIdeal.main_arg0)) (m ((c.tc : Thread _ _).loc Cert.PoolIdeal.main_arg1)) (m ((c.tc : Thread _ _).loc Cert.PoolIdeal.main_arg2)), Cert.PoolIdeal.Pool.run m g, ?_⟩
  refine (θ_run Cert.PoolReferenceIdeal.defs _ _).mono (fun _ h c => ⟨(h c).1.trans ?_, (h c).2⟩)
    (Cert.PoolReferenceIdeal.Pool.run m' g')
  obtain ⟨e0, e1, e2⟩ := hagree c
  rw [e0, e1, e2]
  exact Cert.PoolReferenceIdeal.Pool.out_eq _ _ _

/-- Everything claimed of the pooling. -/
theorem claims : Cert.quiescent_Pool ∧ Cert.quiescent_PoolIdeal ∧ Cert.quiescent_PoolReferenceIdeal
    ∧ Cert.preserves_Pool_PoolIdeal ∧ Cert.algebraic_PoolIdeal_PoolReferenceIdeal :=
  ⟨fun m ρ _ => Cert.Pool.Gen.frame m ρ, fun m ρ _ => Cert.PoolIdeal.Gen.frame m ρ, ref_quiescent, trivial, algebraic⟩

end Cert.Proof.Pool

end
-- ==== Proof.ModlTile.lean ====
/- The modulation: the kernel's tile and its whole result, entry by entry. -/
module

public import proofs.«01_k».proof.Proof.Gen.ModulationIdeal.Value
public import Idealize.ShloMosaic.Lib.Pipeline.ValueKit
public import Idealize.ShloMosaic.Lib.Pointwise
public import Idealize.ShloMosaic.Lib.StableHlo.Run

@[expose] public section

set_option maxRecDepth 16384

noncomputable section

namespace Cert.ModulationIdeal.Modl

open Cert.ModulationIdeal Cert.ModulationIdeal.Gen Idealize.ShloMosaic Idealize.ShloMosaic.TcCoe

/-- One entry: a row's values, each times its logistic, through a column of the matrix, and the bias. -/
def row (x w : Fin 1024 → EReal) (b : EReal) : EReal := (∑ k, x k * Ideal.logistic (x k) * w k) + b

/-- The whole result, entry by entry. -/
def G (x : FVec Ideal S16x1024 .f32) (w : FVec Ideal S2x1024x6144 .f32) (b : FVec Ideal S2x6144 .f32) : FVec Ideal S2x16x6144 .f32 := fun i =>
  row (fun k => x (ix2 (i 1) k)) (fun k => w (ix3 (i 0) k (i 2))) (b (ix2 (i 0) (i 2)))

theorem out_apply (x0 : FVec Ideal S16x1024 .f32) (x1 : FVec Ideal S1x1024x1536 .f32) (x2 : FVec Ideal S1x1x1536 .f32) (r : Fin 16) (l : Fin 1536) :
    out0_3 (F := Ideal) x0 x1 x2 (ix3 0 r l) = row (fun k => x0 (ix2 r k)) (fun k => x1 (ix3 0 k l)) (x2 (ix3 0 0 l)) := by
  unfold out0_3
  canon_tiles x e
  idx_vars x
  pointwise [k0_pay1]
  obtain rfl : r = _ := Fin.ext e1
  obtain rfl : l = _ := Fin.ext e2
  rfl

theorem bias_apply (x : FVec Ideal S2x6144 .f32) (d : Fin 2) (l : Fin 6144) :
    shapeCast S2x1x6144 x shapeCasts_S2x6144_S2x1x6144 (ix3 d 0 l) = x (ix2 d l) := by pointwise

variable (m : (ℓ : Loc nD τ sig) → Buf (Elt Ideal) ℓ)

theorem V_main_v0 (c : Dev nD) : V m c main_v0 = shapeCast S2x1x6144 (m ((c.tc : Thread nD τ).loc main_arg2)) shapeCasts_S2x6144_S2x1x6144 := by
  show StableHlo.after hostOps0 _ (Proc.devRef .tc main_v0) = _
  after_results
  rfl

theorem idx0 : ∀ t : Fin cfg0.N, win0_0.index t = ![0, 0] := by decide +kernel
theorem idx1 : ∀ t : Fin cfg0.N, win0_1.index t = ![t.val / 4, 0, t.val % 4] := by decide +kernel
theorem idx2 : ∀ t : Fin cfg0.N, win0_2.index t = ![t.val / 4, 0, t.val % 4] := by decide +kernel
theorem idx3 : ∀ t : Fin cfg0.N, win0_3.index t = ![t.val / 4, 0, t.val % 4] := by decide +kernel

theorem blk0 (c : Dev nD) (t : Fin cfg0.N) (r : Fin 16) (k : Fin 1024) : iblk m c 0 t (ix2 r k) = (m ((c.tc : Thread nD τ).loc main_arg0)) (ix2 r k) := by
  blk_simp [iblk, idx0]; rw [V_main_arg0]; refine congrArg _ ?_; blk_ext [idx0]

theorem blk1 (c : Dev nD) (t : Fin cfg0.N) (k : Fin 1024) (l : Fin 1536) :
    iblk m c 1 t (ix3 0 k l) = (m ((c.tc : Thread nD τ).loc main_arg1)) (ix3 ⟨t.val / 4, by have : t.val < 8 := t.isLt; omega⟩ k ⟨1536 * (t.val % 4) + l.val, by omega⟩) := by
  have ht : t.val < 8 := t.isLt
  blk_simp [iblk, idx1]; rw [V_main_arg1]; refine congrArg _ ?_; blk_ext [idx1]

theorem blk2 (c : Dev nD) (t : Fin cfg0.N) (l : Fin 1536) :
    iblk m c 2 t (ix3 0 0 l) = (m ((c.tc : Thread nD τ).loc main_arg2)) (ix2 ⟨t.val / 4, by have : t.val < 8 := t.isLt; omega⟩ ⟨1536 * (t.val % 4) + l.val, by omega⟩) := by
  have ht : t.val < 8 := t.isLt
  blk_simp [iblk, idx2]; rw [V_main_v0]
  have he : (win0_2.blk t).view.emb (ix3 0 0 l) = ix3 (⟨t.val / 4, by omega⟩ : Fin 2) (0 : Fin 1) (⟨1536 * (t.val % 4) + l.val, by omega⟩ : Fin 6144) := by
    blk_ext [idx2]
  rw [he]; exact bias_apply _ _ _

theorem arr_eq (c : Dev nD) : (dats m 0 c).arrAt 3 cfg0.N = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp; rw [after0_3]
  have h2 : (y 2).val < 1536 := (y 2).isLt
  have h1 : (y 1).val < 16 := (y 1).isLt
  have h0 : (y 0).val < 1 := (y 0).isLt
  have ht : t.val < 8 := t.isLt
  have hy : y = ix3 (0 : Fin 1) (⟨(y 1).val, h1⟩ : Fin 16) (⟨(y 2).val, h2⟩ : Fin 1536) := by
    funext i; fin_cases i
    · exact Fin.ext (Nat.lt_one_iff.1 h0)
    · rfl
    · rfl
  have he : (win0_3.blk t).view.emb y = ix3 (⟨t.val / 4, by omega⟩ : Fin 2) (⟨(y 1).val, h1⟩ : Fin 16) (⟨1536 * (t.val % 4) + (y 2).val, by omega⟩ : Fin 6144) := by
    blk_ext [idx3]
  rw [he]
  refine ((congrArg (out0_3 _ _ _) hy).trans (out_apply (iblk m c 0 t) (iblk m c 1 t) (iblk m c 2 t) _ _)).trans ?_
  unfold G
  congr 1
  · funext k; exact blk0 m c t _ _
  · funext k; exact blk1 m c t _ _
  · exact blk2 m c t _

end Cert.ModulationIdeal.Modl

end
-- ==== Proof.ModlRef.lean ====
/- The modulation's reference at an index of its result. -/
module

public import proofs.«01_k».proof.Proof.Gen.ModulationReferenceIdeal.Run
public import proofs.«01_k».proof.Proof.ModlTile

@[expose] public section

set_option maxRecDepth 16384

noncomputable section

namespace Cert.ModulationReferenceIdeal.Modl

open Cert.ModulationReferenceIdeal Cert.ModulationReferenceIdeal.Gen Idealize.ShloMosaic

section
variable {F : FTy → Type} [FloatOps F] (x : FVec F S16x1024 .f32) (w : FVec F S2x1024x6144 .f32) (b : FVec F S2x6144 .f32)

/-- The rows' values times their logistics. -/
def silu : FVec F S16x1024 .f32 := mulf x (Host.divf (broadcastInDim S16x1024 ![] bcast_S_S16x1024 (constant S_ .f32 0x3F800000#32)) (addf (broadcastInDim S16x1024 ![] bcast_S_S16x1024 (constant S_ .f32 0x3F800000#32)) (Host.exp (Host.negf x))))

/-- The reference's result. -/
def out : FVec F S2x16x6144 .f32 :=
  concatenate S2x16x6144 0 [⟨S1x16x6144, (broadcastInDim S1x16x6144 ![1, 2] bcast_S16x6144_S1x16x6144_1_2 (addf (Host.dotGeneral dot_S16x1024_S1024x6144_S16x6144_1_0_0_1_n_n none (silu x) (shapeCast _ (extractStridedSlice S1x1024x6144 ![0, 0, 0] w slices_S2x1024x6144_S1x1024x6144_0_0_0) shapeCasts_S1x1024x6144_S1024x6144)) (broadcastInDim S16x6144 ![0, 1] bcast_S1x6144_S16x6144_0_1 (broadcastInDim S1x6144 ![1] bcast_S6144_S1x6144_1 (shapeCast _ (extractStridedSlice S1x6144 ![0, 0] b slices_S2x6144_S1x6144_0_0) shapeCasts_S1x6144_S6144)))))⟩, ⟨S1x16x6144, (broadcastInDim S1x16x6144 ![1, 2] bcast_S16x6144_S1x16x6144_1_2 (addf (Host.dotGeneral dot_S16x1024_S1024x6144_S16x6144_1_0_0_1_n_n none (silu x) (shapeCast _ (extractStridedSlice S1x1024x6144 ![1, 0, 0] w slices_S2x1024x6144_S1x1024x6144_1_0_0) shapeCasts_S1x1024x6144_S1024x6144)) (broadcastInDim S16x6144 ![0, 1] bcast_S1x6144_S16x6144_0_1 (broadcastInDim S1x6144 ![1] bcast_S6144_S1x6144_1 (shapeCast _ (extractStridedSlice S1x6144 ![1, 0] b slices_S2x6144_S1x6144_1_0) shapeCasts_S1x6144_S6144)))))⟩] concatenates_S1x16x6144_S1x16x6144_S2x16x6144_d0
end

/-- The reference's run, with its result the term above. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => h c) (Value.run m ρ)

variable (x : FVec Ideal S16x1024 .f32) (w : FVec Ideal S2x1024x6144 .f32) (b : FVec Ideal S2x6144 .f32)

theorem silu_apply (r : Fin 16) (k : Fin 1024) : silu x (ix2 r k) = x (ix2 r k) * Ideal.logistic (x (ix2 r k)) := by
  pointwise [silu, Ideal.logistic]

/-- The reference's result is the kernel's. -/
theorem out_eq : out x w b = Cert.ModulationIdeal.Modl.G x w b := by
  funext i
  idx_vars i
  pointwise [out, silu_apply, Cert.ModulationIdeal.Modl.G, Cert.ModulationIdeal.Modl.row]
  by_cases h : i0.val < 1
  · obtain rfl : i0 = 0 := Fin.ext (Nat.lt_one_iff.1 h)
    rw [dif_pos (by decide)]
  · obtain rfl : i0 = 1 := Fin.ext (by have := i0.isLt; change i0.val = 1; omega)
    rw [dif_neg (by decide)]

end Cert.ModulationReferenceIdeal.Modl

end
-- ==== Proof.ModlClaim.lean ====
/- The modulation's claims: the programs run and keep their arguments, and their results are equal. -/
module

public import proofs.«01_k».proof.Defs
public import proofs.«01_k».proof.Proof.Gen.Modulation.Frame
public import proofs.«01_k».proof.Proof.ModlRef
public import Idealize.ShloMosaic.Adequacy
public import Idealize.ShloMosaic.Init

@[expose] public section

noncomputable section

namespace Cert.Proof.Modl

open Idealize.ShloMosaic Idealize.SL.Sem

theorem ref_quiescent : Cert.quiescent_ModulationReferenceIdeal := fun m ρ _ =>
  (θ_run Cert.ModulationReferenceIdeal.defs _ _).mono (fun r h => ⟨fun c => (h c).2, sem_eq_zero_of_no_sems (by decide) r.2⟩)
    (Cert.ModulationReferenceIdeal.Value.run m ρ)

theorem algebraic : Cert.algebraic_ModulationIdeal_ModulationReferenceIdeal := by
  intro m g m' g' hpre hagree
  refine ⟨fun c => Cert.ModulationIdeal.Modl.G (m ((c.tc : Thread _ _).loc Cert.ModulationIdeal.main_arg0)) (m ((c.tc : Thread _ _).loc Cert.ModulationIdeal.main_arg1)) (m ((c.tc : Thread _ _).loc Cert.ModulationIdeal.main_arg2)), ?_, ?_⟩
  · exact (θ_run Cert.ModulationIdeal.defs _ _).mono
      (fun _ h c => ⟨(h c).1.trans (Cert.ModulationIdeal.Modl.arr_eq m c), (h c).2⟩) (Cert.ModulationIdeal.Value.run_blocks m g)
  · refine (θ_run Cert.ModulationReferenceIdeal.defs _ _).mono (fun _ h c => ⟨(h c).1.trans ?_, (h c).2⟩) (Cert.ModulationReferenceIdeal.Modl.run m' g')
    obtain ⟨e0, e1, e2⟩ := hagree c
    rw [e0, e1, e2]
    exact Cert.ModulationReferenceIdeal.Modl.out_eq _ _ _

/-- Everything claimed of the modulation. -/
theorem claims : Cert.quiescent_Modulation ∧ Cert.quiescent_ModulationIdeal ∧ Cert.quiescent_ModulationReferenceIdeal
    ∧ Cert.preserves_Modulation_ModulationIdeal ∧ Cert.algebraic_ModulationIdeal_ModulationReferenceIdeal :=
  ⟨fun m ρ _ => Cert.Modulation.Gen.frame m ρ, fun m ρ _ => Cert.ModulationIdeal.Gen.frame m ρ, ref_quiescent, trivial, algebraic⟩

end Cert.Proof.Modl

end
-- ==== Proof.LatPair.lean ====
/- One pair of heads of the attention kernel with cached keys: the tile of 256 queries and 128 output columns that one
   store writes, as a function of the query columns and of the keys and values laid in the two halves of the lanes. -/
module

public import proofs.«01_k».proof.Proof.Gen.LatIdeal.Skeleton
public import proofs.«01_k».proof.Proof.AttnHead
public import Idealize.ShloMosaic.Lib.Pointwise

@[expose] public section

noncomputable section

namespace Cert.LatIdeal.Attn

open Cert.LatIdeal Cert.LatIdeal.Gen Idealize.ShloMosaic

variable {F : FTy → Type} [FloatOps F]

/-- The scaled scores of one head's queries against its keys. -/
def scores (q : FVec F S256x128 .bf16) (k : FVec F S1280x128 .bf16) : FVec F S256x1280 .f32 :=
  mulf (matmul dot_S256x128_S1280x128_S256x1280_1_1_0_0_n_n none q k (constant S256x1280 .f32 0x00000000#32))
    (broadcast S256x1280 (Scalar.ofBits .f32 0x3E000000#32))

/-- The exponentials of the scores less their row's maximum. -/
def expo (q : FVec F S256x128 .bf16) (k : FVec F S1280x128 .bf16) : FVec F S256x1280 .f32 :=
  exp (subf (scores q k) (broadcastTo S256x1280 (shapeCast S256x1 (multiReduction .maximumf [1] S256 (scores q k) 0xFF800000#32
    reduces_S256x1280_S256 (.inl rfl) rfl) shapeCasts_S256_S256x1) broadcasts_S256x1_S256x1280))

/-- One head: the exponentials times the values, each row divided by the row's sum. -/
def headOut (q : FVec F S256x128 .bf16) (k v : FVec F S1280x128 .bf16) : FVec F S256x128 .f32 :=
  divf (matmul dot_S256x1280_S1280x128_S256x128_1_0_0_1_n_n none (truncf .bf16 (expo q k) bitsLt_bf16_f32) v
      (constant S256x128 .f32 0x00000000#32))
    (broadcastTo S256x128 (shapeCast S256x1 (multiReduction .add [1] S256 (expo q k) 0x00000000#32
      reduces_S256x1280_S256 (.inl rfl) rfl) shapeCasts_S256_S256x1) broadcasts_S256x1_S256x128)

/-- Two heads' results in the two halves of 128 lanes. -/
def pairOut (q : FVec F S256x128 .bf16) (klo khi vlo vhi : FVec F S1280x128 .bf16) : FVec F S256x128 .bf16 :=
  truncf .bf16 (addf (addf (broadcast S256x128 (Scalar.ofBits .f32 0x00000000#32)) (headOut q klo vlo)) (headOut q khi vhi))
    bitsLt_bf16_f32

/-! ### The eight payloads are the pair function -/

section Pay
variable (q : FVec F S256x128 .bf16) (a b : FVec F S1280x256 .bf16) (x y : FVec F S1x1x256x256 .f32) (x' y' : FVec F S1024x256 .f32)
  (s : FVec F S1280x128 .bf16) (z : F .bf16) (m : IVec S1x128 1) (i : IVec S1x128 32)

theorem pay1 : k0_pay14 x x' y y' q = pairOut q (k0_pay10 x x') (k0_pay12 x x') (k0_pay11 y y') (k0_pay13 y y') := rfl
theorem pay2 : k0_pay15 x x' y y' q = pairOut q (k0_pay10 x x') (k0_pay12 x x') (k0_pay11 y y') (k0_pay13 y y') := rfl
theorem pay3 : k0_pay22 b m s z q = pairOut q (k0_pay20 m s z) (k0_pay18 m s z) (k0_pay21 b m) (k0_pay19 b m) := rfl
theorem pay4 : k0_pay23 b m s z q = pairOut q (k0_pay20 m s z) (k0_pay18 m s z) (k0_pay21 b m) (k0_pay19 b m) := rfl
theorem pay5 : k0_pay29 a b i q = pairOut q (k0_pay25 a i) (k0_pay27 a i) (k0_pay26 b i) (k0_pay28 b i) := rfl
theorem pay6 : k0_pay30 a b i q = pairOut q (k0_pay25 a i) (k0_pay27 a i) (k0_pay26 b i) (k0_pay28 b i) := rfl
theorem pay7 : k0_pay5 a b m q = pairOut q (k0_pay3 a m) (k0_pay1 a m) (k0_pay4 b m) (k0_pay2 b m) := rfl
theorem pay8 : k0_pay6 a b m q = pairOut q (k0_pay3 a m) (k0_pay1 a m) (k0_pay4 b m) (k0_pay2 b m) := rfl

end Pay

open Cert.EExt Cert.Att

/-- `K` holds the 64 columns of `X` from `o` on in the half `b` of its lanes, and zero in the other half. -/
abbrev Half (b : Fin 2) (K : FVec Ideal S1280x128 .bf16) (X : FVec Ideal S1280x256 .bf16) (o : Nat) (ho : o + 64 ≤ 256) : Prop :=
  Att.Half b (fun j l => K (ix2 j l)) (fun j l => X (ix2 j l)) o ho

/-- One head at a lane is the attention over all the lanes. -/
theorem headOut_apply (q : FVec Ideal S256x128 .bf16) (k v : FVec Ideal S1280x128 .bf16) (r : Fin 256) (l : Fin 128) :
    headOut q k v (ix2 r l) = att (fun d => q (ix2 r d)) (fun x d => k (ix2 x d)) (fun x => v (ix2 x l)) := by
  unfold att
  pointwise [headOut, expo, scores, ofBits_neg_inf]

/-- TWO HEADS: at the lane `d` of the half `b`, the pair's result is the attention of the queries of that half. -/
theorem pairOut_att {q : FVec Ideal S256x128 .bf16} {klo khi vlo vhi : FVec Ideal S1280x128 .bf16} {X Y : FVec Ideal S1280x256 .bf16} {o : Nat}
    {ho : o + 64 ≤ 256} (hklo : Half 0 klo X o ho) (hkhi : Half 1 khi X o ho) (hvlo : Half 0 vlo Y o ho)
    (hvhi : Half 1 vhi Y o ho) (hq : ∀ r l, Fin' (q (ix2 r l))) (hX : ∀ r l, Fin' (X (ix2 r l)))
    (r : Fin 256) (b : Fin 2) (d : Fin 64) :
    pairOut q klo khi vlo vhi (ix2 r (lane b d))
      = att (fun d => q (ix2 r (lane b d))) (fun x d => X (ix2 x ⟨o + d.val, by omega⟩)) (fun x => Y (ix2 x ⟨o + d.val, by omega⟩)) := by
  have e : pairOut q klo khi vlo vhi (ix2 r (lane b d))
      = headOut q klo vlo (ix2 r (lane b d)) + headOut q khi vhi (ix2 r (lane b d)) := by
    pointwise [pairOut]
  rw [e, headOut_apply, headOut_apply]
  exact pair_att (by decide) hklo hkhi hvlo hvhi (fun l => hq r l) hX b d

/-! ### The halves -/

/-- A rotation by half the lanes changes the half. -/
theorem half_rot {b : Fin 2} {K : FVec Ideal S1280x128 .bf16} {X : FVec Ideal S1280x256 .bf16} {o : Nat} {ho : o + 64 ≤ 256}
    (h : Half b K X o ho) : Half (1 - b) (dynamicRotate 1 64#32 none K rotates_S1280x128_d1) X o ho := by
  refine Att.half_rot h fun j c d => ?_
  pointwise
  refine congrArg K (congrArg (ix2 j) (Fin.ext ?_))
  fin_cases c <;> simp [lane] <;> omega

/-- The lane numbers, as the kernel makes them. -/
abbrev lanes : IVec S1x128 32 := iota .tc S1x128 32 [1] iota_S1x128_d1_w32

/-- Zero, as the kernel makes it. -/
abbrev zero16 : Ideal .bf16 := Scalar.ofBits .bf16 0x0000#16

section Halves
variable (x : FVec Ideal S1x1x256x256 .f32) (x' : FVec Ideal S1024x256 .f32) (a : FVec Ideal S1280x256 .bf16)

theorem half_10 : Half 0 (k0_pay10 x x') (k0_pay7 x x') 0 (by decide) :=
  half_lo (ho := by decide) fun j l => by unfold k0_pay10; generalize k0_pay7 (F := Ideal) x x' = X; pointwise [k0_pay9]
theorem half_11 : Half 0 (k0_pay11 x x') (k0_pay8 x x') 0 (by decide) :=
  half_lo (ho := by decide) fun j l => by unfold k0_pay11; generalize k0_pay8 (F := Ideal) x x' = X; pointwise [k0_pay9]
theorem half_12 : Half 1 (k0_pay12 x x') (k0_pay7 x x') 0 (by decide) := half_rot (half_10 x x')
theorem half_13 : Half 1 (k0_pay13 x x') (k0_pay8 x x') 0 (by decide) := half_rot (half_11 x x')
theorem half_18 : Half 1 (k0_pay18 k0_pay16 (k0_pay17 x x') zero16) (k0_pay7 x x') 64 (by decide) :=
  half_hi (o := 0) (ho := by decide) fun j l => by unfold k0_pay18 k0_pay17; generalize k0_pay7 (F := Ideal) x x' = X; pointwise [k0_pay16]
theorem half_19 : Half 1 (k0_pay19 a k0_pay16) a 64 (by decide) :=
  half_hi (o := 0) (ho := by decide) fun j l => by pointwise [k0_pay19, k0_pay16]
theorem half_20 : Half 0 (k0_pay20 k0_pay16 (k0_pay17 x x') zero16) (k0_pay7 x x') 64 (by decide) := half_rot (half_18 x x')
theorem half_21 : Half 0 (k0_pay21 a k0_pay16) a 64 (by decide) := half_rot (half_19 a)
theorem half_25 : Half 0 (k0_pay25 a lanes) a 128 (by decide) :=
  half_lo (ho := by decide) fun j l => by pointwise [k0_pay25, k0_pay24]
theorem half_26 : Half 0 (k0_pay26 a lanes) a 128 (by decide) :=
  half_lo (ho := by decide) fun j l => by pointwise [k0_pay26, k0_pay24]
theorem half_27 : Half 1 (k0_pay27 a lanes) a 128 (by decide) := half_rot (half_25 a)
theorem half_28 : Half 1 (k0_pay28 a lanes) a 128 (by decide) := half_rot (half_26 a)
theorem half_1 : Half 1 (k0_pay1 a (k0_pay31 lanes)) a 192 (by decide) :=
  half_hi (o := 128) (ho := by decide) fun j l => by pointwise [k0_pay1, k0_pay31]
theorem half_2 : Half 1 (k0_pay2 a (k0_pay31 lanes)) a 192 (by decide) :=
  half_hi (o := 128) (ho := by decide) fun j l => by pointwise [k0_pay2, k0_pay31]
theorem half_3 : Half 0 (k0_pay3 a (k0_pay31 lanes)) a 192 (by decide) := half_rot (half_1 a)
theorem half_4 : Half 0 (k0_pay4 a (k0_pay31 lanes)) a 192 (by decide) := half_rot (half_2 a)

end Halves

end Cert.LatIdeal.Attn

end
-- ==== Proof.LatTile.lean ====
/- What one grid point of the attention kernel with cached keys writes: eight loops of four stores, each store a pair of
   heads over 256 queries, all of them pieces of one function of the block. -/
module

public import proofs.«01_k».proof.Proof.Gen.LatIdeal.Frame
public import proofs.«01_k».proof.Proof.LatPair
public import Idealize.ShloMosaic.Lib.Pipeline.ValueKit
public import Idealize.ShloMosaic.Lib.VecWindow

@[expose] public section

set_option maxRecDepth 16384

noncomputable section

namespace Cert.LatIdeal.Attn

open Cert.LatIdeal Cert.LatIdeal.Gen Idealize.ShloMosaic Cert.EExt
open Cert.Att (att lane lane_surj)

/-- The attention at the head `h` and its dimension `d` of the query row `r`, from one sequence's queries and from all its
    keys and values, the cached ones first: the head's keys and values are those of the group `h / 4`. -/
def blockAtt (x0 : FVec Ideal S1024x1024 .bf16) (K V : FVec Ideal S1280x256 .bf16) (r : Fin 1024) (h : Fin 16) (d : Fin 64) : EReal :=
  att (fun d' : Fin 64 => x0 (ix2 r ⟨64 * h.val + d'.val, by omega⟩))
    (fun (x : Fin 1280) (d' : Fin 64) => K (ix2 x ⟨64 * (h.val / 4) + d'.val, by omega⟩))
    (fun x => V (ix2 x ⟨64 * (h.val / 4) + d.val, by omega⟩))

/-- The block of results. -/
def tile (x0 : FVec Ideal S1024x1024 .bf16) (K V : FVec Ideal S1280x256 .bf16) : FVec Ideal S1024x1024 .bf16 := fun j =>
  blockAtt x0 K V (j 0) ⟨(j 1).val / 64, by have : (j 1).val < 1024 := (j 1).isLt; omega⟩ ⟨(j 1).val % 64, by omega⟩

/-- The writes of a list are pieces of one function of the block. -/
def Agree (T : FVec Ideal S1024x1024 .bf16) (L : List (View.Piece (Elt Ideal) S1024x1024 .bf16)) : Prop :=
  ∀ p ∈ L, ∀ x : p.1.shape.Idx, p.2 x = T (p.1.emb x)

theorem Agree.append {T : FVec Ideal S1024x1024 .bf16} {L L' : List (View.Piece (Elt Ideal) S1024x1024 .bf16)} (h : Agree T L)
    (h' : Agree T L') : Agree T (L ++ L') := fun p hp => (List.mem_append.1 hp).elim (h p) (h' p)

/-- A loop's writes agree if each trip's do. -/
theorem Agree.loop {T : FVec Ideal S1024x1024 .bf16} {N : ℕ} {pb : ℕ → List (View.Piece (Elt Ideal) S1024x1024 .bf16)}
    {trip : Fin N → List (View.Piece (Elt Ideal) S1024x1024 .bf16)} (h0 : pb 0 = [])
    (hs : ∀ k : Fin N, pb (k.val + 1) = trip k ++ pb k.val) (ht : ∀ k, Agree T (trip k)) : ∀ n ≤ N, Agree T (pb n)
  | 0, _ => by rw [h0]; intro p hp; exact absurd hp List.not_mem_nil
  | n + 1, h => by
    rw [hs ⟨n, h⟩]
    exact (ht _).append (Agree.loop h0 hs ht n (by omega))

/-- ONE STORE: the pair `p` of heads over the queries from `256 k` on is a piece of the block of results. -/
theorem store {x0 : FVec Ideal S1024x1024 .bf16} {K V : FVec Ideal S1280x256 .bf16} (hq : ∀ i, Fin' (x0 i)) (hK : ∀ i, Fin' (K i))
    {arg1 : Memref sig .tc .vmem S1024x1024 .bf16} {X1 : arg1.view.ty.Contents (Elt Ideal)} (hX : arg1.view.read (Elt Ideal) X1 = x0)
    (p : Fin 8) {k : ℕ} {off : Fin 2 → ℕ} (eo : off = ![256 * k, 128 * p.val]) (inb)
    {pay : FVec Ideal S256x128 .bf16 → FVec Ideal S256x128 .bf16} {klo khi vlo vhi : FVec Ideal S1280x128 .bf16}
    (hpay : ∀ q, pay q = pairOut q klo khi vlo vhi) {o : ℕ} (e : o = 64 * (p.val / 2)) {ho : o + 64 ≤ 256}
    (hklo : Half 0 klo K o ho) (hkhi : Half 1 khi K o ho) (hvlo : Half 0 vlo V o ho) (hvhi : Half 1 vhi V o ho) :
    Agree (tile x0 K V) [⟨Rect.unit (s := S1024x1024) off S256x128.size inb,
      pay (View.readAt (Elt Ideal) arg1.view (Rect.unit (s := S1024x1024) off S256x128.size inb).toLoadRect X1)⟩] := by
  intro w hw x
  obtain rfl := List.mem_singleton.1 hw
  subst eo e hX
  have hk : 256 * k + 256 ≤ 1024 := inb 0
  obtain ⟨r, b, d, rfl⟩ : ∃ (r : Fin 256) (b : Fin 2) (d : Fin 64), x = ix2 r (lane b d) := by
    obtain ⟨b, d, hl⟩ := lane_surj (x 1)
    refine ⟨x 0, b, d, ?_⟩
    funext i; fin_cases i
    · rfl
    · exact hl
  have eq : ∀ r l, View.readAt (Elt Ideal) arg1.view (Rect.unit (s := S1024x1024) ![256 * k, 128 * p.val] S256x128.size inb).toLoadRect X1 (ix2 r l)
      = arg1.view.read (Elt Ideal) X1 (ix2 ⟨256 * k + r.val, by omega⟩ ⟨128 * p.val + l.val, by omega⟩) := fun r l => by
    refine congrArg (arg1.view.read (Elt Ideal) X1) ?_
    funext i; fin_cases i <;> exact Fin.ext (by simp)
  have ey : (Rect.unit (s := S1024x1024) ![256 * k, 128 * p.val] S256x128.size inb).emb (ix2 r (lane b d))
      = ix2 ⟨256 * k + r.val, by omega⟩ ⟨128 * p.val + (64 * b.val + d.val), by omega⟩ := by
    funext i; fin_cases i <;> exact Fin.ext (by simp [lane])
  show pay _ (ix2 r (lane b d)) = _
  rw [hpay, ey, pairOut_att hklo hkhi hvlo hvhi _ fun a l => hK _]
  · unfold tile blockAtt
    congr 1
    · funext d'; rw [eq]
      exact congrArg (arg1.view.read (Elt Ideal) X1) (congrArg₂ ix2 (Fin.ext (by simp)) (Fin.ext (by simp [lane]; omega)))
    · funext a d'; exact congrArg K (congrArg (ix2 a) (Fin.ext (by simp; omega)))
    · funext a; exact congrArg V (congrArg (ix2 a) (Fin.ext (by simp; omega)))
  · intro a l; rw [eq]; exact hq _

end Cert.LatIdeal.Attn

end
-- ==== Proof.LatBlock.lean ====
/- The block one grid point of the attention kernel with cached keys leaves: the eight loops' pieces put together. -/
module

public import proofs.«01_k».proof.Proof.LatTile

@[expose] public section

set_option maxRecDepth 16384

noncomputable section

namespace Cert.LatIdeal.Attn

open Cert.LatIdeal Cert.LatIdeal.Gen Idealize.ShloMosaic Cert.EExt

variable (c : Dev nD) (i : grid0.Coords) {arg1 : Memref sig .tc .vmem S1024x1024 .bf16} (harg1 : arg1.IsWhole) {arg2 : Memref sig .tc .vmem S1024x256 .f32} (harg2 : arg2.IsWhole) {arg3 : Memref sig .tc .vmem S1024x256 .f32} (harg3 : arg3.IsWhole) {arg4 : Memref sig .tc .vmem S1x1x256x256 .f32} (harg4 : arg4.IsWhole) {arg5 : Memref sig .tc .vmem S1x1x256x256 .f32} (harg5 : arg5.IsWhole) {arg6 : Memref sig .tc .vmem S1024x1024 .bf16} (harg6 : arg6.IsWhole)

section Loops
variable {x0 : FVec Ideal S1024x1024 .bf16} {K V : FVec Ideal S1280x256 .bf16} (hq : ∀ i, Fin' (x0 i)) (hK : ∀ i, Fin' (K i))
  {X1 : arg1.view.ty.Contents (Elt Ideal)} (hX : arg1.view.read (Elt Ideal) X1 = x0)
  {v0 v5 : FVec Ideal S1x1x256x256 .f32} {v2 v7 : FVec Ideal S1024x256 .f32}

include hq hK hX

/-! Each loop writes one pair of heads, 256 queries a trip. -/

theorem loop1 (eK : K = k0_pay7 (F := Ideal) v0 v2) (eV : V = k0_pay8 (F := Ideal) v5 v7) : ∀ n ≤ k0_t1_loop.trips,
    Agree (tile x0 K V) (pb_k0_t1 (F := Ideal) Variants.none c none i arg1 harg1 arg2 harg2 arg3 harg3 arg4 harg4 arg5 harg5 arg6 harg6 v0 v2 v5 v7 X1 n) := by
  refine Agree.loop rfl (fun k => pb_k0_t1_succ ..) fun k => ?_
  unfold tripL_k0_t1 trip_k0_t1
  subst eK eV
  exact store hq hK hX 0 (k0_off1_eq k) _ (pay := k0_pay14 (F := Ideal) v0 v2 v5 v7) (fun q => pay1 q v0 v5 v2 v7) rfl (half_10 v0 v2) (half_12 v0 v2) (half_11 v5 v7) (half_13 v5 v7)

theorem loop2 (eK : K = k0_pay7 (F := Ideal) v0 v2) (eV : V = k0_pay8 (F := Ideal) v5 v7) : ∀ n ≤ k0_t2_loop.trips,
    Agree (tile x0 K V) (pb_k0_t2 (F := Ideal) Variants.none c none i arg1 harg1 arg2 harg2 arg3 harg3 arg4 harg4 arg5 harg5 arg6 harg6 v0 v2 v5 v7 X1 n) := by
  refine Agree.loop rfl (fun k => pb_k0_t2_succ ..) fun k => ?_
  unfold tripL_k0_t2 trip_k0_t2
  subst eK eV
  exact store hq hK hX 1 (k0_off2_eq k) _ (pay := k0_pay15 (F := Ideal) v0 v2 v5 v7) (fun q => pay2 q v0 v5 v2 v7) rfl (half_10 v0 v2) (half_12 v0 v2) (half_11 v5 v7) (half_13 v5 v7)

theorem loop3 (eK : K = k0_pay7 (F := Ideal) v0 v2) : ∀ n ≤ k0_t3_loop.trips,
    Agree (tile x0 K V) (pb_k0_t3 (F := Ideal) Variants.none c none i arg1 harg1 arg2 harg2 arg3 harg3 arg4 harg4 arg5 harg5 arg6 harg6 K V lanes k0_pay16 (k0_pay17 (F := Ideal) v0 v2) zero16 X1 n) := by
  refine Agree.loop rfl (fun k => pb_k0_t3_succ ..) fun k => ?_
  unfold tripL_k0_t3 trip_k0_t3
  subst eK
  exact store hq hK hX 2 (k0_off3_eq k) _ (pay := k0_pay22 (F := Ideal) V k0_pay16 (k0_pay17 (F := Ideal) v0 v2) zero16) (fun q => pay3 q V _ _ _) rfl (half_20 v0 v2) (half_18 v0 v2) (half_21 V) (half_19 V)

theorem loop4 (eK : K = k0_pay7 (F := Ideal) v0 v2) : ∀ n ≤ k0_t4_loop.trips,
    Agree (tile x0 K V) (pb_k0_t4 (F := Ideal) Variants.none c none i arg1 harg1 arg2 harg2 arg3 harg3 arg4 harg4 arg5 harg5 arg6 harg6 K V lanes k0_pay16 (k0_pay17 (F := Ideal) v0 v2) zero16 X1 n) := by
  refine Agree.loop rfl (fun k => pb_k0_t4_succ ..) fun k => ?_
  unfold tripL_k0_t4 trip_k0_t4
  subst eK
  exact store hq hK hX 3 (k0_off4_eq k) _ (pay := k0_pay23 (F := Ideal) V k0_pay16 (k0_pay17 (F := Ideal) v0 v2) zero16) (fun q => pay4 q V _ _ _) rfl (half_20 v0 v2) (half_18 v0 v2) (half_21 V) (half_19 V)

theorem loop5 (m : IVec S1x128 1) (s : FVec Ideal S1280x128 .bf16) (z : Ideal .bf16) : ∀ n ≤ k0_t5_loop.trips,
    Agree (tile x0 K V) (pb_k0_t5 (F := Ideal) Variants.none c none i arg1 harg1 arg2 harg2 arg3 harg3 arg4 harg4 arg5 harg5 arg6 harg6 K V lanes m s z X1 n) := by
  refine Agree.loop rfl (fun k => pb_k0_t5_succ ..) fun k => ?_
  unfold tripL_k0_t5 trip_k0_t5
  exact store hq hK hX 4 (k0_off5_eq k) _ (pay := k0_pay29 (F := Ideal) K V lanes) (fun q => pay5 q K V _) rfl (half_25 K) (half_27 K) (half_26 V) (half_28 V)

theorem loop6 (m : IVec S1x128 1) (s : FVec Ideal S1280x128 .bf16) (z : Ideal .bf16) : ∀ n ≤ k0_t6_loop.trips,
    Agree (tile x0 K V) (pb_k0_t6 (F := Ideal) Variants.none c none i arg1 harg1 arg2 harg2 arg3 harg3 arg4 harg4 arg5 harg5 arg6 harg6 K V lanes m s z X1 n) := by
  refine Agree.loop rfl (fun k => pb_k0_t6_succ ..) fun k => ?_
  unfold tripL_k0_t6 trip_k0_t6
  exact store hq hK hX 5 (k0_off6_eq k) _ (pay := k0_pay30 (F := Ideal) K V lanes) (fun q => pay6 q K V _) rfl (half_25 K) (half_27 K) (half_26 V) (half_28 V)

theorem loop7 : ∀ n ≤ k0_t7_loop.trips,
    Agree (tile x0 K V) (pb_k0_t7 (F := Ideal) Variants.none c none i arg1 harg1 arg2 harg2 arg3 harg3 arg4 harg4 arg5 harg5 arg6 harg6 K V (k0_pay31 lanes) X1 n) := by
  refine Agree.loop rfl (fun k => pb_k0_t7_succ ..) fun k => ?_
  unfold tripL_k0_t7 trip_k0_t7
  exact store hq hK hX 6 (k0_off7_eq k) _ (pay := k0_pay5 (F := Ideal) K V (k0_pay31 lanes)) (fun q => pay7 q K V _) rfl (half_3 K) (half_1 K) (half_4 V) (half_2 V)

theorem loop8 : ∀ n ≤ k0_t8_loop.trips,
    Agree (tile x0 K V) (pb_k0_t8 (F := Ideal) Variants.none c none i arg1 harg1 arg2 harg2 arg3 harg3 arg4 harg4 arg5 harg5 arg6 harg6 K V (k0_pay31 lanes) X1 n) := by
  refine Agree.loop rfl (fun k => pb_k0_t8_succ ..) fun k => ?_
  unfold tripL_k0_t8 trip_k0_t8
  exact store hq hK hX 7 (k0_off8_eq k) _ (pay := k0_pay6 (F := Ideal) K V (k0_pay31 lanes)) (fun q => pay8 q K V _) rfl (half_3 K) (half_1 K) (half_4 V) (half_2 V)

end Loops

/-- THE BLOCK one grid point leaves, from the blocks it reads. -/
theorem out_apply (x0 : FVec Ideal S1024x1024 .bf16) (x1 x2 : FVec Ideal S1024x256 .f32) (x3 x4 : FVec Ideal S1x1x256x256 .f32)
    (hq : ∀ i, Fin' (x0 i)) (hK : ∀ i, Fin' (k0_pay7 (F := Ideal) x3 x1 i)) (y : S1024x1024.Idx) :
    out0_A_5 (F := Ideal) c i arg1 harg1 arg2 harg2 arg3 harg3 arg4 harg4 arg5 harg5 arg6 harg6 x0 x1 x2 x3 x4 y
      = tile x0 (k0_pay7 (F := Ideal) x3 x1) (k0_pay8 (F := Ideal) x4 x2) y := by
  unfold out0_A_5
  refine View.read_writes_apply_of_pieces _ _ _ _ ?_ y (cover0_A_5 (F := Ideal) c i arg1 harg1 arg2 harg2 arg3 harg3 arg4 harg4 arg5 harg5 arg6 harg6 x0 x1 x2 x3 x4 y)
  have r0 := harg1.read_unread (Val := Elt Ideal) x0
  have e1 : View.readAt (Elt Ideal) arg2.view (Rect.unit (s := S1024x256) ![0, 0] S1024x256.size (by decide)).toLoadRect (harg2.unread x1) = x1 :=
    (View.readAt_full ..).trans (harg2.read_unread (Val := Elt Ideal) x1)
  have e2 : View.readAt (Elt Ideal) arg3.view (Rect.unit (s := S1024x256) ![0, 0] S1024x256.size (by decide)).toLoadRect (harg3.unread x2) = x2 :=
    (View.readAt_full ..).trans (harg3.read_unread (Val := Elt Ideal) x2)
  have e3 : View.readAt (Elt Ideal) arg4.view (Rect.unit (s := S1x1x256x256) ![0, 0, 0, 0] S1x1x256x256.size (by decide)).toLoadRect (harg4.unread x3) = x3 :=
    (View.readAt_full ..).trans (harg4.read_unread (Val := Elt Ideal) x3)
  have e4 : View.readAt (Elt Ideal) arg5.view (Rect.unit (s := S1x1x256x256) ![0, 0, 0, 0] S1x1x256x256.size (by decide)).toLoadRect (harg5.unread x4) = x4 :=
    (View.readAt_full ..).trans (harg5.read_unread (Val := Elt Ideal) x4)
  unfold kernelRun0_A kernelRun0_A.sl.r kernelRun0_A.sl.r_1 kernelRun0_A.sl.r_2
  dsimp only
  rw [e1, e2, e3, e4]
  exact (loop8 c i harg1 harg2 harg3 harg4 harg5 harg6 hq hK r0 _ le_rfl).append <|
    (loop7 c i harg1 harg2 harg3 harg4 harg5 harg6 hq hK r0 _ le_rfl).append <|
    (loop6 c i harg1 harg2 harg3 harg4 harg5 harg6 hq hK r0 _ _ _ _ le_rfl).append <|
    (loop5 c i harg1 harg2 harg3 harg4 harg5 harg6 hq hK r0 _ _ _ _ le_rfl).append <|
    (loop4 c i harg1 harg2 harg3 harg4 harg5 harg6 hq hK r0 rfl _ le_rfl).append <|
    (loop3 c i harg1 harg2 harg3 harg4 harg5 harg6 hq hK r0 rfl _ le_rfl).append <|
    (loop2 c i harg1 harg2 harg3 harg4 harg5 harg6 hq hK r0 rfl rfl _ le_rfl).append <|
    loop1 c i harg1 harg2 harg3 harg4 harg5 harg6 hq hK r0 rfl rfl _ le_rfl

end Cert.LatIdeal.Attn

end
-- ==== Proof.LatRef.lean ====
/- The reference's attention over cached and own keys at an index of its result. -/
module

public import proofs.«01_k».proof.Proof.Gen.LatReferenceIdeal.Run
public import proofs.«01_k».proof.Proof.AttnHead
public import Idealize.ShloMosaic.Lib.Pointwise
public import Idealize.ShloMosaic.Lib.Pipeline.Value

@[expose] public section

set_option maxRecDepth 16384

noncomputable section

namespace Cert.LatReferenceIdeal.Attn

open Cert.LatReferenceIdeal Cert.LatReferenceIdeal.Gen Idealize.ShloMosaic Cert.EExt

variable {F : FTy → Type} [FloatOps F] (q : FVec F S8192x1024 .bf16) (a : FVec F S8192x256 .f32) (c : FVec F S8x2x256x4x64 .f32)
  (k v : FVec F S8x1280x4x64 .f32)

/-- A sequence's cached entries of layer 0, then its own. -/
def joined : FVec F S8x1280x4x64 .f32 :=
  concatenate S8x1280x4x64 1 [⟨S8x256x4x64, (shapeCast _ (extractStridedSlice S8x1x256x4x64 ![0, 0, 0, 0, 0] c slices_S8x2x256x4x64_S8x1x256x4x64_0_0_0_0_0) shapeCasts_S8x1x256x4x64_S8x256x4x64)⟩, ⟨S8x1024x4x64, (shapeCast _ a shapeCasts_S8192x256_S8x1024x4x64)⟩] concatenates_S8x256x4x64_S8x1024x4x64_S8x1280x4x64_d1

/-- The scaled scores, by sequence, group, head of the group, query row and key. -/
def scores : FVec F S8x4x4x1024x1280 .f32 :=
  mulf (transpose S8x4x4x1024x1280 [0, 1, 4, 3, 2] (Host.dotGeneral dot_S8x1280x4x64_S8x1024x4x4x64_S8x4x1280x1024x4_3_4_1_13_02_02 none k (extf .f32 (shapeCast _ (shapeCast _ q shapeCasts_S8192x1024_S8x1024x16x64) shapeCasts_S8x1024x16x64_S8x1024x4x4x64) bitsLt_bf16_f32)) transposes_S8x4x1280x1024x4_S8x4x4x1024x1280_0_1_4_3_2) (broadcastInDim S8x4x4x1024x1280 ![] bcast_S_S8x4x4x1024x1280 (constant S_ .f32 0x3E000000#32))

/-- Each row's largest score. -/
def top : FVec F S8x4x4x1024 .f32 :=
  maximumf (broadcastInDim S8x4x4x1024 ![] bcast_S_S8x4x4x1024 (constant S_ .f32 0xFF800000#32)) (Host.reduce FloatOps.maximumf (scores q k) (constant S_ .f32 0xFF800000#32) reducesTo_S8x4x4x1024x1280_S8x4x4x1024_d4 h_S_)

/-- The exponentials of the scores less their row's largest. -/
def expo : FVec F S8x4x4x1024x1280 .f32 :=
  Host.exp (subf (scores q k) (broadcastInDim S8x4x4x1024x1280 ![0, 1, 2, 3, 4] bcast_S8x4x4x1024x1_S8x4x4x1024x1280_0_1_2_3_4 (broadcastInDim S8x4x4x1024x1 ![0, 1, 2, 3] bcast_S8x4x4x1024_S8x4x4x1024x1_0_1_2_3 (top q k))))

/-- The softmax weights. -/
def weights : FVec F S8x4x4x1024x1280 .f32 :=
  Host.divf (expo q k) (broadcastInDim S8x4x4x1024x1280 ![0, 1, 2, 3, 4] bcast_S8x4x4x1024x1_S8x4x4x1024x1280_0_1_2_3_4 (broadcastInDim S8x4x4x1024x1 ![0, 1, 2, 3] bcast_S8x4x4x1024_S8x4x4x1024x1_0_1_2_3 (Host.reduceAdd (expo q k) (constant S_ .f32 0x00000000#32) reducesTo_S8x4x4x1024x1280_S8x4x4x1024_d4 h_S_)))

/-- The attention from the queries and all the keys and values. -/
def mix : FVec F S8192x1024 .bf16 :=
  truncf .bf16 (shapeCast _ (shapeCast _ (transpose S8x1024x4x4x64 [0, 4, 1, 3, 2] (Host.dotGeneral dot_S8x1280x4x64_S8x4x4x1024x1280_S8x4x64x4x1024_1_4_3_23_02_01 none v (weights q k)) transposes_S8x4x64x4x1024_S8x1024x4x4x64_0_4_1_3_2) shapeCasts_S8x1024x4x4x64_S8x1024x1024) shapeCasts_S8x1024x1024_S8192x1024) bitsLt_bf16_f32

/-- The reference's run, with its result the terms above. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = mix (m ((c.tc : Thread nD τ).loc main_arg0))
        (joined (m ((c.tc : Thread nD τ).loc main_arg1)) (m ((c.tc : Thread nD τ).loc main_arg3)))
        (joined (m ((c.tc : Thread nD τ).loc main_arg2)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => h c) (Value.run m ρ)

end Cert.LatReferenceIdeal.Attn

namespace Cert.LatReferenceIdeal.Attn

open Cert.LatReferenceIdeal Cert.LatReferenceIdeal.Gen Idealize.ShloMosaic Cert.EExt

variable (q : FVec Ideal S8192x1024 .bf16) (k v : FVec Ideal S8x1280x4x64 .f32)

/-- The entry `d` of the group `g` at the place `x` of a sequence: of the cache below 256, else of the sequence's own. -/
def entry (a : FVec Ideal S8192x256 .f32) (c : FVec Ideal S8x2x256x4x64 .f32) (s : Fin 8) (x : Fin 1280) (g : Fin 4) (d : Fin 64) : EReal :=
  if h : x.val < 256 then c (ix5 s 0 ⟨x.val, h⟩ g d) else a (ix2 ⟨1024 * s.val + (x.val - 256), by omega⟩ ⟨64 * g.val + d.val, by omega⟩)

theorem joined_apply (a : FVec Ideal S8192x256 .f32) (c : FVec Ideal S8x2x256x4x64 .f32) (s : Fin 8) (x : Fin 1280) (g : Fin 4) (d : Fin 64) :
    joined a c (ix4 s x g d) = entry a c s x g d := by
  unfold joined entry
  split
  · rename_i h
    refine Eq.trans (concatenate_pair_apply_left (t := S8x1280x4x64) (s₁ := S8x256x4x64) (s₂ := S8x1024x4x64) 1 _ _ _ (ix4 s x g d) rfl (ix4 s ⟨x.val, h⟩ g d) fun b => ?_) ?_
    · fin_cases b <;> rfl
    pointwise
  · rename_i h
    refine Eq.trans (concatenate_pair_apply_right (t := S8x1280x4x64) (s₁ := S8x256x4x64) (s₂ := S8x1024x4x64) 1 _ _ _ (ix4 s x g d) rfl rfl (ix4 s ⟨x.val - 256, by omega⟩ g d) (fun b hb => ?_) ?_) ?_
    · fin_cases b <;> first | rfl | exact absurd rfl hb
    · show x.val - 256 + 256 = x.val
      omega
    pointwise
    exact congrArg a (congrArg₂ ix2 (Fin.ext (by simp; omega)) (Fin.ext (by simp; omega)))

/-- The score of a query row and a key of one sequence and head. -/
abbrev score (s : Fin 8) (h : Fin 16) (r : Fin 1024) (j : Fin 1280) : EReal :=
  (∑ d : Fin 64, q (ix2 ⟨1024 * s.val + r.val, by omega⟩ ⟨64 * h.val + d.val, by omega⟩)
    * k (ix4 s j ⟨h.val / 4, by omega⟩ d)) * Ideal.ofBits .f32 0x3E000000#32

theorem scores_apply (s : Fin 8) (h : Fin 16) (r : Fin 1024) (j : Fin 1280) :
    scores q k (ix5 s ⟨h.val / 4, by omega⟩ ⟨h.val % 4, by omega⟩ r j) = score q k s h r j := by
  pointwise [scores]
  refine congrArg (· * _) (Finset.sum_congr rfl fun d _ => (mul_comm _ _).trans (congrArg (· * _) (congrArg q ?_)))
  exact congrArg₂ ix2 (Fin.ext (by simp; omega)) (Fin.ext (by simp; omega))

/-- A row's largest score. -/
abbrev rowTop (s : Fin 8) (h : Fin 16) (r : Fin 1024) : EReal := Finset.fold max ⊥ (score q k s h r) Finset.univ

theorem reduce_apply (x : FVec Ideal S8x4x4x1024x1280 .f32) (s : Fin 8) (g a : Fin 4) (r : Fin 1024) :
    Host.reduce FloatOps.maximumf x (constant S_ .f32 0xFF800000#32) reducesTo_S8x4x4x1024x1280_S8x4x4x1024_d4 h_S_ (ix4 s g a r)
      = Finset.fold max ⊥ (fun j => x (ix5 s g a r j)) Finset.univ := by
  pointwise [ofBits_neg_inf]

theorem max_apply (x y : FVec Ideal S8x4x4x1024 .f32) (i : S8x4x4x1024.Idx) : maximumf x y i = max (x i) (y i) := rfl

theorem bottom_apply (i : S8x4x4x1024.Idx) :
    (broadcastInDim S8x4x4x1024 ![] bcast_S_S8x4x4x1024 (constant S_ .f32 0xFF800000#32) : FVec Ideal S8x4x4x1024 .f32) i = (⊥ : EReal) := by
  rw [← ofBits_neg_inf]; rfl

theorem top_apply (s : Fin 8) (h : Fin 16) (r : Fin 1024) :
    top q k (ix4 s ⟨h.val / 4, by omega⟩ ⟨h.val % 4, by omega⟩ r) = rowTop q k s h r := by
  refine (max_apply _ _ _).trans ?_
  rw [bottom_apply, reduce_apply, max_eq_right bot_le]
  exact Finset.fold_congr fun j _ => scores_apply q k s h r j

theorem expo_apply (s : Fin 8) (h : Fin 16) (r : Fin 1024) (j : Fin 1280) :
    expo q k (ix5 s ⟨h.val / 4, by omega⟩ ⟨h.val % 4, by omega⟩ r j) = Ideal.exp (score q k s h r j - rowTop q k s h r) := by
  pointwise [expo, scores_apply, top_apply]

theorem weights_apply (s : Fin 8) (h : Fin 16) (r : Fin 1024) (j : Fin 1280) :
    weights q k (ix5 s ⟨h.val / 4, by omega⟩ ⟨h.val % 4, by omega⟩ r j)
      = Ideal.div (Ideal.exp (score q k s h r j - rowTop q k s h r)) (∑ x, Ideal.exp (score q k s h r x - rowTop q k s h r)) := by
  pointwise [weights, expo_apply]

/-- The attention at a row and a head's dimension. -/
theorem mix_apply (hq : ∀ i, Fin' (q i)) (hk : ∀ i, Fin' (k i)) (s : Fin 8) (r : Fin 1024) (h : Fin 16) (d : Fin 64) :
    mix q k v (ix2 ⟨1024 * s.val + r.val, by omega⟩ ⟨64 * h.val + d.val, by omega⟩)
      = Cert.Att.att (fun d' : Fin 64 => q (ix2 ⟨1024 * s.val + r.val, by omega⟩ ⟨64 * h.val + d'.val, by omega⟩))
        (fun (x : Fin 1280) (d' : Fin 64) => k (ix4 s x ⟨h.val / 4, by omega⟩ d')) (fun x => v (ix4 s x ⟨h.val / 4, by omega⟩ d)) := by
  have hs : ∀ x, Fin' (score q k s h r x) := fun x => Cert.Att.fin_score (fun _ => hq _) (fun _ => hk _)
  refine Eq.trans ?_ (softmax_mean (by decide) hs (fin_fold_max (by decide) hs) _).symm
  pointwise [mix]
  refine Finset.sum_congr rfl fun x _ => congrArg₂ (· * ·) (congrArg v ?_) ?_
  · congr 1 <;> exact Fin.ext (by simp; omega)
  · rw [← weights_apply]
    refine congrArg (weights q k) ?_
    congr 1 <;> exact Fin.ext (by simp; omega)

end Cert.LatReferenceIdeal.Attn

end
-- ==== Proof.LatValue.lean ====
/- The result array of the attention with cached keys, block by block, and the two programs' agreement. -/
module

public import proofs.«01_k».proof.Proof.Gen.Pre_finite_qkc
public import proofs.«01_k».proof.Proof.LatBlock
public import proofs.«01_k».proof.Proof.LatRef
public import Idealize.ShloMosaic.Lib.ReduceAll

@[expose] public section

set_option maxRecDepth 16384

noncomputable section

namespace Cert.LatIdeal.Attn

open Cert.LatIdeal Cert.LatIdeal.Gen Idealize.ShloMosaic Idealize.ShloMosaic.TcCoe Idealize.SL.Sem Cert.EExt
open Cert.Att (att fin_of_bit)
open Cert.LatReferenceIdeal.Attn (entry mix joined joined_apply mix_apply)

/-- The attention of the row of sequence `s`, the head `h` and its dimension `d`, from the whole arrays: a sequence's keys
    and values are the cached ones followed by its own. -/
def attAt (q : FVec Ideal S8192x1024 .bf16) (k v : FVec Ideal S8192x256 .f32) (ck cv : FVec Ideal S8x2x256x4x64 .f32)
    (s : Fin 8) (r : Fin 1024) (h : Fin 16) (d : Fin 64) : EReal :=
  att (fun d' : Fin 64 => q (ix2 ⟨1024 * s.val + r.val, by omega⟩ ⟨64 * h.val + d'.val, by omega⟩))
    (fun (x : Fin 1280) (d' : Fin 64) => entry k ck s x ⟨h.val / 4, by omega⟩ d')
    (fun x => entry v cv s x ⟨h.val / 4, by omega⟩ d)

/-- The whole result. -/
def G (q : FVec Ideal S8192x1024 .bf16) (k v : FVec Ideal S8192x256 .f32) (ck cv : FVec Ideal S8x2x256x4x64 .f32) :
    FVec Ideal S8192x1024 .bf16 := fun j =>
  attAt q k v ck cv ⟨(j 0).val / 1024, by have : (j 0).val < 8192 := (j 0).isLt; omega⟩ ⟨(j 0).val % 1024, by omega⟩
    ⟨(j 1).val / 64, by have : (j 1).val < 1024 := (j 1).isLt; omega⟩ ⟨(j 1).val % 64, by omega⟩

/-! ### A grid point's keys and values -/

/-- The keys a grid point works with: the cached block above its own. -/
theorem keys_apply (x3 : FVec Ideal S1x1x256x256 .f32) (x1 : FVec Ideal S1024x256 .f32) (x : Fin 1280) (l : Fin 256) :
    k0_pay7 (F := Ideal) x3 x1 (ix2 x l)
      = if h : x.val < 256 then x3 (ix4 0 0 ⟨x.val, h⟩ l) else x1 (ix2 ⟨x.val - 256, by omega⟩ l) := by
  unfold k0_pay7
  refine Eq.trans (b := concatenate S1280x256 0 [⟨S256x256, shapeCast S256x256 x3 shapeCasts_S1x1x256x256_S256x256⟩, ⟨S1024x256, x1⟩]
    concatenates_S256x256_S1024x256_S1280x256_d0 (ix2 x l)) rfl ?_
  split
  · rename_i h
    refine Eq.trans (concatenate_pair_apply_left (t := S1280x256) (s₁ := S256x256) (s₂ := S1024x256) 0 _ _ _ (ix2 x l) rfl (ix2 ⟨x.val, h⟩ l) fun b => ?_) ?_
    · fin_cases b <;> rfl
    pointwise
  · rename_i h
    refine concatenate_pair_apply_right (t := S1280x256) (s₁ := S256x256) (s₂ := S1024x256) 0 _ _ _ (ix2 x l) rfl rfl (ix2 ⟨x.val - 256, by omega⟩ l) (fun b hb => ?_) ?_
    · fin_cases b <;> first | rfl | exact absurd rfl hb
    · show x.val - 256 + 256 = x.val
      omega

theorem values_eq (x4 : FVec Ideal S1x1x256x256 .f32) (x2 : FVec Ideal S1024x256 .f32) :
    k0_pay8 (F := Ideal) x4 x2 = k0_pay7 (F := Ideal) x4 x2 := rfl

variable (m : (ℓ : Loc nD τ sig) → Buf (Elt Ideal) ℓ)

theorem V_main_v0 (c : Dev nD) : V m c main_v0 = shapeCast S8x2x256x256 (m ((c.tc : Thread nD τ).loc main_arg3)) shapeCasts_S8x2x256x4x64_S8x2x256x256 := by
  show StableHlo.after hostOps0 _ (Proc.devRef .tc main_v0) = _
  after_results
  rfl

theorem V_main_v1 (c : Dev nD) : V m c main_v1 = shapeCast S8x2x256x256 (m ((c.tc : Thread nD τ).loc main_arg4)) shapeCasts_S8x2x256x4x64_S8x2x256x256 := by
  show StableHlo.after hostOps0 _ (Proc.devRef .tc main_v1) = _
  after_results
  rfl

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0, 0, 0] := by decide +kernel
theorem idx4 : ∀ t : Fin cfg0.N, win0_4.index t = ![t.val, 0, 0, 0] := by decide +kernel
theorem idx5 : ∀ t : Fin cfg0.N, win0_5.index t = ![t.val, 0] := by decide +kernel

theorem blk0 (c : Dev nD) (t : Fin cfg0.N) (r l : Fin 1024) :
    iblk m c 0 t (ix2 r l) = m ((c.tc : Thread nD τ).loc main_arg0) (ix2 ⟨1024 * t.val + r.val, by have : t.val < 8 := t.isLt; omega⟩ l) := by
  blk_simp [iblk, idx0]
  rw [V_main_arg0]
  refine congrArg _ ?_
  blk_ext [idx0]

theorem blk1 (c : Dev nD) (t : Fin cfg0.N) (r : Fin 1024) (l : Fin 256) :
    iblk m c 1 t (ix2 r l) = m ((c.tc : Thread nD τ).loc main_arg1) (ix2 ⟨1024 * t.val + r.val, by have : t.val < 8 := t.isLt; omega⟩ l) := by
  blk_simp [iblk, idx1]
  rw [V_main_arg1]
  refine congrArg _ ?_
  blk_ext [idx1]

theorem blk2 (c : Dev nD) (t : Fin cfg0.N) (r : Fin 1024) (l : Fin 256) :
    iblk m c 2 t (ix2 r l) = m ((c.tc : Thread nD τ).loc main_arg2) (ix2 ⟨1024 * t.val + r.val, by have : t.val < 8 := t.isLt; omega⟩ l) := by
  blk_simp [iblk, idx2]
  rw [V_main_arg2]
  refine congrArg _ ?_
  blk_ext [idx2]

/-- The flattened cache at a sequence, a layer, a place and a lane. -/
theorem flat_apply (x : FVec Ideal S8x2x256x4x64 .f32) (s : Fin 8) (a : Fin 2) (r : Fin 256) (g : Fin 4) (d : Fin 64) :
    shapeCast S8x2x256x256 x shapeCasts_S8x2x256x4x64_S8x2x256x256 (ix4 s a r ⟨64 * g.val + d.val, by omega⟩) = x (ix5 s a r g d) := by
  pointwise

theorem blk3 (c : Dev nD) (t : Fin cfg0.N) (r : Fin 256) (g : Fin 4) (d : Fin 64) :
    iblk m c 3 t (ix4 0 0 r ⟨64 * g.val + d.val, by omega⟩) = m ((c.tc : Thread nD τ).loc main_arg3) (ix5 (⟨t.val, t.isLt⟩ : Fin 8) 0 r g d) := by
  have ht : t.val < 8 := t.isLt
  blk_simp [iblk, idx3]; rw [V_main_v0]
  have he : (win0_3.blk t).view.emb (ix4 0 0 r ⟨64 * g.val + d.val, by omega⟩) = ix4 (⟨t.val, ht⟩ : Fin 8) (0 : Fin 2) r (⟨64 * g.val + d.val, by omega⟩ : Fin 256) := by
    blk_ext [idx3]
  rw [he]; exact flat_apply _ _ _ _ _ _

theorem blk4 (c : Dev nD) (t : Fin cfg0.N) (r : Fin 256) (g : Fin 4) (d : Fin 64) :
    iblk m c 4 t (ix4 0 0 r ⟨64 * g.val + d.val, by omega⟩) = m ((c.tc : Thread nD τ).loc main_arg4) (ix5 (⟨t.val, t.isLt⟩ : Fin 8) 0 r g d) := by
  have ht : t.val < 8 := t.isLt
  blk_simp [iblk, idx4]; rw [V_main_v1]
  have he : (win0_4.blk t).view.emb (ix4 0 0 r ⟨64 * g.val + d.val, by omega⟩) = ix4 (⟨t.val, ht⟩ : Fin 8) (0 : Fin 2) r (⟨64 * g.val + d.val, by omega⟩ : Fin 256) := by
    blk_ext [idx4]
  rw [he]; exact flat_apply _ _ _ _ _ _

theorem keys_entry (c : Dev nD) (t : Fin cfg0.N) (x : Fin 1280) (g : Fin 4) (d : Fin 64) :
    k0_pay7 (F := Ideal) (iblk m c 3 t) (iblk m c 1 t) (ix2 x ⟨64 * g.val + d.val, by omega⟩)
      = entry (m ((c.tc : Thread nD τ).loc main_arg1)) (m ((c.tc : Thread nD τ).loc main_arg3)) ⟨t.val, t.isLt⟩ x g d := by
  refine (keys_apply _ _ x _).trans ?_
  unfold entry
  split
  · exact blk3 m c t _ g d
  · exact blk1 m c t _ _

theorem values_entry (c : Dev nD) (t : Fin cfg0.N) (x : Fin 1280) (g : Fin 4) (d : Fin 64) :
    k0_pay8 (F := Ideal) (iblk m c 4 t) (iblk m c 2 t) (ix2 x ⟨64 * g.val + d.val, by omega⟩)
      = entry (m ((c.tc : Thread nD τ).loc main_arg2)) (m ((c.tc : Thread nD τ).loc main_arg4)) ⟨t.val, t.isLt⟩ x g d := by
  refine (congrFun (values_eq _ _) _).trans ((keys_apply _ _ x _).trans ?_)
  unfold entry
  split
  · exact blk4 m c t _ g d
  · exact blk2 m c t _ _

/-! ### The array after the run -/

theorem entry_fin {a : FVec Ideal S8192x256 .f32} {b : FVec Ideal S8x2x256x4x64 .f32} (ha : ∀ i, Fin' (a i)) (hb : ∀ i, Fin' (b i))
    (s : Fin 8) (x : Fin 1280) (g : Fin 4) (d : Fin 64) : Fin' (entry a b s x g d) := by
  unfold entry
  split
  · exact hb _
  · exact ha _

/-- What the grid point `t` computes at an index of its block is the attention of the sequence `t`. -/
theorem tile_eq (c : Dev nD) (t : Fin cfg0.N) (r : Fin 1024) (h : Fin 16) (d : Fin 64) :
    blockAtt (iblk m c 0 t) (k0_pay7 (F := Ideal) (iblk m c 3 t) (iblk m c 1 t)) (k0_pay8 (F := Ideal) (iblk m c 4 t) (iblk m c 2 t)) r h d
      = attAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) ⟨t.val, t.isLt⟩ r h d := by
  unfold blockAtt attAt
  congr 1
  · funext d'
    exact blk0 m c t _ _
  · funext x d'
    exact keys_entry m c t x ⟨h.val / 4, by omega⟩ d'
  · funext x
    exact values_entry m c t x ⟨h.val / 4, by omega⟩ d

/-- The array after the run is the attention at every index. -/
theorem arr_eq (c : Dev nD) (hq : ∀ i, Fin' (m ((c.tc : Thread nD τ).loc main_arg0) i)) (hk : ∀ i, Fin' (m ((c.tc : Thread nD τ).loc main_arg1) i))
    (hc : ∀ i, Fin' (m ((c.tc : Thread nD τ).loc main_arg3) i)) :
    (dats m 0 c).arrAt 5 cfg0.N = G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t hf y => ?_
  blk_simp; rw [after0_5]
  have h1 : (y 1).val < 1024 := (y 1).isLt
  have h0 : (y 0).val < 1024 := (y 0).isLt
  have ht : t.val < 8 := t.isLt
  have he : (win0_5.blk t).view.emb y = ix2 (⟨1024 * t.val + (y 0).val, by omega⟩ : Fin 8192) (⟨(y 1).val, h1⟩ : Fin 1024) := by
    blk_ext [idx5]
  rw [he]
  have fq : ∀ i, Fin' (iblk m c 0 t i) := fun i => by rw [eq_ix2 i]; exact (blk0 m c t _ _) ▸ hq _
  have fk : ∀ i, Fin' (k0_pay7 (F := Ideal) (iblk m c 3 t) (iblk m c 1 t) i) := fun i => by
    have hl : (i 1).val < 256 := (i 1).isLt
    have hi : i = ix2 (i 0 : Fin 1280) (⟨64 * ((i 1).val / 64) + (i 1).val % 64, by omega⟩ : Fin 256) := by
      funext b; fin_cases b
      · rfl
      · exact Fin.ext (by simp; omega)
    rw [hi]
    exact (keys_entry m c t (i 0) ⟨(i 1).val / 64, by omega⟩ ⟨(i 1).val % 64, by omega⟩) ▸ entry_fin hk hc _ _ _ _
  unfold outsAt0
  refine (out_apply c (grid0.coords t) _ _ _ _ _ _ (iblk m c 0 t) (iblk m c 1 t) (iblk m c 2 t) (iblk m c 3 t) (iblk m c 4 t) fq fk y).trans ?_
  refine (tile_eq m c t (y 0) ⟨(y 1).val / 64, by omega⟩ ⟨(y 1).val % 64, by omega⟩).trans ?_
  have hb : (1024 * t.val + (y 0).val) / 1024 = t.val := by omega
  have hp : (1024 * t.val + (y 0).val) % 1024 = (y 0).val := by omega
  unfold G
  exact congrArg₂ (attAt _ _ _ _ _ · · _ _) (Fin.ext hb.symm) (Fin.ext hp.symm)

/-- The program's run, with its result the array after the launch. -/
theorem run (ρ : Dev nD → PrngReg) :
    θ_run defs (onTc (τ := τ) (main (F := Ideal))) ⟨m, fun _ => 0, ρ⟩ fun r => ∀ c : Dev nD,
      r.2.mem ((c.tc : Thread nD τ).loc main_v2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h5 : θ_run defs (onTc (τ := τ) (main (F := Ideal))) ⟨m, fun _ => 0, ρ⟩ fun r => ∀ c : Dev nD,
      r.2.mem ((c.tc : Thread nD τ).loc main_v2) = (dats m 0 c).arrAt 5 cfg0.N :=
    (θ_run defs _ _).mono (fun _ h c => (h c).1 5) (run_main m ρ)
  exact (θ_run defs _ _).mono (fun _ h c => ⟨h.1 c, h.2.1 c⟩) (θ_run_and h5 (frame m ρ))

/-- The precondition says that every query, every key and every cached key is finite. -/
theorem finite_of_pre {q : FVec Ideal S8192x1024 .bf16} {k v : FVec Ideal S8192x256 .f32} {ck cv : FVec Ideal S8x2x256x4x64 .f32}
    (h : Cert.Pre_finite_qkc.fn (F := Ideal) q k v ck cv = fun _ => 1#1) :
    (∀ i, Fin' (q i)) ∧ (∀ i, Fin' (k i)) ∧ ∀ i, Fin' (ck i) := by
  haveI : Subsingleton Cert.Pre_finite_qkc.S_.Idx := ⟨fun a b => funext fun i => i.elim0⟩
  have h0 := IntOp.andi_eq_one.1 (congrFun h (fun i => i.elim0))
  have h1 := IntOp.andi_eq_one.1 h0.1
  exact ⟨fun i => fin_of_bit (Host.reduce_andi_all _ _ _ _ _ h1.1 i), fun i => fin_of_bit (Host.reduce_andi_all _ _ _ _ _ h1.2 i),
    fun i => fin_of_bit (Host.reduce_andi_all _ _ _ _ _ h0.2 i)⟩

/-- The reference's result is the same attention. -/
theorem ref_eq {q : FVec Ideal S8192x1024 .bf16} {k v : FVec Ideal S8192x256 .f32} {ck cv : FVec Ideal S8x2x256x4x64 .f32}
    (hq : ∀ i, Fin' (q i)) (hk : ∀ i, Fin' (k i)) (hc : ∀ i, Fin' (ck i)) :
    mix q (joined k ck) (joined v cv) = G q k v ck cv := by
  funext j
  have h0 : (j 0).val < 8192 := (j 0).isLt
  have h1 : (j 1).val < 1024 := (j 1).isLt
  have hj : j = ix2 (⟨1024 * ((j 0).val / 1024) + (j 0).val % 1024, by omega⟩ : Fin 8192) (⟨64 * ((j 1).val / 64) + (j 1).val % 64, by omega⟩ : Fin 1024) := by
    funext i; fin_cases i
    · exact Fin.ext (by simp; omega)
    · exact Fin.ext (by simp; omega)
  have fk : ∀ i, Fin' (joined k ck i) := fun i => by
    idx_vars i
    rw [joined_apply]
    exact entry_fin hk hc _ _ _ _
  refine (congrArg (mix q (joined k ck) (joined v cv)) hj).trans
    ((mix_apply q (joined k ck) (joined v cv) hq fk ⟨(j 0).val / 1024, by omega⟩ ⟨(j 0).val % 1024, by omega⟩ ⟨(j 1).val / 64, by omega⟩ ⟨(j 1).val % 64, by omega⟩).trans ?_)
  unfold G attAt
  congr 1
  · funext x d'
    exact joined_apply k ck _ _ _ _
  · funext x
    exact joined_apply v cv _ _ _ _

end Cert.LatIdeal.Attn

end
-- ==== Proof.LatClaim.lean ====
/- The claims of the attention with cached keys: both programs run and keep their arguments, and their results are equal. -/
module

public import proofs.«01_k».proof.Defs
public import proofs.«01_k».proof.Proof.Gen.Lat.Frame
public import proofs.«01_k».proof.Proof.LatValue
public import Idealize.ShloMosaic.Adequacy
public import Idealize.ShloMosaic.Init

@[expose] public section

noncomputable section

namespace Cert.Proof.Lat

open Idealize.ShloMosaic Idealize.SL.Sem

theorem ref_quiescent : Cert.quiescent_LatReferenceIdeal := fun m ρ _ =>
  (θ_run Cert.LatReferenceIdeal.defs _ _).mono (fun r h => ⟨fun c => (h c).2, sem_eq_zero_of_no_sems (by decide) r.2⟩)
    (Cert.LatReferenceIdeal.Attn.run m ρ)

theorem algebraic : Cert.algebraic_LatIdeal_LatReferenceIdeal_pre_finite_qkc := by
  intro m g m' g' hpre hagree
  have hf := fun c => Cert.LatIdeal.Attn.finite_of_pre (hpre c)
  refine ⟨fun c => Cert.LatIdeal.Attn.G (m ((c.tc : Thread _ _).loc Cert.LatIdeal.main_arg0)) (m ((c.tc : Thread _ _).loc Cert.LatIdeal.main_arg1))
    (m ((c.tc : Thread _ _).loc Cert.LatIdeal.main_arg2)) (m ((c.tc : Thread _ _).loc Cert.LatIdeal.main_arg3)) (m ((c.tc : Thread _ _).loc Cert.LatIdeal.main_arg4)), ?_, ?_⟩
  · exact (θ_run Cert.LatIdeal.defs _ _).mono
      (fun _ h c => ⟨(h c).1.trans (Cert.LatIdeal.Attn.arr_eq m c (hf c).1 (hf c).2.1 (hf c).2.2), (h c).2⟩) (Cert.LatIdeal.Attn.run m g)
  · refine (θ_run Cert.LatReferenceIdeal.defs _ _).mono (fun _ h c => ⟨(h c).1.trans ?_, (h c).2⟩) (Cert.LatReferenceIdeal.Attn.run m' g')
    obtain ⟨e0, e1, e2, e3, e4⟩ := hagree c
    rw [e0, e1, e2, e3, e4]
    exact Cert.LatIdeal.Attn.ref_eq (hf c).1 (hf c).2.1 (hf c).2.2

/-- Everything claimed of the attention with cached keys. -/
theorem claims : Cert.quiescent_Lat ∧ Cert.quiescent_LatIdeal ∧ Cert.quiescent_LatIdeal_pre_finite_qkc ∧ Cert.quiescent_LatReferenceIdeal
    ∧ Cert.quiescent_LatReferenceIdeal_pre_finite_qkc ∧ Cert.preserves_Lat_LatIdeal
    ∧ Cert.algebraic_LatIdeal_LatReferenceIdeal_pre_finite_qkc :=
  ⟨fun m ρ _ => Cert.Lat.Gen.frame m ρ, fun m ρ _ => Cert.LatIdeal.Gen.frame m ρ, fun m ρ _ => Cert.LatIdeal.Gen.frame m ρ,
    ref_quiescent, fun m ρ _ => ref_quiescent m ρ trivial, trivial, algebraic⟩

end Cert.Proof.Lat

end
-- ==== Proof.RopeTile.lean ====
/- The latents' input projection: the kernel's tile, entry by entry. -/
module

public import proofs.«01_k».proof.Proof.Gen.RopeIdeal.Frame
public import proofs.«01_k».proof.Proof.InpTile

@[expose] public section

set_option maxRecDepth 16384

noncomputable section

namespace Cert.RopeIdeal.Rope

open Cert.RopeIdeal Cert.RopeIdeal.Gen Idealize.ShloMosaic Idealize.ShloMosaic.TcCoe
open Cert.InprojIdeal.Inp (hrow proj gelu headTile)

/-! ### The rotation of the pairs -/

/-- The other lane of a lane's pair: 16 further in the first half of each 32 lanes, 16 back in the second. -/
def partner (j : Fin 128) : Fin 128 := if h : j.val % 32 < 16 then ⟨j.val + 16, by omega⟩ else ⟨j.val - 16, by omega⟩

/-- A lane times its cosine, plus its partner times its signed sine. -/
def rotTile (y co si : Fin 128 → EReal) (j : Fin 128) : EReal := y j * co j + y (partner j) * si j

/-- The kernel's rotation of 128 lanes. -/
def rot (v : IVec S1x128 1) (y : FVec Ideal S512x128 .f32) (co si : FVec Ideal S512x128 .f32) : FVec Ideal S512x128 .f32 :=
  addf (mulf y (shapeCast S512x128 co shapeCasts_S512x128_S512x128))
    (mulf (select (broadcastTo S512x128 (shapeCast S1x128 v shapeCasts_S1x128_S1x128) broadcasts_S1x128_S512x128)
      (dynamicRotate 1 112#32 none y rotates_S512x128_d1) (dynamicRotate 1 16#32 none y rotates_S512x128_d1))
      (shapeCast S512x128 si shapeCasts_S512x128_S512x128))

/-- The kernel's norm of two heads. -/
def nrm (y : FVec Ideal S512x128 .f32) (g : FVec Ideal S1x128 .f32) (gm : FVec Ideal S128x128 .bf16) : FVec Ideal S512x128 .f32 :=
  mulf (mulf y (rsqrt (addf (matmul dot_S512x128_S128x128_S512x128_1_0_0_1_n_n none (truncf .bf16 (mulf y y) bitsLt_bf16_f32)
      (shapeCast S128x128 gm shapeCasts_S128x128_S128x128) (constant S512x128 .f32 0x00000000#32))
      (broadcast S512x128 (Scalar.ofBits .f32 0x358637BD#32)))))
    (broadcastTo S512x128 (shapeCast S1x128 g shapeCasts_S1x128_S1x128) broadcasts_S1x128_S512x128)

theorem nrm_apply (y : FVec Ideal S512x128 .f32) (g : FVec Ideal S1x128 .f32) (gm : FVec Ideal S128x128 .bf16) (r : Fin 512) (j : Fin 128) :
    nrm y g gm (ix2 r j) = headTile (fun i => y (ix2 r i)) (fun i j => gm (ix2 i j)) (fun j => g (ix2 0 j)) j := by
  pointwise [nrm, headTile]

theorem bit_apply : ∀ j : Fin 128, k0_pay7 (ix2 0 j) = if j.val % 32 < 16 then 1#1 else 0#1 := by decide +kernel

theorem rot_apply (y : FVec Ideal S512x128 .f32) (co si : FVec Ideal S512x128 .f32) (r : Fin 512) (j : Fin 128) :
    rot k0_pay7 y co si (ix2 r j) = rotTile (fun j => y (ix2 r j)) (fun j => co (ix2 r j)) (fun j => si (ix2 r j)) j := by
  pointwise [rot, rotTile, bit_apply]
  unfold partner
  split <;> rename_i h
  all_goals
    simp
    refine congrArg₂ _ rfl (congrArg₂ _ (congrArg y (congrArg (ix2 r) (Fin.ext ?_))) rfl)
    simp
    omega

section
variable (v : IVec S1x128 1) (w : FVec Ideal S512x1024 .f32) (h : FVec Ideal S512x1024 .bf16) (a : Vec Ideal S1024x1024 .bf16)
  (b : Vec Ideal S1024x256 .bf16) (u : FVec Ideal S512x256 .f32)
  (g : FVec Ideal S1x128 .f32) (gm : FVec Ideal S128x128 .bf16) (co si : FVec Ideal S512x128 .f32)

theorem pay11_eq : k0_pay11 (k0_pay9 h a g gm) (k0_pay10 h a g gm) co si
    = truncf .bf16 (rot k0_pay7 (nrm (extractStridedSlice S512x128 ![0, 0] (k0_pay8 h a) slices_S512x1024_o0_0_S512x128) g gm) co si) bitsLt_bf16_f32 := rfl
theorem pay12_eq : k0_pay12 v w g gm co si
    = truncf .bf16 (rot v (nrm (extractStridedSlice S512x128 ![0, 128] w slices_S512x1024_o0_128_S512x128) g gm) co si) bitsLt_bf16_f32 := rfl
theorem pay14_eq : k0_pay14 v (k0_pay13 w) g gm co si
    = truncf .bf16 (rot v (nrm (extractStridedSlice S512x128 ![0, 256] w slices_S512x1024_o0_256_S512x128) g gm) co si) bitsLt_bf16_f32 := rfl
theorem pay16_eq : k0_pay16 v (k0_pay15 w g gm) co si
    = truncf .bf16 (rot v (nrm (extractStridedSlice S512x128 ![0, 384] w slices_S512x1024_o0_384_S512x128) g gm) co si) bitsLt_bf16_f32 := rfl
theorem pay20_eq : k0_pay20 (k0_pay18 w g gm co) (k0_pay19 v w g gm si)
    = truncf .bf16 (rot v (nrm (extractStridedSlice S512x128 ![0, 512] w slices_S512x1024_o0_512_S512x128) g gm) co si) bitsLt_bf16_f32 := rfl
theorem pay21_eq : k0_pay21 v w g gm co si
    = truncf .bf16 (rot v (nrm (extractStridedSlice S512x128 ![0, 640] w slices_S512x1024_o0_640_S512x128) g gm) co si) bitsLt_bf16_f32 := rfl
theorem pay26_eq : k0_pay26 v (k0_pay22 w) (k0_pay23 g) (k0_pay24 w) (k0_pay25 gm) co si
    = truncf .bf16 (rot v (nrm (extractStridedSlice S512x128 ![0, 768] w slices_S512x1024_o0_768_S512x128) g gm) co si) bitsLt_bf16_f32 := rfl
theorem pay29_eq : k0_pay29 (k0_pay27 w g gm) (k0_pay28 v w g gm) co si
    = truncf .bf16 (rot v (nrm (extractStridedSlice S512x128 ![0, 896] w slices_S512x1024_o0_896_S512x128) g gm) co si) bitsLt_bf16_f32 := rfl
theorem pay31_eq : k0_pay31 h v b g gm co si
    = rot v (nrm (extractStridedSlice S512x128 ![0, 0] (k0_pay30 h b) slices_S512x256_o0_0_S512x128) g gm) co si := rfl
theorem pay32_eq : k0_pay32 v u g gm co si
    = rot v (nrm (extractStridedSlice S512x128 ![0, 128] u slices_S512x256_o0_128_S512x128) g gm) co si := rfl
end

/-! ### The tile -/

section
variable (x0 : FVec Ideal S512x1024 .f32) (x1 : FVec Ideal S1x1x6144 .f32) (x2 : FVec Ideal S1x1024 .f32)
  (x3 : FVec Ideal S1024x7680 .bf16) (x4 : FVec Ideal S1x3072 .f32) (x5 x6 : FVec Ideal S1x128 .f32)
  (x7 : FVec Ideal S128x128 .bf16) (x8 x9 : FVec Ideal S512x128 .f32)

/-- A row of the tile's normed input. -/
def tileH (r : Fin 512) : Fin 1024 → EReal :=
  hrow (fun l => x0 (ix2 r l)) (fun l => x2 (ix2 0 l)) (fun l => x1 (ix3 0 0 l))

/-- An entry of the tile's projection. -/
def tileP (r : Fin 512) (l : Fin 7680) : EReal := proj (tileH x0 x1 x2 r) (fun k l => x3 (ix2 k l)) l

theorem pay1_apply (r : Fin 512) (l : Fin 1024) :
    k0_pay1 (F := Ideal) (View.ld x1 r0_0) (View.ld x0 r0_1) (View.ld x2 r0_2) (ix2 r l) = tileH x0 x1 x2 r l := by
  pointwise [k0_pay1, tileH, hrow, Rows.rms, Rows.inv]

theorem pay39_apply (r : Fin 512) (l : Fin 1024) :
    k0_pay39 (F := Ideal) x0 x1 x2 x3 x4 x5 x6 x7 x8 x9 (ix2 r l) = tileH x0 x1 x2 r l := pay1_apply x0 x1 x2 r l

theorem pay3_apply (r : Fin 512) (l : Fin 1024) :
    k0_pay3 (F := Ideal) (View.ld x1 r0_0) (View.ld x0 r0_1) (View.ld x2 r0_2) (View.ld x3 r0_4) (ix2 r l)
      = tileP x0 x1 x2 x3 r ⟨1024 + l.val, by omega⟩ := by
  pointwise [k0_pay3, pay1_apply, tileP, proj]

theorem pay8_apply (r : Fin 512) (l : Fin 1024) :
    k0_pay8 (F := Ideal) (k0_pay39 x0 x1 x2 x3 x4 x5 x6 x7 x8 x9) (View.ld x3 r0_5) (ix2 r l) = tileP x0 x1 x2 x3 r ⟨2048 + l.val, by omega⟩ := by
  pointwise [k0_pay8, pay39_apply, tileP, proj]

theorem pay41_apply (r : Fin 512) (l : Fin 1024) :
    k0_pay41 (F := Ideal) x0 x1 x2 x3 x4 x5 x6 x7 x8 x9 (ix2 r l) = tileP x0 x1 x2 x3 r ⟨2048 + l.val, by omega⟩ := pay8_apply x0 x1 x2 x3 x4 x5 x6 x7 x8 x9 r l

theorem pay40_eq : k0_pay40 (F := Ideal) x0 x1 x2 x3 x4 x5 x6 x7 x8 x9 = k0_pay7 := rfl

theorem pay30_apply (r : Fin 512) (l : Fin 256) :
    k0_pay30 (F := Ideal) (k0_pay39 x0 x1 x2 x3 x4 x5 x6 x7 x8 x9) (View.ld x3 r0_17) (ix2 r l) = tileP x0 x1 x2 x3 r ⟨3072 + l.val, by omega⟩ := by
  pointwise [k0_pay30, pay39_apply, tileP, proj]

theorem out10_apply (r : Fin 512) (l : Fin 1024) :
    out0_10 (F := Ideal) x0 x1 x2 x3 x4 x5 x6 x7 x8 x9 (ix2 r l) = tileP x0 x1 x2 x3 r ⟨l.val, by omega⟩ := by
  unfold out0_10
  canon_tiles x e
  idx_vars x
  obtain rfl : r = _ := Fin.ext e0
  obtain rfl : l = _ := Fin.ext e1
  pointwise [k0_pay2, pay1_apply, tileP, proj]

theorem out11_apply (r : Fin 512) (l : Fin 1024) :
    out0_11 (F := Ideal) x0 x1 x2 x3 x4 x5 x6 x7 x8 x9 (ix2 r l) = gelu (tileP x0 x1 x2 x3 r ⟨1024 + l.val, by omega⟩) := by
  unfold out0_11
  canon_tiles x e
  idx_vars x
  obtain rfl : r = _ := Fin.ext e0
  obtain rfl : l = _ := Fin.ext e1
  pointwise [k0_pay6, k0_pay5, k0_pay4, pay3_apply, gelu]

theorem out14_apply (r : Fin 512) (l : Fin 256) :
    out0_14 (F := Ideal) x0 x1 x2 x3 x4 x5 x6 x7 x8 x9 (ix2 r l) = tileP x0 x1 x2 x3 r ⟨3328 + l.val, by omega⟩ := by
  unfold out0_14
  canon_tiles x e
  idx_vars x
  obtain rfl : r = _ := Fin.ext e0
  obtain rfl : l = _ := Fin.ext e1
  pointwise [k0_pay33, pay39_apply, tileP, proj]

theorem out15_apply (r : Fin 512) (l : Fin 1024) :
    out0_15 (F := Ideal) x0 x1 x2 x3 x4 x5 x6 x7 x8 x9 (ix2 r l) = tileP x0 x1 x2 x3 r ⟨3584 + l.val, by omega⟩ := by
  unfold out0_15
  canon_tiles x e
  idx_vars x
  obtain rfl : r = _ := Fin.ext e0
  obtain rfl : l = _ := Fin.ext e1
  pointwise [k0_pay35, k0_pay34, pay39_apply, tileP, proj]

theorem out16_apply (r : Fin 512) (g : Fin 3) (l : Fin 1024) :
    out0_16 (F := Ideal) x0 x1 x2 x3 x4 x5 x6 x7 x8 x9 (ix2 r ⟨1024 * g.val + l.val, by omega⟩)
      = Ideal.logistic (tileP x0 x1 x2 x3 r ⟨4608 + (1024 * g.val + l.val), by omega⟩ + x4 (ix2 0 ⟨1024 * g.val + l.val, by omega⟩)) := by
  unfold out0_16
  canon_tiles x e
  all_goals
    idx_vars x
    obtain rfl : r = _ := Fin.ext e0
    obtain rfl : l = x1 := Fin.ext (by omega)
    have hc := Nat.add_sub_cancel (n := 1024 * g.val) (m := l.val)
    rw [e1] at hc
    simp only [Nat.add_sub_cancel, Nat.sub_self] at hc
    pointwise [k0_pay36, k0_pay37, k0_pay38, pay39_apply, tileP, proj, ← hc, Nat.zero_add]
  all_goals simp only [← Nat.add_assoc, Nat.reduceAdd]

theorem out12_apply (r : Fin 512) (b : Fin 8) (j : Fin 128) :
    out0_12 (F := Ideal) x0 x1 x2 x3 x4 x5 x6 x7 x8 x9 (ix2 r ⟨128 * b.val + j.val, by omega⟩)
      = rotTile (headTile (fun i => tileP x0 x1 x2 x3 r ⟨2048 + (128 * b.val + i.val), by omega⟩) (fun i j => x7 (ix2 i j)) (fun j => x5 (ix2 0 j)))
          (fun j => x8 (ix2 r j)) (fun j => x9 (ix2 r j)) j := by
  unfold out0_12
  rw [pay11_eq, pay12_eq, pay14_eq, pay16_eq, pay20_eq, pay21_eq, pay26_eq, pay29_eq]
  canon_tiles x e
  all_goals
    idx_vars x
    obtain rfl : r = _ := Fin.ext e0
    obtain rfl : j = x1 := Fin.ext (by omega)
    have hc := Nat.add_sub_cancel (n := 128 * b.val) (m := j.val)
    rw [e1] at hc
    simp only [Nat.add_sub_cancel, Nat.sub_self] at hc
    pointwise [pay40_eq, rot_apply, nrm_apply, pay8_apply, pay41_apply, ← hc, Nat.zero_add]

theorem out13_apply (r : Fin 512) (b : Fin 2) (j : Fin 128) :
    out0_13 (F := Ideal) x0 x1 x2 x3 x4 x5 x6 x7 x8 x9 (ix2 r ⟨128 * b.val + j.val, by omega⟩)
      = rotTile (headTile (fun i => tileP x0 x1 x2 x3 r ⟨3072 + (128 * b.val + i.val), by omega⟩) (fun i j => x7 (ix2 i j)) (fun j => x6 (ix2 0 j)))
          (fun j => x8 (ix2 r j)) (fun j => x9 (ix2 r j)) j := by
  unfold out0_13
  rw [pay31_eq, pay32_eq]
  canon_tiles x e
  all_goals
    idx_vars x
    obtain rfl : r = _ := Fin.ext e0
    obtain rfl : j = x1 := Fin.ext (by omega)
    have hc := Nat.add_sub_cancel (n := 128 * b.val) (m := j.val)
    rw [e1] at hc
    simp only [Nat.add_sub_cancel, Nat.sub_self] at hc
    pointwise [pay40_eq, rot_apply, nrm_apply, pay30_apply, ← hc, Nat.zero_add]

end

end Cert.RopeIdeal.Rope

end
-- ==== Proof.RopeTables.lean ====
/- The latents' input projection: the cosine and sine tables the host makes, entry by entry. -/
module

public import proofs.«01_k».proof.Proof.RopeTile
public import proofs.«01_k».proof.Proof.UpValue

@[expose] public section

set_option maxRecDepth 16384

noncomputable section

namespace Cert.RopeIdeal.Rope

open Cert.RopeIdeal Cert.RopeIdeal.Gen Idealize.ShloMosaic Idealize.ShloMosaic.TcCoe
open Cert.FfnUpIdeal.Up (tm pos tm_pos pos_tm)

/-- A whole number as the host converts it. -/
def num (n : Nat) : EReal := FloatOps.sitofp (F := Ideal) .f32 (BitVec.ofNat 32 n)

/-- The angle of dimension `e` of a head at time `t`: the row number for the first half of the head and the column number
for the second, times the frequency of the dimension. -/
def ang (t : Fin 1024) (e : Fin 64) : EReal :=
  num (if e.val < 32 then t.val / 64 else t.val % 64) * Ideal.ofBits .f32 (lit0 ⟨e.val % 16, by omega⟩)

/-- The frequencies. -/
def freqs : FVec Ideal S1x16 .f32 :=
  broadcastInDim S1x16 ![1] bcast_S16_S1x16_1 fun i => FloatOps.ofBits .f32 (lit0 (S16.rowMajor i))

/-- The angles of the rows, by time. -/
def rowAng : FVec Ideal S1024x16 .f32 :=
  shapeCast S1024x16 (broadcastInDim S16x64x16 ![0, 1, 2] bcast_S16x1x16_S16x64x16_0_1_2 (broadcastInDim S16x1x16 ![0, 2] bcast_S16x16_S16x1x16_0_2
    (mulf (broadcastInDim S16x16 ![0, 1] bcast_S16x1_S16x16_0_1 (broadcastInDim S16x1 ![0] bcast_S16_S16x1_0 (sitofp .f32 (iotaInDim S16 32 0))))
      (broadcastInDim S16x16 ![0, 1] bcast_S1x16_S16x16_0_1 freqs)))) shapeCasts_S16x64x16_S1024x16

/-- The angles of the columns, by time. -/
def colAng : FVec Ideal S1024x16 .f32 :=
  shapeCast S1024x16 (broadcastInDim S16x64x16 ![0, 1, 2] bcast_S1x64x16_S16x64x16_0_1_2 (broadcastInDim S1x64x16 ![1, 2] bcast_S64x16_S1x64x16_1_2
    (mulf (broadcastInDim S64x16 ![0, 1] bcast_S64x1_S64x16_0_1 (broadcastInDim S64x1 ![0] bcast_S64_S64x1_0 (sitofp .f32 (iotaInDim S64 32 0))))
      (broadcastInDim S64x16 ![0, 1] bcast_S1x16_S64x16_0_1 freqs)))) shapeCasts_S16x64x16_S1024x16

theorem freqs_apply (q : Fin 16) : freqs (ix2 0 q) = Ideal.ofBits .f32 (lit0 q) := by
  pointwise [freqs]
  exact congrArg (fun q => Ideal.ofBits .f32 (lit0 q)) (Fin.ext (by fin_cases q <;> rfl))

theorem rowAng_apply (t : Fin 1024) (q : Fin 16) : rowAng (ix2 t q) = num (t.val / 64) * Ideal.ofBits .f32 (lit0 q) := by
  pointwise [rowAng, freqs_apply, num]

theorem colAng_apply (t : Fin 1024) (q : Fin 16) : colAng (ix2 t q) = num (t.val % 64) * Ideal.ofBits .f32 (lit0 q) := by
  pointwise [colAng, freqs_apply, num]

/-- Rows and columns side by side. -/
def pairs (x y : FVec Ideal S1024x16 .f32) : FVec Ideal S1024x2x16 .f32 :=
  concatenate S1024x2x16 1 [⟨S1024x1x16, broadcastInDim S1024x1x16 ![0, 2] bcast_S1024x16_S1024x1x16_0_2 x⟩,
    ⟨S1024x1x16, broadcastInDim S1024x1x16 ![0, 2] bcast_S1024x16_S1024x1x16_0_2 y⟩] concatenates_S1024x1x16_S1024x1x16_S1024x2x16_d1

theorem pairs_apply (x y : FVec Ideal S1024x16 .f32) (t : Fin 1024) (a : Fin 2) (q : Fin 16) :
    pairs x y (ix3 t a q) = if a.val = 0 then x (ix2 t q) else y (ix2 t q) := by
  unfold pairs
  split
  · rename_i h
    refine Eq.trans (concatenate_pair_apply_left (t := S1024x2x16) (s₁ := S1024x1x16) (s₂ := S1024x1x16) 1 _ _ _ (ix3 t a q) rfl (ix3 t 0 q) fun b => ?_) ?_
    · fin_cases b <;> first | rfl | exact h.symm
    pointwise
  · rename_i h
    have ha : a.val = 1 := by omega
    refine Eq.trans (concatenate_pair_apply_right (t := S1024x2x16) (s₁ := S1024x1x16) (s₂ := S1024x1x16) 1 _ _ _ (ix3 t a q) rfl rfl (ix3 t 0 q) (fun b hb => ?_) ?_) ?_
    · fin_cases b <;> first | rfl | exact absurd rfl hb
    · exact ha.symm
    pointwise

/-- The angles of every lane. -/
def angs : FVec Ideal S1024x2x2x2x16 .f32 :=
  broadcastInDim S1024x2x2x2x16 ![0, 1, 2, 3, 4] bcast_S1024x1x2x1x16_S1024x2x2x2x16_0_1_2_3_4
    (broadcastInDim S1024x1x2x1x16 ![0, 2, 4] bcast_S1024x2x16_S1024x1x2x1x16_0_2_4 (pairs rowAng colAng))

theorem angs_apply (t : Fin 1024) (h a s : Fin 2) (q : Fin 16) :
    angs (ix5 t h a s q) = (if a.val = 0 then num (t.val / 64) * Ideal.ofBits .f32 (lit0 q) else num (t.val % 64) * Ideal.ofBits .f32 (lit0 q)) := by
  pointwise [angs, pairs_apply, rowAng_apply, colAng_apply]

/-- The signs of the sines. -/
def signs : FVec Ideal S1024x2x2x2x16 .f32 :=
  broadcastInDim S1024x2x2x2x16 ![0, 1, 2, 3, 4] bcast_S1x1x1x2x1_S1024x2x2x2x16_0_1_2_3_4
    (broadcastInDim S1x1x1x2x1 ![3, 4] bcast_S2x1_S1x1x1x2x1_3_4 (broadcastInDim S2x1 ![0] bcast_S2_S2x1_0 fun i => FloatOps.ofBits .f32 (lit1 (S2.rowMajor i))))

theorem signs_apply (t : Fin 1024) (h a s : Fin 2) (q : Fin 16) :
    signs (ix5 t h a s q) = Ideal.ofBits .f32 (lit1 s) := by
  pointwise [signs]
  exact congrArg (fun q => Ideal.ofBits .f32 (lit1 q)) (Fin.ext (by fin_cases s <;> rfl))

/-- A table by lanes, its times put at their positions. -/
def place (x : FVec Ideal S1024x2x2x2x16 .f32) : FVec Ideal S1024x128 .f32 :=
  shapeCast S1024x128 (transpose S1x128x8x128 [0, 2, 1, 3] (shapeCast S1x8x128x128 (shapeCast S1x1024x128 x shapeCasts_S1024x2x2x2x16_S1x1024x128)
    shapeCasts_S1x1024x128_S1x8x128x128) transposes_S1x8x128x128_S1x128x8x128_0_2_1_3) shapeCasts_S1x128x8x128_S1024x128

theorem place_apply (x : FVec Ideal S1024x2x2x2x16 .f32) (p : Fin 1024) (l : Fin 128) :
    place x (ix2 p l) = x (ix5 (tm p) ⟨l.val / 64, by omega⟩ ⟨l.val / 32 % 2, by omega⟩ ⟨l.val / 16 % 2, by omega⟩ ⟨l.val % 16, by omega⟩) := by
  pointwise [place]
  unfold tm
  refine congrArg x ?_
  congr 1 <;> refine Fin.ext ?_ <;> dsimp only <;> omega

/-- The sign of a lane's sine. -/
def sgn (l : Nat) : EReal := if l % 32 < 16 then Ideal.ofBits .f32 0xBF800000#32 else Ideal.ofBits .f32 0x3F800000#32

theorem lane_ang (t : Fin 1024) (l : Fin 128) :
    (if (l.val / 32 % 2) = 0 then num (t.val / 64) * Ideal.ofBits .f32 (lit0 ⟨l.val % 16, by omega⟩) else num (t.val % 64) * Ideal.ofBits .f32 (lit0 ⟨l.val % 16, by omega⟩))
      = ang t ⟨l.val % 64, by omega⟩ := by
  unfold ang
  have e : (⟨l.val % 64 % 16, by omega⟩ : Fin 16) = ⟨l.val % 16, by omega⟩ := Fin.ext (by dsimp only; omega)
  dsimp only
  rw [e]
  by_cases h : l.val / 32 % 2 = 0
  · rw [if_pos h, if_pos (by omega)]
  · rw [if_neg h, if_neg (by omega)]

theorem cos_apply (p : Fin 1024) (l : Fin 128) :
    place (Host.cos angs) (ix2 p l) = Ideal.cos (ang (tm p) ⟨l.val % 64, by omega⟩) := by
  rw [place_apply]
  refine Eq.trans (Host.cos_apply _ _) ?_
  rw [angs_apply, lane_ang]
  rfl

theorem sin_apply (p : Fin 1024) (l : Fin 128) :
    place (mulf (Host.sin angs) signs) (ix2 p l) = Ideal.sin (ang (tm p) ⟨l.val % 64, by omega⟩) * sgn l.val := by
  rw [place_apply]
  have hs : Ideal.ofBits .f32 (lit1 ⟨l.val / 16 % 2, by omega⟩) = sgn l.val := by
    unfold sgn
    by_cases h : l.val % 32 < 16
    · rw [if_pos h, show (⟨l.val / 16 % 2, by omega⟩ : Fin 2) = 0 from Fin.ext (by show l.val / 16 % 2 = 0; omega)]; rfl
    · rw [if_neg h, show (⟨l.val / 16 % 2, by omega⟩ : Fin 2) = 1 from Fin.ext (by show l.val / 16 % 2 = 1; omega)]; rfl
  pointwise [angs_apply, signs_apply]
  rw [hs, lane_ang]

end Cert.RopeIdeal.Rope

end
-- ==== Proof.RopeBlocks.lean ====
/- The latents' input projection: what the launch reads, block by block, and its results' entries. -/
module

public import proofs.«01_k».proof.Proof.RopeTables
public import proofs.«01_k».proof.Proof.InpValue

@[expose] public section

set_option maxRecDepth 16384

noncomputable section

namespace Cert.RopeIdeal.Rope

open Cert.RopeIdeal Cert.RopeIdeal.Gen Idealize.ShloMosaic Idealize.ShloMosaic.TcCoe
open Cert.FfnUpIdeal.Up (tm pos tm_pos pos_tm)
open Cert.InprojIdeal.Inp (hrow proj gelu headTile headNorm headTile_eq mod_apply gain_apply bias_apply twice twice_apply eye eye_apply kron kron_apply)

/-- The other dimension of a dimension's pair. -/
def partner64 (e : Fin 64) : Fin 64 := if h : e.val % 32 < 16 then ⟨e.val + 16, by omega⟩ else ⟨e.val - 16, by omega⟩

/-- One head rotated by the angles of time `t`. -/
def rotHead (y : Fin 64 → EReal) (t : Fin 1024) (e : Fin 64) : EReal :=
  y e * Ideal.cos (ang t e) + y (partner64 e) * (Ideal.sin (ang t e) * sgn e.val)

theorem rot_head (Y : Fin 128 → EReal) (gm : Fin 128 → Fin 128 → EReal) (g : Fin 64 → EReal) (t : Fin 1024)
    (hgm : ∀ i j, gm i j = (if i.val / 64 = j.val / 64 then 1 else 0) * Ideal.ofBits .f32 0x3C800000#32) (j : Fin 128) :
    rotTile (headTile Y gm (fun j => g ⟨j.val % 64, by omega⟩)) (fun j => Ideal.cos (ang t ⟨j.val % 64, by omega⟩))
        (fun j => Ideal.sin (ang t ⟨j.val % 64, by omega⟩) * sgn j.val) j
      = rotHead (headNorm (fun k => Y ⟨j.val / 64 * 64 + k.val, by omega⟩) g) t ⟨j.val % 64, by omega⟩ := by
  have hp : (partner j).val / 64 = j.val / 64 ∧ (partner j).val % 64 = (partner64 ⟨j.val % 64, by omega⟩).val := by
    unfold partner partner64
    by_cases h : j.val % 32 < 16
    · rw [dif_pos h, dif_pos (by dsimp only; omega)]; dsimp only; omega
    · rw [dif_neg h, dif_neg (by dsimp only; omega)]; dsimp only; omega
  have hs : sgn j.val = sgn (j.val % 64) := by
    unfold sgn
    rw [show j.val % 64 % 32 = j.val % 32 by omega]
  unfold rotTile rotHead
  rw [headTile_eq Y gm g hgm, headTile_eq Y gm g hgm]
  dsimp only
  rw [hs]
  refine congrArg₂ _ rfl (congrArg₂ _ ?_ rfl)
  refine congrArg₂ (fun y j => headNorm y g j) (funext fun k => congrArg Y (Fin.ext ?_)) (Fin.ext hp.2)
  show (partner j).val / 64 * 64 + k.val = j.val / 64 * 64 + k.val
  rw [hp.1]

section
variable (x : FVec Ideal S8x1024x1024 .f32) (mod : FVec Ideal S16x6144 .f32) (n1g : FVec Ideal S1024 .f32)
  (w : FVec Ideal S1024x7680 .f32) (bg : FVec Ideal S3072 .f32) (qg kg : FVec Ideal S64 .f32)

/-- An entry of the projection, by sequence and time. -/
def rowP (b : Fin 8) (t : Fin 1024) (l : Fin 7680) : EReal :=
  proj (hrow (fun l => x (ix3 b t l)) (fun l => n1g (ix1 l)) (fun l => mod (ix2 ⟨b.val, by omega⟩ l))) (fun k l => w (ix2 k l)) l

/-- The recurrent branch's input. -/
def g10 (b : Fin 8) (t : Fin 1024) (l : Fin 1024) : EReal := rowP x mod n1g w b t ⟨l.val, by omega⟩
/-- The recurrent branch's gate. -/
def g11 (b : Fin 8) (t : Fin 1024) (l : Fin 1024) : EReal := gelu (rowP x mod n1g w b t ⟨1024 + l.val, by omega⟩)
/-- The queries. -/
def g12 (b : Fin 8) (t : Fin 1024) (l : Fin 1024) : EReal :=
  rotHead (headNorm (fun k => rowP x mod n1g w b t ⟨2048 + (l.val / 64 * 64 + k.val), by omega⟩) (fun j => qg (ix1 j))) t ⟨l.val % 64, by omega⟩
/-- The keys. -/
def g13 (b : Fin 8) (t : Fin 1024) (l : Fin 256) : EReal :=
  rotHead (headNorm (fun k => rowP x mod n1g w b t ⟨3072 + (l.val / 64 * 64 + k.val), by omega⟩) (fun j => kg (ix1 j))) t ⟨l.val % 64, by omega⟩
/-- The values. -/
def g14 (b : Fin 8) (t : Fin 1024) (l : Fin 256) : EReal := rowP x mod n1g w b t ⟨3328 + l.val, by omega⟩
/-- The pooled branch's input. -/
def g15 (b : Fin 8) (t : Fin 1024) (l : Fin 1024) : EReal := rowP x mod n1g w b t ⟨3584 + l.val, by omega⟩
/-- The branches' gates. -/
def g16 (b : Fin 8) (t : Fin 1024) (l : Fin 3072) : EReal := Ideal.logistic (rowP x mod n1g w b t ⟨4608 + l.val, by omega⟩ + bg (ix1 l))
end

/-- Entries by sequence and time, as a result of width 1024. -/
def times1024 (g : Fin 8 → Fin 1024 → Fin 1024 → EReal) : FVec Ideal S8x1024x1024 .bf16 := fun i => g (i 0) (i 1) (i 2)
/-- Entries by sequence and time, as a result of width 256. -/
def times256 (g : Fin 8 → Fin 1024 → Fin 256 → EReal) : FVec Ideal S8x1024x256 .f32 := fun i => g (i 0) (i 1) (i 2)
/-- Entries by sequence and time, as a result of width 3072. -/
def times3072 (g : Fin 8 → Fin 1024 → Fin 3072 → EReal) : FVec Ideal S8x1024x3072 .bf16 := fun i => g (i 0) (i 1) (i 2)

/-! ## The host's layouts -/

/-- Times to positions. -/
def inter (x : FVec Ideal S8x1024x1024 .f32) : FVec Ideal S8192x1024 .f32 :=
  shapeCast S8192x1024 (transpose S8x128x8x1024 [0, 2, 1, 3] (shapeCast S8x8x128x1024 x shapeCasts_S8x1024x1024_S8x8x128x1024) transposes_S8x8x128x1024_S8x128x8x1024_0_2_1_3) shapeCasts_S8x128x8x1024_S8192x1024

theorem inter_apply (x : FVec Ideal S8x1024x1024 .f32) (b : Fin 8) (p k : Fin 1024) :
    inter x (ix2 (⟨1024 * b.val + p.val, by omega⟩ : Fin 8192) k) = x (ix3 b (tm p) k) := by
  pointwise [inter]
  refine congrArg x (congrArg (ix3 b · k) (Fin.ext ?_))
  unfold tm
  dsimp only
  omega

variable (m : (ℓ : Loc nD τ sig) → Buf (Elt Ideal) ℓ)

theorem V_main_v8 (c : Dev nD) : V m c main_v8 = kron eye := by
  show StableHlo.after [hostOps0, hostOps0_1, hostOps0_2].flatten _ (Proc.devRef .tc main_v8) = _
  simp only [List.flatten_cons, List.flatten_nil, List.append_nil, List.cons_append, List.nil_append]
  after_results
  rfl

theorem V_main_v12 (c : Dev nD) : V m c main_v12 = twice (m ((c.tc : Thread nD τ).loc main_arg5)) := by
  show StableHlo.after [hostOps0, hostOps0_1, hostOps0_2].flatten _ (Proc.devRef .tc main_v12) = _
  simp only [List.flatten_cons, List.flatten_nil, List.append_nil, List.cons_append, List.nil_append]
  after_results
  rfl

theorem V_main_v16 (c : Dev nD) : V m c main_v16 = twice (m ((c.tc : Thread nD τ).loc main_arg6)) := by
  show StableHlo.after [hostOps0, hostOps0_1, hostOps0_2].flatten _ (Proc.devRef .tc main_v16) = _
  simp only [List.flatten_cons, List.flatten_nil, List.append_nil, List.cons_append, List.nil_append]
  after_results
  rfl

theorem V_main_v19 (c : Dev nD) : V m c main_v19 = inter (m ((c.tc : Thread nD τ).loc main_arg0)) := by
  show StableHlo.after [hostOps0, hostOps0_1, hostOps0_2].flatten _ (Proc.devRef .tc main_v19) = _
  simp only [List.flatten_cons, List.flatten_nil, List.append_nil, List.cons_append, List.nil_append]
  after_results
  rfl

theorem V_main_v20 (c : Dev nD) : V m c main_v20 = shapeCast S16x1x6144 (m ((c.tc : Thread nD τ).loc main_arg1)) shapeCasts_S16x6144_S16x1x6144 := by
  show StableHlo.after [hostOps0, hostOps0_1, hostOps0_2].flatten _ (Proc.devRef .tc main_v20) = _
  simp only [List.flatten_cons, List.flatten_nil, List.append_nil, List.cons_append, List.nil_append]
  after_results
  rfl

theorem V_main_v21 (c : Dev nD) : V m c main_v21 = shapeCast S1x1024 (m ((c.tc : Thread nD τ).loc main_arg2)) shapeCasts_S1024_S1x1024 := by
  show StableHlo.after [hostOps0, hostOps0_1, hostOps0_2].flatten _ (Proc.devRef .tc main_v21) = _
  simp only [List.flatten_cons, List.flatten_nil, List.append_nil, List.cons_append, List.nil_append]
  after_results
  rfl

theorem V_main_v22 (c : Dev nD) : V m c main_v22 = truncf (F := Ideal) (s := S1024x7680) .bf16 (m ((c.tc : Thread nD τ).loc main_arg3)) bitsLt_bf16_f32 := by
  show StableHlo.after [hostOps0, hostOps0_1, hostOps0_2].flatten _ (Proc.devRef .tc main_v22) = _
  simp only [List.flatten_cons, List.flatten_nil, List.append_nil, List.cons_append, List.nil_append]
  after_results

theorem V_main_v23 (c : Dev nD) : V m c main_v23 = shapeCast S1x3072 (m ((c.tc : Thread nD τ).loc main_arg4)) shapeCasts_S3072_S1x3072 := by
  show StableHlo.after [hostOps0, hostOps0_1, hostOps0_2].flatten _ (Proc.devRef .tc main_v23) = _
  simp only [List.flatten_cons, List.flatten_nil, List.append_nil, List.cons_append, List.nil_append]
  after_results
  rfl

set_option maxHeartbeats 2000000 in
theorem V_main_v58 (c : Dev nD) : V m c main_v58 = place (Host.cos angs) := by
  show StableHlo.after [hostOps0, hostOps0_1, hostOps0_2].flatten _ (Proc.devRef .tc main_v58) = _
  simp only [List.flatten_cons, List.flatten_nil, List.append_nil, List.cons_append, List.nil_append]
  after_results
  rfl

set_option maxHeartbeats 2000000 in
theorem V_main_v62 (c : Dev nD) : V m c main_v62 = place (mulf (Host.sin angs) signs) := by
  show StableHlo.after [hostOps0, hostOps0_1, hostOps0_2].flatten _ (Proc.devRef .tc main_v62) = _
  simp only [List.flatten_cons, List.flatten_nil, List.append_nil, List.cons_append, List.nil_append]
  after_results
  rfl

theorem idx0 : ∀ t : Fin cfg0.N, win0_0.index t = ![t.val, 0] := by decide +kernel
theorem idx1 : ∀ t : Fin cfg0.N, win0_1.index t = ![t.val / 2, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val % 2, 0] := by decide +kernel
theorem idx9 : ∀ t : Fin cfg0.N, win0_9.index t = ![t.val % 2, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![t.val, 0] := by decide +kernel
theorem idx13 : ∀ t : Fin cfg0.N, win0_13.index t = ![t.val, 0] := by decide +kernel
theorem idx14 : ∀ t : Fin cfg0.N, win0_14.index t = ![t.val, 0] := by decide +kernel
theorem idx15 : ∀ t : Fin cfg0.N, win0_15.index t = ![t.val, 0] := by decide +kernel
theorem idx16 : ∀ t : Fin cfg0.N, win0_16.index t = ![t.val, 0] := by decide +kernel

/-- A tile's sequence. -/
def sq (t : Fin cfg0.N) : Fin 8 := ⟨t.val / 2, by have : t.val < 16 := t.isLt; omega⟩

/-- The time of a tile's row. -/
def time (t : Fin cfg0.N) (r : Fin 512) : Fin 1024 := tm ⟨512 * (t.val % 2) + r.val, by omega⟩

theorem blk0 (c : Dev nD) (t : Fin cfg0.N) (r : Fin 512) (l : Fin 1024) :
    iblk m c 0 t (ix2 r l) = (m ((c.tc : Thread nD τ).loc main_arg0)) (ix3 (sq t) (time t r) l) := by
  have ht : t.val < 16 := t.isLt
  blk_simp [iblk, idx0]; rw [V_main_v19]
  have he : (win0_0.blk t).view.emb (ix2 r l) = ix2 (⟨1024 * (sq t).val + (⟨512 * (t.val % 2) + r.val, by omega⟩ : Fin 1024).val, by unfold sq; dsimp only; omega⟩ : Fin 8192) l := by
    unfold sq
    blk_ext [idx0]
  rw [he]; exact inter_apply _ _ _ _

theorem blk1 (c : Dev nD) (t : Fin cfg0.N) (l : Fin 6144) : iblk m c 1 t (ix3 0 0 l) = (m ((c.tc : Thread nD τ).loc main_arg1)) (ix2 ⟨(sq t).val, by omega⟩ l) := by
  blk_simp [iblk, idx1]; rw [V_main_v20]
  have he : (win0_1.blk t).view.emb (ix3 0 0 l) = ix3 (⟨(sq t).val, by omega⟩ : Fin 16) (0 : Fin 1) l := by
    unfold sq
    blk_ext [idx1]
  rw [he]; exact mod_apply _ _ _

theorem blk3 (c : Dev nD) (t : Fin cfg0.N) (k : Fin 1024) (l : Fin 7680) : iblk m c 3 t (ix2 k l) = (m ((c.tc : Thread nD τ).loc main_arg3)) (ix2 k l) := by
  blk_simp [iblk, idx3]; rw [V_main_v22]; show m _ _ = _; refine congrArg _ ?_; blk_ext [idx3]

theorem blk2 (c : Dev nD) (t : Fin cfg0.N) (l : Fin 1024) : iblk m c 2 t (ix2 0 l) = (m ((c.tc : Thread nD τ).loc main_arg2)) (ix1 l) := by
  blk_simp [iblk, idx2]; rw [V_main_v21]
  have he : (win0_2.blk t).view.emb (ix2 0 l) = ix2 (0 : Fin 1) l := by
    blk_ext [idx2]
  rw [he]; exact gain_apply _ _

theorem blk4 (c : Dev nD) (t : Fin cfg0.N) (l : Fin 3072) : iblk m c 4 t (ix2 0 l) = (m ((c.tc : Thread nD τ).loc main_arg4)) (ix1 l) := by
  blk_simp [iblk, idx4]; rw [V_main_v23]
  have he : (win0_4.blk t).view.emb (ix2 0 l) = ix2 (0 : Fin 1) l := by
    blk_ext [idx4]
  rw [he]; exact bias_apply _ _

theorem blk5 (c : Dev nD) (t : Fin cfg0.N) (l : Fin 128) : iblk m c 5 t (ix2 0 l) = (m ((c.tc : Thread nD τ).loc main_arg5)) (ix1 ⟨l.val % 64, by omega⟩) := by
  blk_simp [iblk, idx5]; rw [V_main_v12]
  have he : (win0_5.blk t).view.emb (ix2 0 l) = ix2 (0 : Fin 1) l := by
    blk_ext [idx5]
  rw [he]; exact twice_apply _ _

theorem blk6 (c : Dev nD) (t : Fin cfg0.N) (l : Fin 128) : iblk m c 6 t (ix2 0 l) = (m ((c.tc : Thread nD τ).loc main_arg6)) (ix1 ⟨l.val % 64, by omega⟩) := by
  blk_simp [iblk, idx6]; rw [V_main_v16]
  have he : (win0_6.blk t).view.emb (ix2 0 l) = ix2 (0 : Fin 1) l := by
    blk_ext [idx6]
  rw [he]; exact twice_apply _ _

theorem blk7 (c : Dev nD) (t : Fin cfg0.N) (i j : Fin 128) :
    iblk m c 7 t (ix2 i j) = (if i.val / 64 = j.val / 64 then 1 else 0) * Ideal.ofBits .f32 0x3C800000#32 := by
  blk_simp [iblk, idx7]; rw [V_main_v8]
  have he : (win0_7.blk t).view.emb (ix2 i j) = ix2 i j := by
    blk_ext [idx7]
  rw [he]; exact (kron_apply _ _ _).trans (congrArg (· * _) (eye_apply _ _))

theorem blk8 (c : Dev nD) (t : Fin cfg0.N) (r : Fin 512) (l : Fin 128) :
    iblk m c 8 t (ix2 r l) = Ideal.cos (ang (time t r) ⟨l.val % 64, by omega⟩) := by
  blk_simp [iblk, idx8]; rw [V_main_v58]
  have he : (win0_8.blk t).view.emb (ix2 r l) = ix2 (⟨512 * (t.val % 2) + r.val, by omega⟩ : Fin 1024) l := by
    blk_ext [idx8]
  rw [he]; exact cos_apply _ _

theorem blk9 (c : Dev nD) (t : Fin cfg0.N) (r : Fin 512) (l : Fin 128) :
    iblk m c 9 t (ix2 r l) = Ideal.sin (ang (time t r) ⟨l.val % 64, by omega⟩) * sgn l.val := by
  blk_simp [iblk, idx9]; rw [V_main_v62]
  have he : (win0_9.blk t).view.emb (ix2 r l) = ix2 (⟨512 * (t.val % 2) + r.val, by omega⟩ : Fin 1024) l := by
    blk_ext [idx9]
  rw [he]; exact sin_apply _ _

/-- An entry of a tile's projection is the array's. -/
theorem tile_row (c : Dev nD) (t : Fin cfg0.N) (r : Fin 512) :
    tileP (iblk m c 0 t) (iblk m c 1 t) (iblk m c 2 t) (iblk m c 3 t) r
      = rowP (m ((c.tc : Thread nD τ).loc main_arg0)) (m ((c.tc : Thread nD τ).loc main_arg1)) (m ((c.tc : Thread nD τ).loc main_arg2)) (m ((c.tc : Thread nD τ).loc main_arg3)) (sq t) (time t r) := by
  funext l
  unfold tileP rowP tileH
  have h0 := funext fun l => blk0 m c t r l
  have h1 := funext fun l => blk1 m c t l
  have h2 := funext fun l => blk2 m c t l
  have h3 := funext fun k => funext fun l => blk3 m c t k l
  exact congrFun (congrArg₂ proj (congr (congrArg₂ hrow h0 h2) h1) h3) l

end Cert.RopeIdeal.Rope

end
-- ==== Proof.RopeRefRun.lean ====
/- The reference of the latents' input projection at an index of its results. -/
module

public import proofs.«01_k».proof.Proof.Gen.RopeReferenceIdeal.Run
public import proofs.«01_k».proof.Proof.RopeBlocks

@[expose] public section

set_option maxRecDepth 16384

noncomputable section

namespace Cert.RopeReferenceIdeal.Rope

open Cert.RopeReferenceIdeal Cert.RopeReferenceIdeal.Gen Idealize.ShloMosaic
open Cert.RopeIdeal.Rope (times1024 times256 times3072 num ang partner64 rotHead sgn rowP g10 g11 g12 g13 g14 g15 g16)

section
variable {F : FTy → Type} [FloatOps F] (x : FVec F S8x1024x1024 .f32) (mod : FVec F S16x6144 .f32) (n1g : FVec F S1024 .f32)
  (w : FVec F S1024x7680 .f32) (bg : FVec F S3072 .f32) (qg kg : FVec F S64 .f32)

/-- The modulation of the eight sequences. -/
def modRows : FVec F S8x1x6144 .f32 :=
  broadcastInDim S8x1x6144 ![0, 2] bcast_S8x6144_S8x1x6144_0_2 (extractStridedSlice S8x6144 ![0, 0] mod slices_S16x6144_S8x6144_0_0)

/-- The projection of the normed and modulated input. -/
def prj : FVec F S8x1024x7680 .f32 :=
  Host.dotGeneral dot_S8x1024x1024_S1024x7680_S8x1024x7680_2_0_01_1_n_n none (addf (mulf (mulf (mulf x (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf x x) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 n1g))) (broadcastInDim S8x1024x1024 ![0, 1, 2] bcast_S8x1x1024_S8x1024x1024_0_1_2 (addf (broadcastInDim S8x1x1024 ![] bcast_S_S8x1x1024 (constant S_ .f32 0x3F800000#32)) (extractStridedSlice S8x1x1024 ![0, 0, 1024] (modRows mod) slices_S8x1x6144_S8x1x1024_0_0_1024)))) (broadcastInDim S8x1024x1024 ![0, 1, 2] bcast_S8x1x1024_S8x1024x1024_0_1_2 (extractStridedSlice S8x1x1024 ![0, 0, 0] (modRows mod) slices_S8x1x6144_S8x1x1024_0_0_0))) w

/-- The frequencies, from their bit patterns. -/
def freqs (L : Fin 16 → BitVec 32) : FVec F S1x16 .f32 :=
  broadcastInDim S1x16 ![1] bcast_S16_S1x16_1 fun i => FloatOps.ofBits .f32 (L (S16.rowMajor i))

/-- The angles of the rows, by time. -/
def rowAng (L : Fin 16 → BitVec 32) : FVec F S1024x16 .f32 :=
  mulf (broadcastInDim S1024x16 ![0, 1] bcast_S1024x1_S1024x16_0_1 (broadcastInDim S1024x1 ![0] bcast_S1024_S1024x1_0 (sitofp .f32 (shapeCast _ (broadcastInDim S16x64 ![0, 1] bcast_S16x1_S16x64_0_1 (broadcastInDim S16x1 ![0] bcast_S16_S16x1_0 (iotaInDim S16 32 0))) shapeCasts_S16x64_S1024)))) (broadcastInDim S1024x16 ![0, 1] bcast_S1x16_S1024x16_0_1 (freqs L))

/-- The angles of the columns, by time. -/
def colAng (L : Fin 16 → BitVec 32) : FVec F S1024x16 .f32 :=
  mulf (broadcastInDim S1024x16 ![0, 1] bcast_S1024x1_S1024x16_0_1 (broadcastInDim S1024x1 ![0] bcast_S1024_S1024x1_0 (sitofp .f32 (shapeCast _ (broadcastInDim S16x64 ![0, 1] bcast_S1x64_S16x64_0_1 (broadcastInDim S1x64 ![1] bcast_S64_S1x64_1 (iotaInDim S64 32 0))) shapeCasts_S16x64_S1024)))) (broadcastInDim S1024x16 ![0, 1] bcast_S1x16_S1024x16_0_1 (freqs L))

/-- The norm of 16 heads. -/
def norm16 (y : FVec F S8x1024x16x64 .f32) (g : FVec F S64 .f32) : FVec F S8x1024x16x64 .f32 :=
  mulf (mulf y (broadcastInDim S8x1024x16x64 ![0, 1, 2, 3] bcast_S8x1024x16x1_S8x1024x16x64_0_1_2_3 (Host.rsqrt (addf (Host.divf (broadcastInDim S8x1024x16x1 ![0, 1, 2] bcast_S8x1024x16_S8x1024x16x1_0_1_2 (Host.reduceAdd (mulf y y) (constant S_ .f32 0x00000000#32) reducesTo_S8x1024x16x64_S8x1024x16_d3 h_S_)) (broadcastInDim S8x1024x16x1 ![] bcast_S_S8x1024x16x1 (constant S_ .f32 0x42800000#32))) (broadcastInDim S8x1024x16x1 ![] bcast_S_S8x1024x16x1 (constant S_ .f32 0x358637BD#32)))))) (broadcastInDim S8x1024x16x64 ![0, 1, 2, 3] bcast_S1x1x1x64_S8x1024x16x64_0_1_2_3 (broadcastInDim S1x1x1x64 ![3] bcast_S64_S1x1x1x64_3 g))

/-- Half of each of 16 heads, rotated by its angles. -/
def half16 (y : FVec F S8x1024x16x32 .f32) (a : FVec F S1024x16 .f32) : FVec F S8x1024x16x32 .f32 :=
  concatenate S8x1024x16x32 3 [⟨S8x1024x16x16, (subf (mulf (extractStridedSlice S8x1024x16x16 ![0, 0, 0, 0] y slices_S8x1024x16x32_S8x1024x16x16_0_0_0_0) (broadcastInDim S8x1024x16x16 ![0, 1, 2, 3] bcast_S1x1024x1x16_S8x1024x16x16_0_1_2_3 (broadcastInDim S1x1024x1x16 ![1, 3] bcast_S1024x16_S1x1024x1x16_1_3 (Host.cos a)))) (mulf (extractStridedSlice S8x1024x16x16 ![0, 0, 0, 16] y slices_S8x1024x16x32_S8x1024x16x16_0_0_0_16) (broadcastInDim S8x1024x16x16 ![0, 1, 2, 3] bcast_S1x1024x1x16_S8x1024x16x16_0_1_2_3 (broadcastInDim S1x1024x1x16 ![1, 3] bcast_S1024x16_S1x1024x1x16_1_3 (Host.sin a)))))⟩,
    ⟨S8x1024x16x16, (addf (mulf (extractStridedSlice S8x1024x16x16 ![0, 0, 0, 0] y slices_S8x1024x16x32_S8x1024x16x16_0_0_0_0) (broadcastInDim S8x1024x16x16 ![0, 1, 2, 3] bcast_S1x1024x1x16_S8x1024x16x16_0_1_2_3 (broadcastInDim S1x1024x1x16 ![1, 3] bcast_S1024x16_S1x1024x1x16_1_3 (Host.sin a)))) (mulf (extractStridedSlice S8x1024x16x16 ![0, 0, 0, 16] y slices_S8x1024x16x32_S8x1024x16x16_0_0_0_16) (broadcastInDim S8x1024x16x16 ![0, 1, 2, 3] bcast_S1x1024x1x16_S8x1024x16x16_0_1_2_3 (broadcastInDim S1x1024x1x16 ![1, 3] bcast_S1024x16_S1x1024x1x16_1_3 (Host.cos a)))))⟩] concatenates_S8x1024x16x16_S8x1024x16x16_S8x1024x16x32_d3

/-- The 16 heads, rotated. -/
def rope16 (y : FVec F S8x1024x16x64 .f32) (a b : FVec F S1024x16 .f32) : FVec F S8x1024x16x64 .f32 :=
  concatenate S8x1024x16x64 3 [⟨S8x1024x16x32, half16 (extractStridedSlice S8x1024x16x32 ![0, 0, 0, 0] y slices_S8x1024x16x64_S8x1024x16x32_0_0_0_0) a⟩,
    ⟨S8x1024x16x32, half16 (extractStridedSlice S8x1024x16x32 ![0, 0, 0, 32] y slices_S8x1024x16x64_S8x1024x16x32_0_0_0_32) b⟩] concatenates_S8x1024x16x32_S8x1024x16x32_S8x1024x16x64_d3

/-- The norm of 4 heads. -/
def norm4 (y : FVec F S8x1024x4x64 .f32) (g : FVec F S64 .f32) : FVec F S8x1024x4x64 .f32 :=
  mulf (mulf y (broadcastInDim S8x1024x4x64 ![0, 1, 2, 3] bcast_S8x1024x4x1_S8x1024x4x64_0_1_2_3 (Host.rsqrt (addf (Host.divf (broadcastInDim S8x1024x4x1 ![0, 1, 2] bcast_S8x1024x4_S8x1024x4x1_0_1_2 (Host.reduceAdd (mulf y y) (constant S_ .f32 0x00000000#32) reducesTo_S8x1024x4x64_S8x1024x4_d3 h_S_)) (broadcastInDim S8x1024x4x1 ![] bcast_S_S8x1024x4x1 (constant S_ .f32 0x42800000#32))) (broadcastInDim S8x1024x4x1 ![] bcast_S_S8x1024x4x1 (constant S_ .f32 0x358637BD#32)))))) (broadcastInDim S8x1024x4x64 ![0, 1, 2, 3] bcast_S1x1x1x64_S8x1024x4x64_0_1_2_3 (broadcastInDim S1x1x1x64 ![3] bcast_S64_S1x1x1x64_3 g))

/-- Half of each of 4 heads, rotated by its angles. -/
def half4 (y : FVec F S8x1024x4x32 .f32) (a : FVec F S1024x16 .f32) : FVec F S8x1024x4x32 .f32 :=
  concatenate S8x1024x4x32 3 [⟨S8x1024x4x16, (subf (mulf (extractStridedSlice S8x1024x4x16 ![0, 0, 0, 0] y slices_S8x1024x4x32_S8x1024x4x16_0_0_0_0) (broadcastInDim S8x1024x4x16 ![0, 1, 2, 3] bcast_S1x1024x1x16_S8x1024x4x16_0_1_2_3 (broadcastInDim S1x1024x1x16 ![1, 3] bcast_S1024x16_S1x1024x1x16_1_3 (Host.cos a)))) (mulf (extractStridedSlice S8x1024x4x16 ![0, 0, 0, 16] y slices_S8x1024x4x32_S8x1024x4x16_0_0_0_16) (broadcastInDim S8x1024x4x16 ![0, 1, 2, 3] bcast_S1x1024x1x16_S8x1024x4x16_0_1_2_3 (broadcastInDim S1x1024x1x16 ![1, 3] bcast_S1024x16_S1x1024x1x16_1_3 (Host.sin a)))))⟩,
    ⟨S8x1024x4x16, (addf (mulf (extractStridedSlice S8x1024x4x16 ![0, 0, 0, 0] y slices_S8x1024x4x32_S8x1024x4x16_0_0_0_0) (broadcastInDim S8x1024x4x16 ![0, 1, 2, 3] bcast_S1x1024x1x16_S8x1024x4x16_0_1_2_3 (broadcastInDim S1x1024x1x16 ![1, 3] bcast_S1024x16_S1x1024x1x16_1_3 (Host.sin a)))) (mulf (extractStridedSlice S8x1024x4x16 ![0, 0, 0, 16] y slices_S8x1024x4x32_S8x1024x4x16_0_0_0_16) (broadcastInDim S8x1024x4x16 ![0, 1, 2, 3] bcast_S1x1024x1x16_S8x1024x4x16_0_1_2_3 (broadcastInDim S1x1024x1x16 ![1, 3] bcast_S1024x16_S1x1024x1x16_1_3 (Host.cos a)))))⟩] concatenates_S8x1024x4x16_S8x1024x4x16_S8x1024x4x32_d3

/-- The 4 heads, rotated. -/
def rope4 (y : FVec F S8x1024x4x64 .f32) (a b : FVec F S1024x16 .f32) : FVec F S8x1024x4x64 .f32 :=
  concatenate S8x1024x4x64 3 [⟨S8x1024x4x32, half4 (extractStridedSlice S8x1024x4x32 ![0, 0, 0, 0] y slices_S8x1024x4x64_S8x1024x4x32_0_0_0_0) a⟩,
    ⟨S8x1024x4x32, half4 (extractStridedSlice S8x1024x4x32 ![0, 0, 0, 32] y slices_S8x1024x4x64_S8x1024x4x32_0_0_0_32) b⟩] concatenates_S8x1024x4x32_S8x1024x4x32_S8x1024x4x64_d3

/-- The recurrent branch's input. -/
def out10 : FVec F S8x1024x1024 .bf16 :=
  truncf .bf16 (extractStridedSlice S8x1024x1024 ![0, 0, 0] (prj x mod n1g w) slices_S8x1024x7680_S8x1024x1024_0_0_0) bitsLt_bf16_f32

/-- The recurrent branch's gate. -/
def out11 : FVec F S8x1024x1024 .bf16 :=
  truncf .bf16 (mulf (extractStridedSlice S8x1024x1024 ![0, 0, 1024] (prj x mod n1g w) slices_S8x1024x7680_S8x1024x1024_0_0_1024) (mulf (broadcastInDim S8x1024x1024 ![] bcast_S_S8x1024x1024 (constant S_ .f32 0x3F000000#32)) (addf (broadcastInDim S8x1024x1024 ![] bcast_S_S8x1024x1024 (constant S_ .f32 0x3F800000#32)) (Host.tanh (mulf (broadcastInDim S8x1024x1024 ![] bcast_S_S8x1024x1024 (constant S_ .f32 0x3F4C422A#32)) (addf (extractStridedSlice S8x1024x1024 ![0, 0, 1024] (prj x mod n1g w) slices_S8x1024x7680_S8x1024x1024_0_0_1024) (mulf (broadcastInDim S8x1024x1024 ![] bcast_S_S8x1024x1024 (constant S_ .f32 0x3D372713#32)) (mulf (mulf (extractStridedSlice S8x1024x1024 ![0, 0, 1024] (prj x mod n1g w) slices_S8x1024x7680_S8x1024x1024_0_0_1024) (extractStridedSlice S8x1024x1024 ![0, 0, 1024] (prj x mod n1g w) slices_S8x1024x7680_S8x1024x1024_0_0_1024)) (extractStridedSlice S8x1024x1024 ![0, 0, 1024] (prj x mod n1g w) slices_S8x1024x7680_S8x1024x1024_0_0_1024))))))))) bitsLt_bf16_f32

/-- The queries. -/
def out12 : FVec F S8x1024x1024 .bf16 :=
  truncf .bf16 (shapeCast _ (rope16 (norm16 (shapeCast _ (extractStridedSlice S8x1024x1024 ![0, 0, 2048] (prj x mod n1g w) slices_S8x1024x7680_S8x1024x1024_0_0_2048) shapeCasts_S8x1024x1024_S8x1024x16x64) qg) (rowAng lit0) (colAng lit1)) shapeCasts_S8x1024x16x64_S8x1024x1024) bitsLt_bf16_f32

/-- The keys. -/
def out13 : FVec F S8x1024x256 .f32 :=
  shapeCast _ (rope4 (norm4 (shapeCast _ (extractStridedSlice S8x1024x256 ![0, 0, 3072] (prj x mod n1g w) slices_S8x1024x7680_S8x1024x256_0_0_3072) shapeCasts_S8x1024x256_S8x1024x4x64) kg) (rowAng lit2) (colAng lit3)) shapeCasts_S8x1024x4x64_S8x1024x256

/-- The values. -/
def out14 : FVec F S8x1024x256 .f32 :=
  extractStridedSlice S8x1024x256 ![0, 0, 3328] (prj x mod n1g w) slices_S8x1024x7680_S8x1024x256_0_0_3328

/-- The pooled branch's input. -/
def out15 : FVec F S8x1024x1024 .bf16 :=
  truncf .bf16 (extractStridedSlice S8x1024x1024 ![0, 0, 3584] (prj x mod n1g w) slices_S8x1024x7680_S8x1024x1024_0_0_3584) bitsLt_bf16_f32

/-- The branches' gates. -/
def out16 : FVec F S8x1024x3072 .bf16 :=
  truncf .bf16 (Host.divf (broadcastInDim S8x1024x3072 ![] bcast_S_S8x1024x3072 (constant S_ .f32 0x3F800000#32)) (addf (broadcastInDim S8x1024x3072 ![] bcast_S_S8x1024x3072 (constant S_ .f32 0x3F800000#32)) (Host.exp (Host.negf (addf (extractStridedSlice S8x1024x3072 ![0, 0, 4608] (prj x mod n1g w) slices_S8x1024x7680_S8x1024x3072_0_0_4608) (broadcastInDim S8x1024x3072 ![0, 1, 2] bcast_S1x1x3072_S8x1024x3072_0_1_2 (broadcastInDim S1x1x3072 ![2] bcast_S3072_S1x1x3072_2 bg))))))) bitsLt_bf16_f32

end

/-- The reference's run, with its results the terms above. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v175) = out10 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v189) = out11 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v190) = out12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v174) = out13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_v32) = out14 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v191) = out15 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v201) = out16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => h c) (Value.run m ρ)

end Cert.RopeReferenceIdeal.Rope

end
-- ==== Proof.RopeRef.lean ====
/- The reference of the latents' input projection: its results' entries are the kernel's. -/
module

public import proofs.«01_k».proof.Proof.RopeRefRun

@[expose] public section

set_option maxRecDepth 16384

noncomputable section

namespace Cert.RopeReferenceIdeal.Rope

open Cert.RopeReferenceIdeal Cert.RopeReferenceIdeal.Gen Idealize.ShloMosaic
open Cert.RopeIdeal.Rope (times1024 times256 times3072 num ang partner64 rotHead sgn rowP g10 g11 g12 g13 g14 g15 g16)
open Cert.InprojIdeal.Inp (headNorm)

/-! ### One head -/

theorem neg_one : Ideal.ofBits .f32 0xBF800000#32 = -1 := by
  simp [Ideal.ofBits, Ideal.ieee]; norm_num [← EReal.coe_mul]

theorem pos_one : Ideal.ofBits .f32 0x3F800000#32 = 1 := by
  simp [Ideal.ofBits, Ideal.ieee]; norm_num [← EReal.coe_mul]

theorem rotHead_lo (y : Fin 64 → EReal) (t : Fin 1024) (e : Fin 64) (h : e.val % 32 < 16) :
    rotHead y t e = y e * Ideal.cos (ang t e) - y ⟨e.val + 16, by omega⟩ * Ideal.sin (ang t e) := by
  unfold rotHead partner64 sgn
  rw [dif_pos h, if_pos h, neg_one, mul_neg, mul_one, mul_neg, sub_eq_add_neg]

theorem rotHead_hi (y : Fin 64 → EReal) (t : Fin 1024) (e : Fin 64) (h : ¬ e.val % 32 < 16) :
    rotHead y t e = y ⟨e.val - 16, by omega⟩ * Ideal.sin (ang t e) + y e * Ideal.cos (ang t e) := by
  unfold rotHead partner64 sgn
  rw [dif_neg h, if_neg h, pos_one, mul_one, add_comm]

/-! ### The angles -/

theorem freqs_apply (L : Fin 16 → BitVec 32) (q : Fin 16) : freqs (F := Ideal) L (ix2 0 q) = Ideal.ofBits .f32 (L q) := by
  pointwise [freqs]
  exact congrArg (fun q => Ideal.ofBits .f32 (L q)) (Fin.ext (by fin_cases q <;> rfl))

theorem rowAng_apply (L : Fin 16 → BitVec 32) (t : Fin 1024) (q : Fin 16) :
    rowAng (F := Ideal) L (ix2 t q) = num (t.val / 64) * Ideal.ofBits .f32 (L q) := by
  pointwise [rowAng, freqs_apply, num]

theorem colAng_apply (L : Fin 16 → BitVec 32) (t : Fin 1024) (q : Fin 16) :
    colAng (F := Ideal) L (ix2 t q) = num (t.val % 64) * Ideal.ofBits .f32 (L q) := by
  pointwise [colAng, freqs_apply, num]

theorem lit0_eq : lit0 = Cert.RopeIdeal.lit0 := by funext q; fin_cases q <;> rfl
theorem lit1_eq : lit1 = Cert.RopeIdeal.lit0 := by funext q; fin_cases q <;> rfl
theorem lit2_eq : lit2 = Cert.RopeIdeal.lit0 := by funext q; fin_cases q <;> rfl
theorem lit3_eq : lit3 = Cert.RopeIdeal.lit0 := by funext q; fin_cases q <;> rfl

theorem row_ang (t : Fin 1024) (q : Fin 16) (e : Fin 64) (h : e.val < 32) (hq : e.val % 16 = q.val) :
    rowAng (F := Ideal) Cert.RopeIdeal.lit0 (ix2 t q) = ang t e := by
  rw [rowAng_apply]
  unfold ang
  rw [if_pos h]
  exact congrArg (fun q => num (t.val / 64) * Ideal.ofBits .f32 (Cert.RopeIdeal.lit0 q)) (Fin.ext hq.symm)

theorem col_ang (t : Fin 1024) (q : Fin 16) (e : Fin 64) (h : ¬ e.val < 32) (hq : e.val % 16 = q.val) :
    colAng (F := Ideal) Cert.RopeIdeal.lit0 (ix2 t q) = ang t e := by
  rw [colAng_apply]
  unfold ang
  rw [if_neg h]
  exact congrArg (fun q => num (t.val % 64) * Ideal.ofBits .f32 (Cert.RopeIdeal.lit0 q)) (Fin.ext hq.symm)

/-! ### All heads -/

theorem quarter (e : Fin 64) : ∃ q : Fin 16, e = ⟨q.val, by omega⟩ ∨ e = ⟨16 + q.val, by omega⟩ ∨ e = ⟨32 + q.val, by omega⟩ ∨ e = ⟨32 + (16 + q.val), by omega⟩ := by
  refine ⟨⟨e.val % 16, by omega⟩, ?_⟩
  simp only [Fin.ext_iff]
  omega

theorem half16_lo (y : FVec Ideal S8x1024x16x32 .f32) (a : FVec Ideal S1024x16 .f32) (b : Fin 8) (t : Fin 1024) (h : Fin 16) (q : Fin 16) :
    half16 y a (ix4 b t h ⟨q.val, by omega⟩)
      = y (ix4 b t h ⟨q.val, by omega⟩) * Ideal.cos (a (ix2 t q)) - y (ix4 b t h ⟨16 + q.val, by omega⟩) * Ideal.sin (a (ix2 t q)) := by
  unfold half16
  refine Eq.trans (concatenate_pair_apply_left (t := S8x1024x16x32) (s₁ := S8x1024x16x16) (s₂ := S8x1024x16x16) 3 _ _ _ _ rfl (ix4 b t h q) fun b => ?_) ?_
  · fin_cases b <;> rfl
  pointwise

theorem half16_hi (y : FVec Ideal S8x1024x16x32 .f32) (a : FVec Ideal S1024x16 .f32) (b : Fin 8) (t : Fin 1024) (h : Fin 16) (q : Fin 16) :
    half16 y a (ix4 b t h ⟨16 + q.val, by omega⟩)
      = y (ix4 b t h ⟨q.val, by omega⟩) * Ideal.sin (a (ix2 t q)) + y (ix4 b t h ⟨16 + q.val, by omega⟩) * Ideal.cos (a (ix2 t q)) := by
  unfold half16
  refine Eq.trans (concatenate_pair_apply_right (t := S8x1024x16x32) (s₁ := S8x1024x16x16) (s₂ := S8x1024x16x16) 3 _ _ _ _ rfl rfl (ix4 b t h q) (fun b hb => ?_) ?_) ?_
  · fin_cases b <;> first | rfl | exact absurd rfl hb
  · exact Nat.add_comm _ _
  pointwise

theorem rope16_lo (y : FVec Ideal S8x1024x16x64 .f32) (a a' : FVec Ideal S1024x16 .f32) (b : Fin 8) (t : Fin 1024) (h : Fin 16) (e : Fin 32) :
    rope16 y a a' (ix4 b t h ⟨e.val, by omega⟩)
      = half16 (extractStridedSlice S8x1024x16x32 ![0, 0, 0, 0] y slices_S8x1024x16x64_S8x1024x16x32_0_0_0_0) a (ix4 b t h e) := by
  unfold rope16
  refine concatenate_pair_apply_left (t := S8x1024x16x64) (s₁ := S8x1024x16x32) (s₂ := S8x1024x16x32) 3 _ _ _ _ rfl (ix4 b t h e) fun b => ?_
  fin_cases b <;> rfl

theorem rope16_hi (y : FVec Ideal S8x1024x16x64 .f32) (a a' : FVec Ideal S1024x16 .f32) (b : Fin 8) (t : Fin 1024) (h : Fin 16) (e : Fin 32) :
    rope16 y a a' (ix4 b t h ⟨32 + e.val, by omega⟩)
      = half16 (extractStridedSlice S8x1024x16x32 ![0, 0, 0, 32] y slices_S8x1024x16x64_S8x1024x16x32_0_0_0_32) a' (ix4 b t h e) := by
  unfold rope16
  refine concatenate_pair_apply_right (t := S8x1024x16x64) (s₁ := S8x1024x16x32) (s₂ := S8x1024x16x32) 3 _ _ _ _ rfl rfl (ix4 b t h e) (fun b hb => ?_) ?_
  · fin_cases b <;> first | rfl | exact absurd rfl hb
  · exact Nat.add_comm _ _

theorem slice16_lo (y : FVec Ideal S8x1024x16x64 .f32) (b : Fin 8) (t : Fin 1024) (h : Fin 16) (e : Fin 32) :
    extractStridedSlice S8x1024x16x32 ![0, 0, 0, 0] y slices_S8x1024x16x64_S8x1024x16x32_0_0_0_0 (ix4 b t h e) = y (ix4 b t h ⟨e.val, by omega⟩) := by
  pointwise

theorem slice16_hi (y : FVec Ideal S8x1024x16x64 .f32) (b : Fin 8) (t : Fin 1024) (h : Fin 16) (e : Fin 32) :
    extractStridedSlice S8x1024x16x32 ![0, 0, 0, 32] y slices_S8x1024x16x64_S8x1024x16x32_0_0_0_32 (ix4 b t h e) = y (ix4 b t h ⟨32 + e.val, by omega⟩) := by
  pointwise

theorem rope16_apply (y : FVec Ideal S8x1024x16x64 .f32) (b : Fin 8) (t : Fin 1024) (h : Fin 16) (e : Fin 64) :
    rope16 y (rowAng Cert.RopeIdeal.lit0) (colAng Cert.RopeIdeal.lit0) (ix4 b t h e) = rotHead (fun e => y (ix4 b t h e)) t e := by
  obtain ⟨q, he⟩ := quarter e
  rcases he with he | he | he | he <;> subst he
  · rw [rotHead_lo _ _ _ (by dsimp only; omega)]
    refine (rope16_lo y _ _ b t h ⟨q.val, by omega⟩).trans ((half16_lo _ _ b t h q).trans ?_)
    rw [row_ang t q ⟨q.val, by omega⟩ (by dsimp only; omega) (by dsimp only; omega), slice16_lo, slice16_lo]
    simp only [Nat.add_comm]
  · rw [rotHead_hi _ _ _ (by dsimp only; omega)]
    refine (rope16_lo y _ _ b t h ⟨16 + q.val, by omega⟩).trans ((half16_hi _ _ b t h q).trans ?_)
    rw [row_ang t q ⟨16 + q.val, by omega⟩ (by dsimp only; omega) (by dsimp only; omega), slice16_lo, slice16_lo]
    simp only [Nat.add_sub_cancel_left]
  · rw [rotHead_lo _ _ _ (by dsimp only; omega)]
    refine (rope16_hi y _ _ b t h ⟨q.val, by omega⟩).trans ((half16_lo _ _ b t h q).trans ?_)
    rw [col_ang t q ⟨32 + q.val, by omega⟩ (by dsimp only; omega) (by dsimp only; omega), slice16_hi, slice16_hi]
    refine congrArg₂ _ rfl (congrArg₂ _ (congrArg y (congrArg (ix4 b t h) (Fin.ext ?_))) rfl)
    dsimp only; omega
  · rw [rotHead_hi _ _ _ (by dsimp only; omega)]
    refine (rope16_hi y _ _ b t h ⟨16 + q.val, by omega⟩).trans ((half16_hi _ _ b t h q).trans ?_)
    rw [col_ang t q ⟨32 + (16 + q.val), by omega⟩ (by dsimp only; omega) (by dsimp only; omega), slice16_hi, slice16_hi]
    refine congrArg₂ _ (congrArg₂ _ (congrArg y (congrArg (ix4 b t h) (Fin.ext ?_))) rfl) (congrArg₂ _ (congrArg y (congrArg (ix4 b t h) (Fin.ext ?_))) rfl)
    · dsimp only; omega
    · rfl

theorem norm16_apply (y : FVec Ideal S8x1024x16x64 .f32) (g : FVec Ideal S64 .f32) (b : Fin 8) (t : Fin 1024) (h : Fin 16) (e : Fin 64) :
    norm16 y g (ix4 b t h e) = headNorm (fun k => y (ix4 b t h k)) (fun j => g (ix1 j)) e := by
  pointwise [norm16, headNorm]

theorem half4_lo (y : FVec Ideal S8x1024x4x32 .f32) (a : FVec Ideal S1024x16 .f32) (b : Fin 8) (t : Fin 1024) (h : Fin 4) (q : Fin 16) :
    half4 y a (ix4 b t h ⟨q.val, by omega⟩)
      = y (ix4 b t h ⟨q.val, by omega⟩) * Ideal.cos (a (ix2 t q)) - y (ix4 b t h ⟨16 + q.val, by omega⟩) * Ideal.sin (a (ix2 t q)) := by
  unfold half4
  refine Eq.trans (concatenate_pair_apply_left (t := S8x1024x4x32) (s₁ := S8x1024x4x16) (s₂ := S8x1024x4x16) 3 _ _ _ _ rfl (ix4 b t h q) fun b => ?_) ?_
  · fin_cases b <;> rfl
  pointwise

theorem half4_hi (y : FVec Ideal S8x1024x4x32 .f32) (a : FVec Ideal S1024x16 .f32) (b : Fin 8) (t : Fin 1024) (h : Fin 4) (q : Fin 16) :
    half4 y a (ix4 b t h ⟨16 + q.val, by omega⟩)
      = y (ix4 b t h ⟨q.val, by omega⟩) * Ideal.sin (a (ix2 t q)) + y (ix4 b t h ⟨16 + q.val, by omega⟩) * Ideal.cos (a (ix2 t q)) := by
  unfold half4
  refine Eq.trans (concatenate_pair_apply_right (t := S8x1024x4x32) (s₁ := S8x1024x4x16) (s₂ := S8x1024x4x16) 3 _ _ _ _ rfl rfl (ix4 b t h q) (fun b hb => ?_) ?_) ?_
  · fin_cases b <;> first | rfl | exact absurd rfl hb
  · exact Nat.add_comm _ _
  pointwise

theorem rope4_lo (y : FVec Ideal S8x1024x4x64 .f32) (a a' : FVec Ideal S1024x16 .f32) (b : Fin 8) (t : Fin 1024) (h : Fin 4) (e : Fin 32) :
    rope4 y a a' (ix4 b t h ⟨e.val, by omega⟩)
      = half4 (extractStridedSlice S8x1024x4x32 ![0, 0, 0, 0] y slices_S8x1024x4x64_S8x1024x4x32_0_0_0_0) a (ix4 b t h e) := by
  unfold rope4
  refine concatenate_pair_apply_left (t := S8x1024x4x64) (s₁ := S8x1024x4x32) (s₂ := S8x1024x4x32) 3 _ _ _ _ rfl (ix4 b t h e) fun b => ?_
  fin_cases b <;> rfl

theorem rope4_hi (y : FVec Ideal S8x1024x4x64 .f32) (a a' : FVec Ideal S1024x16 .f32) (b : Fin 8) (t : Fin 1024) (h : Fin 4) (e : Fin 32) :
    rope4 y a a' (ix4 b t h ⟨32 + e.val, by omega⟩)
      = half4 (extractStridedSlice S8x1024x4x32 ![0, 0, 0, 32] y slices_S8x1024x4x64_S8x1024x4x32_0_0_0_32) a' (ix4 b t h e) := by
  unfold rope4
  refine concatenate_pair_apply_right (t := S8x1024x4x64) (s₁ := S8x1024x4x32) (s₂ := S8x1024x4x32) 3 _ _ _ _ rfl rfl (ix4 b t h e) (fun b hb => ?_) ?_
  · fin_cases b <;> first | rfl | exact absurd rfl hb
  · exact Nat.add_comm _ _

theorem slice4_lo (y : FVec Ideal S8x1024x4x64 .f32) (b : Fin 8) (t : Fin 1024) (h : Fin 4) (e : Fin 32) :
    extractStridedSlice S8x1024x4x32 ![0, 0, 0, 0] y slices_S8x1024x4x64_S8x1024x4x32_0_0_0_0 (ix4 b t h e) = y (ix4 b t h ⟨e.val, by omega⟩) := by
  pointwise

theorem slice4_hi (y : FVec Ideal S8x1024x4x64 .f32) (b : Fin 8) (t : Fin 1024) (h : Fin 4) (e : Fin 32) :
    extractStridedSlice S8x1024x4x32 ![0, 0, 0, 32] y slices_S8x1024x4x64_S8x1024x4x32_0_0_0_32 (ix4 b t h e) = y (ix4 b t h ⟨32 + e.val, by omega⟩) := by
  pointwise

theorem rope4_apply (y : FVec Ideal S8x1024x4x64 .f32) (b : Fin 8) (t : Fin 1024) (h : Fin 4) (e : Fin 64) :
    rope4 y (rowAng Cert.RopeIdeal.lit0) (colAng Cert.RopeIdeal.lit0) (ix4 b t h e) = rotHead (fun e => y (ix4 b t h e)) t e := by
  obtain ⟨q, he⟩ := quarter e
  rcases he with he | he | he | he <;> subst he
  · rw [rotHead_lo _ _ _ (by dsimp only; omega)]
    refine (rope4_lo y _ _ b t h ⟨q.val, by omega⟩).trans ((half4_lo _ _ b t h q).trans ?_)
    rw [row_ang t q ⟨q.val, by omega⟩ (by dsimp only; omega) (by dsimp only; omega), slice4_lo, slice4_lo]
    simp only [Nat.add_comm]
  · rw [rotHead_hi _ _ _ (by dsimp only; omega)]
    refine (rope4_lo y _ _ b t h ⟨16 + q.val, by omega⟩).trans ((half4_hi _ _ b t h q).trans ?_)
    rw [row_ang t q ⟨16 + q.val, by omega⟩ (by dsimp only; omega) (by dsimp only; omega), slice4_lo, slice4_lo]
    simp only [Nat.add_sub_cancel_left]
  · rw [rotHead_lo _ _ _ (by dsimp only; omega)]
    refine (rope4_hi y _ _ b t h ⟨q.val, by omega⟩).trans ((half4_lo _ _ b t h q).trans ?_)
    rw [col_ang t q ⟨32 + q.val, by omega⟩ (by dsimp only; omega) (by dsimp only; omega), slice4_hi, slice4_hi]
    refine congrArg₂ _ rfl (congrArg₂ _ (congrArg y (congrArg (ix4 b t h) (Fin.ext ?_))) rfl)
    dsimp only; omega
  · rw [rotHead_hi _ _ _ (by dsimp only; omega)]
    refine (rope4_hi y _ _ b t h ⟨16 + q.val, by omega⟩).trans ((half4_hi _ _ b t h q).trans ?_)
    rw [col_ang t q ⟨32 + (16 + q.val), by omega⟩ (by dsimp only; omega) (by dsimp only; omega), slice4_hi, slice4_hi]
    refine congrArg₂ _ (congrArg₂ _ (congrArg y (congrArg (ix4 b t h) (Fin.ext ?_))) rfl) (congrArg₂ _ (congrArg y (congrArg (ix4 b t h) (Fin.ext ?_))) rfl)
    · dsimp only; omega
    · rfl

theorem norm4_apply (y : FVec Ideal S8x1024x4x64 .f32) (g : FVec Ideal S64 .f32) (b : Fin 8) (t : Fin 1024) (h : Fin 4) (e : Fin 64) :
    norm4 y g (ix4 b t h e) = headNorm (fun k => y (ix4 b t h k)) (fun j => g (ix1 j)) e := by
  pointwise [norm4, headNorm]

variable (x : FVec Ideal S8x1024x1024 .f32) (mod : FVec Ideal S16x6144 .f32) (n1g : FVec Ideal S1024 .f32)
  (w : FVec Ideal S1024x7680 .f32) (bg : FVec Ideal S3072 .f32) (qg kg : FVec Ideal S64 .f32)

theorem prj_apply (b : Fin 8) (t : Fin 1024) (l : Fin 7680) :
    prj x mod n1g w (ix3 b t l) = rowP x mod n1g w b t l := by
  pointwise [prj, modRows, Cert.RopeIdeal.Rope.rowP, Cert.InprojIdeal.Inp.proj, Cert.InprojIdeal.Inp.hrow, Rows.rms, Rows.inv]

theorem out10_eq : out10 x mod n1g w = times1024 (g10 x mod n1g w) := by
  funext i
  idx_vars i
  pointwise [out10, prj_apply, times1024, Cert.RopeIdeal.Rope.g10, Nat.div_add_mod', Fin.eta]

theorem out11_eq : out11 x mod n1g w = times1024 (g11 x mod n1g w) := by
  funext i
  idx_vars i
  pointwise [out11, prj_apply, times1024, Cert.RopeIdeal.Rope.g11, Cert.InprojIdeal.Inp.gelu, Nat.div_add_mod', Fin.eta]
  simp only [mul_assoc]

theorem out12_eq : out12 x mod n1g w qg = times1024 (g12 x mod n1g w qg) := by
  funext i
  idx_vars i
  unfold out12
  rw [lit0_eq, lit1_eq]
  pointwise [rope16_apply, norm16_apply, prj_apply, times1024, Cert.RopeIdeal.Rope.g12, Nat.div_add_mod', Fin.eta]

theorem out13_eq : out13 x mod n1g w kg = times256 (g13 x mod n1g w kg) := by
  funext i
  idx_vars i
  unfold out13
  rw [lit2_eq, lit3_eq]
  pointwise [rope4_apply, norm4_apply, prj_apply, times256, Cert.RopeIdeal.Rope.g13, Nat.div_add_mod', Fin.eta]

theorem out14_eq : out14 x mod n1g w = times256 (g14 x mod n1g w) := by
  funext i
  idx_vars i
  pointwise [out14, prj_apply, times256, Cert.RopeIdeal.Rope.g14, Nat.div_add_mod', Fin.eta]

theorem out15_eq : out15 x mod n1g w = times1024 (g15 x mod n1g w) := by
  funext i
  idx_vars i
  pointwise [out15, prj_apply, times1024, Cert.RopeIdeal.Rope.g15, Nat.div_add_mod', Fin.eta]

theorem out16_eq : out16 x mod n1g w bg = times3072 (g16 x mod n1g w bg) := by
  funext i
  idx_vars i
  pointwise [out16, prj_apply, times3072, Cert.RopeIdeal.Rope.g16, Ideal.logistic, Nat.div_add_mod', Fin.eta]

end Cert.RopeReferenceIdeal.Rope

end
-- ==== Proof.RopeArrays.lean ====
/- The latents' input projection: the launch's result arrays, entry by entry. -/
module

public import proofs.«01_k».proof.Proof.RopeBlocks

@[expose] public section

set_option maxRecDepth 16384

noncomputable section

namespace Cert.RopeIdeal.Rope

open Cert.RopeIdeal Cert.RopeIdeal.Gen Idealize.ShloMosaic Idealize.ShloMosaic.TcCoe
open Cert.FfnUpIdeal.Up (tm pos tm_pos pos_tm)

/-- The sequence of a row of the launch's arrays. -/
def rowSeq (i : Fin 8192) : Fin 8 := ⟨i.val / 1024, by omega⟩

/-- The time of a row of the launch's arrays. -/
def rowTime (i : Fin 8192) : Fin 1024 := tm ⟨i.val % 1024, by omega⟩

/-- Entries by sequence and time, as a launch's array of width 1024. -/
def rows1024 (g : Fin 8 → Fin 1024 → Fin 1024 → EReal) : FVec Ideal S8192x1024 .bf16 := fun i => g (rowSeq (i 0)) (rowTime (i 0)) (i 1)
/-- Entries by sequence and time, as a launch's array of width 256. -/
def rows256 (g : Fin 8 → Fin 1024 → Fin 256 → EReal) : FVec Ideal S8192x256 .f32 := fun i => g (rowSeq (i 0)) (rowTime (i 0)) (i 1)
/-- Entries by sequence and time, as a launch's array of width 3072. -/
def rows3072 (g : Fin 8 → Fin 1024 → Fin 3072 → EReal) : FVec Ideal S8192x3072 .bf16 := fun i => g (rowSeq (i 0)) (rowTime (i 0)) (i 1)

theorem row_seq (t : Fin cfg0.N) (r : Fin 512) (h : 512 * t.val + r.val < 8192) : rowSeq ⟨512 * t.val + r.val, h⟩ = sq t :=
  Fin.ext (by unfold rowSeq sq; dsimp only; omega)

theorem row_time (t : Fin cfg0.N) (r : Fin 512) (h : 512 * t.val + r.val < 8192) : rowTime ⟨512 * t.val + r.val, h⟩ = time t r :=
  congrArg tm (Fin.ext (by dsimp only; omega))

variable (m : (ℓ : Loc nD τ sig) → Buf (Elt Ideal) ℓ)

theorem arr10_eq (c : Dev nD) : (dats m 0 c).arrAt 10 cfg0.N = rows1024 (g10 (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 10 _ (by decide +kernel) fun t hf y => ?_
  blk_simp; rw [after0_10]
  have h1 : (y 1).val < 1024 := (y 1).isLt
  have h0 : (y 0).val < 512 := (y 0).isLt
  have ht : t.val < 16 := t.isLt
  have hy : y = ix2 (⟨(y 0).val, h0⟩ : Fin 512) (⟨(y 1).val, h1⟩ : Fin 1024) := by
    funext i; fin_cases i <;> rfl
  have he : (win0_10.blk t).view.emb y = ix2 (⟨512 * t.val + (⟨(y 0).val, h0⟩ : Fin 512).val, by dsimp only; omega⟩ : Fin 8192) (⟨(y 1).val, h1⟩ : Fin 1024) := by
    blk_ext [idx10]
  rw [he]
  refine ((congrArg (out0_10 _ _ _ _ _ _ _ _ _ _) hy).trans (out10_apply (iblk m c 0 t) (iblk m c 1 t) (iblk m c 2 t) (iblk m c 3 t) (iblk m c 4 t) (iblk m c 5 t) (iblk m c 6 t) (iblk m c 7 t) (iblk m c 8 t) (iblk m c 9 t) _ _)).trans ?_
  rw [tile_row]
  refine Eq.trans ?_ (congrArg₂ (fun b t => g10 (m ((c.tc : Thread nD τ).loc main_arg0)) (m ((c.tc : Thread nD τ).loc main_arg1)) (m ((c.tc : Thread nD τ).loc main_arg2)) (m ((c.tc : Thread nD τ).loc main_arg3)) b t (⟨(y 1).val, h1⟩ : Fin 1024)) (row_seq t ⟨(y 0).val, h0⟩ _) (row_time t ⟨(y 0).val, h0⟩ _)).symm
  rfl

theorem arr11_eq (c : Dev nD) : (dats m 0 c).arrAt 11 cfg0.N = rows1024 (g11 (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 11 _ (by decide +kernel) fun t hf y => ?_
  blk_simp; rw [after0_11]
  have h1 : (y 1).val < 1024 := (y 1).isLt
  have h0 : (y 0).val < 512 := (y 0).isLt
  have ht : t.val < 16 := t.isLt
  have hy : y = ix2 (⟨(y 0).val, h0⟩ : Fin 512) (⟨(y 1).val, h1⟩ : Fin 1024) := by
    funext i; fin_cases i <;> rfl
  have he : (win0_11.blk t).view.emb y = ix2 (⟨512 * t.val + (⟨(y 0).val, h0⟩ : Fin 512).val, by dsimp only; omega⟩ : Fin 8192) (⟨(y 1).val, h1⟩ : Fin 1024) := by
    blk_ext [idx11]
  rw [he]
  refine ((congrArg (out0_11 _ _ _ _ _ _ _ _ _ _) hy).trans (out11_apply (iblk m c 0 t) (iblk m c 1 t) (iblk m c 2 t) (iblk m c 3 t) (iblk m c 4 t) (iblk m c 5 t) (iblk m c 6 t) (iblk m c 7 t) (iblk m c 8 t) (iblk m c 9 t) _ _)).trans ?_
  rw [tile_row]
  refine Eq.trans ?_ (congrArg₂ (fun b t => g11 (m ((c.tc : Thread nD τ).loc main_arg0)) (m ((c.tc : Thread nD τ).loc main_arg1)) (m ((c.tc : Thread nD τ).loc main_arg2)) (m ((c.tc : Thread nD τ).loc main_arg3)) b t (⟨(y 1).val, h1⟩ : Fin 1024)) (row_seq t ⟨(y 0).val, h0⟩ _) (row_time t ⟨(y 0).val, h0⟩ _)).symm
  rfl

theorem arr12_eq (c : Dev nD) : (dats m 0 c).arrAt 12 cfg0.N = rows1024 (g12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))) := by
  refine (dats m 0 c).arrAt_eq_of_covers 12 _ (by decide +kernel) fun t hf y => ?_
  blk_simp; rw [after0_12]
  have h1 : (y 1).val < 1024 := (y 1).isLt
  have h0 : (y 0).val < 512 := (y 0).isLt
  have ht : t.val < 16 := t.isLt
  have hy : y = ix2 (⟨(y 0).val, h0⟩ : Fin 512) (⟨(y 1).val, h1⟩ : Fin 1024) := by
    funext i; fin_cases i <;> rfl
  have he : (win0_12.blk t).view.emb y = ix2 (⟨512 * t.val + (⟨(y 0).val, h0⟩ : Fin 512).val, by dsimp only; omega⟩ : Fin 8192) (⟨(y 1).val, h1⟩ : Fin 1024) := by
    blk_ext [idx12]
  rw [he]
  have hy' : (ix2 (⟨(y 0).val, h0⟩ : Fin 512) (⟨(y 1).val, h1⟩ : Fin 1024) : S512x1024.Idx)
      = ix2 ⟨(y 0).val, h0⟩ ⟨128 * (⟨(y 1).val / 128, by omega⟩ : Fin 8).val + (⟨(y 1).val % 128, by omega⟩ : Fin 128).val, by dsimp only; omega⟩ :=
    congrArg _ (Fin.ext (by dsimp only; omega))
  refine ((congrArg (out0_12 _ _ _ _ _ _ _ _ _ _) (hy.trans hy')).trans (out12_apply (iblk m c 0 t) (iblk m c 1 t) (iblk m c 2 t) (iblk m c 3 t) (iblk m c 4 t) (iblk m c 5 t) (iblk m c 6 t) (iblk m c 7 t) (iblk m c 8 t) (iblk m c 9 t) _ _ _)).trans ?_
  rw [tile_row]
  rw [show (fun j => iblk m c 5 t (ix2 0 j)) = fun j => (fun j => (m ((c.tc : Thread nD τ).loc main_arg5)) (ix1 j)) ⟨j.val % 64, by omega⟩ from funext fun j => blk5 m c t j]
  rw [show (fun j => iblk m c 8 t (ix2 ⟨(y 0).val, h0⟩ j)) = fun j => Ideal.cos (ang (time t ⟨(y 0).val, h0⟩) ⟨j.val % 64, by omega⟩) from funext fun j => blk8 m c t _ j]
  rw [show (fun j => iblk m c 9 t (ix2 ⟨(y 0).val, h0⟩ j)) = fun j => Ideal.sin (ang (time t ⟨(y 0).val, h0⟩) ⟨j.val % 64, by omega⟩) * sgn j.val from funext fun j => blk9 m c t _ j]
  rw [rot_head _ _ (fun j => (m ((c.tc : Thread nD τ).loc main_arg5)) (ix1 j)) _ (fun i j => blk7 m c t i j)]
  refine Eq.trans ?_ (congrArg₂ (fun b t => g12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) b t (⟨(y 1).val, h1⟩ : Fin 1024)) (row_seq t ⟨(y 0).val, h0⟩ _) (row_time t ⟨(y 0).val, h0⟩ _)).symm
  unfold g12
  refine congrArg₂ (fun y e => rotHead (Cert.InprojIdeal.Inp.headNorm y _) _ e) (funext fun k => congrArg _ (Fin.ext ?_)) (Fin.ext ?_)
  · show 2048 + (128 * ((y 1).val / 128) + ((y 1).val % 128 / 64 * 64 + k.val)) = 2048 + ((y 1).val / 64 * 64 + k.val)
    omega
  · show (y 1).val % 128 % 64 = (y 1).val % 64
    omega

theorem arr13_eq (c : Dev nD) : (dats m 0 c).arrAt 13 cfg0.N = rows256 (g13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) := by
  refine (dats m 0 c).arrAt_eq_of_covers 13 _ (by decide +kernel) fun t hf y => ?_
  blk_simp; rw [after0_13]
  have h1 : (y 1).val < 256 := (y 1).isLt
  have h0 : (y 0).val < 512 := (y 0).isLt
  have ht : t.val < 16 := t.isLt
  have hy : y = ix2 (⟨(y 0).val, h0⟩ : Fin 512) (⟨(y 1).val, h1⟩ : Fin 256) := by
    funext i; fin_cases i <;> rfl
  have he : (win0_13.blk t).view.emb y = ix2 (⟨512 * t.val + (⟨(y 0).val, h0⟩ : Fin 512).val, by dsimp only; omega⟩ : Fin 8192) (⟨(y 1).val, h1⟩ : Fin 256) := by
    blk_ext [idx13]
  rw [he]
  have hy' : (ix2 (⟨(y 0).val, h0⟩ : Fin 512) (⟨(y 1).val, h1⟩ : Fin 256) : S512x256.Idx)
      = ix2 ⟨(y 0).val, h0⟩ ⟨128 * (⟨(y 1).val / 128, by omega⟩ : Fin 2).val + (⟨(y 1).val % 128, by omega⟩ : Fin 128).val, by dsimp only; omega⟩ :=
    congrArg _ (Fin.ext (by dsimp only; omega))
  refine ((congrArg (out0_13 _ _ _ _ _ _ _ _ _ _) (hy.trans hy')).trans (out13_apply (iblk m c 0 t) (iblk m c 1 t) (iblk m c 2 t) (iblk m c 3 t) (iblk m c 4 t) (iblk m c 5 t) (iblk m c 6 t) (iblk m c 7 t) (iblk m c 8 t) (iblk m c 9 t) _ _ _)).trans ?_
  rw [tile_row]
  rw [show (fun j => iblk m c 6 t (ix2 0 j)) = fun j => (fun j => (m ((c.tc : Thread nD τ).loc main_arg6)) (ix1 j)) ⟨j.val % 64, by omega⟩ from funext fun j => blk6 m c t j]
  rw [show (fun j => iblk m c 8 t (ix2 ⟨(y 0).val, h0⟩ j)) = fun j => Ideal.cos (ang (time t ⟨(y 0).val, h0⟩) ⟨j.val % 64, by omega⟩) from funext fun j => blk8 m c t _ j]
  rw [show (fun j => iblk m c 9 t (ix2 ⟨(y 0).val, h0⟩ j)) = fun j => Ideal.sin (ang (time t ⟨(y 0).val, h0⟩) ⟨j.val % 64, by omega⟩) * sgn j.val from funext fun j => blk9 m c t _ j]
  rw [rot_head _ _ (fun j => (m ((c.tc : Thread nD τ).loc main_arg6)) (ix1 j)) _ (fun i j => blk7 m c t i j)]
  refine Eq.trans ?_ (congrArg₂ (fun b t => g13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) b t (⟨(y 1).val, h1⟩ : Fin 256)) (row_seq t ⟨(y 0).val, h0⟩ _) (row_time t ⟨(y 0).val, h0⟩ _)).symm
  unfold g13
  refine congrArg₂ (fun y e => rotHead (Cert.InprojIdeal.Inp.headNorm y _) _ e) (funext fun k => congrArg _ (Fin.ext ?_)) (Fin.ext ?_)
  · show 3072 + (128 * ((y 1).val / 128) + ((y 1).val % 128 / 64 * 64 + k.val)) = 3072 + ((y 1).val / 64 * 64 + k.val)
    omega
  · show (y 1).val % 128 % 64 = (y 1).val % 64
    omega

theorem arr14_eq (c : Dev nD) : (dats m 0 c).arrAt 14 cfg0.N = rows256 (g14 (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 14 _ (by decide +kernel) fun t hf y => ?_
  blk_simp; rw [after0_14]
  have h1 : (y 1).val < 256 := (y 1).isLt
  have h0 : (y 0).val < 512 := (y 0).isLt
  have ht : t.val < 16 := t.isLt
  have hy : y = ix2 (⟨(y 0).val, h0⟩ : Fin 512) (⟨(y 1).val, h1⟩ : Fin 256) := by
    funext i; fin_cases i <;> rfl
  have he : (win0_14.blk t).view.emb y = ix2 (⟨512 * t.val + (⟨(y 0).val, h0⟩ : Fin 512).val, by dsimp only; omega⟩ : Fin 8192) (⟨(y 1).val, h1⟩ : Fin 256) := by
    blk_ext [idx14]
  rw [he]
  refine ((congrArg (out0_14 _ _ _ _ _ _ _ _ _ _) hy).trans (out14_apply (iblk m c 0 t) (iblk m c 1 t) (iblk m c 2 t) (iblk m c 3 t) (iblk m c 4 t) (iblk m c 5 t) (iblk m c 6 t) (iblk m c 7 t) (iblk m c 8 t) (iblk m c 9 t) _ _)).trans ?_
  rw [tile_row]
  refine Eq.trans ?_ (congrArg₂ (fun b t => g14 (m ((c.tc : Thread nD τ).loc main_arg0)) (m ((c.tc : Thread nD τ).loc main_arg1)) (m ((c.tc : Thread nD τ).loc main_arg2)) (m ((c.tc : Thread nD τ).loc main_arg3)) b t (⟨(y 1).val, h1⟩ : Fin 256)) (row_seq t ⟨(y 0).val, h0⟩ _) (row_time t ⟨(y 0).val, h0⟩ _)).symm
  rfl

theorem arr15_eq (c : Dev nD) : (dats m 0 c).arrAt 15 cfg0.N = rows1024 (g15 (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 15 _ (by decide +kernel) fun t hf y => ?_
  blk_simp; rw [after0_15]
  have h1 : (y 1).val < 1024 := (y 1).isLt
  have h0 : (y 0).val < 512 := (y 0).isLt
  have ht : t.val < 16 := t.isLt
  have hy : y = ix2 (⟨(y 0).val, h0⟩ : Fin 512) (⟨(y 1).val, h1⟩ : Fin 1024) := by
    funext i; fin_cases i <;> rfl
  have he : (win0_15.blk t).view.emb y = ix2 (⟨512 * t.val + (⟨(y 0).val, h0⟩ : Fin 512).val, by dsimp only; omega⟩ : Fin 8192) (⟨(y 1).val, h1⟩ : Fin 1024) := by
    blk_ext [idx15]
  rw [he]
  refine ((congrArg (out0_15 _ _ _ _ _ _ _ _ _ _) hy).trans (out15_apply (iblk m c 0 t) (iblk m c 1 t) (iblk m c 2 t) (iblk m c 3 t) (iblk m c 4 t) (iblk m c 5 t) (iblk m c 6 t) (iblk m c 7 t) (iblk m c 8 t) (iblk m c 9 t) _ _)).trans ?_
  rw [tile_row]
  refine Eq.trans ?_ (congrArg₂ (fun b t => g15 (m ((c.tc : Thread nD τ).loc main_arg0)) (m ((c.tc : Thread nD τ).loc main_arg1)) (m ((c.tc : Thread nD τ).loc main_arg2)) (m ((c.tc : Thread nD τ).loc main_arg3)) b t (⟨(y 1).val, h1⟩ : Fin 1024)) (row_seq t ⟨(y 0).val, h0⟩ _) (row_time t ⟨(y 0).val, h0⟩ _)).symm
  rfl

theorem arr16_eq (c : Dev nD) : (dats m 0 c).arrAt 16 cfg0.N = rows3072 (g16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 16 _ (by decide +kernel) fun t hf y => ?_
  blk_simp; rw [after0_16]
  have h1 : (y 1).val < 3072 := (y 1).isLt
  have h0 : (y 0).val < 512 := (y 0).isLt
  have ht : t.val < 16 := t.isLt
  have hy : y = ix2 (⟨(y 0).val, h0⟩ : Fin 512) (⟨(y 1).val, h1⟩ : Fin 3072) := by
    funext i; fin_cases i <;> rfl
  have he : (win0_16.blk t).view.emb y = ix2 (⟨512 * t.val + (⟨(y 0).val, h0⟩ : Fin 512).val, by dsimp only; omega⟩ : Fin 8192) (⟨(y 1).val, h1⟩ : Fin 3072) := by
    blk_ext [idx16]
  rw [he]
  have hy' : (ix2 (⟨(y 0).val, h0⟩ : Fin 512) (⟨(y 1).val, h1⟩ : Fin 3072) : S512x3072.Idx)
      = ix2 ⟨(y 0).val, h0⟩ ⟨1024 * (⟨(y 1).val / 1024, by omega⟩ : Fin 3).val + (⟨(y 1).val % 1024, by omega⟩ : Fin 1024).val, by dsimp only; omega⟩ :=
    congrArg _ (Fin.ext (by dsimp only; omega))
  refine ((congrArg (out0_16 _ _ _ _ _ _ _ _ _ _) (hy.trans hy')).trans (out16_apply (iblk m c 0 t) (iblk m c 1 t) (iblk m c 2 t) (iblk m c 3 t) (iblk m c 4 t) (iblk m c 5 t) (iblk m c 6 t) (iblk m c 7 t) (iblk m c 8 t) (iblk m c 9 t) _ _ _)).trans ?_
  rw [tile_row, blk4]
  refine Eq.trans ?_ (congrArg₂ (fun b t => g16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b t (⟨(y 1).val, h1⟩ : Fin 3072)) (row_seq t ⟨(y 0).val, h0⟩ _) (row_time t ⟨(y 0).val, h0⟩ _)).symm
  unfold g16
  have hd : 1024 * ((y 1).val / 1024) + (y 1).val % 1024 = (y 1).val := by omega
  refine congrArg Ideal.logistic (congrArg₂ (· + ·) (congrArg _ (Fin.ext ?_)) (congrArg _ (congrArg ix1 (Fin.ext ?_))))
  · show 4608 + (1024 * ((y 1).val / 1024) + (y 1).val % 1024) = 4608 + (y 1).val
    omega
  · exact hd

end Cert.RopeIdeal.Rope

end
-- ==== Proof.RopeRun.lean ====
/- The latents' input projection: the results, by time, and the program's run. -/
module

public import proofs.«01_k».proof.Proof.RopeArrays
public import proofs.«01_k».proof.Proof.PoolValue

@[expose] public section

set_option maxRecDepth 16384

noncomputable section

namespace Cert.RopeIdeal.Rope

open Cert.RopeIdeal Cert.RopeIdeal.Gen Idealize.ShloMosaic Idealize.ShloMosaic.TcCoe Idealize.SL.Sem
open Cert.FfnUpIdeal.Up (tm pos tm_pos)

/-- Positions to times, at width 256. -/
def deinter256 (x : FVec Ideal S8192x256 .f32) : FVec Ideal S8x1024x256 .f32 :=
  shapeCast S8x1024x256 (transpose S8x8x128x256 [0, 2, 1, 3] (shapeCast S8x128x8x256 x shapeCasts_S8192x256_S8x128x8x256) transposes_S8x128x8x256_S8x8x128x256_0_2_1_3) shapeCasts_S8x8x128x256_S8x1024x256

theorem deinter256_apply (x : FVec Ideal S8192x256 .f32) (b : Fin 8) (t : Fin 1024) (l : Fin 256) :
    deinter256 x (ix3 b t l) = x (ix2 (⟨1024 * b.val + (pos t).val, by omega⟩ : Fin 8192) l) := by
  pointwise [deinter256]
  refine congrArg x (congrArg (ix2 · l) (Fin.ext ?_))
  unfold pos
  dsimp only
  omega

theorem seq_pos (b : Fin 8) (t : Fin 1024) (h : 1024 * b.val + (pos t).val < 8192) : rowSeq ⟨1024 * b.val + (pos t).val, h⟩ = b :=
  Fin.ext (by have := (pos t).isLt; unfold rowSeq; dsimp only; omega)

theorem time_pos (b : Fin 8) (t : Fin 1024) (h : 1024 * b.val + (pos t).val < 8192) : rowTime ⟨1024 * b.val + (pos t).val, h⟩ = t :=
  (congrArg tm (Fin.ext (by have := (pos t).isLt; dsimp only; omega))).trans (tm_pos t)

theorem by_time1024 (g : Fin 8 → Fin 1024 → Fin 1024 → EReal) : Cert.PoolIdeal.Pool.deinter (rows1024 g) = times1024 g := by
  funext i
  idx_vars i
  refine (Cert.PoolIdeal.Pool.deinter_apply _ _ _ _).trans ?_
  exact congrArg₂ (fun b t => g b t i2) (seq_pos i0 i1 _) (time_pos i0 i1 _)

theorem by_time256 (g : Fin 8 → Fin 1024 → Fin 256 → EReal) : deinter256 (rows256 g) = times256 g := by
  funext i
  idx_vars i
  refine (deinter256_apply _ _ _ _).trans ?_
  exact congrArg₂ (fun b t => g b t i2) (seq_pos i0 i1 _) (time_pos i0 i1 _)

theorem by_time3072 (g : Fin 8 → Fin 1024 → Fin 3072 → EReal) : Cert.FfnUpIdeal.Up.deinter (rows3072 g) = times3072 g := by
  funext i
  idx_vars i
  refine (Cert.FfnUpIdeal.Up.deinter_apply _ _ _ _).trans ?_
  exact congrArg₂ (fun b t => g b t i2) (seq_pos i0 i1 _) (time_pos i0 i1 _)

variable (m : (ℓ : Loc nD τ sig) → Buf (Elt Ideal) ℓ)

theorem shared : Pipeline.SharedIn spec0 := by decide

theorem tail_main_v66 (c : Dev nD) :
    Pipeline.afterTail₀ cfgs (dats m) 0 (V0 m) [hostOps1] c main_v66 = times1024 (g10 (m ((c.tc : Thread nD τ).loc main_arg0)) (m ((c.tc : Thread nD τ).loc main_arg1)) (m ((c.tc : Thread nD τ).loc main_arg2)) (m ((c.tc : Thread nD τ).loc main_arg3))) := by
  have hw : Pipeline.withArrays (cfgs 0).spec c (V0 m c) (fun w => (dats m 0 c).arrAt w (cfgs 0).N) (Proc.devRef .tc main_v63_0)
      = rows1024 (g10 (m ((c.tc : Thread nD τ).loc main_arg0)) (m ((c.tc : Thread nD τ).loc main_arg1)) (m ((c.tc : Thread nD τ).loc main_arg2)) (m ((c.tc : Thread nD τ).loc main_arg3))) :=
    ((dats m 0 c).withArrays_arrAt shared (V0 m c) (A_eq m c) 10).trans (arr10_eq m c)
  unfold Pipeline.afterTail₀
  simp only [List.flatten_cons, List.flatten_nil, List.append_nil]
  after_results
  rw [hw]
  exact by_time1024 _

theorem tail_main_v69 (c : Dev nD) :
    Pipeline.afterTail₀ cfgs (dats m) 0 (V0 m) [hostOps1] c main_v69 = times1024 (g11 (m ((c.tc : Thread nD τ).loc main_arg0)) (m ((c.tc : Thread nD τ).loc main_arg1)) (m ((c.tc : Thread nD τ).loc main_arg2)) (m ((c.tc : Thread nD τ).loc main_arg3))) := by
  have hw : Pipeline.withArrays (cfgs 0).spec c (V0 m c) (fun w => (dats m 0 c).arrAt w (cfgs 0).N) (Proc.devRef .tc main_v63_1)
      = rows1024 (g11 (m ((c.tc : Thread nD τ).loc main_arg0)) (m ((c.tc : Thread nD τ).loc main_arg1)) (m ((c.tc : Thread nD τ).loc main_arg2)) (m ((c.tc : Thread nD τ).loc main_arg3))) :=
    ((dats m 0 c).withArrays_arrAt shared (V0 m c) (A_eq m c) 11).trans (arr11_eq m c)
  unfold Pipeline.afterTail₀
  simp only [List.flatten_cons, List.flatten_nil, List.append_nil]
  after_results
  rw [hw]
  exact by_time1024 _

theorem tail_main_v72 (c : Dev nD) :
    Pipeline.afterTail₀ cfgs (dats m) 0 (V0 m) [hostOps1] c main_v72 = times1024 (g12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))) := by
  have hw : Pipeline.withArrays (cfgs 0).spec c (V0 m c) (fun w => (dats m 0 c).arrAt w (cfgs 0).N) (Proc.devRef .tc main_v63_2)
      = rows1024 (g12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))) :=
    ((dats m 0 c).withArrays_arrAt shared (V0 m c) (A_eq m c) 12).trans (arr12_eq m c)
  unfold Pipeline.afterTail₀
  simp only [List.flatten_cons, List.flatten_nil, List.append_nil]
  after_results
  rw [hw]
  exact by_time1024 _

theorem tail_main_v75 (c : Dev nD) :
    Pipeline.afterTail₀ cfgs (dats m) 0 (V0 m) [hostOps1] c main_v75 = times256 (g13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) := by
  have hw : Pipeline.withArrays (cfgs 0).spec c (V0 m c) (fun w => (dats m 0 c).arrAt w (cfgs 0).N) (Proc.devRef .tc main_v63_3)
      = rows256 (g13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) :=
    ((dats m 0 c).withArrays_arrAt shared (V0 m c) (A_eq m c) 13).trans (arr13_eq m c)
  unfold Pipeline.afterTail₀
  simp only [List.flatten_cons, List.flatten_nil, List.append_nil]
  after_results
  rw [hw]
  exact by_time256 _

theorem tail_main_v78 (c : Dev nD) :
    Pipeline.afterTail₀ cfgs (dats m) 0 (V0 m) [hostOps1] c main_v78 = times256 (g14 (m ((c.tc : Thread nD τ).loc main_arg0)) (m ((c.tc : Thread nD τ).loc main_arg1)) (m ((c.tc : Thread nD τ).loc main_arg2)) (m ((c.tc : Thread nD τ).loc main_arg3))) := by
  have hw : Pipeline.withArrays (cfgs 0).spec c (V0 m c) (fun w => (dats m 0 c).arrAt w (cfgs 0).N) (Proc.devRef .tc main_v63_4)
      = rows256 (g14 (m ((c.tc : Thread nD τ).loc main_arg0)) (m ((c.tc : Thread nD τ).loc main_arg1)) (m ((c.tc : Thread nD τ).loc main_arg2)) (m ((c.tc : Thread nD τ).loc main_arg3))) :=
    ((dats m 0 c).withArrays_arrAt shared (V0 m c) (A_eq m c) 14).trans (arr14_eq m c)
  unfold Pipeline.afterTail₀
  simp only [List.flatten_cons, List.flatten_nil, List.append_nil]
  after_results
  rw [hw]
  exact by_time256 _

theorem tail_main_v81 (c : Dev nD) :
    Pipeline.afterTail₀ cfgs (dats m) 0 (V0 m) [hostOps1] c main_v81 = times1024 (g15 (m ((c.tc : Thread nD τ).loc main_arg0)) (m ((c.tc : Thread nD τ).loc main_arg1)) (m ((c.tc : Thread nD τ).loc main_arg2)) (m ((c.tc : Thread nD τ).loc main_arg3))) := by
  have hw : Pipeline.withArrays (cfgs 0).spec c (V0 m c) (fun w => (dats m 0 c).arrAt w (cfgs 0).N) (Proc.devRef .tc main_v63_5)
      = rows1024 (g15 (m ((c.tc : Thread nD τ).loc main_arg0)) (m ((c.tc : Thread nD τ).loc main_arg1)) (m ((c.tc : Thread nD τ).loc main_arg2)) (m ((c.tc : Thread nD τ).loc main_arg3))) :=
    ((dats m 0 c).withArrays_arrAt shared (V0 m c) (A_eq m c) 15).trans (arr15_eq m c)
  unfold Pipeline.afterTail₀
  simp only [List.flatten_cons, List.flatten_nil, List.append_nil]
  after_results
  rw [hw]
  exact by_time1024 _

theorem tail_main_v84 (c : Dev nD) :
    Pipeline.afterTail₀ cfgs (dats m) 0 (V0 m) [hostOps1] c main_v84 = times3072 (g16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  have hw : Pipeline.withArrays (cfgs 0).spec c (V0 m c) (fun w => (dats m 0 c).arrAt w (cfgs 0).N) (Proc.devRef .tc main_v63_6)
      = rows3072 (g16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
    ((dats m 0 c).withArrays_arrAt shared (V0 m c) (A_eq m c) 16).trans (arr16_eq m c)
  unfold Pipeline.afterTail₀
  simp only [List.flatten_cons, List.flatten_nil, List.append_nil]
  after_results
  rw [hw]
  exact by_time3072 _

/-- The program's run, with its results the arrays above. -/
theorem run (ρ : Dev nD → PrngReg) :
    θ_run defs (onTc (τ := τ) (main (F := Ideal))) ⟨m, fun _ => 0, ρ⟩ fun r => ∀ c : Dev nD,
      r.2.mem ((c.tc : Thread nD τ).loc main_v66) = times1024 (g10 (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v69) = times1024 (g11 (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v72) = times1024 (g12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)))
      ∧ r.2.mem ((c.tc : Thread nD τ).loc main_v75) = times256 (g13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)))
      ∧ r.2.mem ((c.tc : Thread nD τ).loc main_v78) = times256 (g14 (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v81) = times1024 (g15 (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v84) = times3072 (g16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v66 (Pipeline.mem_restRefs_of main_v66 (by decide) (by decide))).trans (tail_main_v66 m c),
      ((h c).2 main_v69 (Pipeline.mem_restRefs_of main_v69 (by decide) (by decide))).trans (tail_main_v69 m c),
      ((h c).2 main_v72 (Pipeline.mem_restRefs_of main_v72 (by decide) (by decide))).trans (tail_main_v72 m c),
      ((h c).2 main_v75 (Pipeline.mem_restRefs_of main_v75 (by decide) (by decide))).trans (tail_main_v75 m c),
      ((h c).2 main_v78 (Pipeline.mem_restRefs_of main_v78 (by decide) (by decide))).trans (tail_main_v78 m c),
      ((h c).2 main_v81 (Pipeline.mem_restRefs_of main_v81 (by decide) (by decide))).trans (tail_main_v81 m c),
      ((h c).2 main_v84 (Pipeline.mem_restRefs_of main_v84 (by decide) (by decide))).trans (tail_main_v84 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.RopeIdeal.Rope

end
-- ==== Proof.RopeClaim.lean ====
/- The latents' input projection's claims: the programs run and keep their arguments, and their results are equal. -/
module

public import proofs.«01_k».proof.Defs
public import proofs.«01_k».proof.Proof.Gen.Rope.Frame
public import proofs.«01_k».proof.Proof.RopeRef
public import proofs.«01_k».proof.Proof.RopeRun
public import Idealize.ShloMosaic.Adequacy
public import Idealize.ShloMosaic.Init

@[expose] public section

noncomputable section

namespace Cert.Proof.Rope

open Idealize.ShloMosaic Idealize.SL.Sem

theorem ref_quiescent : Cert.quiescent_RopeReferenceIdeal := fun m ρ _ =>
  (θ_run Cert.RopeReferenceIdeal.defs _ _).mono (fun r h => ⟨fun c => (h c).2.2.2.2.2.2.2, sem_eq_zero_of_no_sems (by decide) r.2⟩)
    (Cert.RopeReferenceIdeal.Rope.run m ρ)

theorem algebraic : Cert.algebraic_RopeIdeal_RopeReferenceIdeal := by
  intro m g m' g' hpre hagree
  refine ⟨fun c => Cert.RopeIdeal.Rope.times1024 (Cert.RopeIdeal.Rope.g10 (m ((c.tc : Thread _ _).loc Cert.RopeIdeal.main_arg0)) (m ((c.tc : Thread _ _).loc Cert.RopeIdeal.main_arg1)) (m ((c.tc : Thread _ _).loc Cert.RopeIdeal.main_arg2)) (m ((c.tc : Thread _ _).loc Cert.RopeIdeal.main_arg3))),
    fun c => Cert.RopeIdeal.Rope.times1024 (Cert.RopeIdeal.Rope.g11 (m ((c.tc : Thread _ _).loc Cert.RopeIdeal.main_arg0)) (m ((c.tc : Thread _ _).loc Cert.RopeIdeal.main_arg1)) (m ((c.tc : Thread _ _).loc Cert.RopeIdeal.main_arg2)) (m ((c.tc : Thread _ _).loc Cert.RopeIdeal.main_arg3))),
    fun c => Cert.RopeIdeal.Rope.times1024 (Cert.RopeIdeal.Rope.g12 (m ((c.tc : Thread _ _).loc Cert.RopeIdeal.main_arg0)) (m ((c.tc : Thread _ _).loc Cert.RopeIdeal.main_arg1)) (m ((c.tc : Thread _ _).loc Cert.RopeIdeal.main_arg2)) (m ((c.tc : Thread _ _).loc Cert.RopeIdeal.main_arg3)) (m ((c.tc : Thread _ _).loc Cert.RopeIdeal.main_arg5))),
    fun c => Cert.RopeIdeal.Rope.times256 (Cert.RopeIdeal.Rope.g13 (m ((c.tc : Thread _ _).loc Cert.RopeIdeal.main_arg0)) (m ((c.tc : Thread _ _).loc Cert.RopeIdeal.main_arg1)) (m ((c.tc : Thread _ _).loc Cert.RopeIdeal.main_arg2)) (m ((c.tc : Thread _ _).loc Cert.RopeIdeal.main_arg3)) (m ((c.tc : Thread _ _).loc Cert.RopeIdeal.main_arg6))),
    fun c => Cert.RopeIdeal.Rope.times256 (Cert.RopeIdeal.Rope.g14 (m ((c.tc : Thread _ _).loc Cert.RopeIdeal.main_arg0)) (m ((c.tc : Thread _ _).loc Cert.RopeIdeal.main_arg1)) (m ((c.tc : Thread _ _).loc Cert.RopeIdeal.main_arg2)) (m ((c.tc : Thread _ _).loc Cert.RopeIdeal.main_arg3))),
    fun c => Cert.RopeIdeal.Rope.times1024 (Cert.RopeIdeal.Rope.g15 (m ((c.tc : Thread _ _).loc Cert.RopeIdeal.main_arg0)) (m ((c.tc : Thread _ _).loc Cert.RopeIdeal.main_arg1)) (m ((c.tc : Thread _ _).loc Cert.RopeIdeal.main_arg2)) (m ((c.tc : Thread _ _).loc Cert.RopeIdeal.main_arg3))),
    fun c => Cert.RopeIdeal.Rope.times3072 (Cert.RopeIdeal.Rope.g16 (m ((c.tc : Thread _ _).loc Cert.RopeIdeal.main_arg0)) (m ((c.tc : Thread _ _).loc Cert.RopeIdeal.main_arg1)) (m ((c.tc : Thread _ _).loc Cert.RopeIdeal.main_arg2)) (m ((c.tc : Thread _ _).loc Cert.RopeIdeal.main_arg3)) (m ((c.tc : Thread _ _).loc Cert.RopeIdeal.main_arg4))), ?_, ?_⟩
  · exact Cert.RopeIdeal.Rope.run m g
  · refine (θ_run Cert.RopeReferenceIdeal.defs _ _).mono (fun _ h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, (h c).2.2.2.2.2.2.2⟩)
      (Cert.RopeReferenceIdeal.Rope.run m' g')
    · obtain ⟨e0, e1, e2, e3, e4, e5, e6⟩ := hagree c
      rw [e0, e1, e2, e3]
      exact Cert.RopeReferenceIdeal.Rope.out10_eq _ _ _ _
    · obtain ⟨e0, e1, e2, e3, e4, e5, e6⟩ := hagree c
      rw [e0, e1, e2, e3]
      exact Cert.RopeReferenceIdeal.Rope.out11_eq _ _ _ _
    · obtain ⟨e0, e1, e2, e3, e4, e5, e6⟩ := hagree c
      rw [e0, e1, e2, e3, e5]
      exact Cert.RopeReferenceIdeal.Rope.out12_eq _ _ _ _ _
    · obtain ⟨e0, e1, e2, e3, e4, e5, e6⟩ := hagree c
      rw [e0, e1, e2, e3, e6]
      exact Cert.RopeReferenceIdeal.Rope.out13_eq _ _ _ _ _
    · obtain ⟨e0, e1, e2, e3, e4, e5, e6⟩ := hagree c
      rw [e0, e1, e2, e3]
      exact Cert.RopeReferenceIdeal.Rope.out14_eq _ _ _ _
    · obtain ⟨e0, e1, e2, e3, e4, e5, e6⟩ := hagree c
      rw [e0, e1, e2, e3]
      exact Cert.RopeReferenceIdeal.Rope.out15_eq _ _ _ _
    · obtain ⟨e0, e1, e2, e3, e4, e5, e6⟩ := hagree c
      rw [e0, e1, e2, e3, e4]
      exact Cert.RopeReferenceIdeal.Rope.out16_eq _ _ _ _ _

/-- Everything claimed of the latents' input projection. -/
theorem claims : Cert.quiescent_Rope ∧ Cert.quiescent_RopeIdeal ∧ Cert.quiescent_RopeReferenceIdeal
    ∧ Cert.preserves_Rope_RopeIdeal ∧ Cert.algebraic_RopeIdeal_RopeReferenceIdeal :=
  ⟨fun m ρ _ => Cert.Rope.Gen.frame m ρ, fun m ρ _ => Cert.RopeIdeal.Gen.frame m ρ, ref_quiescent, trivial, algebraic⟩

end Cert.Proof.Rope

end
-- ==== Proof.MidTile.lean ====
/- The down projection without a norm: the kernel's tile and its whole result, entry by entry. -/
module

public import proofs.«01_k».proof.Proof.Gen.MidIdeal.Value
public import proofs.«01_k».proof.Proof.DownTile
public import Idealize.ShloMosaic.Lib.Pipeline.ValueKit
public import Idealize.ShloMosaic.Lib.Pointwise
public import Idealize.ShloMosaic.Lib.StableHlo.Run

@[expose] public section

set_option maxRecDepth 16384

noncomputable section

namespace Cert.MidIdeal.Mid

open Cert.MidIdeal Cert.MidIdeal.Gen Idealize.ShloMosaic Idealize.ShloMosaic.TcCoe
open Cert.FfnDownIdeal.Down (res)

/-- The whole result, entry by entry. -/
def G (act : FVec Ideal S4096x3072 .bf16) (w : FVec Ideal S3072x1024 .f32) (x : FVec Ideal S4096x1024 .f32)
    (mod : FVec Ideal S16x6144 .f32) : FVec Ideal S4096x1024 .f32 := fun i =>
  res (fun c => x (ix2 (i 0) c)) (fun c => mod (ix2 8 ⟨5120 + c.val, by omega⟩)) (fun k => act (ix2 (i 0) k)) (fun k c => w (ix2 k c)) (i 1)

theorem out_apply (x0 : FVec Ideal S512x3072 .bf16) (x1 : FVec Ideal S3072x1024 .bf16) (x2 : FVec Ideal S512x1024 .f32)
    (x3 : FVec Ideal S1x1x6144 .f32) (x4 : FVec Ideal S1x1024 .f32) (r : Fin 512) (l : Fin 1024) :
    out0_5 (F := Ideal) x0 x1 x2 x3 x4 (ix2 r l)
      = res (fun c => x2 (ix2 r c)) (fun c => x3 (ix3 0 0 ⟨5120 + c.val, by omega⟩)) (fun k => x0 (ix2 r k)) (fun k c => x1 (ix2 k c)) l := by
  unfold out0_5
  canon_tiles x e
  idx_vars x
  pointwise [k0_pay1]
  obtain rfl : r = _ := Fin.ext e0
  obtain rfl : l = _ := Fin.ext e1
  rfl

variable (m : (ℓ : Loc nD τ sig) → Buf (Elt Ideal) ℓ)

theorem V_main_v0 (c : Dev nD) : V m c main_v0 = truncf (F := Ideal) (s := S3072x1024) .bf16 (m ((c.tc : Thread nD τ).loc main_arg1)) bitsLt_bf16_f32 := by
  show StableHlo.after hostOps0 _ (Proc.devRef .tc main_v0) = _
  after_results

theorem V_main_v1 (c : Dev nD) : V m c main_v1 = shapeCast S16x1x6144 (m ((c.tc : Thread nD τ).loc main_arg3)) shapeCasts_S16x6144_S16x1x6144 := by
  show StableHlo.after hostOps0 _ (Proc.devRef .tc main_v1) = _
  after_results
  rfl

theorem mod_apply (x : FVec Ideal S16x6144 .f32) (b : Fin 16) (l : Fin 6144) :
    shapeCast S16x1x6144 x shapeCasts_S16x6144_S16x1x6144 (ix3 b 0 l) = x (ix2 b l) := by pointwise

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![8, 0, 0] := by decide +kernel
theorem idx5 : ∀ t : Fin cfg0.N, win0_5.index t = ![t.val, 0] := by decide +kernel

theorem blk0 (c : Dev nD) (t : Fin cfg0.N) (r : Fin 512) (l : Fin 3072) :
    iblk m c 0 t (ix2 r l) = m ((c.tc : Thread nD τ).loc main_arg0) (ix2 ⟨512 * t.val + r.val, by have : t.val < 8 := t.isLt; omega⟩ l) := by
  blk_simp [iblk, idx0]; rw [V_main_arg0]; refine congrArg _ ?_; blk_ext [idx0]

theorem blk1 (c : Dev nD) (t : Fin cfg0.N) (k : Fin 3072) (l : Fin 1024) :
    iblk m c 1 t (ix2 k l) = m ((c.tc : Thread nD τ).loc main_arg1) (ix2 k l) := by
  blk_simp [iblk, idx1]; rw [V_main_v0]; show m _ _ = _; refine congrArg _ ?_; blk_ext [idx1]

theorem blk2 (c : Dev nD) (t : Fin cfg0.N) (r : Fin 512) (l : Fin 1024) :
    iblk m c 2 t (ix2 r l) = m ((c.tc : Thread nD τ).loc main_arg2) (ix2 ⟨512 * t.val + r.val, by have : t.val < 8 := t.isLt; omega⟩ l) := by
  blk_simp [iblk, idx2]; rw [V_main_arg2]; refine congrArg _ ?_; blk_ext [idx2]

theorem blk3 (c : Dev nD) (t : Fin cfg0.N) (l : Fin 6144) :
    iblk m c 3 t (ix3 0 0 l) = m ((c.tc : Thread nD τ).loc main_arg3) (ix2 8 l) := by
  blk_simp [iblk, idx3]; rw [V_main_v1]
  have he : (win0_3.blk t).view.emb (ix3 0 0 l) = ix3 (8 : Fin 16) (0 : Fin 1) l := by
    blk_ext [idx3]
  rw [he]; exact mod_apply _ _ _

/-- The array after the run is the result at every index. -/
theorem arr_eq (c : Dev nD) :
    (dats m 0 c).arrAt 5 cfg0.N = G (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 5 _ (by decide +kernel) fun t hf y => ?_
  blk_simp; rw [after0_5]
  have h1 : (y 1).val < 1024 := (y 1).isLt
  have h0 : (y 0).val < 512 := (y 0).isLt
  have ht : t.val < 8 := t.isLt
  have hy : y = ix2 (⟨(y 0).val, h0⟩ : Fin 512) (⟨(y 1).val, h1⟩ : Fin 1024) := by
    funext i; fin_cases i <;> rfl
  have he : (win0_5.blk t).view.emb y = ix2 (⟨512 * t.val + (y 0).val, by omega⟩ : Fin 4096) (⟨(y 1).val, h1⟩ : Fin 1024) := by
    blk_ext [idx5]
  rw [he]
  refine ((congrArg (out0_5 _ _ _ _ _) hy).trans (out_apply (iblk m c 0 t) (iblk m c 1 t) (iblk m c 2 t) (iblk m c 3 t) (iblk m c 4 t) _ _)).trans ?_
  have g0 := funext fun k => blk0 m c t ⟨(y 0).val, h0⟩ k
  have g1 := funext fun k => funext fun l => blk1 m c t k l
  have g2 := funext fun l => blk2 m c t ⟨(y 0).val, h0⟩ l
  have g3 := funext fun l : Fin 1024 => blk3 m c t ⟨5120 + l.val, by omega⟩
  exact congrFun (congr (congr (congrArg₂ res g2 g3) g0) g1) _

end Cert.MidIdeal.Mid

end
-- ==== Proof.MidRef.lean ====
/- The reference of the down projection without a norm, at an index of its result. -/
module

public import proofs.«01_k».proof.Proof.Gen.MidReferenceIdeal.Run
public import proofs.«01_k».proof.Proof.MidTile

@[expose] public section

set_option maxRecDepth 16384

noncomputable section

namespace Cert.MidReferenceIdeal.Mid

open Cert.MidReferenceIdeal Cert.MidReferenceIdeal.Gen Idealize.ShloMosaic

/-- The reference's result. -/
def out {F : FTy → Type} [FloatOps F] (act : FVec F S4096x3072 .bf16) (w : FVec F S3072x1024 .f32)
    (x : FVec F S4096x1024 .f32) (mod : FVec F S16x6144 .f32) : FVec F S4096x1024 .f32 :=
  addf x (mulf (broadcastInDim S4096x1024 ![0, 1] bcast_S1x1024_S4096x1024_0_1 (broadcastInDim S1x1024 ![1] bcast_S1024_S1x1024_1 (shapeCast _ (extractStridedSlice S1x1024 ![8, 5120] mod slices_S16x6144_S1x1024_8_5120) shapeCasts_S1x1024_S1024)))
    (Host.dotGeneral dot_S4096x3072_S3072x1024_S4096x1024_1_0_0_1_n_n none (extf .f32 act bitsLt_bf16_f32) w))

/-- The reference's run, with its result the term above. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => h c) (Value.run m ρ)

/-- The reference's result is the kernel's. -/
theorem out_eq (act : FVec Ideal S4096x3072 .bf16) (w : FVec Ideal S3072x1024 .f32) (x : FVec Ideal S4096x1024 .f32)
    (mod : FVec Ideal S16x6144 .f32) : out act w x mod = Cert.MidIdeal.Mid.G act w x mod := by
  funext i
  idx_vars i
  pointwise [out, Cert.MidIdeal.Mid.G, Cert.FfnDownIdeal.Down.res]

end Cert.MidReferenceIdeal.Mid

end
-- ==== Proof.MidClaim.lean ====
/- The claims of the down projection without a norm: the programs run and keep their arguments, and their results are equal. -/
module

public import proofs.«01_k».proof.Defs
public import proofs.«01_k».proof.Proof.Gen.Mid.Frame
public import proofs.«01_k».proof.Proof.MidRef
public import Idealize.ShloMosaic.Adequacy
public import Idealize.ShloMosaic.Init

@[expose] public section

noncomputable section

namespace Cert.Proof.Mid

open Idealize.ShloMosaic Idealize.SL.Sem

theorem ref_quiescent : Cert.quiescent_MidReferenceIdeal := fun m ρ _ =>
  (θ_run Cert.MidReferenceIdeal.defs _ _).mono (fun r h => ⟨fun c => (h c).2, sem_eq_zero_of_no_sems (by decide) r.2⟩)
    (Cert.MidReferenceIdeal.Value.run m ρ)

theorem algebraic : Cert.algebraic_MidIdeal_MidReferenceIdeal := by
  intro m g m' g' hpre hagree
  refine ⟨fun c => Cert.MidIdeal.Mid.G (m ((c.tc : Thread _ _).loc Cert.MidIdeal.main_arg0)) (m ((c.tc : Thread _ _).loc Cert.MidIdeal.main_arg1)) (m ((c.tc : Thread _ _).loc Cert.MidIdeal.main_arg2)) (m ((c.tc : Thread _ _).loc Cert.MidIdeal.main_arg3)), ?_, ?_⟩
  · exact (θ_run Cert.MidIdeal.defs _ _).mono
      (fun _ h c => ⟨(h c).1.trans (Cert.MidIdeal.Mid.arr_eq m c), (h c).2⟩) (Cert.MidIdeal.Value.run_blocks m g)
  · refine (θ_run Cert.MidReferenceIdeal.defs _ _).mono (fun _ h c => ⟨(h c).1.trans ?_, (h c).2⟩) (Cert.MidReferenceIdeal.Mid.run m' g')
    obtain ⟨e0, e1, e2, e3, e4⟩ := hagree c
    rw [e0, e1, e2, e3]
    exact Cert.MidReferenceIdeal.Mid.out_eq _ _ _ _

/-- Everything claimed of the down projection without a norm. -/
theorem claims : Cert.quiescent_Mid ∧ Cert.quiescent_MidIdeal ∧ Cert.quiescent_MidReferenceIdeal
    ∧ Cert.preserves_Mid_MidIdeal ∧ Cert.algebraic_MidIdeal_MidReferenceIdeal :=
  ⟨fun m ρ _ => Cert.Mid.Gen.frame m ρ, fun m ρ _ => Cert.MidIdeal.Gen.frame m ρ, ref_quiescent, trivial, algebraic⟩

end Cert.Proof.Mid

end
-- ==== Proof.lean ====
module

public import proofs.«01_k».proof.Defs
public import proofs.«01_k».proof.Proof.AttnClaim
public import proofs.«01_k».proof.Proof.MergeClaim
public import proofs.«01_k».proof.Proof.UpClaim
public import proofs.«01_k».proof.Proof.DownClaim
public import proofs.«01_k».proof.Proof.InpClaim
public import proofs.«01_k».proof.Proof.PoolClaim
public import proofs.«01_k».proof.Proof.ModlClaim
public import proofs.«01_k».proof.Proof.LatClaim
public import proofs.«01_k».proof.Proof.RopeClaim
public import proofs.«01_k».proof.Proof.MidClaim

@[expose] public section

noncomputable section

namespace Cert.Proof

/-- The certificate's claim. -/
theorem claim : Cert.Claim := by
  refine ⟨Cert.Ctx.Gen.facts, Cert.CtxIdeal.Gen.facts, Cert.CtxReferenceIdeal.Gen.facts, Cert.Merge.Gen.facts, Cert.MergeIdeal.Gen.facts, Cert.MergeReferenceIdeal.Gen.facts, Cert.FfnUp.Gen.facts, Cert.FfnUpIdeal.Gen.facts, Cert.FfnUpReferenceIdeal.Gen.facts, Cert.FfnDown.Gen.facts, Cert.FfnDownIdeal.Gen.facts, Cert.FfnDownReferenceIdeal.Gen.facts, Cert.Inproj.Gen.facts, Cert.InprojIdeal.Gen.facts, Cert.InprojReferenceIdeal.Gen.facts, Cert.Pool.Gen.facts, Cert.PoolIdeal.Gen.facts, Cert.PoolReferenceIdeal.Gen.facts, Cert.Modulation.Gen.facts, Cert.ModulationIdeal.Gen.facts, Cert.ModulationReferenceIdeal.Gen.facts, Cert.Lat.Gen.facts, Cert.LatIdeal.Gen.facts, Cert.LatReferenceIdeal.Gen.facts, Cert.Rope.Gen.facts, Cert.RopeIdeal.Gen.facts, Cert.RopeReferenceIdeal.Gen.facts, Cert.Mid.Gen.facts, Cert.MidIdeal.Gen.facts, Cert.MidReferenceIdeal.Gen.facts, Cert.Pre_finite_qk.Gen.facts, Cert.Pre_finite_qkc.Gen.facts, ?_⟩
  obtain ⟨a1, a2, a3, a4, a5, a6, a7⟩ := Attn.claims
  obtain ⟨m1, m2, m3, m4, m5⟩ := Mrg.claims
  obtain ⟨u1, u2, u3, u4, u5⟩ := Up.claims
  obtain ⟨d1, d2, d3, d4, d5⟩ := Down.claims
  obtain ⟨i1, i2, i3, i4, i5⟩ := Inp.claims
  obtain ⟨p1, p2, p3, p4, p5⟩ := Pool.claims
  obtain ⟨c1, c2, c3, c4, c5⟩ := Modl.claims
  obtain ⟨l1, l2, l3, l4, l5, l6, l7⟩ := Lat.claims
  obtain ⟨r1, r2, r3, r4, r5⟩ := Rope.claims
  obtain ⟨s1, s2, s3, s4, s5⟩ := Mid.claims
  exact ⟨a1, a2, a3, a4, a5, m1, m2, m3, u1, u2, u3, d1, d2, d3, i1, i2, i3, p1, p2, p3, c1, c2, c3, l1, l2, l3, l4, l5, r1, r2, r3, s1, s2, s3, a6, a7, m4, m5, u4, u5, d4, d5, i4, i5, p4, p5, c4, c5, l6, l7, r4, r5, s4, s5⟩

end Cert.Proof

end
